-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_finite [hPre_masks_finite : Cert.Pre_masks_finite.Facts] (m : (ℓ : Loc Cert.KernelIdeal.nD Cert.KernelIdeal.τ Cert.KernelIdeal.sig) → Buf (Elt Ideal) ℓ) : Prop :=
  ∀ c : Dev Cert.KernelIdeal.nD,
    (Cert.Pre_masks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_masks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_masks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_masks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_masks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_finite [hPre_masks_finite : Cert.Pre_masks_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_masks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_masks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_masks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_masks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_masks_finite [hKernelIdeal : Cert.KernelIdeal.Facts] [hPre_masks_finite : Cert.Pre_masks_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_masks_finite [hReferenceIdeal : Cert.ReferenceIdeal.Facts] [hPre_masks_finite : Cert.Pre_masks_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_on_box_class_count [hKernelIdeal : Cert.KernelIdeal.Facts] [hReferenceIdeal : Cert.ReferenceIdeal.Facts] [hOn_box_class_count : Cert.On_box_class_count.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 1, 128]⟩ : Shape).Idx, (Cert.On_box_class_count.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 1, 128]⟩ : Shape).Idx, (Cert.On_box_class_count.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) i = 1#1 → r.2.mem ((c.tc : Thread Cert.ReferenceIdeal.nD Cert.ReferenceIdeal.τ).loc Cert.ReferenceIdeal.main_v428) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def algebraic_KernelIdeal_ReferenceIdeal_on_mask_lane_pre_masks_finite [hKernelIdeal : Cert.KernelIdeal.Facts] [hReferenceIdeal : Cert.ReferenceIdeal.Facts] [hPre_masks_finite : Cert.Pre_masks_finite.Facts] [hOn_mask_lane : Cert.On_mask_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 1, 128]⟩ : Shape).Idx, (Cert.On_mask_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 1, 128]⟩ : Shape).Idx, (Cert.On_mask_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) i = 1#1 → r.2.mem ((c.tc : Thread Cert.ReferenceIdeal.nD Cert.ReferenceIdeal.τ).loc Cert.ReferenceIdeal.main_v428) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_masks_finite : Cert.Pre_masks_finite.Facts) (hOn_box_class_count : Cert.On_box_class_count.Facts) (hOn_mask_lane : Cert.On_mask_lane.Facts),
    quiescent_Kernel (hKernel := hKernel)
    ∧ quiescent_KernelIdeal (hKernelIdeal := hKernelIdeal)
    ∧ quiescent_KernelIdeal_pre_masks_finite (hKernelIdeal := hKernelIdeal) (hPre_masks_finite := hPre_masks_finite)
    ∧ quiescent_ReferenceIdeal (hReferenceIdeal := hReferenceIdeal)
    ∧ quiescent_ReferenceIdeal_pre_masks_finite (hReferenceIdeal := hReferenceIdeal) (hPre_masks_finite := hPre_masks_finite)
    ∧ preserves_Kernel_KernelIdeal
    ∧ algebraic_KernelIdeal_ReferenceIdeal_on_box_class_count (hKernelIdeal := hKernelIdeal) (hReferenceIdeal := hReferenceIdeal) (hOn_box_class_count := hOn_box_class_count)
    ∧ algebraic_KernelIdeal_ReferenceIdeal_on_mask_lane_pre_masks_finite (hKernelIdeal := hKernelIdeal) (hReferenceIdeal := hReferenceIdeal) (hPre_masks_finite := hPre_masks_finite) (hOn_mask_lane := hOn_mask_lane)
-- ==== On_box_class_count.lean ====
abbrev S8x6400 : Shape := ⟨2, ![8, 6400]⟩
abbrev S8x1600 : Shape := ⟨2, ![8, 1600]⟩
abbrev S8x400 : Shape := ⟨2, ![8, 400]⟩
abbrev S8x12x4 : Shape := ⟨3, ![8, 12, 4]⟩
abbrev S8x64x6400 : Shape := ⟨3, ![8, 64, 6400]⟩
abbrev S8x64x1600 : Shape := ⟨3, ![8, 64, 1600]⟩
abbrev S8x64x400 : Shape := ⟨3, ![8, 64, 400]⟩
abbrev S8x1x6400 : Shape := ⟨3, ![8, 1, 6400]⟩
abbrev S8x1x1600 : Shape := ⟨3, ![8, 1, 1600]⟩
abbrev S8x1x400 : Shape := ⟨3, ![8, 1, 400]⟩
abbrev S8x32x6400 : Shape := ⟨3, ![8, 32, 6400]⟩
abbrev S8x32x1600 : Shape := ⟨3, ![8, 32, 1600]⟩
abbrev S8x32x400 : Shape := ⟨3, ![8, 32, 400]⟩
abbrev S8x32x25600 : Shape := ⟨3, ![8, 32, 25600]⟩
abbrev S8x12x25600 : Shape := ⟨3, ![8, 12, 25600]⟩
abbrev S128 : Shape := ⟨1, ![128]⟩
abbrev S_ : Shape := ⟨0, ![]⟩
abbrev S8x1x128 : Shape := ⟨3, ![8, 1, 128]⟩

class Facts : Prop where
  bcast_S_S128 : S_.BroadcastsInDim S128 (![] : Fin 0 → Fin S128.rank)
  bcast_S128_S8x1x128_2 : S128.BroadcastsInDim S8x1x128 (![2] : Fin 1 → Fin S8x1x128.rank)

variable [Facts]

def fn {F : FTy → Type} [FloatOps F] (main_arg0 : FVec F S8x6400 .f32) (main_arg1 : FVec F S8x1600 .f32) (main_arg2 : FVec F S8x400 .f32) (main_arg3 : FVec F S8x12x4 .f32) (main_arg4 : FVec F S8x64x6400 .f32) (main_arg5 : FVec F S8x64x1600 .f32) (main_arg6 : FVec F S8x64x400 .f32) (main_arg7 : FVec F S8x1x6400 .f32) (main_arg8 : FVec F S8x1x1600 .f32) (main_arg9 : FVec F S8x1x400 .f32) (main_arg10 : FVec F S8x32x6400 .f32) (main_arg11 : FVec F S8x32x1600 .f32) (main_arg12 : FVec F S8x32x400 .f32) (main_arg13 : FVec F S8x32x25600 .f32) (main_arg14 : FVec F S8x12x25600 .f32) : IVec S8x1x128 1 :=
  let main_v0 : IVec S128 32 := iotaInDim S128 32 0
  let main_c : IVec S_ 32 := constantI S_ 32 2#32
  let main_v1 : IVec S128 32 := broadcastInDim S128 ![] bcast_S_S128 main_c
  let main_v2 : IVec S128 1 := cmpi .ne main_v0 main_v1
  let main_c_0 : IVec S_ 32 := constantI S_ 32 3#32
  let main_v3 : IVec S128 32 := broadcastInDim S128 ![] bcast_S_S128 main_c_0
  let main_v4 : IVec S128 1 := cmpi .ne main_v0 main_v3
  let main_v5 : IVec S128 1 := andi main_v2 main_v4
  let main_v6 : IVec S8x1x128 1 := broadcastInDim S8x1x128 ![2] bcast_S128_S8x1x128_2 main_v5
  main_v6
-- ==== On_mask_lane.lean ====
abbrev S8x6400 : Shape := ⟨2, ![8, 6400]⟩
abbrev S8x1600 : Shape := ⟨2, ![8, 1600]⟩
abbrev S8x400 : Shape := ⟨2, ![8, 400]⟩
abbrev S8x12x4 : Shape := ⟨3, ![8, 12, 4]⟩
abbrev S8x64x6400 : Shape := ⟨3, ![8, 64, 6400]⟩
abbrev S8x64x1600 : Shape := ⟨3, ![8, 64, 1600]⟩
abbrev S8x64x400 : Shape := ⟨3, ![8, 64, 400]⟩
abbrev S8x1x6400 : Shape := ⟨3, ![8, 1, 6400]⟩
abbrev S8x1x1600 : Shape := ⟨3, ![8, 1, 1600]⟩
abbrev S8x1x400 : Shape := ⟨3, ![8, 1, 400]⟩
abbrev S8x32x6400 : Shape := ⟨3, ![8, 32, 6400]⟩
abbrev S8x32x1600 : Shape := ⟨3, ![8, 32, 1600]⟩
abbrev S8x32x400 : Shape := ⟨3, ![8, 32, 400]⟩
abbrev S8x32x25600 : Shape := ⟨3, ![8, 32, 25600]⟩
abbrev S8x12x25600 : Shape := ⟨3, ![8, 12, 25600]⟩
abbrev S128 : Shape := ⟨1, ![128]⟩
abbrev S_ : Shape := ⟨0, ![]⟩
abbrev S8x1x128 : Shape := ⟨3, ![8, 1, 128]⟩

class Facts : Prop where
  bcast_S_S128 : S_.BroadcastsInDim S128 (![] : Fin 0 → Fin S128.rank)
  bcast_S128_S8x1x128_2 : S128.BroadcastsInDim S8x1x128 (![2] : Fin 1 → Fin S8x1x128.rank)

variable [Facts]

def fn {F : FTy → Type} [FloatOps F] (main_arg0 : FVec F S8x6400 .f32) (main_arg1 : FVec F S8x1600 .f32) (main_arg2 : FVec F S8x400 .f32) (main_arg3 : FVec F S8x12x4 .f32) (main_arg4 : FVec F S8x64x6400 .f32) (main_arg5 : FVec F S8x64x1600 .f32) (main_arg6 : FVec F S8x64x400 .f32) (main_arg7 : FVec F S8x1x6400 .f32) (main_arg8 : FVec F S8x1x1600 .f32) (main_arg9 : FVec F S8x1x400 .f32) (main_arg10 : FVec F S8x32x6400 .f32) (main_arg11 : FVec F S8x32x1600 .f32) (main_arg12 : FVec F S8x32x400 .f32) (main_arg13 : FVec F S8x32x25600 .f32) (main_arg14 : FVec F S8x12x25600 .f32) : IVec S8x1x128 1 :=
  let main_v0 : IVec S128 32 := iotaInDim S128 32 0
  let main_c : IVec S_ 32 := constantI S_ 32 3#32
  let main_v1 : IVec S128 32 := broadcastInDim S128 ![] bcast_S_S128 main_c
  let main_v2 : IVec S128 1 := cmpi .eq main_v0 main_v1
  let main_v3 : IVec S8x1x128 1 := broadcastInDim S8x1x128 ![2] bcast_S128_S8x1x128_2 main_v2
  main_v3
-- ==== Pre_masks_finite.lean ====
abbrev S8x6400 : Shape := ⟨2, ![8, 6400]⟩
abbrev S8x1600 : Shape := ⟨2, ![8, 1600]⟩
abbrev S8x400 : Shape := ⟨2, ![8, 400]⟩
abbrev S8x12x4 : Shape := ⟨3, ![8, 12, 4]⟩
abbrev S8x64x6400 : Shape := ⟨3, ![8, 64, 6400]⟩
abbrev S8x64x1600 : Shape := ⟨3, ![8, 64, 1600]⟩
abbrev S8x64x400 : Shape := ⟨3, ![8, 64, 400]⟩
abbrev S8x1x6400 : Shape := ⟨3, ![8, 1, 6400]⟩
abbrev S8x1x1600 : Shape := ⟨3, ![8, 1, 1600]⟩
abbrev S8x1x400 : Shape := ⟨3, ![8, 1, 400]⟩
abbrev S8x32x6400 : Shape := ⟨3, ![8, 32, 6400]⟩
abbrev S8x32x1600 : Shape := ⟨3, ![8, 32, 1600]⟩
abbrev S8x32x400 : Shape := ⟨3, ![8, 32, 400]⟩
abbrev S8x32x25600 : Shape := ⟨3, ![8, 32, 25600]⟩
abbrev S8x12x25600 : Shape := ⟨3, ![8, 12, 25600]⟩
abbrev S_ : Shape := ⟨0, ![]⟩

class Facts : Prop where
  bcast_S_S8x32x6400 : S_.BroadcastsInDim S8x32x6400 (![] : Fin 0 → Fin S8x32x6400.rank)
  bcast_S_S8x32x1600 : S_.BroadcastsInDim S8x32x1600 (![] : Fin 0 → Fin S8x32x1600.rank)
  bcast_S_S8x32x400 : S_.BroadcastsInDim S8x32x400 (![] : Fin 0 → Fin S8x32x400.rank)
  bcast_S_S8x32x25600 : S_.BroadcastsInDim S8x32x25600 (![] : Fin 0 → Fin S8x32x25600.rank)
  bcast_S_S8x12x25600 : S_.BroadcastsInDim S8x12x25600 (![] : Fin 0 → Fin S8x12x25600.rank)

variable [Facts]

def fn {F : FTy → Type} [FloatOps F] (main_arg0 : FVec F S8x6400 .f32) (main_arg1 : FVec F S8x1600 .f32) (main_arg2 : FVec F S8x400 .f32) (main_arg3 : FVec F S8x12x4 .f32) (main_arg4 : FVec F S8x64x6400 .f32) (main_arg5 : FVec F S8x64x1600 .f32) (main_arg6 : FVec F S8x64x400 .f32) (main_arg7 : FVec F S8x1x6400 .f32) (main_arg8 : FVec F S8x1x1600 .f32) (main_arg9 : FVec F S8x1x400 .f32) (main_arg10 : FVec F S8x32x6400 .f32) (main_arg11 : FVec F S8x32x1600 .f32) (main_arg12 : FVec F S8x32x400 .f32) (main_arg13 : FVec F S8x32x25600 .f32) (main_arg14 : FVec F S8x12x25600 .f32) : IVec S8x32x6400 1 × IVec S8x32x1600 1 × IVec S8x32x400 1 × IVec S8x32x25600 1 × IVec S8x12x25600 1 :=
  let main_v0 : FVec F S8x32x6400 .f32 := Host.absf main_arg10
  let main_cst : FVec F S_ .f32 := constant S_ .f32 0x7F800000#32
  let main_v1 : FVec F S8x32x6400 .f32 := broadcastInDim S8x32x6400 ![] bcast_S_S8x32x6400 main_cst
  let main_v2 : IVec S8x32x6400 1 := cmpf .olt main_v0 main_v1
  let main_v3 : FVec F S8x32x1600 .f32 := Host.absf main_arg11
  let main_cst_0 : FVec F S_ .f32 := constant S_ .f32 0x7F800000#32
  let main_v4 : FVec F S8x32x1600 .f32 := broadcastInDim S8x32x1600 ![] bcast_S_S8x32x1600 main_cst_0
  let main_v5 : IVec S8x32x1600 1 := cmpf .olt main_v3 main_v4
  let main_v6 : FVec F S8x32x400 .f32 := Host.absf main_arg12
  let main_cst_1 : FVec F S_ .f32 := constant S_ .f32 0x7F800000#32
  let main_v7 : FVec F S8x32x400 .f32 := broadcastInDim S8x32x400 ![] bcast_S_S8x32x400 main_cst_1
  let main_v8 : IVec S8x32x400 1 := cmpf .olt main_v6 main_v7
  let main_v9 : FVec F S8x32x25600 .f32 := Host.absf main_arg13
  let main_cst_2 : FVec F S_ .f32 := constant S_ .f32 0x7F800000#32
  let main_v10 : FVec F S8x32x25600 .f32 := broadcastInDim S8x32x25600 ![] bcast_S_S8x32x25600 main_cst_2
  let main_v11 : IVec S8x32x25600 1 := cmpf .olt main_v9 main_v10
  let main_v12 : FVec F S8x12x25600 .f32 := Host.absf main_arg14
  let main_cst_3 : FVec F S_ .f32 := constant S_ .f32 0x7F800000#32
  let main_v13 : FVec F S8x12x25600 .f32 := broadcastInDim S8x12x25600 ![] bcast_S_S8x12x25600 main_cst_3
  let main_v14 : IVec S8x12x25600 1 := cmpf .olt main_v12 main_v13
  (main_v2, main_v5, main_v8, main_v11, main_v14)
-- ==== Kernel.lean ====
abbrev S8x6400 : Shape := ⟨2, ![8, 6400]⟩
abbrev S8x1600 : Shape := ⟨2, ![8, 1600]⟩
abbrev S8x400 : Shape := ⟨2, ![8, 400]⟩
abbrev S8x12x4 : Shape := ⟨3, ![8, 12, 4]⟩
abbrev S8x64x6400 : Shape := ⟨3, ![8, 64, 6400]⟩
abbrev S8x64x1600 : Shape := ⟨3, ![8, 64, 1600]⟩
abbrev S8x64x400 : Shape := ⟨3, ![8, 64, 400]⟩
abbrev S8x1x6400 : Shape := ⟨3, ![8, 1, 6400]⟩
abbrev S8x1x1600 : Shape := ⟨3, ![8, 1, 1600]⟩
abbrev S8x1x400 : Shape := ⟨3, ![8, 1, 400]⟩
abbrev S8x32x6400 : Shape := ⟨3, ![8, 32, 6400]⟩
abbrev S8x32x1600 : Shape := ⟨3, ![8, 32, 1600]⟩
abbrev S8x32x400 : Shape := ⟨3, ![8, 32, 400]⟩
abbrev S8x32x25600 : Shape := ⟨3, ![8, 32, 25600]⟩
abbrev S8x12x25600 : Shape := ⟨3, ![8, 12, 25600]⟩
abbrev S8x1x128 : Shape := ⟨3, ![8, 1, 128]⟩
abbrev S1x12x4 : Shape := ⟨3, ![1, 12, 4]⟩
abbrev S1x64x6400 : Shape := ⟨3, ![1, 64, 6400]⟩
abbrev S1x64x1600 : Shape := ⟨3, ![1, 64, 1600]⟩
abbrev S1x64x400 : Shape := ⟨3, ![1, 64, 400]⟩
abbrev S1x1x6400 : Shape := ⟨3, ![1, 1, 6400]⟩
abbrev S1x1x1600 : Shape := ⟨3, ![1, 1, 1600]⟩
abbrev S1x1x400 : Shape := ⟨3, ![1, 1, 400]⟩
abbrev S1x32x6400 : Shape := ⟨3, ![1, 32, 6400]⟩
abbrev S1x32x1600 : Shape := ⟨3, ![1, 32, 1600]⟩
abbrev S1x32x400 : Shape := ⟨3, ![1, 32, 400]⟩
abbrev S1x32x25600 : Shape := ⟨3, ![1, 32, 25600]⟩
abbrev S1x12x25600 : Shape := ⟨3, ![1, 12, 25600]⟩
abbrev S1x1x128 : Shape := ⟨3, ![1, 1, 128]⟩
abbrev S1x12x1 : Shape := ⟨3, ![1, 12, 1]⟩
abbrev S12x1 : Shape := ⟨2, ![12, 1]⟩
abbrev S16x1 : Shape := ⟨2, ![16, 1]⟩
abbrev S1x6400 : Shape := ⟨2, ![1, 6400]⟩
abbrev S1x16x6400 : Shape := ⟨3, ![1, 16, 6400]⟩
abbrev S16x6400 : Shape := ⟨2, ![16, 6400]⟩
abbrev S6400 : Shape := ⟨1, ![6400]⟩
abbrev S12x6400 : Shape := ⟨2, ![12, 6400]⟩
abbrev S1x1600 : Shape := ⟨2, ![1, 1600]⟩
abbrev S1x16x1600 : Shape := ⟨3, ![1, 16, 1600]⟩
abbrev S16x1600 : Shape := ⟨2, ![16, 1600]⟩
abbrev S1600 : Shape := ⟨1, ![1600]⟩
abbrev S12x1600 : Shape := ⟨2, ![12, 1600]⟩
abbrev S1x400 : Shape := ⟨2, ![1, 400]⟩
abbrev S1x16x400 : Shape := ⟨3, ![1, 16, 400]⟩
abbrev S16x400 : Shape := ⟨2, ![16, 400]⟩
abbrev S400 : Shape := ⟨1, ![400]⟩
abbrev S12x400 : Shape := ⟨2, ![12, 400]⟩
abbrev S12 : Shape := ⟨1, ![12]⟩
abbrev S1 : Shape := ⟨1, ![1]⟩
abbrev S1x1x1 : Shape := ⟨3, ![1, 1, 1]⟩
abbrev S32x6400 : Shape := ⟨2, ![32, 6400]⟩
abbrev S12x32 : Shape := ⟨2, ![12, 32]⟩
abbrev S32x1600 : Shape := ⟨2, ![32, 1600]⟩
abbrev S32x400 : Shape := ⟨2, ![32, 400]⟩
abbrev S120x32 : Shape := ⟨2, ![120, 32]⟩
abbrev S12x12 : Shape := ⟨2, ![12, 12]⟩
abbrev S120x12 : Shape := ⟨2, ![120, 12]⟩
abbrev S1x32x12800 : Shape := ⟨3, ![1, 32, 12800]⟩
abbrev S32x12800 : Shape := ⟨2, ![32, 12800]⟩
abbrev S1x12x12800 : Shape := ⟨3, ![1, 12, 12800]⟩
abbrev S12x12800 : Shape := ⟨2, ![12, 12800]⟩
abbrev S120x12800 : Shape := ⟨2, ![120, 12800]⟩
abbrev S1x120x12800 : Shape := ⟨3, ![1, 120, 12800]⟩
abbrev S1x12x32 : Shape := ⟨3, ![1, 12, 32]⟩
abbrev S1x128 : Shape := ⟨2, ![1, 128]⟩

abbrev nBuf : Space → Nat
  | .hbm => 16
  | .vmem => 29
  | .smem => 0
  | _ => 0

abbrev bufTy : (tb : Table) → Fin (tcTables nBuf tb) → BufTy
  | .hbm, ⟨0, _⟩ => ⟨S8x6400, .f32⟩
  | .hbm, ⟨1, _⟩ => ⟨S8x1600, .f32⟩
  | .hbm, ⟨2, _⟩ => ⟨S8x400, .f32⟩
  | .hbm, ⟨3, _⟩ => ⟨S8x12x4, .f32⟩
  | .hbm, ⟨4, _⟩ => ⟨S8x64x6400, .f32⟩
  | .hbm, ⟨5, _⟩ => ⟨S8x64x1600, .f32⟩
  | .hbm, ⟨6, _⟩ => ⟨S8x64x400, .f32⟩
  | .hbm, ⟨7, _⟩ => ⟨S8x1x6400, .f32⟩
  | .hbm, ⟨8, _⟩ => ⟨S8x1x1600, .f32⟩
  | .hbm, ⟨9, _⟩ => ⟨S8x1x400, .f32⟩
  | .hbm, ⟨10, _⟩ => ⟨S8x32x6400, .f32⟩
  | .hbm, ⟨11, _⟩ => ⟨S8x32x1600, .f32⟩
  | .hbm, ⟨12, _⟩ => ⟨S8x32x400, .f32⟩
  | .hbm, ⟨13, _⟩ => ⟨S8x32x25600, .f32⟩
  | .hbm, ⟨14, _⟩ => ⟨S8x12x25600, .f32⟩
  | .hbm, ⟨15, _⟩ => ⟨S8x1x128, .f32⟩
  | .local _ .vmem, ⟨0, _⟩ => ⟨S8x6400, .f32⟩
  | .local _ .vmem, ⟨1, _⟩ => ⟨S8x1600, .f32⟩
  | .local _ .vmem, ⟨2, _⟩ => ⟨S8x400, .f32⟩
  | .local _ .vmem, ⟨3, _⟩ => ⟨S1x12x4, .f32⟩
  | .local _ .vmem, ⟨4, _⟩ => ⟨S1x12x4, .f32⟩
  | .local _ .vmem, ⟨5, _⟩ => ⟨S1x64x6400, .f32⟩
  | .local _ .vmem, ⟨6, _⟩ => ⟨S1x64x6400, .f32⟩
  | .local _ .vmem, ⟨7, _⟩ => ⟨S1x64x1600, .f32⟩
  | .local _ .vmem, ⟨8, _⟩ => ⟨S1x64x1600, .f32⟩
  | .local _ .vmem, ⟨9, _⟩ => ⟨S1x64x400, .f32⟩
  | .local _ .vmem, ⟨10, _⟩ => ⟨S1x64x400, .f32⟩
  | .local _ .vmem, ⟨11, _⟩ => ⟨S1x1x6400, .f32⟩
  | .local _ .vmem, ⟨12, _⟩ => ⟨S1x1x6400, .f32⟩
  | .local _ .vmem, ⟨13, _⟩ => ⟨S1x1x1600, .f32⟩
  | .local _ .vmem, ⟨14, _⟩ => ⟨S1x1x1600, .f32⟩
  | .local _ .vmem, ⟨15, _⟩ => ⟨S1x1x400, .f32⟩
  | .local _ .vmem, ⟨16, _⟩ => ⟨S1x1x400, .f32⟩
  | .local _ .vmem, ⟨17, _⟩ => ⟨S1x32x6400, .f32⟩
  | .local _ .vmem, ⟨18, _⟩ => ⟨S1x32x6400, .f32⟩
  | .local _ .vmem, ⟨19, _⟩ => ⟨S1x32x1600, .f32⟩
  | .local _ .vmem, ⟨20, _⟩ => ⟨S1x32x1600, .f32⟩
  | .local _ .vmem, ⟨21, _⟩ => ⟨S1x32x400, .f32⟩
  | .local _ .vmem, ⟨22, _⟩ => ⟨S1x32x400, .f32⟩
  | .local _ .vmem, ⟨23, _⟩ => ⟨S1x32x25600, .f32⟩
  | .local _ .vmem, ⟨24, _⟩ => ⟨S1x32x25600, .f32⟩
  | .local _ .vmem, ⟨25, _⟩ => ⟨S1x12x25600, .f32⟩
  | .local _ .vmem, ⟨26, _⟩ => ⟨S1x12x25600, .f32⟩
  | .local _ .vmem, ⟨27, _⟩ => ⟨S1x1x128, .f32⟩
  | .local _ .vmem, ⟨28, _⟩ => ⟨S1x1x128, .f32⟩
  | _, _ => ⟨S8x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_822 : BitVec 32 := 0#32
  let v2671 : BitVec 1 := Scalar.cmpi .sge arg0 c0_i32_822
  let v2672 : BitVec 32 := Scalar.extui v2671
  let c0_i32_823 : BitVec 32 := 0#32
  let v2673 : BitVec 1 := Scalar.cmpi .ne v2672 c0_i32_823
  v2673

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x6400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x6400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1600 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x400 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x6400 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x1600 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x400 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x25600 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x12x25600 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8x6400 : Shape := ⟨2, ![8, 6400]⟩
abbrev S8x1600 : Shape := ⟨2, ![8, 1600]⟩
abbrev S8x400 : Shape := ⟨2, ![8, 400]⟩
abbrev S8x12x4 : Shape := ⟨3, ![8, 12, 4]⟩
abbrev S8x64x6400 : Shape := ⟨3, ![8, 64, 6400]⟩
abbrev S8x64x1600 : Shape := ⟨3, ![8, 64, 1600]⟩
abbrev S8x64x400 : Shape := ⟨3, ![8, 64, 400]⟩
abbrev S8x1x6400 : Shape := ⟨3, ![8, 1, 6400]⟩
abbrev S8x1x1600 : Shape := ⟨3, ![8, 1, 1600]⟩
abbrev S8x1x400 : Shape := ⟨3, ![8, 1, 400]⟩
abbrev S8x32x6400 : Shape := ⟨3, ![8, 32, 6400]⟩
abbrev S8x32x1600 : Shape := ⟨3, ![8, 32, 1600]⟩
abbrev S8x32x400 : Shape := ⟨3, ![8, 32, 400]⟩
abbrev S8x32x25600 : Shape := ⟨3, ![8, 32, 25600]⟩
abbrev S8x12x25600 : Shape := ⟨3, ![8, 12, 25600]⟩
abbrev S1x6400 : Shape := ⟨2, ![1, 6400]⟩
abbrev S6400 : Shape := ⟨1, ![6400]⟩
abbrev S1x1600 : Shape := ⟨2, ![1, 1600]⟩
abbrev S1600 : Shape := ⟨1, ![1600]⟩
abbrev S1x400 : Shape := ⟨2, ![1, 400]⟩
abbrev S400 : Shape := ⟨1, ![400]⟩
abbrev S8400 : Shape := ⟨1, ![8400]⟩
abbrev S8x64x8400 : Shape := ⟨3, ![8, 64, 8400]⟩
abbrev S8x8400x64 : Shape := ⟨3, ![8, 8400, 64]⟩
abbrev S8x1x8400 : Shape := ⟨3, ![8, 1, 8400]⟩
abbrev S8x8400x1 : Shape := ⟨3, ![8, 8400, 1]⟩
abbrev S8x32x8400 : Shape := ⟨3, ![8, 32, 8400]⟩
abbrev S8x8400x32 : Shape := ⟨3, ![8, 8400, 32]⟩
abbrev S8x8400x4x16 : Shape := ⟨4, ![8, 8400, 4, 16]⟩
abbrev S_ : Shape := ⟨0, ![]⟩
abbrev S8x8400x4 : Shape := ⟨3, ![8, 8400, 4]⟩
abbrev S8x8400x4x1 : Shape := ⟨4, ![8, 8400, 4, 1]⟩
abbrev S16 : Shape := ⟨1, ![16]⟩
abbrev S1x1x1x16 : Shape := ⟨4, ![1, 1, 1, 16]⟩
abbrev S1x8400x1 : Shape := ⟨3, ![1, 8400, 1]⟩
abbrev S8x8400 : Shape := ⟨2, ![8, 8400]⟩
abbrev S1x8400 : Shape := ⟨2, ![1, 8400]⟩
abbrev S8x12x1 : Shape := ⟨3, ![8, 12, 1]⟩
abbrev S8x12 : Shape := ⟨2, ![8, 12]⟩
abbrev S8x12x8400 : Shape := ⟨3, ![8, 12, 8400]⟩
abbrev S1x1x8400 : Shape := ⟨3, ![1, 1, 8400]⟩
abbrev S8x12x10 : Shape := ⟨3, ![8, 12, 10]⟩
abbrev S8x12x10x1 : Shape := ⟨4, ![8, 12, 10, 1]⟩
abbrev S1x1x1x8400 : Shape := ⟨4, ![1, 1, 1, 8400]⟩
abbrev S8x12x10x8400 : Shape := ⟨4, ![8, 12, 10, 8400]⟩
abbrev S12 : Shape := ⟨1, ![12]⟩
abbrev S12x1 : Shape := ⟨2, ![12, 1]⟩
abbrev S8x120 : Shape := ⟨2, ![8, 120]⟩
abbrev S8x120x1 : Shape := ⟨3, ![8, 120, 1]⟩
abbrev S8 : Shape := ⟨1, ![8]⟩
abbrev S8x120x4 : Shape := ⟨3, ![8, 120, 4]⟩
abbrev S8x120x64 : Shape := ⟨3, ![8, 120, 64]⟩
abbrev S8x120x4x16 : Shape := ⟨4, ![8, 120, 4, 16]⟩
abbrev S8x120x4x1 : Shape := ⟨4, ![8, 120, 4, 1]⟩
abbrev S8x120x4x1x1 : Shape := ⟨5, ![8, 120, 4, 1, 1]⟩
abbrev S8x120x32 : Shape := ⟨3, ![8, 120, 32]⟩
abbrev S8x120x25600 : Shape := ⟨3, ![8, 120, 25600]⟩
abbrev S128 : Shape := ⟨1, ![128]⟩
abbrev S8x1x128 : Shape := ⟨3, ![8, 1, 128]⟩
abbrev S8x1x1 : Shape := ⟨3, ![8, 1, 1]⟩

abbrev nBuf : Space → Nat
  | .hbm => 604
  | .vmem => 0
  | .smem => 0
  | _ => 0

abbrev hbmTy0_0 (i : Nat) : BufTy := match i % 128 with
  | 0 => ⟨S8x6400, .f32⟩
  | 1 => ⟨S8x1600, .f32⟩
  | 2 => ⟨S8x400, .f32⟩
  | 3 => ⟨S8x12x4, .f32⟩
  | 4 => ⟨S8x64x6400, .f32⟩
  | 5 => ⟨S8x64x1600, .f32⟩
  | 6 => ⟨S8x64x400, .f32⟩
  | 7 => ⟨S8x1x6400, .f32⟩
  | 8 => ⟨S8x1x1600, .f32⟩
  | 9 => ⟨S8x1x400, .f32⟩
  | 10 => ⟨S8x32x6400, .f32⟩
  | 11 => ⟨S8x32x1600, .f32⟩
  | 12 => ⟨S8x32x400, .f32⟩
  | 13 => ⟨S8x32x25600, .f32⟩
  | 14 => ⟨S8x12x25600, .f32⟩
  | 15 => ⟨S1x6400, .f32⟩
  | 16 => ⟨S6400, .f32⟩
  | 17 => ⟨S1x1600, .f32⟩
  | 18 => ⟨S1600, .f32⟩
  | 19 => ⟨S1x400, .f32⟩
  | 20 => ⟨S400, .f32⟩
  | 21 => ⟨S8400, .f32⟩
  | 22 => ⟨S1x6400, .f32⟩
  | 23 => ⟨S6400, .f32⟩
  | 24 => ⟨S1x1600, .f32⟩
  | 25 => ⟨S1600, .f32⟩
  | 26 => ⟨S1x400, .f32⟩
  | 27 => ⟨S400, .f32⟩
  | 28 => ⟨S8400, .f32⟩
  | 29 => ⟨S1x6400, .f32⟩
  | 30 => ⟨S6400, .f32⟩
  | 31 => ⟨S1x1600, .f32⟩
  | 32 => ⟨S1600, .f32⟩
  | 33 => ⟨S1x400, .f32⟩
  | 34 => ⟨S400, .f32⟩
  | 35 => ⟨S8400, .f32⟩
  | 36 => ⟨S8x64x8400, .f32⟩
  | 37 => ⟨S8x8400x64, .f32⟩
  | 38 => ⟨S8x1x8400, .f32⟩
  | 39 => ⟨S8x8400x1, .f32⟩
  | 40 => ⟨S8x32x8400, .f32⟩
  | 41 => ⟨S8x8400x32, .f32⟩
  | 42 => ⟨S8x8400x4x16, .f32⟩
  | 43 => ⟨S_, .f32⟩
  | 44 => ⟨S8x8400x4, .f32⟩
  | 45 => ⟨S_, .f32⟩
  | 46 => ⟨S8x8400x4, .f32⟩
  | 47 => ⟨S8x8400x4, .f32⟩
  | 48 => ⟨S8x8400x4x1, .f32⟩
  | 49 => ⟨S8x8400x4x16, .f32⟩
  | 50 => ⟨S8x8400x4x16, .f32⟩
  | 51 => ⟨S8x8400x4x16, .f32⟩
  | 52 => ⟨S_, .f32⟩
  | 53 => ⟨S8x8400x4, .f32⟩
  | 54 => ⟨S8x8400x4x1, .f32⟩
  | 55 => ⟨S8x8400x4x16, .f32⟩
  | 56 => ⟨S8x8400x4x16, .f32⟩
  | 57 => ⟨S16, .f32⟩
  | 58 => ⟨S1x1x1x16, .f32⟩
  | 59 => ⟨S8x8400x4x16, .f32⟩
  | 60 => ⟨S8x8400x4x16, .f32⟩
  | 61 => ⟨S_, .f32⟩
  | 62 => ⟨S8x8400x4, .f32⟩
  | 63 => ⟨S1x8400x1, .f32⟩
  | 64 => ⟨S8x8400x4, .f32⟩
  | 65 => ⟨S8x8400x4, .f32⟩
  | 66 => ⟨S8x8400x1, .f32⟩
  | 67 => ⟨S8x8400, .f32⟩
  | 68 => ⟨S1x8400, .f32⟩
  | 69 => ⟨S8x8400, .f32⟩
  | 70 => ⟨S8x8400, .f32⟩
  | 71 => ⟨S8x8400x1, .f32⟩
  | 72 => ⟨S8x8400, .f32⟩
  | 73 => ⟨S1x8400, .f32⟩
  | 74 => ⟨S8x8400, .f32⟩
  | 75 => ⟨S8x8400, .f32⟩
  | 76 => ⟨S8x8400x1, .f32⟩
  | 77 => ⟨S8x8400, .f32⟩
  | 78 => ⟨S1x8400, .f32⟩
  | 79 => ⟨S8x8400, .f32⟩
  | 80 => ⟨S8x8400, .f32⟩
  | 81 => ⟨S8x8400x1, .f32⟩
  | 82 => ⟨S8x8400, .f32⟩
  | 83 => ⟨S1x8400, .f32⟩
  | 84 => ⟨S8x8400, .f32⟩
  | 85 => ⟨S8x8400, .f32⟩
  | 86 => ⟨S8x8400x1, .f32⟩
  | 87 => ⟨S8x8400x1, .f32⟩
  | 88 => ⟨S8x8400x1, .f32⟩
  | 89 => ⟨S8x8400x1, .f32⟩
  | 90 => ⟨S8x8400x4, .f32⟩
  | 91 => ⟨S8x8400x1, .f32⟩
  | 92 => ⟨S8x8400x1, .f32⟩
  | 93 => ⟨S_, .f32⟩
  | 94 => ⟨S8x8400x1, .f32⟩
  | 95 => ⟨S8x8400x1, .f32⟩
  | 96 => ⟨S_, .f32⟩
  | 97 => ⟨S8x8400x1, .f32⟩
  | 98 => ⟨S8x8400x1, .f32⟩
  | 99 => ⟨S8x12x1, .f32⟩
  | 100 => ⟨S8x12, .f32⟩
  | 101 => ⟨S8x12x1, .f32⟩
  | 102 => ⟨S8x12x1, .f32⟩
  | 103 => ⟨S8x12, .f32⟩
  | 104 => ⟨S8x12x1, .f32⟩
  | 105 => ⟨S8x12x1, .f32⟩
  | 106 => ⟨S8x12, .f32⟩
  | 107 => ⟨S8x12x1, .f32⟩
  | 108 => ⟨S8x12x1, .f32⟩
  | 109 => ⟨S8x12, .f32⟩
  | 110 => ⟨S8x12x1, .f32⟩
  | 111 => ⟨S8x8400x1, .f32⟩
  | 112 => ⟨S8x8400, .f32⟩
  | 113 => ⟨S8x1x8400, .f32⟩
  | 114 => ⟨S8x8400x1, .f32⟩
  | 115 => ⟨S8x8400, .f32⟩
  | 116 => ⟨S8x1x8400, .f32⟩
  | 117 => ⟨S8x8400x1, .f32⟩
  | 118 => ⟨S8x8400, .f32⟩
  | 119 => ⟨S8x1x8400, .f32⟩
  | 120 => ⟨S8x8400x1, .f32⟩
  | 121 => ⟨S8x8400, .f32⟩
  | 122 => ⟨S8x1x8400, .f32⟩
  | 123 => ⟨S8x12x8400, .f32⟩
  | 124 => ⟨S8x12x8400, .f32⟩
  | 125 => ⟨S8x12x8400, .f32⟩
  | 126 => ⟨S8x12x8400, .f32⟩
  | 127 => ⟨S8x12x8400, .f32⟩
  | _ => ⟨S8x6400, .f32⟩

abbrev hbmTy0_1 (i : Nat) : BufTy := match i % 128 with
  | 0 => ⟨S8x12x8400, .f32⟩
  | 1 => ⟨S8x12x8400, .f32⟩
  | 2 => ⟨S_, .f32⟩
  | 3 => ⟨S8x12x8400, .f32⟩
  | 4 => ⟨S8x12x8400, .f32⟩
  | 5 => ⟨S8x12x8400, .f32⟩
  | 6 => ⟨S8x12x8400, .f32⟩
  | 7 => ⟨S8x12x8400, .f32⟩
  | 8 => ⟨S8x12x8400, .f32⟩
  | 9 => ⟨S8x12x8400, .f32⟩
  | 10 => ⟨S8x12x8400, .f32⟩
  | 11 => ⟨S8x12x8400, .f32⟩
  | 12 => ⟨S_, .f32⟩
  | 13 => ⟨S8x12x8400, .f32⟩
  | 14 => ⟨S8x12x8400, .f32⟩
  | 15 => ⟨S8x12x8400, .f32⟩
  | 16 => ⟨S8x12x1, .f32⟩
  | 17 => ⟨S8x12x1, .f32⟩
  | 18 => ⟨S8x12x1, .f32⟩
  | 19 => ⟨S8x1x8400, .f32⟩
  | 20 => ⟨S8x1x8400, .f32⟩
  | 21 => ⟨S8x1x8400, .f32⟩
  | 22 => ⟨S8x12x8400, .f32⟩
  | 23 => ⟨S8x12x8400, .f32⟩
  | 24 => ⟨S8x12x8400, .f32⟩
  | 25 => ⟨S8x12x8400, .f32⟩
  | 26 => ⟨S_, .f32⟩
  | 27 => ⟨S8x12x8400, .f32⟩
  | 28 => ⟨S8x12x8400, .f32⟩
  | 29 => ⟨S8x12x8400, .f32⟩
  | 30 => ⟨S8x8400, .f32⟩
  | 31 => ⟨S8x1x8400, .f32⟩
  | 32 => ⟨S8x12x8400, .f32⟩
  | 33 => ⟨S8x12x8400, .f32⟩
  | 34 => ⟨S8x12x8400, .f32⟩
  | 35 => ⟨S8x12x8400, .f32⟩
  | 36 => ⟨S8x12x8400, .f32⟩
  | 37 => ⟨S8x12x1, .f32⟩
  | 38 => ⟨S1x1x8400, .f32⟩
  | 39 => ⟨S8x12x8400, .f32⟩
  | 40 => ⟨S8x12x8400, .f32⟩
  | 41 => ⟨S8x12x8400, .i1⟩
  | 42 => ⟨S8x12x1, .f32⟩
  | 43 => ⟨S1x1x8400, .f32⟩
  | 44 => ⟨S8x12x8400, .f32⟩
  | 45 => ⟨S8x12x8400, .f32⟩
  | 46 => ⟨S8x12x8400, .i1⟩
  | 47 => ⟨S8x12x8400, .i1⟩
  | 48 => ⟨S8x12x1, .f32⟩
  | 49 => ⟨S1x1x8400, .f32⟩
  | 50 => ⟨S8x12x8400, .f32⟩
  | 51 => ⟨S8x12x8400, .f32⟩
  | 52 => ⟨S8x12x8400, .i1⟩
  | 53 => ⟨S8x12x8400, .i1⟩
  | 54 => ⟨S8x12x1, .f32⟩
  | 55 => ⟨S1x1x8400, .f32⟩
  | 56 => ⟨S8x12x8400, .f32⟩
  | 57 => ⟨S8x12x8400, .f32⟩
  | 58 => ⟨S8x12x8400, .i1⟩
  | 59 => ⟨S8x12x8400, .i1⟩
  | 60 => ⟨S_, .f32⟩
  | 61 => ⟨S_, .f32⟩
  | 62 => ⟨S8x12x8400, .f32⟩
  | 63 => ⟨S8x12x8400, .f32⟩
  | 64 => ⟨S8x12x10, .f32⟩
  | 65 => ⟨S8x12x10, .i32⟩
  | 66 => ⟨S8x12x10x1, .i32⟩
  | 67 => ⟨S8400, .i32⟩
  | 68 => ⟨S1x1x1x8400, .i32⟩
  | 69 => ⟨S8x12x10x8400, .i32⟩
  | 70 => ⟨S8x12x10x8400, .i32⟩
  | 71 => ⟨S8x12x10x8400, .i1⟩
  | 72 => ⟨S_, .f32⟩
  | 73 => ⟨S8x12x10, .f32⟩
  | 74 => ⟨S8x12x10, .i1⟩
  | 75 => ⟨S8x12x10x1, .i1⟩
  | 76 => ⟨S8x12x10x8400, .i1⟩
  | 77 => ⟨S8x12x10x8400, .i1⟩
  | 78 => ⟨S_, .f32⟩
  | 79 => ⟨S_, .f32⟩
  | 80 => ⟨S8x12x10x8400, .f32⟩
  | 81 => ⟨S8x12x10x8400, .f32⟩
  | 82 => ⟨S8x12x10x8400, .f32⟩
  | 83 => ⟨S8x12x10x8400, .f32⟩
  | 84 => ⟨S_, .f32⟩
  | 85 => ⟨S8x12x8400, .f32⟩
  | 86 => ⟨S_, .f32⟩
  | 87 => ⟨S_, .f32⟩
  | 88 => ⟨S8x12x8400, .f32⟩
  | 89 => ⟨S8x12x8400, .f32⟩
  | 90 => ⟨S8x12x8400, .f32⟩
  | 91 => ⟨S8x12x8400, .f32⟩
  | 92 => ⟨S8x12x8400, .f32⟩
  | 93 => ⟨S_, .f32⟩
  | 94 => ⟨S8x8400, .f32⟩
  | 95 => ⟨S_, .f32⟩
  | 96 => ⟨S8x8400, .f32⟩
  | 97 => ⟨S8x8400, .i1⟩
  | 98 => ⟨S_, .f32⟩
  | 99 => ⟨S_, .f32⟩
  | 100 => ⟨S8x8400, .f32⟩
  | 101 => ⟨S8x8400, .f32⟩
  | 102 => ⟨S8x8400, .f32⟩
  | 103 => ⟨S_, .f32⟩
  | 104 => ⟨S8x12x8400, .f32⟩
  | 105 => ⟨S8x12x8400, .i1⟩
  | 106 => ⟨S_, .f32⟩
  | 107 => ⟨S_, .f32⟩
  | 108 => ⟨S8x12x8400, .f32⟩
  | 109 => ⟨S8x12x8400, .f32⟩
  | 110 => ⟨S_, .f32⟩
  | 111 => ⟨S8x8400, .f32⟩
  | 112 => ⟨S8x1x8400, .f32⟩
  | 113 => ⟨S8x12x8400, .f32⟩
  | 114 => ⟨S8x12x8400, .i1⟩
  | 115 => ⟨S12, .i32⟩
  | 116 => ⟨S12x1, .i32⟩
  | 117 => ⟨S_, .i32⟩
  | 118 => ⟨S_, .i32⟩
  | 119 => ⟨S8x12x8400, .i32⟩
  | 120 => ⟨S8x12x8400, .i32⟩
  | 121 => ⟨S8x12x8400, .i32⟩
  | 122 => ⟨S_, .i32⟩
  | 123 => ⟨S8x8400, .i32⟩
  | 124 => ⟨S8x8400, .f32⟩
  | 125 => ⟨S8x8400, .i32⟩
  | 126 => ⟨S8x8400, .f32⟩
  | 127 => ⟨S8x8400, .i32⟩
  | _ => ⟨S8x6400, .f32⟩

abbrev hbmTy0_2 (i : Nat) : BufTy := match i % 128 with
  | 0 => ⟨S8x120, .i32⟩
  | 1 => ⟨S_, .i32⟩
  | 2 => ⟨S8x120, .i32⟩
  | 3 => ⟨S8x120, .i1⟩
  | 4 => ⟨S_, .i32⟩
  | 5 => ⟨S8x120, .i32⟩
  | 6 => ⟨S8x120, .i32⟩
  | 7 => ⟨S8x120, .i32⟩
  | 8 => ⟨S8x120x1, .i32⟩
  | 9 => ⟨S8x120, .f32⟩
  | 10 => ⟨S_, .i32⟩
  | 11 => ⟨S8x120, .i32⟩
  | 12 => ⟨S8x120, .i1⟩
  | 13 => ⟨S_, .i32⟩
  | 14 => ⟨S8x120, .i32⟩
  | 15 => ⟨S8x120, .i32⟩
  | 16 => ⟨S8x120, .i32⟩
  | 17 => ⟨S8x120x1, .i32⟩
  | 18 => ⟨S8x120, .i32⟩
  | 19 => ⟨S8x120, .f32⟩
  | 20 => ⟨S_, .f32⟩
  | 21 => ⟨S8, .f32⟩
  | 22 => ⟨S_, .i32⟩
  | 23 => ⟨S8x120, .i32⟩
  | 24 => ⟨S8x120, .i1⟩
  | 25 => ⟨S_, .i32⟩
  | 26 => ⟨S8x120, .i32⟩
  | 27 => ⟨S8x120, .i32⟩
  | 28 => ⟨S8x120, .i32⟩
  | 29 => ⟨S8x120x1, .i32⟩
  | 30 => ⟨S8x120x4, .f32⟩
  | 31 => ⟨S_, .i32⟩
  | 32 => ⟨S8x120, .i32⟩
  | 33 => ⟨S8x120, .i1⟩
  | 34 => ⟨S_, .i32⟩
  | 35 => ⟨S8x120, .i32⟩
  | 36 => ⟨S8x120, .i32⟩
  | 37 => ⟨S8x120, .i32⟩
  | 38 => ⟨S8x120x1, .i32⟩
  | 39 => ⟨S8x120x4, .f32⟩
  | 40 => ⟨S8x120x1, .f32⟩
  | 41 => ⟨S8x120, .f32⟩
  | 42 => ⟨S8x120x1, .f32⟩
  | 43 => ⟨S8x120, .f32⟩
  | 44 => ⟨S8x120x1, .f32⟩
  | 45 => ⟨S8x120, .f32⟩
  | 46 => ⟨S8x120x1, .f32⟩
  | 47 => ⟨S8x120, .f32⟩
  | 48 => ⟨S8x120x1, .f32⟩
  | 49 => ⟨S8x120, .f32⟩
  | 50 => ⟨S8x120x1, .f32⟩
  | 51 => ⟨S8x120, .f32⟩
  | 52 => ⟨S8x120x1, .f32⟩
  | 53 => ⟨S8x120, .f32⟩
  | 54 => ⟨S8x120x1, .f32⟩
  | 55 => ⟨S8x120, .f32⟩
  | 56 => ⟨S8x120, .f32⟩
  | 57 => ⟨S8x120, .f32⟩
  | 58 => ⟨S8x120, .f32⟩
  | 59 => ⟨S_, .f32⟩
  | 60 => ⟨S8x120, .f32⟩
  | 61 => ⟨S8x120, .f32⟩
  | 62 => ⟨S8x120, .f32⟩
  | 63 => ⟨S8x120, .f32⟩
  | 64 => ⟨S8x120, .f32⟩
  | 65 => ⟨S_, .f32⟩
  | 66 => ⟨S8x120, .f32⟩
  | 67 => ⟨S8x120, .f32⟩
  | 68 => ⟨S8x120, .f32⟩
  | 69 => ⟨S8x120, .f32⟩
  | 70 => ⟨S8x120, .f32⟩
  | 71 => ⟨S8x120, .f32⟩
  | 72 => ⟨S8x120, .f32⟩
  | 73 => ⟨S8x120, .f32⟩
  | 74 => ⟨S8x120, .f32⟩
  | 75 => ⟨S8x120, .f32⟩
  | 76 => ⟨S8x120, .f32⟩
  | 77 => ⟨S_, .f32⟩
  | 78 => ⟨S8x120, .f32⟩
  | 79 => ⟨S8x120, .f32⟩
  | 80 => ⟨S8x120, .f32⟩
  | 81 => ⟨S_, .f32⟩
  | 82 => ⟨S8x120, .f32⟩
  | 83 => ⟨S8x120, .f32⟩
  | 84 => ⟨S8x120, .f32⟩
  | 85 => ⟨S8x120, .f32⟩
  | 86 => ⟨S_, .f32⟩
  | 87 => ⟨S8, .f32⟩
  | 88 => ⟨S_, .i32⟩
  | 89 => ⟨S8x120, .i32⟩
  | 90 => ⟨S8x120, .i1⟩
  | 91 => ⟨S_, .i32⟩
  | 92 => ⟨S8x120, .i32⟩
  | 93 => ⟨S8x120, .i32⟩
  | 94 => ⟨S8x120, .i32⟩
  | 95 => ⟨S8x120x1, .i32⟩
  | 96 => ⟨S8x120x1, .f32⟩
  | 97 => ⟨S8x120, .f32⟩
  | 98 => ⟨S_, .f32⟩
  | 99 => ⟨S_, .f32⟩
  | 100 => ⟨S_, .f32⟩
  | 101 => ⟨S8x120, .f32⟩
  | 102 => ⟨S8x120, .f32⟩
  | 103 => ⟨S_, .f32⟩
  | 104 => ⟨S8x120, .f32⟩
  | 105 => ⟨S8x120, .f32⟩
  | 106 => ⟨S_, .f32⟩
  | 107 => ⟨S8x120, .f32⟩
  | 108 => ⟨S8x120, .f32⟩
  | 109 => ⟨S8x120, .f32⟩
  | 110 => ⟨S8x120, .f32⟩
  | 111 => ⟨S8x120, .f32⟩
  | 112 => ⟨S8x120, .f32⟩
  | 113 => ⟨S8x120, .f32⟩
  | 114 => ⟨S8x120, .f32⟩
  | 115 => ⟨S8x120, .f32⟩
  | 116 => ⟨S8x120, .f32⟩
  | 117 => ⟨S8x120, .f32⟩
  | 118 => ⟨S_, .f32⟩
  | 119 => ⟨S8, .f32⟩
  | 120 => ⟨S_, .i32⟩
  | 121 => ⟨S8x120, .i32⟩
  | 122 => ⟨S8x120, .i1⟩
  | 123 => ⟨S_, .i32⟩
  | 124 => ⟨S8x120, .i32⟩
  | 125 => ⟨S8x120, .i32⟩
  | 126 => ⟨S8x120, .i32⟩
  | 127 => ⟨S8x120x1, .i32⟩
  | _ => ⟨S8x6400, .f32⟩

abbrev hbmTy0_3 (i : Nat) : BufTy := match i % 128 with
  | 0 => ⟨S8x120, .f32⟩
  | 1 => ⟨S_, .i32⟩
  | 2 => ⟨S8x120, .i32⟩
  | 3 => ⟨S8x120, .i1⟩
  | 4 => ⟨S_, .i32⟩
  | 5 => ⟨S8x120, .i32⟩
  | 6 => ⟨S8x120, .i32⟩
  | 7 => ⟨S8x120, .i32⟩
  | 8 => ⟨S8x120x1, .i32⟩
  | 9 => ⟨S8x120, .f32⟩
  | 10 => ⟨S_, .i32⟩
  | 11 => ⟨S8x120, .i32⟩
  | 12 => ⟨S8x120, .i1⟩
  | 13 => ⟨S_, .i32⟩
  | 14 => ⟨S8x120, .i32⟩
  | 15 => ⟨S8x120, .i32⟩
  | 16 => ⟨S8x120, .i32⟩
  | 17 => ⟨S8x120x1, .i32⟩
  | 18 => ⟨S8x120, .f32⟩
  | 19 => ⟨S8x120x1, .f32⟩
  | 20 => ⟨S8x120, .f32⟩
  | 21 => ⟨S8x120, .f32⟩
  | 22 => ⟨S8x120x1, .f32⟩
  | 23 => ⟨S8x120, .f32⟩
  | 24 => ⟨S8x120, .f32⟩
  | 25 => ⟨S8x120x1, .f32⟩
  | 26 => ⟨S8x120, .f32⟩
  | 27 => ⟨S8x120, .f32⟩
  | 28 => ⟨S8x120x1, .f32⟩
  | 29 => ⟨S8x120, .f32⟩
  | 30 => ⟨S8x120, .f32⟩
  | 31 => ⟨S8x120x1, .f32⟩
  | 32 => ⟨S8x120x1, .f32⟩
  | 33 => ⟨S8x120x1, .f32⟩
  | 34 => ⟨S8x120x1, .f32⟩
  | 35 => ⟨S8x120x4, .f32⟩
  | 36 => ⟨S8x120x1, .f32⟩
  | 37 => ⟨S8x120x4, .f32⟩
  | 38 => ⟨S8x120x4, .f32⟩
  | 39 => ⟨S_, .f32⟩
  | 40 => ⟨S_, .f32⟩
  | 41 => ⟨S_, .f32⟩
  | 42 => ⟨S8x120x4, .f32⟩
  | 43 => ⟨S8x120x4, .f32⟩
  | 44 => ⟨S_, .f32⟩
  | 45 => ⟨S8x120x4, .f32⟩
  | 46 => ⟨S8x120x4, .f32⟩
  | 47 => ⟨S8x120x4, .i32⟩
  | 48 => ⟨S_, .i32⟩
  | 49 => ⟨S8x120x4, .i32⟩
  | 50 => ⟨S8x120x4, .i1⟩
  | 51 => ⟨S_, .i32⟩
  | 52 => ⟨S8x120x4, .i32⟩
  | 53 => ⟨S8x120x4, .i32⟩
  | 54 => ⟨S_, .i32⟩
  | 55 => ⟨S8x120x4, .i32⟩
  | 56 => ⟨S8x120x4, .i32⟩
  | 57 => ⟨S8x120x4, .i32⟩
  | 58 => ⟨S8x120x4, .f32⟩
  | 59 => ⟨S8x120x4, .f32⟩
  | 60 => ⟨S_, .f32⟩
  | 61 => ⟨S_, .f32⟩
  | 62 => ⟨S8x120x4, .f32⟩
  | 63 => ⟨S8x120x4, .f32⟩
  | 64 => ⟨S_, .f32⟩
  | 65 => ⟨S8x120x4, .f32⟩
  | 66 => ⟨S8x120x4, .f32⟩
  | 67 => ⟨S_, .f32⟩
  | 68 => ⟨S_, .f32⟩
  | 69 => ⟨S8x120x4, .f32⟩
  | 70 => ⟨S8x120x4, .f32⟩
  | 71 => ⟨S_, .i32⟩
  | 72 => ⟨S8x120, .i32⟩
  | 73 => ⟨S8x120, .i1⟩
  | 74 => ⟨S_, .i32⟩
  | 75 => ⟨S8x120, .i32⟩
  | 76 => ⟨S8x120, .i32⟩
  | 77 => ⟨S8x120, .i32⟩
  | 78 => ⟨S8x120x1, .i32⟩
  | 79 => ⟨S8x120x64, .f32⟩
  | 80 => ⟨S8x120x4x16, .f32⟩
  | 81 => ⟨S_, .f32⟩
  | 82 => ⟨S8x120x4, .f32⟩
  | 83 => ⟨S_, .f32⟩
  | 84 => ⟨S8x120x4, .f32⟩
  | 85 => ⟨S8x120x4, .f32⟩
  | 86 => ⟨S8x120x4x1, .f32⟩
  | 87 => ⟨S8x120x4x16, .f32⟩
  | 88 => ⟨S8x120x4x16, .f32⟩
  | 89 => ⟨S8x120x4x16, .f32⟩
  | 90 => ⟨S_, .f32⟩
  | 91 => ⟨S8x120x4, .f32⟩
  | 92 => ⟨S8x120x4x1, .f32⟩
  | 93 => ⟨S8x120x4x1, .f32⟩
  | 94 => ⟨S8x120x4x16, .f32⟩
  | 95 => ⟨S8x120x4x16, .f32⟩
  | 96 => ⟨S8x120x4x1, .i32⟩
  | 97 => ⟨S_, .i32⟩
  | 98 => ⟨S8x120x4x1, .i32⟩
  | 99 => ⟨S8x120x4x1, .i1⟩
  | 100 => ⟨S_, .i32⟩
  | 101 => ⟨S8x120x4x1, .i32⟩
  | 102 => ⟨S8x120x4x1, .i32⟩
  | 103 => ⟨S8x120x4x1, .i32⟩
  | 104 => ⟨S8x120x4x1x1, .i32⟩
  | 105 => ⟨S8x120x4x1, .f32⟩
  | 106 => ⟨S8x120x4, .f32⟩
  | 107 => ⟨S8x120x4, .f32⟩
  | 108 => ⟨S8x120x4, .f32⟩
  | 109 => ⟨S_, .f32⟩
  | 110 => ⟨S8x120x4, .f32⟩
  | 111 => ⟨S_, .f32⟩
  | 112 => ⟨S8x120x4, .f32⟩
  | 113 => ⟨S8x120x4, .f32⟩
  | 114 => ⟨S8x120x4x1, .f32⟩
  | 115 => ⟨S8x120x4x16, .f32⟩
  | 116 => ⟨S8x120x4x16, .f32⟩
  | 117 => ⟨S8x120x4x16, .f32⟩
  | 118 => ⟨S_, .f32⟩
  | 119 => ⟨S8x120x4, .f32⟩
  | 120 => ⟨S8x120x4x1, .f32⟩
  | 121 => ⟨S8x120x4x1, .f32⟩
  | 122 => ⟨S8x120x4x16, .f32⟩
  | 123 => ⟨S8x120x4x16, .f32⟩
  | 124 => ⟨S8x120x4x1, .i32⟩
  | 125 => ⟨S_, .i32⟩
  | 126 => ⟨S8x120x4x1, .i32⟩
  | 127 => ⟨S8x120x4x1, .i1⟩
  | _ => ⟨S8x6400, .f32⟩

abbrev hbmTy0_4 (i : Nat) : BufTy := match i % 128 with
  | 0 => ⟨S_, .i32⟩
  | 1 => ⟨S8x120x4x1, .i32⟩
  | 2 => ⟨S8x120x4x1, .i32⟩
  | 3 => ⟨S8x120x4x1, .i32⟩
  | 4 => ⟨S8x120x4x1x1, .i32⟩
  | 5 => ⟨S8x120x4x1, .f32⟩
  | 6 => ⟨S8x120x4, .f32⟩
  | 7 => ⟨S8x120x4, .f32⟩
  | 8 => ⟨S8x120x4, .f32⟩
  | 9 => ⟨S8x120x4, .f32⟩
  | 10 => ⟨S8x120x1, .f32⟩
  | 11 => ⟨S8x120x1, .f32⟩
  | 12 => ⟨S8x120x4, .f32⟩
  | 13 => ⟨S8x120x4, .f32⟩
  | 14 => ⟨S_, .f32⟩
  | 15 => ⟨S8, .f32⟩
  | 16 => ⟨S_, .i32⟩
  | 17 => ⟨S8x120, .i32⟩
  | 18 => ⟨S8x120, .i1⟩
  | 19 => ⟨S_, .i32⟩
  | 20 => ⟨S8x120, .i32⟩
  | 21 => ⟨S8x120, .i32⟩
  | 22 => ⟨S8x120, .i32⟩
  | 23 => ⟨S8x120x1, .i32⟩
  | 24 => ⟨S8x120x32, .f32⟩
  | 25 => ⟨S8x120x25600, .f32⟩
  | 26 => ⟨S_, .i32⟩
  | 27 => ⟨S8x120, .i32⟩
  | 28 => ⟨S8x120, .i1⟩
  | 29 => ⟨S_, .i32⟩
  | 30 => ⟨S8x120, .i32⟩
  | 31 => ⟨S8x120, .i32⟩
  | 32 => ⟨S8x120, .i32⟩
  | 33 => ⟨S8x120x1, .i32⟩
  | 34 => ⟨S8x120x25600, .f32⟩
  | 35 => ⟨S_, .f32⟩
  | 36 => ⟨S8x120x25600, .f32⟩
  | 37 => ⟨S8x120x25600, .f32⟩
  | 38 => ⟨S8x120x25600, .f32⟩
  | 39 => ⟨S8x120x25600, .f32⟩
  | 40 => ⟨S8x120x25600, .f32⟩
  | 41 => ⟨S8x120x25600, .f32⟩
  | 42 => ⟨S8x120x25600, .f32⟩
  | 43 => ⟨S8x120x25600, .f32⟩
  | 44 => ⟨S8x120x25600, .f32⟩
  | 45 => ⟨S8x120x1, .f32⟩
  | 46 => ⟨S8x120x1, .f32⟩
  | 47 => ⟨S8x120x25600, .f32⟩
  | 48 => ⟨S8x120x25600, .f32⟩
  | 49 => ⟨S_, .f32⟩
  | 50 => ⟨S8, .f32⟩
  | 51 => ⟨S_, .f32⟩
  | 52 => ⟨S8, .f32⟩
  | 53 => ⟨S8, .f32⟩
  | 54 => ⟨S128, .i32⟩
  | 55 => ⟨S_, .f32⟩
  | 56 => ⟨S8x1x128, .f32⟩
  | 57 => ⟨S_, .i32⟩
  | 58 => ⟨S128, .i32⟩
  | 59 => ⟨S128, .i1⟩
  | 60 => ⟨S8x1x1, .f32⟩
  | 61 => ⟨S8x1x128, .i1⟩
  | 62 => ⟨S8x1x128, .f32⟩
  | 63 => ⟨S8x1x128, .f32⟩
  | 64 => ⟨S_, .i32⟩
  | 65 => ⟨S128, .i32⟩
  | 66 => ⟨S128, .i1⟩
  | 67 => ⟨S8x1x1, .f32⟩
  | 68 => ⟨S8x1x128, .i1⟩
  | 69 => ⟨S8x1x128, .f32⟩
  | 70 => ⟨S8x1x128, .f32⟩
  | 71 => ⟨S_, .i32⟩
  | 72 => ⟨S128, .i32⟩
  | 73 => ⟨S128, .i1⟩
  | 74 => ⟨S8x1x1, .f32⟩
  | 75 => ⟨S8x1x128, .i1⟩
  | 76 => ⟨S8x1x128, .f32⟩
  | 77 => ⟨S8x1x128, .f32⟩
  | 78 => ⟨S_, .i32⟩
  | 79 => ⟨S128, .i32⟩
  | 80 => ⟨S128, .i1⟩
  | 81 => ⟨S8x1x1, .f32⟩
  | 82 => ⟨S8x1x128, .i1⟩
  | 83 => ⟨S8x1x128, .f32⟩
  | 84 => ⟨S8x1x128, .f32⟩
  | 85 => ⟨S_, .i32⟩
  | 86 => ⟨S128, .i32⟩
  | 87 => ⟨S128, .i1⟩
  | 88 => ⟨S8x1x1, .f32⟩
  | 89 => ⟨S8x1x128, .i1⟩
  | 90 => ⟨S8x1x128, .f32⟩
  | 91 => ⟨S8x1x128, .f32⟩
  | _ => ⟨S8x6400, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x6400, .f32⟩

abbrev bufTy : (tb : Table) → Fin (tcTables nBuf tb) → BufTy
  | .hbm, ⟨i, _⟩ => hbmTy i
  | _, _ => ⟨S8x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_3 : Ref sig .tc := ⟨.hbm, 93, rfl⟩
abbrev main_v74 : Ref sig .tc := ⟨.hbm, 94, rfl⟩
abbrev main_v75 : Ref sig .tc := ⟨.hbm, 95, rfl⟩
abbrev main_cst_4 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_5 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_6 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_7 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_cst_8 : Ref sig .tc := ⟨.hbm, 188, rfl⟩
abbrev main_call0_v0 : Ref sig .tc := ⟨.hbm, 189, rfl⟩
abbrev main_call0_v1 : Ref sig .tc := ⟨.hbm, 190, rfl⟩
abbrev main_v164 : Ref sig .tc := ⟨.hbm, 191, rfl⟩
abbrev main_values : Ref sig .tc := ⟨.hbm, 192, rfl⟩
abbrev main_indices : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_cst_9 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_10 : Ref sig .tc := ⟨.hbm, 206, rfl⟩
abbrev main_cst_11 : Ref sig .tc := ⟨.hbm, 207, rfl⟩
abbrev main_call1_v0 : Ref sig .tc := ⟨.hbm, 208, rfl⟩
abbrev main_call1_v1 : Ref sig .tc := ⟨.hbm, 209, rfl⟩
abbrev main_v176 : Ref sig .tc := ⟨.hbm, 210, rfl⟩
abbrev main_v177 : Ref sig .tc := ⟨.hbm, 211, rfl⟩
abbrev main_cst_12 : Ref sig .tc := ⟨.hbm, 212, rfl⟩
abbrev main_v178 : Ref sig .tc := ⟨.hbm, 213, rfl⟩
abbrev main_cst_13 : Ref sig .tc := ⟨.hbm, 214, rfl⟩
abbrev main_cst_14 : Ref sig .tc := ⟨.hbm, 215, rfl⟩
abbrev main_call2_v0 : Ref sig .tc := ⟨.hbm, 216, rfl⟩
abbrev main_call2_v1 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_cst_15 : Ref sig .tc := ⟨.hbm, 221, rfl⟩
abbrev main_v182 : Ref sig .tc := ⟨.hbm, 222, rfl⟩
abbrev main_cst_16 : Ref sig .tc := ⟨.hbm, 223, rfl⟩
abbrev main_v183 : Ref sig .tc := ⟨.hbm, 224, rfl⟩
abbrev main_v184 : Ref sig .tc := ⟨.hbm, 225, rfl⟩
abbrev main_cst_17 : Ref sig .tc := ⟨.hbm, 226, rfl⟩
abbrev main_cst_18 : Ref sig .tc := ⟨.hbm, 227, rfl⟩
abbrev main_call3_v0 : Ref sig .tc := ⟨.hbm, 228, rfl⟩
abbrev main_call3_v1 : Ref sig .tc := ⟨.hbm, 229, rfl⟩
abbrev main_v185 : Ref sig .tc := ⟨.hbm, 230, rfl⟩
abbrev main_cst_19 : Ref sig .tc := ⟨.hbm, 231, rfl⟩
abbrev main_v186 : Ref sig .tc := ⟨.hbm, 232, rfl⟩
abbrev main_v187 : Ref sig .tc := ⟨.hbm, 233, rfl⟩
abbrev main_cst_20 : Ref sig .tc := ⟨.hbm, 234, rfl⟩
abbrev main_call4_v0 : Ref sig .tc := ⟨.hbm, 235, rfl⟩
abbrev main_call4_v1 : Ref sig .tc := ⟨.hbm, 236, rfl⟩
abbrev main_v188 : Ref sig .tc := ⟨.hbm, 237, rfl⟩
abbrev main_cst_21 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_c : Ref sig .tc := ⟨.hbm, 245, rfl⟩
abbrev main_call5_v0 : Ref sig .tc := ⟨.hbm, 246, rfl⟩
abbrev main_call5_v1 : Ref sig .tc := ⟨.hbm, 247, rfl⟩
abbrev main_call5_v2 : Ref sig .tc := ⟨.hbm, 248, rfl⟩
abbrev main_v195 : Ref sig .tc := ⟨.hbm, 249, rfl⟩
abbrev main_c_22 : Ref sig .tc := ⟨.hbm, 250, rfl⟩
abbrev main_v196 : Ref sig .tc := ⟨.hbm, 251, rfl⟩
abbrev main_v197 : Ref sig .tc := ⟨.hbm, 252, rfl⟩
abbrev main_call6_v0 : Ref sig .tc := ⟨.hbm, 253, rfl⟩
abbrev main_call6_v1_0 : Ref sig .tc := ⟨.hbm, 254, rfl⟩
abbrev main_v198 : Ref sig .tc := ⟨.hbm, 255, rfl⟩
abbrev main_v199 : Ref sig .tc := ⟨.hbm, 256, rfl⟩
abbrev main_c_23 : Ref sig .tc := ⟨.hbm, 257, rfl⟩
abbrev main_v200 : Ref sig .tc := ⟨.hbm, 258, rfl⟩
abbrev main_v201 : Ref sig .tc := ⟨.hbm, 259, rfl⟩
abbrev main_c_24 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_c_25 : Ref sig .tc := ⟨.hbm, 266, rfl⟩
abbrev main_v207 : Ref sig .tc := ⟨.hbm, 267, rfl⟩
abbrev main_v208 : Ref sig .tc := ⟨.hbm, 268, rfl⟩
abbrev main_c_26 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_cst_27 : Ref sig .tc := ⟨.hbm, 276, rfl⟩
abbrev main_v215 : Ref sig .tc := ⟨.hbm, 277, rfl⟩
abbrev main_c_28 : Ref sig .tc := ⟨.hbm, 278, rfl⟩
abbrev main_v216 : Ref sig .tc := ⟨.hbm, 279, rfl⟩
abbrev main_v217 : Ref sig .tc := ⟨.hbm, 280, rfl⟩
abbrev main_c_29 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_c_30 : Ref sig .tc := ⟨.hbm, 287, rfl⟩
abbrev main_v223 : Ref sig .tc := ⟨.hbm, 288, rfl⟩
abbrev main_v224 : Ref sig .tc := ⟨.hbm, 289, rfl⟩
abbrev main_c_31 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_cst_32 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_cst_33 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_cst_34 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_cst_35 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_cst_36 : Ref sig .tc := ⟨.hbm, 342, rfl⟩
abbrev main_v272 : Ref sig .tc := ⟨.hbm, 343, rfl⟩
abbrev main_c_37 : Ref sig .tc := ⟨.hbm, 344, rfl⟩
abbrev main_v273 : Ref sig .tc := ⟨.hbm, 345, rfl⟩
abbrev main_v274 : Ref sig .tc := ⟨.hbm, 346, rfl⟩
abbrev main_c_38 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_cst_39 : Ref sig .tc := ⟨.hbm, 354, rfl⟩
abbrev main_cst_40 : Ref sig .tc := ⟨.hbm, 355, rfl⟩
abbrev main_call7_v0 : Ref sig .tc := ⟨.hbm, 356, rfl⟩
abbrev main_call7_v1 : Ref sig .tc := ⟨.hbm, 357, rfl⟩
abbrev main_call7_v2 : Ref sig .tc := ⟨.hbm, 358, rfl⟩
abbrev main_call7_v3 : Ref sig .tc := ⟨.hbm, 359, rfl⟩
abbrev main_call7_v4 : Ref sig .tc := ⟨.hbm, 360, rfl⟩
abbrev main_v281 : Ref sig .tc := ⟨.hbm, 361, rfl⟩
abbrev main_cst_41 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_cst_42 : Ref sig .tc := ⟨.hbm, 374, rfl⟩
abbrev main_v293 : Ref sig .tc := ⟨.hbm, 375, rfl⟩
abbrev main_c_43 : Ref sig .tc := ⟨.hbm, 376, rfl⟩
abbrev main_v294 : Ref sig .tc := ⟨.hbm, 377, rfl⟩
abbrev main_v295 : Ref sig .tc := ⟨.hbm, 378, rfl⟩
abbrev main_c_44 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_c_45 : Ref sig .tc := ⟨.hbm, 385, rfl⟩
abbrev main_v301 : Ref sig .tc := ⟨.hbm, 386, rfl⟩
abbrev main_v302 : Ref sig .tc := ⟨.hbm, 387, rfl⟩
abbrev main_c_46 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_c_47 : Ref sig .tc := ⟨.hbm, 394, rfl⟩
abbrev main_v308 : Ref sig .tc := ⟨.hbm, 395, rfl⟩
abbrev main_v309 : Ref sig .tc := ⟨.hbm, 396, rfl⟩
abbrev main_c_48 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_cst_49 : Ref sig .tc := ⟨.hbm, 423, rfl⟩
abbrev main_cst_50 : Ref sig .tc := ⟨.hbm, 424, rfl⟩
abbrev main_call8_v0 : Ref sig .tc := ⟨.hbm, 425, rfl⟩
abbrev main_call8_v1 : Ref sig .tc := ⟨.hbm, 426, rfl⟩
abbrev main_call8_v2 : Ref sig .tc := ⟨.hbm, 427, rfl⟩
abbrev main_call8_v3 : Ref sig .tc := ⟨.hbm, 428, rfl⟩
abbrev main_call8_v4 : Ref sig .tc := ⟨.hbm, 429, rfl⟩
abbrev main_v335 : Ref sig .tc := ⟨.hbm, 430, rfl⟩
abbrev main_v336 : Ref sig .tc := ⟨.hbm, 431, rfl⟩
abbrev main_c_51 : Ref sig .tc := ⟨.hbm, 432, rfl⟩
abbrev main_v337 : Ref sig .tc := ⟨.hbm, 433, rfl⟩
abbrev main_v338 : Ref sig .tc := ⟨.hbm, 434, rfl⟩
abbrev main_c_52 : Ref sig .tc := ⟨.hbm, 435, rfl⟩
abbrev main_v339 : Ref sig .tc := ⟨.hbm, 436, rfl⟩
abbrev main_v340 : Ref sig .tc := ⟨.hbm, 437, rfl⟩
abbrev main_c_53 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_cst_54 : Ref sig .tc := ⟨.hbm, 444, rfl⟩
abbrev main_call10_v0 : Ref sig .tc := ⟨.hbm, 445, rfl⟩
abbrev main_call10_v1 : Ref sig .tc := ⟨.hbm, 446, rfl⟩
abbrev main_v346 : Ref sig .tc := ⟨.hbm, 447, rfl⟩
abbrev main_cst_55 : Ref sig .tc := ⟨.hbm, 448, rfl⟩
abbrev main_v347 : Ref sig .tc := ⟨.hbm, 449, rfl⟩
abbrev main_v348 : Ref sig .tc := ⟨.hbm, 450, rfl⟩
abbrev main_cst_56 : Ref sig .tc := ⟨.hbm, 451, rfl⟩
abbrev main_call11_v0 : Ref sig .tc := ⟨.hbm, 452, rfl⟩
abbrev main_call11_v1 : Ref sig .tc := ⟨.hbm, 453, rfl⟩
abbrev main_v349 : Ref sig .tc := ⟨.hbm, 454, rfl⟩
abbrev main_c_57 : Ref sig .tc := ⟨.hbm, 455, rfl⟩
abbrev main_v350 : Ref sig .tc := ⟨.hbm, 456, rfl⟩
abbrev main_v351 : Ref sig .tc := ⟨.hbm, 457, rfl⟩
abbrev main_c_58 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_v356 : Ref sig .tc := ⟨.hbm, 463, rfl⟩
abbrev main_v357 : Ref sig .tc := ⟨.hbm, 464, rfl⟩
abbrev main_call12_cst : Ref sig .tc := ⟨.hbm, 465, rfl⟩
abbrev main_call12_v0 : Ref sig .tc := ⟨.hbm, 466, rfl⟩
abbrev main_call12_cst_0 : Ref sig .tc := ⟨.hbm, 467, rfl⟩
abbrev main_call12_v1 : Ref sig .tc := ⟨.hbm, 468, rfl⟩
abbrev main_call12_v2 : Ref sig .tc := ⟨.hbm, 469, rfl⟩
abbrev main_call12_v3 : Ref sig .tc := ⟨.hbm, 470, rfl⟩
abbrev main_call12_v4 : Ref sig .tc := ⟨.hbm, 471, rfl⟩
abbrev main_call12_v5 : Ref sig .tc := ⟨.hbm, 472, rfl⟩
abbrev main_call12_v6 : Ref sig .tc := ⟨.hbm, 473, rfl⟩
abbrev main_call12_cst_1 : Ref sig .tc := ⟨.hbm, 474, rfl⟩
abbrev main_call12_v7 : Ref sig .tc := ⟨.hbm, 475, rfl⟩
abbrev main_call12_v8 : Ref sig .tc := ⟨.hbm, 476, rfl⟩
abbrev main_call12_v9 : Ref sig .tc := ⟨.hbm, 477, rfl⟩
abbrev main_call12_v10 : Ref sig .tc := ⟨.hbm, 478, rfl⟩
abbrev main_v358 : Ref sig .tc := ⟨.hbm, 479, rfl⟩
abbrev main_v359 : Ref sig .tc := ⟨.hbm, 480, rfl⟩
abbrev main_call13_c : Ref sig .tc := ⟨.hbm, 481, rfl⟩
abbrev main_call13_v0 : Ref sig .tc := ⟨.hbm, 482, rfl⟩
abbrev main_call13_v1 : Ref sig .tc := ⟨.hbm, 483, rfl⟩
abbrev main_call13_c_0 : Ref sig .tc := ⟨.hbm, 484, rfl⟩
abbrev main_call13_v2 : Ref sig .tc := ⟨.hbm, 485, rfl⟩
abbrev main_call13_v3 : Ref sig .tc := ⟨.hbm, 486, rfl⟩
abbrev main_call13_v4 : Ref sig .tc := ⟨.hbm, 487, rfl⟩
abbrev main_call13_v5 : Ref sig .tc := ⟨.hbm, 488, rfl⟩
abbrev main_v360 : Ref sig .tc := ⟨.hbm, 489, rfl⟩
abbrev main_v361 : Ref sig .tc := ⟨.hbm, 490, rfl⟩
abbrev main_v362 : Ref sig .tc := ⟨.hbm, 491, rfl⟩
abbrev main_v363 : Ref sig .tc := ⟨.hbm, 492, rfl⟩
abbrev main_call14_cst : Ref sig .tc := ⟨.hbm, 493, rfl⟩
abbrev main_call14_v0 : Ref sig .tc := ⟨.hbm, 494, rfl⟩
abbrev main_call14_cst_0 : Ref sig .tc := ⟨.hbm, 495, rfl⟩
abbrev main_call14_v1 : Ref sig .tc := ⟨.hbm, 496, rfl⟩
abbrev main_call14_v2 : Ref sig .tc := ⟨.hbm, 497, rfl⟩
abbrev main_call14_v3 : Ref sig .tc := ⟨.hbm, 498, rfl⟩
abbrev main_call14_v4 : Ref sig .tc := ⟨.hbm, 499, rfl⟩
abbrev main_call14_v5 : Ref sig .tc := ⟨.hbm, 500, rfl⟩
abbrev main_call14_v6 : Ref sig .tc := ⟨.hbm, 501, rfl⟩
abbrev main_call14_cst_1 : Ref sig .tc := ⟨.hbm, 502, rfl⟩
abbrev main_call14_v7 : Ref sig .tc := ⟨.hbm, 503, rfl⟩
abbrev main_call14_v8 : Ref sig .tc := ⟨.hbm, 504, rfl⟩
abbrev main_call14_v9 : Ref sig .tc := ⟨.hbm, 505, rfl⟩
abbrev main_call14_v10 : Ref sig .tc := ⟨.hbm, 506, rfl⟩
abbrev main_v364 : Ref sig .tc := ⟨.hbm, 507, rfl⟩
abbrev main_v365 : Ref sig .tc := ⟨.hbm, 508, rfl⟩
abbrev main_call15_c : Ref sig .tc := ⟨.hbm, 509, rfl⟩
abbrev main_call15_v0 : Ref sig .tc := ⟨.hbm, 510, rfl⟩
abbrev main_call15_v1 : Ref sig .tc := ⟨.hbm, 511, rfl⟩
abbrev main_call15_c_0 : Ref sig .tc := ⟨.hbm, 512, rfl⟩
abbrev main_call15_v2 : Ref sig .tc := ⟨.hbm, 513, rfl⟩
abbrev main_call15_v3 : Ref sig .tc := ⟨.hbm, 514, rfl⟩
abbrev main_call15_v4 : Ref sig .tc := ⟨.hbm, 515, rfl⟩
abbrev main_call15_v5 : Ref sig .tc := ⟨.hbm, 516, rfl⟩
abbrev main_v366 : Ref sig .tc := ⟨.hbm, 517, rfl⟩
abbrev main_v367 : Ref sig .tc := ⟨.hbm, 518, rfl⟩
abbrev main_v368 : Ref sig .tc := ⟨.hbm, 519, rfl⟩
abbrev main_v369 : Ref sig .tc := ⟨.hbm, 520, rfl⟩
abbrev main_v370 : Ref sig .tc := ⟨.hbm, 521, rfl⟩
abbrev main_v371 : Ref sig .tc := ⟨.hbm, 522, rfl⟩
abbrev main_v372 : Ref sig .tc := ⟨.hbm, 523, rfl⟩
abbrev main_v373 : Ref sig .tc := ⟨.hbm, 524, rfl⟩
abbrev main_v374 : Ref sig .tc := ⟨.hbm, 525, rfl⟩
abbrev main_cst_59 : Ref sig .tc := ⟨.hbm, 526, rfl⟩
abbrev main_v375 : Ref sig .tc := ⟨.hbm, 527, rfl⟩
abbrev main_c_60 : Ref sig .tc := ⟨.hbm, 528, rfl⟩
abbrev main_v376 : Ref sig .tc := ⟨.hbm, 529, rfl⟩
abbrev main_v377 : Ref sig .tc := ⟨.hbm, 530, rfl⟩
abbrev main_c_61 : Ref sig .tc := ⟨.hbm, 531, rfl⟩
abbrev main_v378 : Ref sig .tc := ⟨.hbm, 532, rfl⟩
abbrev main_v379 : Ref sig .tc := ⟨.hbm, 533, rfl⟩
abbrev main_v380 : Ref sig .tc := ⟨.hbm, 534, rfl⟩
abbrev main_v381 : Ref sig .tc := ⟨.hbm, 535, rfl⟩
abbrev main_v382 : Ref sig .tc := ⟨.hbm, 536, rfl⟩
abbrev main_v383 : Ref sig .tc := ⟨.hbm, 537, rfl⟩
abbrev main_c_62 : Ref sig .tc := ⟨.hbm, 538, rfl⟩
abbrev main_v384 : Ref sig .tc := ⟨.hbm, 539, rfl⟩
abbrev main_v385 : Ref sig .tc := ⟨.hbm, 540, rfl⟩
abbrev main_c_63 : Ref sig .tc := ⟨.hbm, 541, rfl⟩
abbrev main_v386 : Ref sig .tc := ⟨.hbm, 542, rfl⟩
abbrev main_v387 : Ref sig .tc := ⟨.hbm, 543, rfl⟩
abbrev main_v388 : Ref sig .tc := ⟨.hbm, 544, rfl⟩
abbrev main_v389 : Ref sig .tc := ⟨.hbm, 545, rfl⟩
abbrev main_v390 : Ref sig .tc := ⟨.hbm, 546, rfl⟩
abbrev main_cst_64 : Ref sig .tc := ⟨.hbm, 547, rfl⟩
abbrev main_v391 : Ref sig .tc := ⟨.hbm, 548, rfl⟩
abbrev main_v392 : Ref sig .tc := ⟨.hbm, 549, rfl⟩
abbrev main_v393 : Ref sig .tc := ⟨.hbm, 550, rfl⟩
abbrev main_v394 : Ref sig .tc := ⟨.hbm, 551, rfl⟩
abbrev main_v395 : Ref sig .tc := ⟨.hbm, 552, rfl⟩
abbrev main_v396 : Ref sig .tc := ⟨.hbm, 553, rfl⟩
abbrev main_v397 : Ref sig .tc := ⟨.hbm, 554, rfl⟩
abbrev main_v398 : Ref sig .tc := ⟨.hbm, 555, rfl⟩
abbrev main_v399 : Ref sig .tc := ⟨.hbm, 556, rfl⟩
abbrev main_v400 : Ref sig .tc := ⟨.hbm, 557, rfl⟩
abbrev main_v401 : Ref sig .tc := ⟨.hbm, 558, rfl⟩
abbrev main_v402 : Ref sig .tc := ⟨.hbm, 559, rfl⟩
abbrev main_v403 : Ref sig .tc := ⟨.hbm, 560, rfl⟩
abbrev main_cst_65 : Ref sig .tc := ⟨.hbm, 561, rfl⟩
abbrev main_v404 : Ref sig .tc := ⟨.hbm, 562, rfl⟩
abbrev main_cst_66 : Ref sig .tc := ⟨.hbm, 563, rfl⟩
abbrev main_v405 : Ref sig .tc := ⟨.hbm, 564, rfl⟩
abbrev main_v406 : Ref sig .tc := ⟨.hbm, 565, rfl⟩
abbrev main_v407 : Ref sig .tc := ⟨.hbm, 566, rfl⟩
abbrev main_cst_67 : Ref sig .tc := ⟨.hbm, 567, rfl⟩
abbrev main_v408 : Ref sig .tc := ⟨.hbm, 568, rfl⟩
abbrev main_c_68 : Ref sig .tc := ⟨.hbm, 569, rfl⟩
abbrev main_v409 : Ref sig .tc := ⟨.hbm, 570, rfl⟩
abbrev main_v410 : Ref sig .tc := ⟨.hbm, 571, rfl⟩
abbrev main_v411 : Ref sig .tc := ⟨.hbm, 572, rfl⟩
abbrev main_call16_v0 : Ref sig .tc := ⟨.hbm, 573, rfl⟩
abbrev main_call16_v1 : Ref sig .tc := ⟨.hbm, 574, rfl⟩
abbrev main_v412 : Ref sig .tc := ⟨.hbm, 575, rfl⟩
abbrev main_c_69 : Ref sig .tc := ⟨.hbm, 576, rfl⟩
abbrev main_v413 : Ref sig .tc := ⟨.hbm, 577, rfl⟩
abbrev main_v414 : Ref sig .tc := ⟨.hbm, 578, rfl⟩
abbrev main_v415 : Ref sig .tc := ⟨.hbm, 579, rfl⟩
abbrev main_call17_v0 : Ref sig .tc := ⟨.hbm, 580, rfl⟩
abbrev main_call17_v1 : Ref sig .tc := ⟨.hbm, 581, rfl⟩
abbrev main_v416 : Ref sig .tc := ⟨.hbm, 582, rfl⟩
abbrev main_c_70 : Ref sig .tc := ⟨.hbm, 583, rfl⟩
abbrev main_v417 : Ref sig .tc := ⟨.hbm, 584, rfl⟩
abbrev main_v418 : Ref sig .tc := ⟨.hbm, 585, rfl⟩
abbrev main_v419 : Ref sig .tc := ⟨.hbm, 586, rfl⟩
abbrev main_call18_v0 : Ref sig .tc := ⟨.hbm, 587, rfl⟩
abbrev main_call18_v1 : Ref sig .tc := ⟨.hbm, 588, rfl⟩
abbrev main_v420 : Ref sig .tc := ⟨.hbm, 589, rfl⟩
abbrev main_c_71 : Ref sig .tc := ⟨.hbm, 590, rfl⟩
abbrev main_v421 : Ref sig .tc := ⟨.hbm, 591, rfl⟩
abbrev main_v422 : Ref sig .tc := ⟨.hbm, 592, rfl⟩
abbrev main_v423 : Ref sig .tc := ⟨.hbm, 593, rfl⟩
abbrev main_call19_v0 : Ref sig .tc := ⟨.hbm, 594, rfl⟩
abbrev main_call19_v1 : Ref sig .tc := ⟨.hbm, 595, rfl⟩
abbrev main_v424 : Ref sig .tc := ⟨.hbm, 596, rfl⟩
abbrev main_c_72 : Ref sig .tc := ⟨.hbm, 597, rfl⟩
abbrev main_v425 : Ref sig .tc := ⟨.hbm, 598, rfl⟩
abbrev main_v426 : Ref sig .tc := ⟨.hbm, 599, rfl⟩
abbrev main_v427 : Ref sig .tc := ⟨.hbm, 600, rfl⟩
abbrev main_call20_v0 : Ref sig .tc := ⟨.hbm, 601, rfl⟩
abbrev main_call20_v1 : Ref sig .tc := ⟨.hbm, 602, rfl⟩
abbrev main_v428 : Ref sig .tc := ⟨.hbm, 603, rfl⟩

abbrev nD : Nat := 1
abbrev τ : Topo := Topo.v7x

variable {F : FTy → Type} [FloatOps F]
-- ==== Proof.Chain.lean ====
/- The values of the kernel's body over one image's blocks, one definition for each named payload of the skeleton. -/
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.ShloMosaic.TcCoe Idealize.SL.Sem
open Facts₀ Facts

/-- What the body loads from one grid point's input blocks. -/
structure Blk where
  l0 : Vec Ideal S1x12x1 .f32
  l2 : Vec Ideal S1x12x1 .f32
  l4 : Vec Ideal S1x12x1 .f32
  l6 : Vec Ideal S1x12x1 .f32
  l16 : Vec Ideal S1x16x6400 .f32
  l33 : Vec Ideal S1x16x6400 .f32
  l50 : Vec Ideal S1x16x6400 .f32
  l67 : Vec Ideal S1x16x6400 .f32
  l13 : Vec Ideal S1x6400 .f32
  l15 : Vec Ideal S1x6400 .f32
  l14 : Vec Ideal S1x6400 .f32
  l92 : Vec Ideal S1x1x6400 .f32
  l152 : Vec Ideal S1x16x1600 .f32
  l169 : Vec Ideal S1x16x1600 .f32
  l186 : Vec Ideal S1x16x1600 .f32
  l203 : Vec Ideal S1x16x1600 .f32
  l149 : Vec Ideal S1x1600 .f32
  l151 : Vec Ideal S1x1600 .f32
  l150 : Vec Ideal S1x1600 .f32
  l228 : Vec Ideal S1x1x1600 .f32
  l288 : Vec Ideal S1x16x400 .f32
  l305 : Vec Ideal S1x16x400 .f32
  l322 : Vec Ideal S1x16x400 .f32
  l339 : Vec Ideal S1x16x400 .f32
  l285 : Vec Ideal S1x400 .f32
  l287 : Vec Ideal S1x400 .f32
  l286 : Vec Ideal S1x400 .f32
  l364 : Vec Ideal S1x1x400 .f32
  l1131 : Vec Ideal S1x1x6400 .f32
  l1182 : Vec Ideal S1x16x6400 .f32
  l1227 : Vec Ideal S1x16x6400 .f32
  l1272 : Vec Ideal S1x16x6400 .f32
  l1317 : Vec Ideal S1x16x6400 .f32
  l1470 : Vec Ideal S1x1x1600 .f32
  l1521 : Vec Ideal S1x16x1600 .f32
  l1566 : Vec Ideal S1x16x1600 .f32
  l1611 : Vec Ideal S1x16x1600 .f32
  l1656 : Vec Ideal S1x16x1600 .f32
  l1809 : Vec Ideal S1x1x400 .f32
  l1860 : Vec Ideal S1x16x400 .f32
  l1905 : Vec Ideal S1x16x400 .f32
  l1950 : Vec Ideal S1x16x400 .f32
  l1995 : Vec Ideal S1x16x400 .f32
  l2034 : Vec Ideal S1x32x6400 .f32
  l2050 : Vec Ideal S1x32x1600 .f32
  l2065 : Vec Ideal S1x32x400 .f32
  l2090 : Vec Ideal S1x32x6400 .f32
  l2106 : Vec Ideal S1x32x1600 .f32
  l2121 : Vec Ideal S1x32x400 .f32
  l2146 : Vec Ideal S1x32x6400 .f32
  l2162 : Vec Ideal S1x32x1600 .f32
  l2177 : Vec Ideal S1x32x400 .f32
  l2202 : Vec Ideal S1x32x6400 .f32
  l2218 : Vec Ideal S1x32x1600 .f32
  l2233 : Vec Ideal S1x32x400 .f32
  l2258 : Vec Ideal S1x32x6400 .f32
  l2274 : Vec Ideal S1x32x1600 .f32
  l2289 : Vec Ideal S1x32x400 .f32
  l2314 : Vec Ideal S1x32x6400 .f32
  l2330 : Vec Ideal S1x32x1600 .f32
  l2345 : Vec Ideal S1x32x400 .f32
  l2370 : Vec Ideal S1x32x6400 .f32
  l2386 : Vec Ideal S1x32x1600 .f32
  l2401 : Vec Ideal S1x32x400 .f32
  l2426 : Vec Ideal S1x32x6400 .f32
  l2442 : Vec Ideal S1x32x1600 .f32
  l2457 : Vec Ideal S1x32x400 .f32
  l2482 : Vec Ideal S1x32x6400 .f32
  l2498 : Vec Ideal S1x32x1600 .f32
  l2513 : Vec Ideal S1x32x400 .f32
  l2538 : Vec Ideal S1x32x6400 .f32
  l2554 : Vec Ideal S1x32x1600 .f32
  l2569 : Vec Ideal S1x32x400 .f32
  l2590 : Vec Ideal S1x32x12800 .f32
  l2592 : Vec Ideal S1x12x12800 .f32
  l2610 : Vec Ideal S1x32x12800 .f32
  l2612 : Vec Ideal S1x12x12800 .f32

def w0 (b : Blk) : Vec Ideal S1x12x1 .f32 := b.l0
def w1 (b : Blk) : FVec Ideal S12x1 .f32 := k0_pay2 (w0 b)
def w2 (b : Blk) : Vec Ideal S1x12x1 .f32 := b.l2
def w3 (b : Blk) : FVec Ideal S12x1 .f32 := k0_pay3 (w2 b)
def w4 (b : Blk) : Vec Ideal S1x12x1 .f32 := b.l4
def w5 (b : Blk) : FVec Ideal S12x1 .f32 := k0_pay4 (w4 b)
def w6 (b : Blk) : Vec Ideal S1x12x1 .f32 := b.l6
def w7 (b : Blk) : FVec Ideal S12x1 .f32 := k0_pay5 (w6 b)
def w10 (b : Blk) : FVec Ideal S12x1 .f32 := k0_pay6 (w0 b) (w2 b) (w4 b) (w6 b)
def w12 (b : Blk) : FVec Ideal S16x1 .f32 := k0_pay7
def w16 (b : Blk) : Vec Ideal S1x16x6400 .f32 := b.l16
def w17 (b : Blk) : FVec Ideal S16x6400 .f32 := k0_pay8 (w16 b)
def w19 (b : Blk) : FVec Ideal S1x6400 .f32 := k0_pay9 (w16 b)
def w22 (b : Blk) : FVec Ideal S16x6400 .f32 := k0_pay10 (w16 b)
def w24 (b : Blk) : FVec Ideal S1x6400 .f32 := k0_pay11 (w16 b)
def w30 (b : Blk) : FVec Ideal S1x6400 .f32 := k0_pay12 (w16 b)
def w32 (b : Blk) : FVec Ideal S1x6400 .f32 := k0_pay13 (w16 b)
def w33 (b : Blk) : Vec Ideal S1x16x6400 .f32 := b.l33
def w34 (b : Blk) : FVec Ideal S16x6400 .f32 := k0_pay14 (w33 b)
def w36 (b : Blk) : FVec Ideal S1x6400 .f32 := k0_pay15 (w33 b)
def w39 (b : Blk) : FVec Ideal S16x6400 .f32 := k0_pay16 (w33 b)
def w41 (b : Blk) : FVec Ideal S1x6400 .f32 := k0_pay17 (w33 b)
def w47 (b : Blk) : FVec Ideal S1x6400 .f32 := k0_pay18 (w12 b) (w33 b)
def w49 (b : Blk) : FVec Ideal S1x6400 .f32 := k0_pay19 (w33 b)
def w50 (b : Blk) : Vec Ideal S1x16x6400 .f32 := b.l50
def w51 (b : Blk) : FVec Ideal S16x6400 .f32 := k0_pay20 (w50 b)
def w53 (b : Blk) : FVec Ideal S1x6400 .f32 := k0_pay21 (w50 b)
def w56 (b : Blk) : FVec Ideal S16x6400 .f32 := k0_pay22 (w50 b)
def w58 (b : Blk) : FVec Ideal S1x6400 .f32 := k0_pay23 (w50 b)
def w64 (b : Blk) : FVec Ideal S1x6400 .f32 := k0_pay24 (w12 b) (w50 b)
def w66 (b : Blk) : FVec Ideal S1x6400 .f32 := k0_pay25 (w50 b)
def w67 (b : Blk) : Vec Ideal S1x16x6400 .f32 := b.l67
def w68 (b : Blk) : FVec Ideal S16x6400 .f32 := k0_pay26 (w67 b)
def w70 (b : Blk) : FVec Ideal S1x6400 .f32 := k0_pay27 (w67 b)
def w73 (b : Blk) : FVec Ideal S16x6400 .f32 := k0_pay28 (w67 b)
def w75 (b : Blk) : FVec Ideal S1x6400 .f32 := k0_pay29 (w67 b)
def w77 (b : Blk) : FVec Ideal S16x6400 .f32 := k0_pay30 (w67 b)
def w83 (b : Blk) : FVec Ideal S1x6400 .f32 := k0_pay31 (w70 b) (w75 b)
def w13 (b : Blk) : Vec Ideal S1x6400 .f32 := b.l13
def w15 (b : Blk) : Vec Ideal S1x6400 .f32 := b.l15
def w85 (b : Blk) : FVec Ideal S1x6400 .f32 := k0_pay32 (w13 b) (w15 b) (w30 b)
def w14 (b : Blk) : Vec Ideal S1x6400 .f32 := b.l14
def w87 (b : Blk) : FVec Ideal S1x6400 .f32 := k0_pay33 (w14 b) (w15 b) (w47 b)
def w89 (b : Blk) : FVec Ideal S1x6400 .f32 := k0_pay34 (w13 b) (w15 b) (w64 b)
def w91 (b : Blk) : FVec Ideal S1x6400 .f32 := k0_pay35 (w12 b) (w14 b) (w15 b) (w77 b)
def w116 (b : Blk) : FVec Ideal S1x6400 .f32 := k0_pay36 (w12 b) (w13 b) (w14 b) (w15 b) (w30 b) (w47 b) (w64 b) (w77 b)
def w123 (b : Blk) : FVec Ideal S12x6400 .f32 := k0_pay37 (w1 b) (w3 b) (w5 b) (w7 b) (w10 b) (w12 b) (w13 b) (w14 b) (w15 b) (w30 b) (w47 b) (w64 b) (w77 b)
def w92 (b : Blk) : Vec Ideal S1x1x6400 .f32 := b.l92
def w128 (b : Blk) : FVec Ideal S12x6400 .f32 := k0_pay38 (w1 b) (w3 b) (w5 b) (w7 b) (w10 b) (w12 b) (w13 b) (w14 b) (w15 b) (w30 b) (w47 b) (w64 b) (w77 b) (w92 b)
def w129 (b : Blk) : FVec Ideal S12x6400 .f32 := k0_pay39 (w13 b)
def w130 (b : Blk) : FVec Ideal S12x6400 .f32 := k0_pay40 (w1 b)
def w145 (b : Blk) : FVec Ideal S12x6400 .f32 := k0_pay41 (w3 b) (w5 b) (w7 b) (w13 b) (w14 b) (w128 b) (w129 b) (w130 b)
def w148 (b : Blk) : IVec S12x6400 32 := k0_pay42
def w152 (b : Blk) : Vec Ideal S1x16x1600 .f32 := b.l152
def w153 (b : Blk) : FVec Ideal S16x1600 .f32 := k0_pay43 (w152 b)
def w155 (b : Blk) : FVec Ideal S1x1600 .f32 := k0_pay44 (w152 b)
def w158 (b : Blk) : FVec Ideal S16x1600 .f32 := k0_pay45 (w152 b)
def w160 (b : Blk) : FVec Ideal S1x1600 .f32 := k0_pay46 (w152 b)
def w166 (b : Blk) : FVec Ideal S1x1600 .f32 := k0_pay47 (w12 b) (w152 b)
def w168 (b : Blk) : FVec Ideal S1x1600 .f32 := k0_pay48 (w152 b)
def w169 (b : Blk) : Vec Ideal S1x16x1600 .f32 := b.l169
def w170 (b : Blk) : FVec Ideal S16x1600 .f32 := k0_pay49 (w169 b)
def w172 (b : Blk) : FVec Ideal S1x1600 .f32 := k0_pay50 (w169 b)
def w175 (b : Blk) : FVec Ideal S16x1600 .f32 := k0_pay51 (w170 b) (w172 b)
def w177 (b : Blk) : FVec Ideal S1x1600 .f32 := k0_pay52 (w170 b) (w172 b)
def w183 (b : Blk) : FVec Ideal S1x1600 .f32 := k0_pay53 (w12 b) (w170 b) (w172 b)
def w185 (b : Blk) : FVec Ideal S1x1600 .f32 := k0_pay54 (w170 b) (w172 b)
def w186 (b : Blk) : Vec Ideal S1x16x1600 .f32 := b.l186
def w187 (b : Blk) : FVec Ideal S16x1600 .f32 := k0_pay55 (w186 b)
def w189 (b : Blk) : FVec Ideal S1x1600 .f32 := k0_pay56 (w186 b)
def w192 (b : Blk) : FVec Ideal S16x1600 .f32 := k0_pay57 (w186 b)
def w194 (b : Blk) : FVec Ideal S1x1600 .f32 := k0_pay58 (w186 b)
def w200 (b : Blk) : FVec Ideal S1x1600 .f32 := k0_pay59 (w12 b) (w186 b)
def w202 (b : Blk) : FVec Ideal S1x1600 .f32 := k0_pay60 (w186 b)
def w203 (b : Blk) : Vec Ideal S1x16x1600 .f32 := b.l203
def w204 (b : Blk) : FVec Ideal S16x1600 .f32 := k0_pay61 (w203 b)
def w206 (b : Blk) : FVec Ideal S1x1600 .f32 := k0_pay62 (w203 b)
def w209 (b : Blk) : FVec Ideal S16x1600 .f32 := k0_pay63 (w203 b)
def w211 (b : Blk) : FVec Ideal S1x1600 .f32 := k0_pay64 (w203 b)
def w217 (b : Blk) : FVec Ideal S1x1600 .f32 := k0_pay65 (w12 b) (w203 b)
def w218 (b : Blk) : FVec Ideal S1x1600 .f32 := k0_pay66 (w203 b)
def w219 (b : Blk) : FVec Ideal S1x1600 .f32 := k0_pay67 (w206 b) (w218 b)
def w149 (b : Blk) : Vec Ideal S1x1600 .f32 := b.l149
def w151 (b : Blk) : Vec Ideal S1x1600 .f32 := b.l151
def w221 (b : Blk) : FVec Ideal S1x1600 .f32 := k0_pay68 (w149 b) (w151 b) (w166 b)
def w150 (b : Blk) : Vec Ideal S1x1600 .f32 := b.l150
def w223 (b : Blk) : FVec Ideal S1x1600 .f32 := k0_pay69 (w150 b) (w151 b) (w183 b)
def w225 (b : Blk) : FVec Ideal S1x1600 .f32 := k0_pay70 (w149 b) (w151 b) (w200 b)
def w227 (b : Blk) : FVec Ideal S1x1600 .f32 := k0_pay71 (w150 b) (w151 b) (w217 b)
def w252 (b : Blk) : FVec Ideal S1x1600 .f32 := k0_pay72 (w149 b) (w150 b) (w151 b) (w166 b) (w183 b) (w200 b) (w217 b)
def w259 (b : Blk) : FVec Ideal S12x1600 .f32 := k0_pay73 (w1 b) (w3 b) (w5 b) (w7 b) (w10 b) (w149 b) (w150 b) (w151 b) (w166 b) (w183 b) (w200 b) (w217 b)
def w228 (b : Blk) : Vec Ideal S1x1x1600 .f32 := b.l228
def w264 (b : Blk) : FVec Ideal S12x1600 .f32 := k0_pay74 (w1 b) (w3 b) (w5 b) (w7 b) (w10 b) (w149 b) (w150 b) (w151 b) (w166 b) (w183 b) (w200 b) (w217 b) (w228 b)
def w271 (b : Blk) : IVec S12x1600 1 := k0_pay75 (w1 b) (w5 b) (w149 b)
def w272 (b : Blk) : FVec Ideal S12x1600 .f32 := k0_pay76 (w150 b)
def w281 (b : Blk) : FVec Ideal S12x1600 .f32 := k0_pay77 (w3 b) (w7 b) (w150 b) (w264 b) (w271 b) (w272 b)
def w284 (b : Blk) : IVec S12x1600 32 := k0_pay78
def w288 (b : Blk) : Vec Ideal S1x16x400 .f32 := b.l288
def w289 (b : Blk) : FVec Ideal S16x400 .f32 := k0_pay79 (w288 b)
def w291 (b : Blk) : FVec Ideal S1x400 .f32 := k0_pay80 (w288 b)
def w294 (b : Blk) : FVec Ideal S16x400 .f32 := k0_pay81 (w288 b)
def w296 (b : Blk) : FVec Ideal S1x400 .f32 := k0_pay82 (w288 b)
def w302 (b : Blk) : FVec Ideal S1x400 .f32 := k0_pay83 (w12 b) (w288 b)
def w304 (b : Blk) : FVec Ideal S1x400 .f32 := k0_pay84 (w288 b)
def w305 (b : Blk) : Vec Ideal S1x16x400 .f32 := b.l305
def w306 (b : Blk) : FVec Ideal S16x400 .f32 := k0_pay85 (w305 b)
def w308 (b : Blk) : FVec Ideal S1x400 .f32 := k0_pay86 (w305 b)
def w311 (b : Blk) : FVec Ideal S16x400 .f32 := k0_pay87 (w305 b)
def w313 (b : Blk) : FVec Ideal S1x400 .f32 := k0_pay88 (w305 b)
def w321 (b : Blk) : FVec Ideal S1x400 .f32 := k0_pay89 (w308 b) (w313 b)
def w322 (b : Blk) : Vec Ideal S1x16x400 .f32 := b.l322
def w323 (b : Blk) : FVec Ideal S16x400 .f32 := k0_pay90 (w322 b)
def w325 (b : Blk) : FVec Ideal S1x400 .f32 := k0_pay91 (w322 b)
def w328 (b : Blk) : FVec Ideal S16x400 .f32 := k0_pay92 (w322 b)
def w330 (b : Blk) : FVec Ideal S1x400 .f32 := k0_pay93 (w322 b)
def w338 (b : Blk) : FVec Ideal S1x400 .f32 := k0_pay94 (w322 b)
def w339 (b : Blk) : Vec Ideal S1x16x400 .f32 := b.l339
def w340 (b : Blk) : FVec Ideal S16x400 .f32 := k0_pay95 (w339 b)
def w342 (b : Blk) : FVec Ideal S1x400 .f32 := k0_pay96 (w339 b)
def w345 (b : Blk) : FVec Ideal S16x400 .f32 := k0_pay97 (w339 b)
def w347 (b : Blk) : FVec Ideal S1x400 .f32 := k0_pay98 (w339 b)
def w353 (b : Blk) : FVec Ideal S1x400 .f32 := k0_pay99 (w12 b) (w339 b)
def w355 (b : Blk) : FVec Ideal S1x400 .f32 := k0_pay100 (w339 b)
def w285 (b : Blk) : Vec Ideal S1x400 .f32 := b.l285
def w287 (b : Blk) : Vec Ideal S1x400 .f32 := b.l287
def w357 (b : Blk) : FVec Ideal S1x400 .f32 := k0_pay101 (w285 b) (w287 b) (w302 b)
def w286 (b : Blk) : Vec Ideal S1x400 .f32 := b.l286
def w359 (b : Blk) : FVec Ideal S1x400 .f32 := k0_pay102 (w12 b) (w286 b) (w287 b) (w311 b) (w313 b)
def w360 (b : Blk) : FVec Ideal S1x400 .f32 := k0_pay103 (w12 b) (w287 b) (w322 b)
def w361 (b : Blk) : FVec Ideal S1x400 .f32 := k0_pay104 (w285 b) (w360 b)
def w363 (b : Blk) : FVec Ideal S1x400 .f32 := k0_pay105 (w286 b) (w287 b) (w353 b)
def w388 (b : Blk) : FVec Ideal S1x400 .f32 := k0_pay106 (w285 b) (w286 b) (w287 b) (w353 b) (w357 b) (w359 b) (w360 b)
def w395 (b : Blk) : FVec Ideal S12x400 .f32 := k0_pay107 (w1 b) (w3 b) (w5 b) (w7 b) (w10 b) (w285 b) (w286 b) (w287 b) (w353 b) (w357 b) (w359 b) (w360 b)
def w364 (b : Blk) : Vec Ideal S1x1x400 .f32 := b.l364
def w400 (b : Blk) : FVec Ideal S12x400 .f32 := k0_pay108 (w1 b) (w3 b) (w5 b) (w7 b) (w10 b) (w285 b) (w286 b) (w287 b) (w353 b) (w357 b) (w359 b) (w360 b) (w364 b)
def w411 (b : Blk) : IVec S12x400 1 := k0_pay109 (w1 b) (w3 b) (w5 b) (w285 b) (w286 b)
def w414 (b : Blk) : IVec S12x400 1 := k0_pay110 (w7 b) (w286 b)
def w417 (b : Blk) : FVec Ideal S12x400 .f32 := k0_pay111 (w400 b) (w411 b) (w414 b)
def w420 (b : Blk) : IVec S12x400 32 := k0_pay112
def w421 (b : Blk) : FVec Ideal S12x1 .f32 := k0_pay113
def w422 (b : Blk) : IVec S12x1 32 := k0_pay114
def w432 (b : Blk) : FVec Ideal S12x6400 .f32 := k0_pay115 (w145 b) (w148 b)
def w442 (b : Blk) : FVec Ideal S12x1600 .f32 := k0_pay116 (w281 b) (w284 b)
def w452 (b : Blk) : FVec Ideal S12x400 .f32 := k0_pay117 (w400 b) (w411 b) (w414 b)
def w460 (b : Blk) : FVec Ideal S12x1 .f32 := k0_pay118 (w145 b) (w148 b) (w281 b) (w284 b) (w400 b) (w411 b) (w414 b)
def w462 (b : Blk) : IVec S12x6400 1 := k0_pay119 (w145 b) (w148 b) (w281 b) (w284 b) (w400 b) (w411 b) (w414 b)
def w463 (b : Blk) : IVec S12x6400 32 := k0_pay120
def w480 (b : Blk) : IVec S12x1 32 := k0_pay121 (w148 b) (w284 b) (w420 b) (w442 b) (w452 b) (w460 b) (w462 b) (w463 b)
def w490 (b : Blk) : FVec Ideal S12x6400 .f32 := k0_pay122 (w145 b) (w148 b) (w284 b) (w420 b) (w442 b) (w452 b) (w460 b) (w462 b) (w463 b)
def w500 (b : Blk) : FVec Ideal S12x1600 .f32 := k0_pay123 (w148 b) (w281 b) (w284 b) (w420 b) (w442 b) (w452 b) (w460 b) (w462 b) (w463 b)
def w510 (b : Blk) : FVec Ideal S12x400 .f32 := k0_pay124 (w148 b) (w284 b) (w417 b) (w420 b) (w442 b) (w452 b) (w460 b) (w462 b) (w463 b)
def w512 (b : Blk) : FVec Ideal S12x1 .f32 := k0_pay125 (w145 b) (w148 b) (w284 b) (w420 b) (w442 b) (w452 b) (w460 b) (w462 b) (w463 b)
def w513 (b : Blk) : FVec Ideal S12 .f32 := k0_pay126 (w148 b) (w281 b) (w284 b) (w420 b) (w442 b) (w452 b) (w460 b) (w462 b) (w463 b)
def w518 (b : Blk) : FVec Ideal S12x1 .f32 := k0_pay127 (w510 b) (w512 b) (w513 b)
def w538 (b : Blk) : IVec S12x1 32 := k0_pay128 (w148 b) (w284 b) (w420 b) (w490 b) (w500 b) (w510 b) (w512 b) (w513 b)
def w548 (b : Blk) : FVec Ideal S12x6400 .f32 := k0_pay129 (w145 b) (w148 b) (w284 b) (w420 b) (w490 b) (w500 b) (w510 b) (w512 b) (w513 b)
def w558 (b : Blk) : FVec Ideal S12x1600 .f32 := k0_pay130 (w148 b) (w281 b) (w284 b) (w420 b) (w490 b) (w500 b) (w510 b) (w512 b) (w513 b)
def w560 (b : Blk) : IVec S12x400 1 := k0_pay131 (w417 b) (w510 b) (w512 b) (w513 b)
def w562 (b : Blk) : IVec S12x400 1 := k0_pay132 (w417 b) (w510 b) (w512 b) (w513 b)
def w564 (b : Blk) : IVec S12x400 1 := k0_pay133 (w148 b) (w284 b) (w420 b) (w490 b) (w500 b) (w510 b) (w512 b) (w513 b)
def w568 (b : Blk) : FVec Ideal S12x400 .f32 := k0_pay134 (w417 b) (w560 b) (w562 b) (w564 b)
def w576 (b : Blk) : FVec Ideal S12x1 .f32 := k0_pay135 (w417 b) (w548 b) (w558 b) (w560 b) (w562 b) (w564 b)
def w596 (b : Blk) : IVec S12x1 32 := k0_pay136 (w148 b) (w284 b) (w417 b) (w420 b) (w548 b) (w558 b) (w560 b) (w562 b) (w564 b)
def w606 (b : Blk) : FVec Ideal S12x6400 .f32 := k0_pay137 (w145 b) (w148 b) (w284 b) (w417 b) (w420 b) (w548 b) (w558 b) (w560 b) (w562 b) (w564 b)
def w608 (b : Blk) : IVec S12x1600 1 := k0_pay138 (w281 b) (w417 b) (w548 b) (w558 b) (w560 b) (w562 b) (w564 b)
def w613 (b : Blk) : IVec S12x1600 1 := k0_pay139 (w148 b) (w281 b) (w284 b) (w417 b) (w420 b) (w548 b) (w558 b) (w560 b) (w562 b) (w564 b)
def w616 (b : Blk) : FVec Ideal S12x1600 .f32 := k0_pay140 (w281 b) (w608 b) (w613 b)
def w626 (b : Blk) : FVec Ideal S12x400 .f32 := k0_pay141 (w417 b) (w420 b) (w576 b) (w596 b)
def w634 (b : Blk) : FVec Ideal S12x1 .f32 := k0_pay142 (w281 b) (w417 b) (w420 b) (w576 b) (w596 b) (w606 b) (w608 b) (w613 b)
def w654 (b : Blk) : IVec S12x1 32 := k0_pay143 (w148 b) (w281 b) (w284 b) (w417 b) (w420 b) (w576 b) (w596 b) (w606 b) (w608 b) (w613 b)
def w662 (b : Blk) : IVec S12x6400 1 := k0_pay144 (w145 b) (w148 b) (w281 b) (w284 b) (w417 b) (w420 b) (w576 b) (w596 b) (w606 b) (w608 b) (w613 b)
def w664 (b : Blk) : FVec Ideal S12x6400 .f32 := k0_pay145 (w145 b) (w662 b)
def w674 (b : Blk) : FVec Ideal S12x1600 .f32 := k0_pay146 (w281 b) (w284 b) (w634 b) (w654 b)
def w684 (b : Blk) : FVec Ideal S12x400 .f32 := k0_pay147 (w417 b) (w420 b) (w634 b) (w654 b)
def w692 (b : Blk) : FVec Ideal S12x1 .f32 := k0_pay148 (w145 b) (w281 b) (w284 b) (w417 b) (w420 b) (w634 b) (w654 b) (w662 b)
def w705 (b : Blk) : IVec S12x1 32 := k0_pay149 (w145 b) (w148 b) (w281 b) (w284 b) (w417 b) (w420 b) (w634 b) (w654 b) (w662 b)
def w710 (b : Blk) : IVec S12 32 := k0_pay150 (w145 b) (w281 b) (w284 b) (w417 b) (w420 b) (w634 b) (w654 b) (w662 b)
def w712 (b : Blk) : IVec S12x1 32 := k0_pay151 (w705 b) (w710 b)
def w722 (b : Blk) : FVec Ideal S12x6400 .f32 := k0_pay152 (w145 b) (w148 b) (w692 b) (w705 b) (w710 b)
def w732 (b : Blk) : FVec Ideal S12x1600 .f32 := k0_pay153 (w281 b) (w284 b) (w692 b) (w705 b) (w710 b)
def w742 (b : Blk) : FVec Ideal S12x400 .f32 := k0_pay154 (w417 b) (w420 b) (w692 b) (w705 b) (w710 b)
def w750 (b : Blk) : FVec Ideal S12x1 .f32 := k0_pay155 (w145 b) (w148 b) (w281 b) (w284 b) (w417 b) (w420 b) (w692 b) (w705 b) (w710 b)
def w756 (b : Blk) : IVec S12x1 32 := k0_pay156 (w145 b) (w148 b) (w281 b) (w284 b) (w417 b) (w420 b) (w692 b) (w705 b) (w710 b)
def w760 (b : Blk) : IVec S12x1600 32 := k0_pay157 (w145 b) (w148 b) (w281 b) (w284 b) (w417 b) (w420 b) (w692 b) (w705 b) (w710 b)
def w770 (b : Blk) : IVec S12x1 32 := k0_pay158 (w420 b) (w742 b) (w750 b) (w756 b) (w760 b)
def w780 (b : Blk) : FVec Ideal S12x6400 .f32 := k0_pay159 (w145 b) (w148 b) (w420 b) (w742 b) (w750 b) (w756 b) (w760 b)
def w790 (b : Blk) : FVec Ideal S12x1600 .f32 := k0_pay160 (w281 b) (w284 b) (w420 b) (w742 b) (w750 b) (w756 b) (w760 b)
def w800 (b : Blk) : FVec Ideal S12x400 .f32 := k0_pay161 (w417 b) (w420 b) (w742 b) (w750 b) (w756 b) (w760 b)
def w808 (b : Blk) : FVec Ideal S12x1 .f32 := k0_pay162 (w145 b) (w148 b) (w281 b) (w284 b) (w417 b) (w420 b) (w742 b) (w750 b) (w756 b) (w760 b)
def w810 (b : Blk) : IVec S12x6400 1 := k0_pay163 (w145 b) (w148 b) (w281 b) (w284 b) (w417 b) (w420 b) (w742 b) (w750 b) (w756 b) (w760 b)
def w811 (b : Blk) : IVec S12x6400 32 := k0_pay164
def w828 (b : Blk) : IVec S12x1 32 := k0_pay165 (w148 b) (w284 b) (w420 b) (w790 b) (w800 b) (w808 b) (w810 b) (w811 b)
def w838 (b : Blk) : FVec Ideal S12x6400 .f32 := k0_pay166 (w145 b) (w148 b) (w284 b) (w420 b) (w790 b) (w800 b) (w808 b) (w810 b) (w811 b)
def w848 (b : Blk) : FVec Ideal S12x1600 .f32 := k0_pay167 (w148 b) (w281 b) (w284 b) (w420 b) (w790 b) (w800 b) (w808 b) (w810 b) (w811 b)
def w858 (b : Blk) : FVec Ideal S12x400 .f32 := k0_pay168 (w148 b) (w284 b) (w417 b) (w420 b) (w790 b) (w800 b) (w808 b) (w810 b) (w811 b)
def w860 (b : Blk) : FVec Ideal S12x1 .f32 := k0_pay169 (w145 b) (w148 b) (w284 b) (w420 b) (w790 b) (w800 b) (w808 b) (w810 b) (w811 b)
def w861 (b : Blk) : FVec Ideal S12 .f32 := k0_pay170 (w148 b) (w281 b) (w284 b) (w420 b) (w790 b) (w800 b) (w808 b) (w810 b) (w811 b)
def w866 (b : Blk) : FVec Ideal S12x1 .f32 := k0_pay171 (w858 b) (w860 b) (w861 b)
def w886 (b : Blk) : IVec S12x1 32 := k0_pay172 (w148 b) (w284 b) (w420 b) (w838 b) (w848 b) (w858 b) (w860 b) (w861 b)
def w896 (b : Blk) : FVec Ideal S12x6400 .f32 := k0_pay173 (w145 b) (w148 b) (w284 b) (w420 b) (w838 b) (w848 b) (w858 b) (w860 b) (w861 b)
def w906 (b : Blk) : FVec Ideal S12x1600 .f32 := k0_pay174 (w148 b) (w281 b) (w284 b) (w420 b) (w838 b) (w848 b) (w858 b) (w860 b) (w861 b)
def w908 (b : Blk) : IVec S12x400 1 := k0_pay175 (w417 b) (w858 b) (w860 b) (w861 b)
def w910 (b : Blk) : IVec S12x400 1 := k0_pay176 (w417 b) (w858 b) (w860 b) (w861 b)
def w912 (b : Blk) : IVec S12x400 1 := k0_pay177 (w148 b) (w284 b) (w420 b) (w838 b) (w848 b) (w858 b) (w860 b) (w861 b)
def w916 (b : Blk) : FVec Ideal S12x400 .f32 := k0_pay178 (w417 b) (w908 b) (w910 b) (w912 b)
def w924 (b : Blk) : FVec Ideal S12x1 .f32 := k0_pay179 (w417 b) (w896 b) (w906 b) (w908 b) (w910 b) (w912 b)
def w944 (b : Blk) : IVec S12x1 32 := k0_pay180 (w148 b) (w284 b) (w417 b) (w420 b) (w896 b) (w906 b) (w908 b) (w910 b) (w912 b)
def w954 (b : Blk) : FVec Ideal S12x6400 .f32 := k0_pay181 (w145 b) (w148 b) (w284 b) (w417 b) (w420 b) (w896 b) (w906 b) (w908 b) (w910 b) (w912 b)
def w956 (b : Blk) : IVec S12x1600 1 := k0_pay182 (w281 b) (w417 b) (w896 b) (w906 b) (w908 b) (w910 b) (w912 b)
def w961 (b : Blk) : IVec S12x1600 1 := k0_pay183 (w148 b) (w281 b) (w284 b) (w417 b) (w420 b) (w896 b) (w906 b) (w908 b) (w910 b) (w912 b)
def w964 (b : Blk) : FVec Ideal S12x1600 .f32 := k0_pay184 (w281 b) (w956 b) (w961 b)
def w974 (b : Blk) : FVec Ideal S12x400 .f32 := k0_pay185 (w417 b) (w420 b) (w924 b) (w944 b)
def w982 (b : Blk) : FVec Ideal S12x1 .f32 := k0_pay186 (w281 b) (w417 b) (w420 b) (w924 b) (w944 b) (w954 b) (w956 b) (w961 b)
def w1002 (b : Blk) : IVec S12x1 32 := k0_pay187 (w148 b) (w281 b) (w284 b) (w417 b) (w420 b) (w924 b) (w944 b) (w954 b) (w956 b) (w961 b)
def w1004 (b : Blk) : IVec S12x6400 1 := k0_pay188 (w145 b)
def w1006 (b : Blk) : IVec S12x6400 1 := k0_pay189 (w145 b) (w281 b) (w417 b) (w420 b) (w924 b) (w944 b) (w954 b) (w956 b) (w961 b)
def w1008 (b : Blk) : IVec S12x6400 1 := k0_pay190 (w145 b) (w281 b) (w417 b) (w420 b) (w924 b) (w944 b) (w954 b) (w956 b) (w961 b)
def w1009 (b : Blk) : IVec S12x6400 32 := k0_pay191 (w148 b) (w281 b) (w284 b) (w417 b) (w420 b) (w924 b) (w944 b) (w954 b) (w956 b) (w961 b)
def w1013 (b : Blk) : IVec S12x6400 1 := k0_pay192 (w148 b) (w1004 b) (w1006 b) (w1008 b) (w1009 b)
def w1018 (b : Blk) : FVec Ideal S1x6400 .f32 := k0_pay193 (w148 b) (w1004 b) (w1006 b) (w1008 b) (w1009 b)
def w1023 (b : Blk) : Ideal .f32 := k0_pay194 (w148 b) (w1004 b) (w1006 b) (w1008 b) (w1009 b)
def w1025 (b : Blk) : FVec Ideal S12x6400 .f32 := k0_pay195 (w123 b) (w148 b) (w1004 b) (w1006 b) (w1008 b) (w1009 b)
def w1026 (b : Blk) : FVec Ideal S1x6400 .f32 := k0_pay196 (w123 b) (w148 b) (w1004 b) (w1006 b) (w1008 b) (w1009 b)
def w1028 (b : Blk) : FVec Ideal S1x6400 .f32 := k0_pay197 (w123 b) (w148 b) (w1004 b) (w1006 b) (w1008 b) (w1009 b)
def w1029 (b : Blk) : IVec S1x6400 1 := k0_pay198 (w123 b) (w148 b) (w1004 b) (w1006 b) (w1008 b) (w1009 b)
def w1030 (b : Blk) : FVec Ideal S1x6400 .f32 := k0_pay199 (w123 b) (w148 b) (w1004 b) (w1006 b) (w1008 b) (w1009 b)
def w1033 (b : Blk) : FVec Ideal S1x6400 .f32 := k0_pay200 (w123 b) (w148 b) (w1004 b) (w1006 b) (w1008 b) (w1009 b)
def w1034 (b : Blk) : IVec S1x6400 1 := k0_pay201 (w123 b) (w148 b) (w1004 b) (w1006 b) (w1008 b) (w1009 b)
def w1035 (b : Blk) : FVec Ideal S1x6400 .f32 := k0_pay202 (w123 b) (w148 b) (w1004 b) (w1006 b) (w1008 b) (w1009 b)
def w1038 (b : Blk) : FVec Ideal S1x6400 .f32 := k0_pay203 (w123 b) (w148 b) (w1004 b) (w1006 b) (w1008 b) (w1009 b)
def w1039 (b : Blk) : IVec S1x6400 1 := k0_pay204 (w123 b) (w148 b) (w1004 b) (w1006 b) (w1008 b) (w1009 b)
def w1040 (b : Blk) : FVec Ideal S1x6400 .f32 := k0_pay205 (w123 b) (w148 b) (w1004 b) (w1006 b) (w1008 b) (w1009 b)
def w1043 (b : Blk) : FVec Ideal S1x6400 .f32 := k0_pay206 (w123 b) (w148 b) (w1004 b) (w1006 b) (w1008 b) (w1009 b)
def w1044 (b : Blk) : IVec S1x6400 1 := k0_pay207 (w123 b) (w148 b) (w1004 b) (w1006 b) (w1008 b) (w1009 b)
def w1045 (b : Blk) : FVec Ideal S1x6400 .f32 := k0_pay208 (w123 b) (w148 b) (w1004 b) (w1006 b) (w1008 b) (w1009 b)
def w1048 (b : Blk) : FVec Ideal S1x6400 .f32 := k0_pay209 (w123 b) (w148 b) (w1004 b) (w1006 b) (w1008 b) (w1009 b)
def w1049 (b : Blk) : IVec S1x6400 1 := k0_pay210 (w123 b) (w148 b) (w1004 b) (w1006 b) (w1008 b) (w1009 b)
def w1050 (b : Blk) : FVec Ideal S1x6400 .f32 := k0_pay211 (w123 b) (w148 b) (w1004 b) (w1006 b) (w1008 b) (w1009 b)
def w1052 (b : Blk) : IVec S1x6400 32 := k0_pay212 (w123 b) (w148 b) (w1004 b) (w1006 b) (w1008 b) (w1009 b)
def w1053 (b : Blk) : FVec Ideal S1x6400 .f32 := k0_pay213 (w123 b) (w148 b) (w1004 b) (w1006 b) (w1008 b) (w1009 b)
def w1054 (b : Blk) : IVec S1x6400 1 := k0_pay214 (w123 b) (w148 b) (w1004 b) (w1006 b) (w1008 b) (w1009 b)
def w1055 (b : Blk) : FVec Ideal S1x6400 .f32 := k0_pay215 (w123 b) (w148 b) (w1004 b) (w1006 b) (w1008 b) (w1009 b)
def w1056 (b : Blk) : IVec S1x6400 32 := k0_pay216
def w1087 (b : Blk) : FVec Ideal S12x6400 .f32 := k0_pay217 (w1025 b) (w1052 b) (w1054 b) (w1055 b) (w1056 b)
def w1091 (b : Blk) : FVec Ideal S1x6400 .f32 := k0_pay218 (w1 b) (w1025 b) (w1052 b) (w1054 b) (w1055 b) (w1056 b)
def w1095 (b : Blk) : FVec Ideal S1x6400 .f32 := k0_pay219 (w3 b) (w1025 b) (w1052 b) (w1054 b) (w1055 b) (w1056 b)
def w1099 (b : Blk) : FVec Ideal S1x6400 .f32 := k0_pay220 (w5 b) (w1025 b) (w1052 b) (w1054 b) (w1055 b) (w1056 b)
def w1103 (b : Blk) : FVec Ideal S1x6400 .f32 := k0_pay221 (w7 b) (w1025 b) (w1052 b) (w1054 b) (w1055 b) (w1056 b)
def w1104 (b : Blk) : FVec Ideal S1x6400 .f32 := k0_pay222 (w5 b) (w89 b) (w1025 b) (w1052 b) (w1054 b) (w1055 b) (w1056 b)
def w1105 (b : Blk) : FVec Ideal S1x6400 .f32 := k0_pay223 (w1 b) (w85 b) (w1025 b) (w1052 b) (w1054 b) (w1055 b) (w1056 b)
def w1122 (b : Blk) : FVec Ideal S1x6400 .f32 := k0_pay224 (w87 b) (w91 b) (w116 b) (w1091 b) (w1095 b) (w1099 b) (w1103 b) (w1104 b) (w1105 b)
def w1130 (b : Blk) : Ideal .f32 := k0_pay225 (w87 b) (w91 b) (w116 b) (w1018 b) (w1091 b) (w1095 b) (w1099 b) (w1103 b) (w1104 b) (w1105 b)
def w1131 (b : Blk) : Vec Ideal S1x1x6400 .f32 := b.l1131
def w1151 (b : Blk) : Ideal .f32 := k0_pay226 (w87 b) (w91 b) (w116 b) (w1018 b) (w1091 b) (w1095 b) (w1099 b) (w1103 b) (w1104 b) (w1105 b) (w1131 b)
def w1152 (b : Blk) : Ideal .f32 := k0_pay227 (w1151 b)
def w1156 (b : Blk) : FVec Ideal S1x6400 .f32 := k0_pay228 (w14 b) (w15 b) (w1095 b)
def w1158 (b : Blk) : FVec Ideal S1x6400 .f32 := k0_pay229 (w13 b) (w15 b) (w1099 b)
def w1160 (b : Blk) : FVec Ideal S1x6400 .f32 := k0_pay230 (w14 b) (w15 b) (w1103 b)
def w1165 (b : Blk) : FVec Ideal S1x6400 .f32 := k0_pay231 (w13 b) (w15 b) (w1091 b)
def w1166 (b : Blk) : IVec S1x6400 32 := k0_pay232 (w13 b) (w15 b) (w1091 b)
def w1172 (b : Blk) : IVec S1x6400 1 := k0_pay233 (w13 b) (w15 b) (w1091 b)
def w1175 (b : Blk) : FVec Ideal S1x6400 .f32 := k0_pay234 (w13 b) (w15 b) (w1091 b)
def w1179 (b : Blk) : FVec Ideal S1x6400 .f32 := k0_pay235 (w13 b) (w15 b) (w1091 b)
def w1181 (b : Blk) : FVec Ideal S1x6400 .f32 := k0_pay236 (w13 b) (w15 b) (w1091 b)
def w1182 (b : Blk) : Vec Ideal S1x16x6400 .f32 := b.l1182
def w1183 (b : Blk) : FVec Ideal S16x6400 .f32 := k0_pay237 (w1182 b)
def w1189 (b : Blk) : FVec Ideal S1x6400 .f32 := k0_pay238 (w13 b) (w15 b) (w1091 b) (w1182 b)
def w1195 (b : Blk) : FVec Ideal S1x6400 .f32 := k0_pay239 (w13 b) (w15 b) (w1091 b) (w1182 b)
def w1206 (b : Blk) : Ideal .f32 := k0_pay240 (w32 b) (w1018 b) (w1179 b) (w1181 b) (w1189 b) (w1195 b)
def w1210 (b : Blk) : FVec Ideal S1x6400 .f32 := k0_pay241 (w1156 b)
def w1211 (b : Blk) : IVec S1x6400 32 := k0_pay242 (w1156 b)
def w1217 (b : Blk) : IVec S1x6400 1 := k0_pay243 (w1156 b)
def w1220 (b : Blk) : FVec Ideal S1x6400 .f32 := k0_pay244 (w1156 b)
def w1224 (b : Blk) : FVec Ideal S1x6400 .f32 := k0_pay245 (w1156 b)
def w1226 (b : Blk) : FVec Ideal S1x6400 .f32 := k0_pay246 (w1156 b)
def w1227 (b : Blk) : Vec Ideal S1x16x6400 .f32 := b.l1227
def w1228 (b : Blk) : FVec Ideal S16x6400 .f32 := k0_pay247 (w1227 b)
def w1161 (b : Blk) : IVec S16x6400 32 := iota .tc S16x6400 32 [0] iota_S16x6400_d0_w32
def w1234 (b : Blk) : FVec Ideal S1x6400 .f32 := k0_pay248 (w1156 b) (w1161 b) (w1227 b)
def w1238 (b : Blk) : FVec Ideal S16x6400 .f32 := k0_pay249 (w1156 b) (w1161 b) (w1227 b)
def w1251 (b : Blk) : Ideal .f32 := k0_pay250 (w49 b) (w1018 b) (w1206 b) (w1224 b) (w1226 b) (w1234 b) (w1238 b)
def w1255 (b : Blk) : FVec Ideal S1x6400 .f32 := k0_pay251 (w1158 b)
def w1256 (b : Blk) : IVec S1x6400 32 := k0_pay252 (w1158 b)
def w1262 (b : Blk) : IVec S1x6400 1 := k0_pay253 (w1158 b)
def w1265 (b : Blk) : FVec Ideal S1x6400 .f32 := k0_pay254 (w1158 b)
def w1269 (b : Blk) : FVec Ideal S1x6400 .f32 := k0_pay255 (w1158 b)
def w1271 (b : Blk) : FVec Ideal S1x6400 .f32 := k0_pay256 (w1158 b)
def w1272 (b : Blk) : Vec Ideal S1x16x6400 .f32 := b.l1272
def w1273 (b : Blk) : FVec Ideal S16x6400 .f32 := k0_pay257 (w1272 b)
def w1279 (b : Blk) : FVec Ideal S1x6400 .f32 := k0_pay258 (w1158 b) (w1161 b) (w1272 b)
def w1283 (b : Blk) : FVec Ideal S16x6400 .f32 := k0_pay259 (w1158 b) (w1161 b) (w1272 b)
def w1296 (b : Blk) : Ideal .f32 := k0_pay260 (w66 b) (w1018 b) (w1251 b) (w1269 b) (w1271 b) (w1279 b) (w1283 b)
def w1300 (b : Blk) : FVec Ideal S1x6400 .f32 := k0_pay261 (w1160 b)
def w1301 (b : Blk) : IVec S1x6400 32 := k0_pay262 (w1160 b)
def w1307 (b : Blk) : IVec S1x6400 1 := k0_pay263 (w1160 b)
def w1310 (b : Blk) : FVec Ideal S1x6400 .f32 := k0_pay264 (w1160 b)
def w1314 (b : Blk) : FVec Ideal S1x6400 .f32 := k0_pay265 (w1160 b)
def w1316 (b : Blk) : FVec Ideal S1x6400 .f32 := k0_pay266 (w1160 b)
def w1317 (b : Blk) : Vec Ideal S1x16x6400 .f32 := b.l1317
def w1318 (b : Blk) : FVec Ideal S16x6400 .f32 := k0_pay267 (w1317 b)
def w1324 (b : Blk) : FVec Ideal S1x6400 .f32 := k0_pay268 (w1160 b) (w1161 b) (w1317 b)
def w1326 (b : Blk) : IVec S16x6400 1 := k0_pay269 (w1160 b) (w1161 b)
def w1327 (b : Blk) : FVec Ideal S16x6400 .f32 := k0_pay270
def w1341 (b : Blk) : Ideal .f32 := k0_pay271 (w83 b) (w1018 b) (w1296 b) (w1314 b) (w1316 b) (w1318 b) (w1324 b) (w1326 b) (w1327 b)
def w1352 (b : Blk) : IVec S12x1600 1 := k0_pay272 (w281 b) (w284 b) (w982 b) (w1002 b)
def w1357 (b : Blk) : FVec Ideal S1x1600 .f32 := k0_pay273 (w281 b) (w284 b) (w982 b) (w1002 b)
def w1362 (b : Blk) : Ideal .f32 := k0_pay274 (w281 b) (w284 b) (w982 b) (w1002 b) (w1023 b)
def w1364 (b : Blk) : FVec Ideal S12x1600 .f32 := k0_pay275 (w259 b) (w281 b) (w284 b) (w982 b) (w1002 b)
def w1365 (b : Blk) : FVec Ideal S1x1600 .f32 := k0_pay276 (w259 b) (w281 b) (w284 b) (w982 b) (w1002 b)
def w1367 (b : Blk) : FVec Ideal S1x1600 .f32 := k0_pay277 (w259 b) (w281 b) (w284 b) (w982 b) (w1002 b)
def w1368 (b : Blk) : IVec S1x1600 1 := k0_pay278 (w259 b) (w281 b) (w284 b) (w982 b) (w1002 b)
def w1369 (b : Blk) : FVec Ideal S1x1600 .f32 := k0_pay279 (w259 b) (w281 b) (w284 b) (w982 b) (w1002 b)
def w1372 (b : Blk) : FVec Ideal S1x1600 .f32 := k0_pay280 (w259 b) (w281 b) (w284 b) (w982 b) (w1002 b)
def w1373 (b : Blk) : IVec S1x1600 1 := k0_pay281 (w259 b) (w281 b) (w284 b) (w982 b) (w1002 b)
def w1374 (b : Blk) : FVec Ideal S1x1600 .f32 := k0_pay282 (w259 b) (w281 b) (w284 b) (w982 b) (w1002 b)
def w1376 (b : Blk) : IVec S1x1600 32 := k0_pay283 (w259 b) (w281 b) (w284 b) (w982 b) (w1002 b)
def w1423 (b : Blk) : IVec S12x1600 1 := k0_pay284 (w1364 b) (w1374 b) (w1376 b)
def w1424 (b : Blk) : FVec Ideal S12x1600 .f32 := k0_pay285
def w1425 (b : Blk) : FVec Ideal S12x1600 .f32 := k0_pay286
def w1426 (b : Blk) : FVec Ideal S12x1600 .f32 := k0_pay287 (w1423 b) (w1424 b) (w1425 b)
def w1430 (b : Blk) : FVec Ideal S1x1600 .f32 := k0_pay288 (w1 b) (w1423 b) (w1424 b) (w1425 b)
def w1434 (b : Blk) : FVec Ideal S1x1600 .f32 := k0_pay289 (w3 b) (w1423 b) (w1424 b) (w1425 b)
def w1438 (b : Blk) : FVec Ideal S1x1600 .f32 := k0_pay290 (w5 b) (w1423 b) (w1424 b) (w1425 b)
def w1442 (b : Blk) : FVec Ideal S1x1600 .f32 := k0_pay291 (w7 b) (w1423 b) (w1424 b) (w1425 b)
def w1461 (b : Blk) : FVec Ideal S1x1600 .f32 := k0_pay292 (w1 b) (w3 b) (w5 b) (w7 b) (w221 b) (w223 b) (w225 b) (w227 b) (w252 b) (w1423 b) (w1424 b) (w1425 b)
def w1469 (b : Blk) : Ideal .f32 := k0_pay293 (w1 b) (w3 b) (w5 b) (w7 b) (w221 b) (w223 b) (w225 b) (w227 b) (w252 b) (w1130 b) (w1357 b) (w1423 b) (w1424 b) (w1425 b)
def w1470 (b : Blk) : Vec Ideal S1x1x1600 .f32 := b.l1470
def w1471 (b : Blk) : FVec Ideal S1x1600 .f32 := k0_pay294 (w1470 b)
def w_cst_360 (b : Blk) : Ideal .f32 := Scalar.ofBits .f32 0x00000000#32
def w_cst_361 (b : Blk) : Ideal .f32 := Scalar.ofBits .f32 0x3F800000#32
def w1491 (b : Blk) : Ideal .f32 := k0_pay295 (w1152 b) (w1357 b) (w1461 b) (w1471 b) (w_cst_360 b) (w_cst_361 b)
def w1495 (b : Blk) : FVec Ideal S1x1600 .f32 := k0_pay296 (w150 b) (w151 b) (w1434 b)
def w1497 (b : Blk) : FVec Ideal S1x1600 .f32 := k0_pay297 (w149 b) (w151 b) (w1438 b)
def w1499 (b : Blk) : FVec Ideal S1x1600 .f32 := k0_pay298 (w150 b) (w151 b) (w1442 b)
def w1504 (b : Blk) : FVec Ideal S1x1600 .f32 := k0_pay299 (w149 b) (w151 b) (w1430 b)
def w1505 (b : Blk) : IVec S1x1600 32 := k0_pay300 (w149 b) (w151 b) (w1430 b)
def w1511 (b : Blk) : IVec S1x1600 1 := k0_pay301 (w149 b) (w151 b) (w1430 b)
def w1512 (b : Blk) : IVec S1x1600 32 := k0_pay302 (w149 b) (w151 b) (w1430 b)
def w1514 (b : Blk) : FVec Ideal S1x1600 .f32 := k0_pay303 (w149 b) (w151 b) (w1430 b)
def w1518 (b : Blk) : FVec Ideal S1x1600 .f32 := k0_pay304 (w149 b) (w151 b) (w1430 b)
def w1520 (b : Blk) : FVec Ideal S1x1600 .f32 := k0_pay305 (w149 b) (w151 b) (w1430 b)
def w1500 (b : Blk) : IVec S16x1600 32 := iota .tc S16x1600 32 [0] iota_S16x1600_d0_w32
def w1521 (b : Blk) : Vec Ideal S1x16x1600 .f32 := b.l1521
def w1545 (b : Blk) : Ideal .f32 := k0_pay306 (w168 b) (w1341 b) (w1357 b) (w1500 b) (w1505 b) (w1512 b) (w1518 b) (w1520 b) (w1521 b)
def w1549 (b : Blk) : FVec Ideal S1x1600 .f32 := k0_pay307 (w1495 b)
def w1550 (b : Blk) : IVec S1x1600 32 := k0_pay308 (w1495 b)
def w1556 (b : Blk) : IVec S1x1600 1 := k0_pay309 (w1495 b)
def w1557 (b : Blk) : IVec S1x1600 32 := k0_pay310 (w1495 b)
def w1559 (b : Blk) : FVec Ideal S1x1600 .f32 := k0_pay311 (w1495 b)
def w1561 (b : Blk) : FVec Ideal S1x1600 .f32 := k0_pay312 (w1495 b)
def w1563 (b : Blk) : FVec Ideal S1x1600 .f32 := k0_pay313 (w1495 b)
def w1564 (b : Blk) : FVec Ideal S1x1600 .f32 := k0_pay314
def w1566 (b : Blk) : Vec Ideal S1x16x1600 .f32 := b.l1566
def w1590 (b : Blk) : Ideal .f32 := k0_pay315 (w185 b) (w1357 b) (w1500 b) (w1545 b) (w1550 b) (w1556 b) (w1557 b) (w1561 b) (w1563 b) (w1564 b) (w1566 b)
def w1594 (b : Blk) : FVec Ideal S1x1600 .f32 := k0_pay316 (w1497 b)
def w1595 (b : Blk) : IVec S1x1600 32 := k0_pay317 (w1497 b)
def w1601 (b : Blk) : IVec S1x1600 1 := k0_pay318 (w1497 b)
def w1602 (b : Blk) : IVec S1x1600 32 := k0_pay319 (w1497 b)
def w1604 (b : Blk) : FVec Ideal S1x1600 .f32 := k0_pay320 (w1497 b)
def w1606 (b : Blk) : FVec Ideal S1x1600 .f32 := k0_pay321 (w1497 b)
def w1608 (b : Blk) : FVec Ideal S1x1600 .f32 := k0_pay322 (w1497 b)
def w_cst_404 (b : Blk) : Ideal .f32 := Scalar.ofBits .f32 0x3F800000#32
def w1611 (b : Blk) : Vec Ideal S1x16x1600 .f32 := b.l1611
def w1635 (b : Blk) : Ideal .f32 := k0_pay323 (w202 b) (w1357 b) (w1500 b) (w1590 b) (w1595 b) (w1601 b) (w1602 b) (w1606 b) (w1608 b) (w_cst_404 b) (w1611 b)
def w1639 (b : Blk) : FVec Ideal S1x1600 .f32 := k0_pay324 (w1499 b)
def w1640 (b : Blk) : IVec S1x1600 32 := k0_pay325 (w1499 b)
def w1646 (b : Blk) : IVec S1x1600 1 := k0_pay326 (w1499 b)
def w1647 (b : Blk) : IVec S1x1600 32 := k0_pay327 (w1499 b)
def w1649 (b : Blk) : FVec Ideal S1x1600 .f32 := k0_pay328 (w1499 b)
def w1651 (b : Blk) : FVec Ideal S1x1600 .f32 := k0_pay329 (w1499 b)
def w1653 (b : Blk) : FVec Ideal S1x1600 .f32 := k0_pay330 (w1499 b)
def w1656 (b : Blk) : Vec Ideal S1x16x1600 .f32 := b.l1656
def w1680 (b : Blk) : Ideal .f32 := k0_pay331 (w219 b) (w1357 b) (w1500 b) (w1635 b) (w1640 b) (w1646 b) (w1647 b) (w1651 b) (w1653 b) (w1656 b)
def w1691 (b : Blk) : IVec S12x400 1 := k0_pay332 (w417 b) (w420 b) (w982 b) (w1002 b)
def w1696 (b : Blk) : FVec Ideal S1x400 .f32 := k0_pay333 (w417 b) (w420 b) (w982 b) (w1002 b)
def w1699 (b : Blk) : FVec Ideal S1x1x1 .f32 := k0_pay334 (w417 b) (w420 b) (w982 b) (w1002 b)
def w1701 (b : Blk) : Ideal .f32 := k0_pay335 (w1362 b) (w1699 b)
def w1703 (b : Blk) : FVec Ideal S12x400 .f32 := k0_pay336 (w395 b) (w1691 b)
def w1704 (b : Blk) : FVec Ideal S1x400 .f32 := k0_pay337 (w395 b) (w1691 b)
def w1706 (b : Blk) : FVec Ideal S1x400 .f32 := k0_pay338 (w395 b) (w1691 b)
def w1707 (b : Blk) : IVec S1x400 1 := k0_pay339 (w395 b) (w1691 b)
def w1708 (b : Blk) : FVec Ideal S1x400 .f32 := k0_pay340 (w395 b) (w1691 b)
def w1711 (b : Blk) : FVec Ideal S1x400 .f32 := k0_pay341 (w395 b) (w1691 b)
def w1712 (b : Blk) : IVec S1x400 1 := k0_pay342 (w395 b) (w1691 b)
def w1713 (b : Blk) : FVec Ideal S1x400 .f32 := k0_pay343 (w395 b) (w1691 b)
def w1716 (b : Blk) : FVec Ideal S1x400 .f32 := k0_pay344 (w395 b) (w1691 b)
def w1717 (b : Blk) : IVec S1x400 1 := k0_pay345 (w395 b) (w1691 b)
def w1718 (b : Blk) : FVec Ideal S1x400 .f32 := k0_pay346 (w395 b) (w1691 b)
def w1721 (b : Blk) : FVec Ideal S1x400 .f32 := k0_pay347 (w395 b) (w1691 b)
def w1722 (b : Blk) : IVec S1x400 1 := k0_pay348 (w395 b) (w1691 b)
def w1723 (b : Blk) : FVec Ideal S1x400 .f32 := k0_pay349 (w395 b) (w1691 b)
def w1726 (b : Blk) : FVec Ideal S1x400 .f32 := k0_pay350 (w395 b) (w1691 b)
def w1727 (b : Blk) : IVec S1x400 1 := k0_pay351 (w395 b) (w1691 b)
def w1728 (b : Blk) : FVec Ideal S1x400 .f32 := k0_pay352 (w395 b) (w1691 b)
def w1731 (b : Blk) : FVec Ideal S1x400 .f32 := k0_pay353 (w395 b) (w1691 b)
def w1732 (b : Blk) : IVec S1x400 1 := k0_pay354 (w395 b) (w1691 b)
def w1733 (b : Blk) : FVec Ideal S1x400 .f32 := k0_pay355 (w395 b) (w1691 b)
def w1736 (b : Blk) : FVec Ideal S1x400 .f32 := k0_pay356 (w395 b) (w1691 b)
def w1737 (b : Blk) : IVec S1x400 1 := k0_pay357 (w395 b) (w1691 b)
def w1738 (b : Blk) : FVec Ideal S1x400 .f32 := k0_pay358 (w395 b) (w1691 b)
def w1741 (b : Blk) : FVec Ideal S1x400 .f32 := k0_pay359 (w395 b) (w1691 b)
def w1742 (b : Blk) : IVec S1x400 1 := k0_pay360 (w395 b) (w1691 b)
def w1743 (b : Blk) : FVec Ideal S1x400 .f32 := k0_pay361 (w395 b) (w1691 b)
def w1745 (b : Blk) : IVec S1x400 32 := k0_pay362 (w395 b) (w1691 b)
def w1746 (b : Blk) : FVec Ideal S1x400 .f32 := k0_pay363 (w395 b) (w1691 b)
def w1747 (b : Blk) : IVec S1x400 1 := k0_pay364 (w395 b) (w1691 b)
def w1748 (b : Blk) : FVec Ideal S1x400 .f32 := k0_pay365 (w395 b) (w1691 b)
def w_c9_i32_444 (b : Blk) : BitVec 32 := 9#32
def w1765 (b : Blk) : FVec Ideal S12x400 .f32 := k0_pay366 (w1703 b) (w1745 b) (w1747 b) (w1748 b) (w_c9_i32_444 b)
def w1769 (b : Blk) : FVec Ideal S1x400 .f32 := k0_pay367 (w1 b) (w1703 b) (w1745 b) (w1747 b) (w1748 b) (w_c9_i32_444 b)
def w1773 (b : Blk) : FVec Ideal S1x400 .f32 := k0_pay368 (w3 b) (w1703 b) (w1745 b) (w1747 b) (w1748 b) (w_c9_i32_444 b)
def w1777 (b : Blk) : FVec Ideal S1x400 .f32 := k0_pay369 (w5 b) (w1703 b) (w1745 b) (w1747 b) (w1748 b) (w_c9_i32_444 b)
def w1781 (b : Blk) : FVec Ideal S1x400 .f32 := k0_pay370 (w7 b) (w1703 b) (w1745 b) (w1747 b) (w1748 b) (w_c9_i32_444 b)
def w1792 (b : Blk) : FVec Ideal S1x400 .f32 := k0_pay371 (w1 b) (w3 b) (w5 b) (w7 b) (w357 b) (w359 b) (w361 b) (w363 b) (w1703 b) (w1745 b) (w1747 b) (w1748 b) (w_c9_i32_444 b)
def w1797 (b : Blk) : FVec Ideal S1x400 .f32 := k0_pay372 (w1 b) (w3 b) (w5 b) (w7 b) (w357 b) (w359 b) (w361 b) (w363 b) (w388 b) (w1703 b) (w1745 b) (w1747 b) (w1748 b) (w_c9_i32_444 b)
def w_cst_455 (b : Blk) : Ideal .f32 := Scalar.ofBits .f32 0x3089705F#32
def w1800 (b : Blk) : FVec Ideal S1x400 .f32 := k0_pay373 (w1792 b) (w1797 b) (w_cst_455 b)
def w1808 (b : Blk) : Ideal .f32 := k0_pay374 (w1469 b) (w1696 b) (w1792 b) (w1797 b) (w_cst_455 b)
def w1809 (b : Blk) : Vec Ideal S1x1x400 .f32 := b.l1809
def w1830 (b : Blk) : Ideal .f32 := k0_pay375 (w1491 b) (w1696 b) (w1792 b) (w1797 b) (w_cst_455 b) (w1809 b)
def w1834 (b : Blk) : FVec Ideal S1x400 .f32 := k0_pay376 (w286 b) (w287 b) (w1773 b)
def w1836 (b : Blk) : FVec Ideal S1x400 .f32 := k0_pay377 (w285 b) (w287 b) (w1777 b)
def w1838 (b : Blk) : FVec Ideal S1x400 .f32 := k0_pay378 (w286 b) (w287 b) (w1781 b)
def w1843 (b : Blk) : FVec Ideal S1x400 .f32 := k0_pay379 (w285 b) (w287 b) (w1769 b)
def w1844 (b : Blk) : IVec S1x400 32 := k0_pay380 (w285 b) (w287 b) (w1769 b)
def w1839 (b : Blk) : IVec S16x400 32 := iota .tc S16x400 32 [0] iota_S16x400_d0_w32
def w_c1_i32_468 (b : Blk) : BitVec 32 := 1#32
def w1860 (b : Blk) : Vec Ideal S1x16x400 .f32 := b.l1860
def w1884 (b : Blk) : Ideal .f32 := k0_pay381 (w304 b) (w1680 b) (w1696 b) (w1839 b) (w1843 b) (w1844 b) (w_c1_i32_468 b) (w1860 b)
def w1888 (b : Blk) : FVec Ideal S1x400 .f32 := k0_pay382 (w1834 b)
def w1889 (b : Blk) : IVec S1x400 32 := k0_pay383 (w1834 b)
def w1905 (b : Blk) : Vec Ideal S1x16x400 .f32 := b.l1905
def w1929 (b : Blk) : Ideal .f32 := k0_pay384 (w321 b) (w1696 b) (w1839 b) (w1884 b) (w1888 b) (w1889 b) (w1905 b)
def w1933 (b : Blk) : FVec Ideal S1x400 .f32 := k0_pay385 (w1836 b)
def w1950 (b : Blk) : Vec Ideal S1x16x400 .f32 := b.l1950
def w1974 (b : Blk) : Ideal .f32 := k0_pay386 (w338 b) (w1696 b) (w1839 b) (w1929 b) (w1933 b) (w1950 b)
def w1976 (b : Blk) : FVec Ideal S1x400 .f32 := k0_pay387 (w1838 b)
def w1977 (b : Blk) : FVec Ideal S1x400 .f32 := k0_pay388
def w1995 (b : Blk) : Vec Ideal S1x16x400 .f32 := b.l1995
def w2019 (b : Blk) : Ideal .f32 := k0_pay389 (w355 b) (w1696 b) (w1839 b) (w1974 b) (w1976 b) (w1977 b) (w1995 b)
def w2021 (b : Blk) : IVec S12x1 1 := k0_pay390 (w460 b)
def w2022 (b : Blk) : IVec S12x6400 32 := k0_pay391 (w480 b)
def w2028 (b : Blk) : FVec Ideal S12x6400 .f32 := k0_pay392 (w148 b) (w2021 b) (w2022 b)
def w2045 (b : Blk) : FVec Ideal S12x1600 .f32 := k0_pay393 (w284 b) (w480 b) (w2021 b)
def w2049 (b : Blk) : FVec Ideal S12x1 .f32 := k0_pay394 (w148 b) (w284 b) (w480 b) (w1087 b) (w1426 b) (w2021 b) (w2022 b)
def w2034 (b : Blk) : Vec Ideal S1x32x6400 .f32 := b.l2034
def w2050 (b : Blk) : Vec Ideal S1x32x1600 .f32 := b.l2050
def w2053 (b : Blk) : FVec Ideal S12x32 .f32 := k0_pay395 (w148 b) (w284 b) (w480 b) (w2021 b) (w2022 b) (w2034 b) (w2050 b)
def w2060 (b : Blk) : FVec Ideal S12x400 .f32 := k0_pay396 (w420 b) (w480 b) (w2021 b)
def w2063 (b : Blk) : FVec Ideal S12x1 .f32 := k0_pay397 (w420 b) (w480 b) (w1765 b) (w2021 b)
def w2064 (b : Blk) : FVec Ideal S12x1 .f32 := k0_pay398 (w2049 b) (w2063 b)
def w2073 (b : Blk) : Ideal .f32 := k0_pay399 (w2049 b) (w2063 b)
def w2065 (b : Blk) : Vec Ideal S1x32x400 .f32 := b.l2065
def w2075 (b : Blk) : FVec Ideal S12x32 .f32 := k0_pay400 (w2049 b) (w2053 b) (w2060 b) (w2063 b) (w2065 b)
def w2077 (b : Blk) : IVec S12x1 1 := k0_pay401 (w518 b)
def w2084 (b : Blk) : FVec Ideal S12x6400 .f32 := k0_pay402 (w148 b) (w518 b) (w538 b)
def w2089 (b : Blk) : FVec Ideal S12x1 .f32 := k0_pay403 (w148 b) (w518 b) (w538 b) (w1087 b)
def w2090 (b : Blk) : Vec Ideal S1x32x6400 .f32 := b.l2090
def w2094 (b : Blk) : FVec Ideal S12x32 .f32 := k0_pay404 (w148 b) (w518 b) (w538 b) (w2090 b)
def w2101 (b : Blk) : FVec Ideal S12x1600 .f32 := k0_pay405 (w284 b) (w518 b) (w538 b)
def w2104 (b : Blk) : FVec Ideal S12x1 .f32 := k0_pay406 (w284 b) (w518 b) (w538 b) (w1426 b)
def w2116 (b : Blk) : FVec Ideal S12x400 .f32 := k0_pay407 (w420 b) (w538 b) (w2077 b)
def w2120 (b : Blk) : FVec Ideal S12x1 .f32 := k0_pay408 (w420 b) (w538 b) (w1765 b) (w2077 b) (w2089 b) (w2104 b)
def w2129 (b : Blk) : Ideal .f32 := k0_pay409 (w420 b) (w538 b) (w1765 b) (w2073 b) (w2077 b) (w2089 b) (w2104 b)
def w2106 (b : Blk) : Vec Ideal S1x32x1600 .f32 := b.l2106
def w2121 (b : Blk) : Vec Ideal S1x32x400 .f32 := b.l2121
def w2131 (b : Blk) : FVec Ideal S12x32 .f32 := k0_pay410 (w420 b) (w538 b) (w1765 b) (w2077 b) (w2089 b) (w2094 b) (w2101 b) (w2104 b) (w2106 b) (w2121 b)
def w2133 (b : Blk) : IVec S12x1 1 := k0_pay411 (w576 b)
def w2140 (b : Blk) : FVec Ideal S12x6400 .f32 := k0_pay412 (w148 b) (w576 b) (w596 b)
def w2145 (b : Blk) : FVec Ideal S12x1 .f32 := k0_pay413 (w148 b) (w576 b) (w596 b) (w1087 b)
def w2157 (b : Blk) : FVec Ideal S12x1600 .f32 := k0_pay414 (w284 b) (w596 b) (w2133 b)
def w2172 (b : Blk) : FVec Ideal S12x400 .f32 := k0_pay415 (w420 b) (w596 b) (w2133 b)
def w2176 (b : Blk) : FVec Ideal S12x1 .f32 := k0_pay416 (w284 b) (w420 b) (w596 b) (w1426 b) (w1765 b) (w2133 b) (w2145 b)
def w2185 (b : Blk) : Ideal .f32 := k0_pay417 (w284 b) (w420 b) (w596 b) (w1426 b) (w1765 b) (w2129 b) (w2133 b) (w2145 b)
def w2146 (b : Blk) : Vec Ideal S1x32x6400 .f32 := b.l2146
def w2162 (b : Blk) : Vec Ideal S1x32x1600 .f32 := b.l2162
def w2177 (b : Blk) : Vec Ideal S1x32x400 .f32 := b.l2177
def w2187 (b : Blk) : FVec Ideal S12x32 .f32 := k0_pay418 (w284 b) (w420 b) (w596 b) (w1426 b) (w1765 b) (w2133 b) (w2140 b) (w2145 b) (w2146 b) (w2162 b) (w2177 b)
def w2189 (b : Blk) : IVec S12x1 1 := k0_pay419 (w634 b)
def w2196 (b : Blk) : FVec Ideal S12x6400 .f32 := k0_pay420 (w148 b) (w634 b) (w654 b)
def w2213 (b : Blk) : FVec Ideal S12x1600 .f32 := k0_pay421 (w284 b) (w634 b) (w654 b)
def w2217 (b : Blk) : FVec Ideal S12x1 .f32 := k0_pay422 (w148 b) (w284 b) (w634 b) (w654 b) (w1087 b) (w1426 b)
def w2202 (b : Blk) : Vec Ideal S1x32x6400 .f32 := b.l2202
def w2218 (b : Blk) : Vec Ideal S1x32x1600 .f32 := b.l2218
def w2221 (b : Blk) : FVec Ideal S12x32 .f32 := k0_pay423 (w148 b) (w284 b) (w634 b) (w654 b) (w2202 b) (w2218 b)
def w2228 (b : Blk) : FVec Ideal S12x400 .f32 := k0_pay424 (w420 b) (w634 b) (w654 b)
def w2232 (b : Blk) : FVec Ideal S12x1 .f32 := k0_pay425 (w1765 b) (w2217 b) (w2228 b)
def w2241 (b : Blk) : Ideal .f32 := k0_pay426 (w1765 b) (w2185 b) (w2217 b) (w2228 b)
def w2233 (b : Blk) : Vec Ideal S1x32x400 .f32 := b.l2233
def w2243 (b : Blk) : FVec Ideal S12x32 .f32 := k0_pay427 (w1765 b) (w2217 b) (w2221 b) (w2228 b) (w2233 b)
def w2245 (b : Blk) : IVec S12x1 1 := k0_pay428 (w692 b)
def w2252 (b : Blk) : FVec Ideal S12x6400 .f32 := k0_pay429 (w148 b) (w692 b) (w712 b)
def w2257 (b : Blk) : FVec Ideal S12x1 .f32 := k0_pay430 (w148 b) (w692 b) (w712 b) (w1087 b)
def w2258 (b : Blk) : Vec Ideal S1x32x6400 .f32 := b.l2258
def w2262 (b : Blk) : FVec Ideal S12x32 .f32 := k0_pay431 (w148 b) (w692 b) (w712 b) (w2258 b)
def w2269 (b : Blk) : FVec Ideal S12x1600 .f32 := k0_pay432 (w284 b) (w692 b) (w712 b)
def w2270 (b : Blk) : FVec Ideal S12x1600 .f32 := k0_pay433 (w284 b) (w692 b) (w712 b) (w1426 b)
def w2284 (b : Blk) : FVec Ideal S12x400 .f32 := k0_pay434 (w420 b) (w712 b) (w2245 b)
def w2288 (b : Blk) : FVec Ideal S12x1 .f32 := k0_pay435 (w420 b) (w712 b) (w1765 b) (w2245 b) (w2257 b) (w2270 b)
def w2297 (b : Blk) : Ideal .f32 := k0_pay436 (w420 b) (w712 b) (w1765 b) (w2241 b) (w2245 b) (w2257 b) (w2270 b)
def w2274 (b : Blk) : Vec Ideal S1x32x1600 .f32 := b.l2274
def w2289 (b : Blk) : Vec Ideal S1x32x400 .f32 := b.l2289
def w2299 (b : Blk) : FVec Ideal S12x32 .f32 := k0_pay437 (w420 b) (w712 b) (w1765 b) (w2245 b) (w2257 b) (w2262 b) (w2269 b) (w2270 b) (w2274 b) (w2289 b)
def w2301 (b : Blk) : IVec S12x1 1 := k0_pay438 (w750 b)
def w2308 (b : Blk) : FVec Ideal S12x6400 .f32 := k0_pay439 (w148 b) (w750 b) (w770 b)
def w2311 (b : Blk) : FVec Ideal S12x1 .f32 := k0_pay440 (w148 b) (w750 b) (w770 b) (w1087 b)
def w2312 (b : Blk) : FVec Ideal S12x1 .f32 := k0_pay441
def w2325 (b : Blk) : FVec Ideal S12x1600 .f32 := k0_pay442 (w284 b) (w770 b) (w2301 b)
def w2340 (b : Blk) : FVec Ideal S12x400 .f32 := k0_pay443 (w420 b) (w770 b) (w2301 b)
def w2344 (b : Blk) : FVec Ideal S12x1 .f32 := k0_pay444 (w284 b) (w420 b) (w770 b) (w1426 b) (w1765 b) (w2301 b) (w2311 b) (w2312 b)
def w2314 (b : Blk) : Vec Ideal S1x32x6400 .f32 := b.l2314
def w2330 (b : Blk) : Vec Ideal S1x32x1600 .f32 := b.l2330
def w2345 (b : Blk) : Vec Ideal S1x32x400 .f32 := b.l2345
def w2348 (b : Blk) : FVec Ideal S12x32 .f32 := k0_pay445 (w284 b) (w420 b) (w770 b) (w2301 b) (w2308 b) (w2314 b) (w2330 b) (w2345 b)
def w2352 (b : Blk) : Ideal .f32 := k0_pay446 (w284 b) (w420 b) (w770 b) (w1426 b) (w1765 b) (w2301 b) (w2311 b) (w2312 b)
def w2353 (b : Blk) : Ideal .f32 := k0_pay447 (w2297 b) (w2352 b)
def w2355 (b : Blk) : FVec Ideal S12x32 .f32 := k0_pay448 (w2344 b) (w2348 b)
def w2357 (b : Blk) : IVec S12x1 1 := k0_pay449 (w808 b)
def w2364 (b : Blk) : FVec Ideal S12x6400 .f32 := k0_pay450 (w148 b) (w808 b) (w828 b)
def w2381 (b : Blk) : FVec Ideal S12x1600 .f32 := k0_pay451 (w284 b) (w808 b) (w828 b)
def w2385 (b : Blk) : FVec Ideal S12x1 .f32 := k0_pay452 (w148 b) (w284 b) (w808 b) (w828 b) (w1087 b) (w1426 b)
def w2370 (b : Blk) : Vec Ideal S1x32x6400 .f32 := b.l2370
def w2386 (b : Blk) : Vec Ideal S1x32x1600 .f32 := b.l2386
def w2389 (b : Blk) : FVec Ideal S12x32 .f32 := k0_pay453 (w148 b) (w284 b) (w808 b) (w828 b) (w2370 b) (w2386 b)
def w2393 (b : Blk) : IVec S12x400 1 := k0_pay454 (w420 b) (w808 b) (w828 b)
def w_cst_698 (b : Blk) : Ideal .f32 := Scalar.ofBits .f32 0x3F800000#32
def w_cst_699 (b : Blk) : Ideal .f32 := Scalar.ofBits .f32 0x00000000#32
def w2396 (b : Blk) : FVec Ideal S12x400 .f32 := k0_pay455 (w2393 b) (w_cst_698 b) (w_cst_699 b)
def w2400 (b : Blk) : FVec Ideal S12x1 .f32 := k0_pay456 (w1765 b) (w2385 b) (w2393 b) (w_cst_698 b) (w_cst_699 b)
def w2409 (b : Blk) : Ideal .f32 := k0_pay457 (w1765 b) (w2353 b) (w2385 b) (w2393 b) (w_cst_698 b) (w_cst_699 b)
def w2401 (b : Blk) : Vec Ideal S1x32x400 .f32 := b.l2401
def w2411 (b : Blk) : FVec Ideal S12x32 .f32 := k0_pay458 (w1765 b) (w2385 b) (w2389 b) (w2393 b) (w_cst_698 b) (w_cst_699 b) (w2401 b)
def w2413 (b : Blk) : IVec S12x1 1 := k0_pay459 (w866 b)
def w2420 (b : Blk) : FVec Ideal S12x6400 .f32 := k0_pay460 (w148 b) (w866 b) (w886 b)
def w2425 (b : Blk) : FVec Ideal S12x1 .f32 := k0_pay461 (w148 b) (w866 b) (w886 b) (w1087 b)
def w2426 (b : Blk) : Vec Ideal S1x32x6400 .f32 := b.l2426
def w2430 (b : Blk) : FVec Ideal S12x32 .f32 := k0_pay462 (w148 b) (w866 b) (w886 b) (w2426 b)
def w2434 (b : Blk) : IVec S12x1600 1 := k0_pay463 (w284 b) (w866 b) (w886 b)
def w2435 (b : Blk) : FVec Ideal S12x1600 .f32 := k0_pay464
def w_cst_717 (b : Blk) : Ideal .f32 := Scalar.ofBits .f32 0x00000000#32
def w2437 (b : Blk) : FVec Ideal S12x1600 .f32 := k0_pay465 (w2434 b) (w_cst_717 b) (w2435 b)
def w2452 (b : Blk) : FVec Ideal S12x400 .f32 := k0_pay466 (w420 b) (w886 b) (w2413 b)
def w2456 (b : Blk) : FVec Ideal S12x1 .f32 := k0_pay467 (w420 b) (w886 b) (w1426 b) (w1765 b) (w2413 b) (w2425 b) (w2434 b) (w_cst_717 b) (w2435 b)
def w2465 (b : Blk) : Ideal .f32 := k0_pay468 (w420 b) (w886 b) (w1426 b) (w1765 b) (w2409 b) (w2413 b) (w2425 b) (w2434 b) (w_cst_717 b) (w2435 b)
def w2442 (b : Blk) : Vec Ideal S1x32x1600 .f32 := b.l2442
def w2457 (b : Blk) : Vec Ideal S1x32x400 .f32 := b.l2457
def w2467 (b : Blk) : FVec Ideal S12x32 .f32 := k0_pay469 (w420 b) (w886 b) (w1426 b) (w1765 b) (w2413 b) (w2425 b) (w2430 b) (w2434 b) (w_cst_717 b) (w2435 b) (w2442 b) (w2457 b)
def w2469 (b : Blk) : IVec S12x1 1 := k0_pay470 (w924 b)
def w2476 (b : Blk) : FVec Ideal S12x6400 .f32 := k0_pay471 (w148 b) (w924 b) (w944 b)
def w2478 (b : Blk) : FVec Ideal S12 .f32 := k0_pay472 (w148 b) (w924 b) (w944 b) (w1087 b)
def w2493 (b : Blk) : FVec Ideal S12x1600 .f32 := k0_pay473 (w284 b) (w944 b) (w2469 b)
def w2508 (b : Blk) : FVec Ideal S12x400 .f32 := k0_pay474 (w420 b) (w944 b) (w2469 b)
def w2512 (b : Blk) : FVec Ideal S12x1 .f32 := k0_pay475 (w284 b) (w420 b) (w944 b) (w1426 b) (w1765 b) (w2469 b) (w2478 b)
def w2482 (b : Blk) : Vec Ideal S1x32x6400 .f32 := b.l2482
def w2498 (b : Blk) : Vec Ideal S1x32x1600 .f32 := b.l2498
def w2513 (b : Blk) : Vec Ideal S1x32x400 .f32 := b.l2513
def w2516 (b : Blk) : FVec Ideal S12x32 .f32 := k0_pay476 (w284 b) (w420 b) (w944 b) (w2469 b) (w2476 b) (w2482 b) (w2498 b) (w2513 b)
def w2517 (b : Blk) : FVec Ideal S1x12x1 .f32 := k0_pay477 (w284 b) (w420 b) (w944 b) (w1426 b) (w1765 b) (w2469 b) (w2478 b)
def w2521 (b : Blk) : Ideal .f32 := k0_pay478 (w2465 b) (w2517 b)
def w2523 (b : Blk) : FVec Ideal S12x32 .f32 := k0_pay479 (w2512 b) (w2516 b)
def w2525 (b : Blk) : IVec S12x1 1 := k0_pay480 (w982 b)
def w2532 (b : Blk) : FVec Ideal S12x6400 .f32 := k0_pay481 (w148 b) (w982 b) (w1002 b)
def w2549 (b : Blk) : FVec Ideal S12x1600 .f32 := k0_pay482 (w284 b) (w982 b) (w1002 b)
def w2553 (b : Blk) : FVec Ideal S12x1 .f32 := k0_pay483 (w148 b) (w284 b) (w982 b) (w1002 b) (w1087 b) (w1426 b)
def w2538 (b : Blk) : Vec Ideal S1x32x6400 .f32 := b.l2538
def w2554 (b : Blk) : Vec Ideal S1x32x1600 .f32 := b.l2554
def w2557 (b : Blk) : FVec Ideal S12x32 .f32 := k0_pay484 (w148 b) (w284 b) (w982 b) (w1002 b) (w2538 b) (w2554 b)
def w2559 (b : Blk) : IVec S12x400 1 := k0_pay485 (w420 b) (w1002 b)
def w2560 (b : Blk) : IVec S12x400 1 := k0_pay486 (w982 b)
def w2564 (b : Blk) : FVec Ideal S12x400 .f32 := k0_pay487 (w2559 b) (w2560 b)
def w2568 (b : Blk) : FVec Ideal S12x1 .f32 := k0_pay488 (w1765 b) (w2553 b) (w2559 b) (w2560 b)
def w2577 (b : Blk) : Ideal .f32 := k0_pay489 (w1765 b) (w2521 b) (w2553 b) (w2559 b) (w2560 b)
def w2569 (b : Blk) : Vec Ideal S1x32x400 .f32 := b.l2569
def w2580 (b : Blk) : FVec Ideal S120x32 .f32 := k0_pay490 (w1765 b) (w2075 b) (w2131 b) (w2187 b) (w2243 b) (w2299 b) (w2355 b) (w2411 b) (w2467 b) (w2523 b) (w2553 b) (w2557 b) (w2559 b) (w2560 b) (w2569 b)
def w2588 (b : Blk) : FVec Ideal S12x32 .f32 := k0_pay491 (w1765 b) (w2075 b) (w2131 b) (w2187 b) (w2243 b) (w2299 b) (w2355 b) (w2411 b) (w2467 b) (w2523 b) (w2553 b) (w2557 b) (w2559 b) (w2560 b) (w2569 b)
def w2589 (b : Blk) : FVec Ideal S12x32 .f32 := k0_pay492
def w2590 (b : Blk) : Vec Ideal S1x32x12800 .f32 := b.l2590
def w2591 (b : Blk) : FVec Ideal S32x12800 .f32 := k0_pay493 (w2590 b)
def w2592 (b : Blk) : Vec Ideal S1x12x12800 .f32 := b.l2592
def w2593 (b : Blk) : FVec Ideal S12x12800 .f32 := k0_pay494 (w2592 b)
def w2594 (b : Blk) : FVec Ideal S120x12800 .f32 := k0_pay495 (w1765 b) (w2075 b) (w2131 b) (w2187 b) (w2243 b) (w2299 b) (w2355 b) (w2411 b) (w2467 b) (w2523 b) (w2553 b) (w2557 b) (w2559 b) (w2560 b) (w2569 b) (w2590 b)
def w2596 (b : Blk) : FVec Ideal S120x12800 .f32 := k0_pay496 (w1765 b) (w2075 b) (w2131 b) (w2187 b) (w2243 b) (w2299 b) (w2355 b) (w2411 b) (w2467 b) (w2523 b) (w2553 b) (w2557 b) (w2559 b) (w2560 b) (w2569 b) (w2590 b)
def w2599 (b : Blk) : FVec Ideal S120x12800 .f32 := k0_pay497 (w1765 b) (w2075 b) (w2131 b) (w2187 b) (w2243 b) (w2299 b) (w2355 b) (w2411 b) (w2467 b) (w2523 b) (w2553 b) (w2557 b) (w2559 b) (w2560 b) (w2569 b) (w2590 b)
def w2610 (b : Blk) : Vec Ideal S1x32x12800 .f32 := b.l2610
def w2612 (b : Blk) : Vec Ideal S1x12x12800 .f32 := b.l2612
def w2640 (b : Blk) : Ideal .f32 := k0_pay498 (w2577 b) (w2580 b) (w2588 b) (w2589 b) (w2591 b) (w2593 b) (w2596 b) (w2599 b) (w2610 b) (w2612 b)
def w2641 (b : Blk) : IVec S1x128 32 := iota .tc S1x128 32 [1] iota_S1x128_d1_w32
def w_c0_i32_812 (b : Blk) : BitVec 32 := 0#32
def wOut (b : Blk) : FVec Ideal S1x1x128 .f32 := k0_pay1 (w1701 b) (w1808 b) (w1830 b) (w2019 b) (w2640 b) (w2641 b) (w_c0_i32_812 b)

/-- The loads, as parts of the fifteen input blocks. -/
def Blk.of (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) : Blk where
  l0 := View.ld x3 (Rect.unit (s := S1x12x4) ![0, 0, 0] S1x12x1.size inb_S1x12x4_S1x12x1_0_0_0)
  l2 := View.ld x3 (Rect.unit (s := S1x12x4) ![0, 0, 1] S1x12x1.size inb_S1x12x4_S1x12x1_0_0_1)
  l4 := View.ld x3 (Rect.unit (s := S1x12x4) ![0, 0, 2] S1x12x1.size inb_S1x12x4_S1x12x1_0_0_2)
  l6 := View.ld x3 (Rect.unit (s := S1x12x4) ![0, 0, 3] S1x12x1.size inb_S1x12x4_S1x12x1_0_0_3)
  l16 := View.ld x4 (Rect.unit (s := S1x64x6400) ![0, 0, 0] S1x16x6400.size inb_S1x64x6400_S1x16x6400_0_0_0)
  l33 := View.ld x4 (Rect.unit (s := S1x64x6400) ![0, 16, 0] S1x16x6400.size inb_S1x64x6400_S1x16x6400_0_16_0)
  l50 := View.ld x4 (Rect.unit (s := S1x64x6400) ![0, 32, 0] S1x16x6400.size inb_S1x64x6400_S1x16x6400_0_32_0)
  l67 := View.ld x4 (Rect.unit (s := S1x64x6400) ![0, 48, 0] S1x16x6400.size inb_S1x64x6400_S1x16x6400_0_48_0)
  l13 := View.ld x0 (Rect.unit (s := S8x6400) ![0, 0] S1x6400.size inb_S8x6400_S1x6400_0_0)
  l15 := View.ld x0 (Rect.unit (s := S8x6400) ![2, 0] S1x6400.size inb_S8x6400_S1x6400_2_0)
  l14 := View.ld x0 (Rect.unit (s := S8x6400) ![1, 0] S1x6400.size inb_S8x6400_S1x6400_1_0)
  l92 := View.ld x7 (Rect.unit (s := S1x1x6400) ![0, 0, 0] S1x1x6400.size inb_S1x1x6400_S1x1x6400_0_0_0)
  l152 := View.ld x5 (Rect.unit (s := S1x64x1600) ![0, 0, 0] S1x16x1600.size inb_S1x64x1600_S1x16x1600_0_0_0)
  l169 := View.ld x5 (Rect.unit (s := S1x64x1600) ![0, 16, 0] S1x16x1600.size inb_S1x64x1600_S1x16x1600_0_16_0)
  l186 := View.ld x5 (Rect.unit (s := S1x64x1600) ![0, 32, 0] S1x16x1600.size inb_S1x64x1600_S1x16x1600_0_32_0)
  l203 := View.ld x5 (Rect.unit (s := S1x64x1600) ![0, 48, 0] S1x16x1600.size inb_S1x64x1600_S1x16x1600_0_48_0)
  l149 := View.ld x1 (Rect.unit (s := S8x1600) ![0, 0] S1x1600.size inb_S8x1600_S1x1600_0_0)
  l151 := View.ld x1 (Rect.unit (s := S8x1600) ![2, 0] S1x1600.size inb_S8x1600_S1x1600_2_0)
  l150 := View.ld x1 (Rect.unit (s := S8x1600) ![1, 0] S1x1600.size inb_S8x1600_S1x1600_1_0)
  l228 := View.ld x8 (Rect.unit (s := S1x1x1600) ![0, 0, 0] S1x1x1600.size inb_S1x1x1600_S1x1x1600_0_0_0)
  l288 := View.ld x6 (Rect.unit (s := S1x64x400) ![0, 0, 0] S1x16x400.size inb_S1x64x400_S1x16x400_0_0_0)
  l305 := View.ld x6 (Rect.unit (s := S1x64x400) ![0, 16, 0] S1x16x400.size inb_S1x64x400_S1x16x400_0_16_0)
  l322 := View.ld x6 (Rect.unit (s := S1x64x400) ![0, 32, 0] S1x16x400.size inb_S1x64x400_S1x16x400_0_32_0)
  l339 := View.ld x6 (Rect.unit (s := S1x64x400) ![0, 48, 0] S1x16x400.size inb_S1x64x400_S1x16x400_0_48_0)
  l285 := View.ld x2 (Rect.unit (s := S8x400) ![0, 0] S1x400.size inb_S8x400_S1x400_0_0)
  l287 := View.ld x2 (Rect.unit (s := S8x400) ![2, 0] S1x400.size inb_S8x400_S1x400_2_0)
  l286 := View.ld x2 (Rect.unit (s := S8x400) ![1, 0] S1x400.size inb_S8x400_S1x400_1_0)
  l364 := View.ld x9 (Rect.unit (s := S1x1x400) ![0, 0, 0] S1x1x400.size inb_S1x1x400_S1x1x400_0_0_0)
  l1131 := View.ld x7 (Rect.unit (s := S1x1x6400) ![0, 0, 0] S1x1x6400.size inb_S1x1x6400_S1x1x6400_0_0_0)
  l1182 := View.ld x4 (Rect.unit (s := S1x64x6400) ![0, 0, 0] S1x16x6400.size inb_S1x64x6400_S1x16x6400_0_0_0)
  l1227 := View.ld x4 (Rect.unit (s := S1x64x6400) ![0, 16, 0] S1x16x6400.size inb_S1x64x6400_S1x16x6400_0_16_0)
  l1272 := View.ld x4 (Rect.unit (s := S1x64x6400) ![0, 32, 0] S1x16x6400.size inb_S1x64x6400_S1x16x6400_0_32_0)
  l1317 := View.ld x4 (Rect.unit (s := S1x64x6400) ![0, 48, 0] S1x16x6400.size inb_S1x64x6400_S1x16x6400_0_48_0)
  l1470 := View.ld x8 (Rect.unit (s := S1x1x1600) ![0, 0, 0] S1x1x1600.size inb_S1x1x1600_S1x1x1600_0_0_0)
  l1521 := View.ld x5 (Rect.unit (s := S1x64x1600) ![0, 0, 0] S1x16x1600.size inb_S1x64x1600_S1x16x1600_0_0_0)
  l1566 := View.ld x5 (Rect.unit (s := S1x64x1600) ![0, 16, 0] S1x16x1600.size inb_S1x64x1600_S1x16x1600_0_16_0)
  l1611 := View.ld x5 (Rect.unit (s := S1x64x1600) ![0, 32, 0] S1x16x1600.size inb_S1x64x1600_S1x16x1600_0_32_0)
  l1656 := View.ld x5 (Rect.unit (s := S1x64x1600) ![0, 48, 0] S1x16x1600.size inb_S1x64x1600_S1x16x1600_0_48_0)
  l1809 := View.ld x9 (Rect.unit (s := S1x1x400) ![0, 0, 0] S1x1x400.size inb_S1x1x400_S1x1x400_0_0_0)
  l1860 := View.ld x6 (Rect.unit (s := S1x64x400) ![0, 0, 0] S1x16x400.size inb_S1x64x400_S1x16x400_0_0_0)
  l1905 := View.ld x6 (Rect.unit (s := S1x64x400) ![0, 16, 0] S1x16x400.size inb_S1x64x400_S1x16x400_0_16_0)
  l1950 := View.ld x6 (Rect.unit (s := S1x64x400) ![0, 32, 0] S1x16x400.size inb_S1x64x400_S1x16x400_0_32_0)
  l1995 := View.ld x6 (Rect.unit (s := S1x64x400) ![0, 48, 0] S1x16x400.size inb_S1x64x400_S1x16x400_0_48_0)
  l2034 := View.ld x10 (Rect.unit (s := S1x32x6400) ![0, 0, 0] S1x32x6400.size inb_S1x32x6400_S1x32x6400_0_0_0)
  l2050 := View.ld x11 (Rect.unit (s := S1x32x1600) ![0, 0, 0] S1x32x1600.size inb_S1x32x1600_S1x32x1600_0_0_0)
  l2065 := View.ld x12 (Rect.unit (s := S1x32x400) ![0, 0, 0] S1x32x400.size inb_S1x32x400_S1x32x400_0_0_0)
  l2090 := View.ld x10 (Rect.unit (s := S1x32x6400) ![0, 0, 0] S1x32x6400.size inb_S1x32x6400_S1x32x6400_0_0_0)
  l2106 := View.ld x11 (Rect.unit (s := S1x32x1600) ![0, 0, 0] S1x32x1600.size inb_S1x32x1600_S1x32x1600_0_0_0)
  l2121 := View.ld x12 (Rect.unit (s := S1x32x400) ![0, 0, 0] S1x32x400.size inb_S1x32x400_S1x32x400_0_0_0)
  l2146 := View.ld x10 (Rect.unit (s := S1x32x6400) ![0, 0, 0] S1x32x6400.size inb_S1x32x6400_S1x32x6400_0_0_0)
  l2162 := View.ld x11 (Rect.unit (s := S1x32x1600) ![0, 0, 0] S1x32x1600.size inb_S1x32x1600_S1x32x1600_0_0_0)
  l2177 := View.ld x12 (Rect.unit (s := S1x32x400) ![0, 0, 0] S1x32x400.size inb_S1x32x400_S1x32x400_0_0_0)
  l2202 := View.ld x10 (Rect.unit (s := S1x32x6400) ![0, 0, 0] S1x32x6400.size inb_S1x32x6400_S1x32x6400_0_0_0)
  l2218 := View.ld x11 (Rect.unit (s := S1x32x1600) ![0, 0, 0] S1x32x1600.size inb_S1x32x1600_S1x32x1600_0_0_0)
  l2233 := View.ld x12 (Rect.unit (s := S1x32x400) ![0, 0, 0] S1x32x400.size inb_S1x32x400_S1x32x400_0_0_0)
  l2258 := View.ld x10 (Rect.unit (s := S1x32x6400) ![0, 0, 0] S1x32x6400.size inb_S1x32x6400_S1x32x6400_0_0_0)
  l2274 := View.ld x11 (Rect.unit (s := S1x32x1600) ![0, 0, 0] S1x32x1600.size inb_S1x32x1600_S1x32x1600_0_0_0)
  l2289 := View.ld x12 (Rect.unit (s := S1x32x400) ![0, 0, 0] S1x32x400.size inb_S1x32x400_S1x32x400_0_0_0)
  l2314 := View.ld x10 (Rect.unit (s := S1x32x6400) ![0, 0, 0] S1x32x6400.size inb_S1x32x6400_S1x32x6400_0_0_0)
  l2330 := View.ld x11 (Rect.unit (s := S1x32x1600) ![0, 0, 0] S1x32x1600.size inb_S1x32x1600_S1x32x1600_0_0_0)
  l2345 := View.ld x12 (Rect.unit (s := S1x32x400) ![0, 0, 0] S1x32x400.size inb_S1x32x400_S1x32x400_0_0_0)
  l2370 := View.ld x10 (Rect.unit (s := S1x32x6400) ![0, 0, 0] S1x32x6400.size inb_S1x32x6400_S1x32x6400_0_0_0)
  l2386 := View.ld x11 (Rect.unit (s := S1x32x1600) ![0, 0, 0] S1x32x1600.size inb_S1x32x1600_S1x32x1600_0_0_0)
  l2401 := View.ld x12 (Rect.unit (s := S1x32x400) ![0, 0, 0] S1x32x400.size inb_S1x32x400_S1x32x400_0_0_0)
  l2426 := View.ld x10 (Rect.unit (s := S1x32x6400) ![0, 0, 0] S1x32x6400.size inb_S1x32x6400_S1x32x6400_0_0_0)
  l2442 := View.ld x11 (Rect.unit (s := S1x32x1600) ![0, 0, 0] S1x32x1600.size inb_S1x32x1600_S1x32x1600_0_0_0)
  l2457 := View.ld x12 (Rect.unit (s := S1x32x400) ![0, 0, 0] S1x32x400.size inb_S1x32x400_S1x32x400_0_0_0)
  l2482 := View.ld x10 (Rect.unit (s := S1x32x6400) ![0, 0, 0] S1x32x6400.size inb_S1x32x6400_S1x32x6400_0_0_0)
  l2498 := View.ld x11 (Rect.unit (s := S1x32x1600) ![0, 0, 0] S1x32x1600.size inb_S1x32x1600_S1x32x1600_0_0_0)
  l2513 := View.ld x12 (Rect.unit (s := S1x32x400) ![0, 0, 0] S1x32x400.size inb_S1x32x400_S1x32x400_0_0_0)
  l2538 := View.ld x10 (Rect.unit (s := S1x32x6400) ![0, 0, 0] S1x32x6400.size inb_S1x32x6400_S1x32x6400_0_0_0)
  l2554 := View.ld x11 (Rect.unit (s := S1x32x1600) ![0, 0, 0] S1x32x1600.size inb_S1x32x1600_S1x32x1600_0_0_0)
  l2569 := View.ld x12 (Rect.unit (s := S1x32x400) ![0, 0, 0] S1x32x400.size inb_S1x32x400_S1x32x400_0_0_0)
  l2590 := View.ld x13 (Rect.unit (s := S1x32x25600) ![0, 0, 0] S1x32x12800.size inb_S1x32x25600_S1x32x12800_0_0_0)
  l2592 := View.ld x14 (Rect.unit (s := S1x12x25600) ![0, 0, 0] S1x12x12800.size inb_S1x12x25600_S1x12x12800_0_0_0)
  l2610 := View.ld x13 (Rect.unit (s := S1x32x25600) ![0, 0, 12800] S1x32x12800.size inb_S1x32x25600_S1x32x12800_0_0_12800)
  l2612 := View.ld x14 (Rect.unit (s := S1x12x25600) ![0, 0, 12800] S1x12x12800.size inb_S1x12x25600_S1x12x12800_0_0_12800)

end Cert.KernelIdeal.Gen

end
-- ==== Proof.Select.lean ====
/- The selection of the ten largest metrics of a ground truth, as positions in the order "larger first, ties to the
   smaller position": what one round of the kernel's search finds, and the sum over the first places of a sorted 0/1
   vector. Nothing here mentions a program. -/
module

public import Idealize.ShloMosaic.Lib.SortFacts
public import Idealize.ShloMosaic.Lib.Pointwise

@[expose] public section

noncomputable section

namespace Cert.Sel

open Idealize.ShloMosaic

/-- Larger values first. -/
def gtB {n : ℕ} (M : Fin n → EReal) : Fin n → Fin n → Bool := fun a b => decide (M b < M a)

/-- Larger values first, equal values by position. -/
def lexB {n : ℕ} (M : Fin n → EReal) : Fin n → Fin n → Bool := fun a b => decide (M b < M a ∨ (M a = M b ∧ a < b))

/-- Two relations that agree on every pair taken against the list's order sort the list alike. -/
theorem stableSort_congr_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sortedFrom_gtB {n : ℕ} (M : Fin n → EReal) : sortedFrom (gtB M) = sortedFrom (lexB M) := by
  have h : sortPositions n (gtB M) = sortPositions n (lexB M) := by
    refine stableSort_congr_pairwise _ _ _ ((List.pairwise_lt_finRange n).imp ?_)
    intro a b hab
    have hn : ¬ b < a := not_lt.mpr hab.le
    simp [gtB, lexB, hn]
  funext k
  unfold sortedFrom
  rw [List.get_of_eq h]
  rfl

/-- The position of the `k`-th largest value. -/
def sg {n : ℕ} (M : Fin n → EReal) (k : Fin n) : Fin n := sortedFrom (gtB M) k

theorem sg_inj {n : ℕ} (M : Fin n → EReal) : Function.Injective (sg M) := sortedFrom_injective _

theorem sg_surj {n : ℕ} (M : Fin n → EReal) : Function.Surjective (sg M) := sortedFrom_surjective _

theorem lexB_total {n : ℕ} (M : Fin n → EReal) {a b : Fin n} (h : lexB M b a = false) (hab : a ≠ b) :
    M b < M a ∨ (M a = M b ∧ a < b) := by
  simp only [lexB, decide_eq_false_iff_not, not_or, not_and, not_lt] at h
  rcases lt_or_eq_of_le h.1 with h1 | h1
  · exact .inl h1
  · exact .inr ⟨h1.symm, lt_of_le_of_ne (h.2 h1) hab⟩

theorem sg_lt {n : ℕ} (M : Fin n → EReal) {i j : Fin n} (hij : i < j) :
    M (sg M j) < M (sg M i) ∨ (M (sg M i) = M (sg M j) ∧ sg M i < sg M j) := by
  have h : lexB M (sg M j) (sg M i) = false := by
    unfold sg
    rw [sortedFrom_gtB]
    refine sortedFrom_noInversion (lexB M) (lexB M) ?_ ?_ ?_ i j hij
    · intro a b h
      simp only [lexB, decide_eq_true_eq] at h
      simp only [lexB, decide_eq_false_iff_not, not_or, not_and, not_lt]
      rcases h with h | ⟨h, h'⟩
      · exact ⟨h.le, fun e => absurd h (by rw [e]; exact lt_irrefl _)⟩
      · exact ⟨h.ge, fun _ => h'.le⟩
    · intro a b h; exact h
    · intro a b c h h'
      simp only [lexB, decide_eq_false_iff_not, not_or, not_and, not_lt] at h h' ⊢
      refine ⟨h.1.trans h'.1, fun e => ?_⟩
      have e1 : M a = M b := le_antisymm h.1 (e ▸ h'.1)
      have e2 : M b = M c := le_antisymm h'.1 (e ▸ h.1)
      exact (h'.2 e2).trans (h.2 e1)
  exact lexB_total M h fun e => hij.ne (sg_inj M e)

theorem sg_le {n : ℕ} (M : Fin n → EReal) {i j : Fin n} (hij : i ≤ j) : M (sg M j) ≤ M (sg M i) := by
  rcases hij.lt_or_eq with h | h
  · rcases sg_lt M h with h | h
    · exact h.le
    · exact h.1.ge
  · rw [h]

/-- One round's candidates: the values below the last one found, and those equal to it behind its place. -/
def cand {n : ℕ} (M : Fin n → EReal) (pv : EReal) (P : Fin n → Prop) [DecidablePred P] (a : Fin n) : EReal :=
  if M a < pv ∨ (M a = pv ∧ P a) then M a else -1

theorem neg_one_lt {x : EReal} (h : 0 ≤ x) : (-1 : EReal) < x :=
  lt_of_lt_of_le (by rw [← EReal.coe_one, ← EReal.coe_neg, ← EReal.coe_zero, EReal.coe_lt_coe_iff]; norm_num) h

theorem cand_step {n : ℕ} (M : Fin n → EReal) (hM : ∀ a, 0 ≤ M a) (k k' : Fin n) (hk : k'.val = k.val + 1) :
    (∀ a, cand M (M (sg M k)) (fun a => sg M k < a) a ≤ M (sg M k')) ∧
    cand M (M (sg M k)) (fun a => sg M k < a) (sg M k') = M (sg M k') ∧
    ∀ a, cand M (M (sg M k)) (fun a => sg M k < a) a = M (sg M k') → sg M k' ≤ a := by
  have hkk : k < k' := by rw [Fin.lt_def]; omega
  have key : ∀ a, (M a < M (sg M k) ∨ (M a = M (sg M k) ∧ sg M k < a)) → ∃ j, k' ≤ j ∧ sg M j = a := by
    intro a h
    obtain ⟨j, rfl⟩ := sg_surj M a
    refine ⟨j, ?_, rfl⟩
    by_contra hj
    have hjk : j ≤ k := by rw [Fin.le_def] at *; omega
    rcases h with h | ⟨h, h'⟩
    · exact absurd (sg_le M hjk) (not_le.mpr h)
    · rcases hjk.lt_or_eq with hl | hl
      · rcases sg_lt M hl with g | g
        · exact absurd h g.ne'
        · exact absurd h' (not_lt.mpr g.2.le)
      · subst hl; exact lt_irrefl _ h'
  refine ⟨fun a => ?_, ?_, fun a h => ?_⟩
  · unfold cand
    split
    · next h => obtain ⟨j, hj, rfl⟩ := key a h; exact sg_le M hj
    · exact (neg_one_lt (hM _)).le
  · unfold cand
    rw [if_pos]
    rcases sg_lt M hkk with g | g
    · exact .inl g
    · exact .inr ⟨g.1.symm, g.2⟩
  · unfold cand at h
    split at h
    · next h' =>
      obtain ⟨j, hj, rfl⟩ := key a h'
      rcases hj.lt_or_eq with hl | hl
      · rcases sg_lt M hl with g | g
        · exact absurd h g.ne
        · exact g.2.le
      · rw [hl]
    · exact absurd h (neg_one_lt (hM _)).ne

theorem top_step {n : ℕ} (M : Fin n → EReal) (k' : Fin n) (hk : k'.val = 0) :
    (∀ a, M a ≤ M (sg M k')) ∧ ∀ a, M a = M (sg M k') → sg M k' ≤ a := by
  refine ⟨fun a => ?_, fun a h => ?_⟩
  · obtain ⟨j, rfl⟩ := sg_surj M a
    exact sg_le M (by rw [Fin.le_def]; omega)
  · obtain ⟨j, rfl⟩ := sg_surj M a
    rcases (show k' ≤ j by rw [Fin.le_def]; omega).lt_or_eq with hl | hl
    · rcases sg_lt M hl with g | g
      · exact absurd h g.ne
      · exact g.2.le
    · rw [hl]

/-- The places up to `k` are the values above the `k`-th one and those equal to it not behind its place. -/
theorem sg_prefix {n : ℕ} (M : Fin n → EReal) (k a : Fin n) :
    (M (sg M k) < M a ∨ (M a = M (sg M k) ∧ a ≤ sg M k)) ↔ ∃ j, j ≤ k ∧ sg M j = a := by
  obtain ⟨i, rfl⟩ := sg_surj M a
  constructor
  · intro h
    refine ⟨i, ?_, rfl⟩
    by_contra hik
    rcases sg_lt M (not_le.mp hik) with g | g
    · rcases h with h | h
      · exact absurd g (not_lt.mpr h.le)
      · exact absurd h.1 g.ne
    · rcases h with h | h
      · exact absurd g.1 h.ne
      · exact absurd h.2 (not_le.mpr g.2)
  · rintro ⟨j, hj, e⟩
    have := sg_inj M e
    subst this
    rcases hj.lt_or_eq with hl | hl
    · rcases sg_lt M hl with g | g
      · exact .inl g
      · exact .inr ⟨g.1, g.2.le⟩
    · rw [hl]; exact .inr ⟨rfl, le_refl _⟩

/-! ## A 0/1 vector sorted, ones first -/

/-- A predicate as a value. -/
def ind {n : ℕ} (w : Fin n → Prop) [DecidablePred w] (a : Fin n) : EReal := if w a then 1 else 0

theorem ind_first {n : ℕ} (w : Fin n → Prop) [DecidablePred w] {i j : Fin n} (hij : i ≤ j)
    (h : w (sg (ind w) j)) : w (sg (ind w) i) := by
  have := sg_le (ind w) hij
  by_contra hn
  simp only [ind, if_pos h, if_neg hn] at this
  exact absurd this (not_le.mpr (by rw [← EReal.coe_one, ← EReal.coe_zero, EReal.coe_lt_coe_iff]; norm_num))

/-- Where at most `m` positions hold, the first `m` places of the sorted vector carry every one of them. -/
theorem sum_first {n m : ℕ} (hmn : m ≤ n) (w : Fin n → Prop) [DecidablePred w] (f : Fin m → Fin n)
    (hf : ∀ a, w a → ∃ q, f q = a) {β : Type} [AddCommMonoid β] (G : Fin n → β) :
    (∑ j : Fin m, if w (sg (ind w) (j.castLE hmn)) then G (sg (ind w) (j.castLE hmn)) else 0)
      = ∑ a, if w a then G a else 0 := by
  classical
  have hb : (∑ a, if w a then G a else 0) = ∑ i, if w (sg (ind w) i) then G (sg (ind w) i) else 0 :=
    (Equiv.sum_comp (Equiv.ofBijective _ ⟨sg_inj (ind w), sg_surj (ind w)⟩) fun a => if w a then G a else 0).symm
  rw [hb]
  have hz : ∀ i : Fin n, m ≤ i.val → ¬ w (sg (ind w) i) := by
    intro i hi h
    have hall : ∀ j : Fin (m + 1), w (sg (ind w) (j.castLE (by omega))) := fun j =>
      ind_first w (i := j.castLE (by omega)) (j := i) (by rw [Fin.le_def]; simp; omega) h
    choose q hq using fun j => hf _ (hall j)
    have hinj : Function.Injective q := by
      intro a b e
      have := (hq a).symm.trans ((congrArg f e).trans (hq b))
      have := sg_inj (ind w) this
      exact Fin.castLE_injective _ this
    have := Fintype.card_le_of_injective q hinj
    simp at this
  have := Finset.sum_map Finset.univ (Fin.castLEEmb hmn)
    (fun i => if w (sg (ind w) i) then G (sg (ind w) i) else 0)
  simp only [Fin.castLEEmb_apply] at this
  rw [← this]
  refine Finset.sum_subset (Finset.subset_univ _) fun i _ hi => ?_
  rw [if_neg]
  refine hz i ?_
  by_contra hlt
  refine hi (Finset.mem_map.mpr ⟨⟨i.val, not_le.mp hlt⟩, Finset.mem_univ _, ?_⟩)
  ext; simp

/-! ## The three levels' positions -/

def e0 (x : Fin 6400) : Fin 8400 := ⟨x.val, by omega⟩
def e1 (x : Fin 1600) : Fin 8400 := ⟨x.val + 6400, by omega⟩
def e2 (x : Fin 400) : Fin 8400 := ⟨x.val + 8000, by omega⟩

theorem level_cases (a : Fin 8400) : (∃ x, e0 x = a) ∨ (∃ x, e1 x = a) ∨ ∃ x, e2 x = a := by
  by_cases h0 : a.val < 6400
  · exact .inl ⟨⟨a.val, h0⟩, rfl⟩
  · by_cases h1 : a.val < 8000
    · exact .inr (.inl ⟨⟨a.val - 6400, by omega⟩, by ext; simp [e1]; omega⟩)
    · exact .inr (.inr ⟨⟨a.val - 8000, by omega⟩, by ext; simp [e2]; omega⟩)

theorem sum_levels {β : Type} [AddCommMonoid β] (F : Fin 8400 → β) :
    ∑ a, F a = ((∑ x, F (e0 x)) + ∑ x, F (e1 x)) + ∑ x, F (e2 x) := by
  have h1 := Fin.sum_univ_add (a := 8000) (b := 400) F
  have h2 := Fin.sum_univ_add (a := 6400) (b := 1600) fun i => F (Fin.castAdd 400 i)
  rw [h1, h2]
  refine congrArg₂ _ (congrArg₂ _ (Finset.sum_congr rfl fun x _ => congrArg F ?_) (Finset.sum_congr rfl fun x _ => congrArg F ?_)) (Finset.sum_congr rfl fun x _ => congrArg F ?_)
  · ext; simp [e0]
  · ext; simp [e1]; omega
  · ext; simp [e2]; omega

def mx3 (f : Fin 6400 → EReal) (g : Fin 1600 → EReal) (h : Fin 400 → EReal) : EReal :=
  max (max (Finset.fold max (Ideal.ofBits FTy.f32 4286578688#32) f Finset.univ)
    (Finset.fold max (Ideal.ofBits FTy.f32 4286578688#32) g Finset.univ))
    (Finset.fold max (Ideal.ofBits FTy.f32 4286578688#32) h Finset.univ)

theorem ninf : Ideal.ofBits FTy.f32 4286578688#32 = ⊥ := by
  simp [Ideal.ofBits, Ideal.ieee, -EReal.coe_mul]
theorem pinf : Ideal.ofBits FTy.f32 2139095040#32 = ⊤ := by
  simp [Ideal.ofBits, Ideal.ieee, -EReal.coe_mul]
theorem neg1 : Ideal.ofBits FTy.f32 3212836864#32 = -1 := by
  simp [Ideal.ofBits, Ideal.ieee, -EReal.coe_mul]; norm_num

theorem mx3_eq (F : Fin 8400 → EReal) (v : EReal) (hle : ∀ a, F a ≤ v) (a : Fin 8400) (ha : F a = v) :
    mx3 (fun x => F (e0 x)) (fun x => F (e1 x)) (fun x => F (e2 x)) = v := by
  unfold mx3
  rw [ninf]
  have up : ∀ (n : ℕ) (e : Fin n → Fin 8400), Finset.fold max ⊥ (fun x => F (e x)) Finset.univ ≤ v := fun n e =>
    (Finset.fold_max_le v).mpr ⟨bot_le, fun x _ => hle _⟩
  have lo : ∀ (n : ℕ) (e : Fin n → Fin 8400) (x : Fin n), e x = a → v ≤ Finset.fold max ⊥ (fun x => F (e x)) Finset.univ :=
    fun n e x h => (Finset.le_fold_max v).mpr (.inr ⟨x, Finset.mem_univ _, by rw [h, ha]⟩)
  refine le_antisymm (max_le (max_le (up _ _) (up _ _)) (up _ _)) ?_
  rcases level_cases a with ⟨x, h⟩ | ⟨x, h⟩ | ⟨x, h⟩
  · exact (lo _ _ x h).trans ((le_max_left _ _).trans (le_max_left _ _))
  · exact (lo _ _ x h).trans ((le_max_right _ _).trans (le_max_left _ _))
  · exact (lo _ _ x h).trans (le_max_right _ _)

theorem toInt_small {n : ℕ} (h : n < 8401) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega

theorem minsi_toInt (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

def mn3 (f : Fin 6400 → BitVec 32) (g : Fin 1600 → BitVec 32) (h : Fin 400 → BitVec 32) : BitVec 32 :=
  IntOp.minsi (IntOp.minsi (Finset.fold IntOp.minsi 2147483647#32 f Finset.univ)
    (Finset.fold IntOp.minsi 2147483647#32 g Finset.univ))
    (Finset.fold IntOp.minsi 2147483647#32 h Finset.univ)

theorem mn3_eq (F : Fin 8400 → BitVec 32) (a : Fin 8400) (hle : ∀ b, (a.val : ℤ) ≤ (F b).toInt)
    (ha : F a = BitVec.ofNat 32 a.val) :
    mn3 (fun x => F (e0 x)) (fun x => F (e1 x)) (fun x => F (e2 x)) = BitVec.ofNat 32 a.val := by
  apply BitVec.eq_of_toInt_eq
  unfold mn3
  rw [minsi_toInt, minsi_toInt, toInt_small (by omega)]
  simp only [← Finset.fold_hom minsi_toInt]
  have hm : (a.val : ℤ) ≤ (2147483647#32).toInt := by
    have : (2147483647#32).toInt = 2147483647 := by decide
    rw [this]; omega
  have lo : ∀ (n : ℕ) (e : Fin n → Fin 8400), (a.val : ℤ) ≤ Finset.fold min (2147483647#32).toInt (fun x => (F (e x)).toInt) Finset.univ :=
    fun n e => (Finset.le_fold_min _).mpr ⟨hm, fun x _ => hle _⟩
  have up : ∀ (n : ℕ) (e : Fin n → Fin 8400) (x : Fin n), e x = a →
      Finset.fold min (2147483647#32).toInt (fun x => (F (e x)).toInt) Finset.univ ≤ (a.val : ℤ) :=
    fun n e x h => (Finset.fold_min_le _).mpr (.inr ⟨x, Finset.mem_univ _, by rw [h, ha, toInt_small (by omega)]⟩)
  refine le_antisymm ?_ (le_min (le_min (lo _ _) (lo _ _)) (lo _ _))
  rcases level_cases a with ⟨x, h⟩ | ⟨x, h⟩ | ⟨x, h⟩
  · exact (min_le_left _ _).trans ((min_le_left _ _).trans (up _ _ x h))
  · exact (min_le_left _ _).trans ((min_le_right _ _).trans (up _ _ x h))
  · exact (min_le_right _ _).trans (up _ _ x h)

/-! ## One round of the kernel's search -/

/-- A candidate value as the kernel selects it. -/
def emK (m : EReal) (gi : BitVec 32) (pv : EReal) (pi : BitVec 32) : EReal :=
  Scalar.select (IntOp.ori (BitVec.ofBool (decide (m < pv)))
    (IntOp.andi (BitVec.ofBool (decide (m = pv))) (IntOp.cmpi CmpIPredicate.sgt gi pi))) m
    (Ideal.ofBits FTy.f32 3212836864#32)

def mxK (m0 : Fin 6400 → EReal) (m1 : Fin 1600 → EReal) (m2 : Fin 400 → EReal) (pv : EReal) (pi : BitVec 32) : EReal :=
  mx3 (fun x => emK (m0 x) (BitVec.ofNat 32 x.val) pv pi)
    (fun x => emK (m1 x) (IntOp.addi (BitVec.ofNat 32 x.val) 6400#32) pv pi)
    (fun x => emK (m2 x) (IntOp.addi (BitVec.ofNat 32 x.val) 8000#32) pv pi)

def piK (m0 : Fin 6400 → EReal) (m1 : Fin 1600 → EReal) (m2 : Fin 400 → EReal) (pv : EReal) (pi : BitVec 32)
    (mx : EReal) : BitVec 32 :=
  mn3 (fun x => if emK (m0 x) (BitVec.ofNat 32 x.val) pv pi = mx then BitVec.ofNat 32 x.val else 8400#32)
    (fun x => if emK (m1 x) (IntOp.addi (BitVec.ofNat 32 x.val) 6400#32) pv pi = mx then
      IntOp.addi (BitVec.ofNat 32 x.val) 6400#32 else 8400#32)
    (fun x => if emK (m2 x) (IntOp.addi (BitVec.ofNat 32 x.val) 8000#32) pv pi = mx then
      IntOp.addi (BitVec.ofNat 32 x.val) 8000#32 else 8400#32)

theorem gi1 (x : Fin 1600) : IntOp.addi (BitVec.ofNat 32 x.val) 6400#32 = BitVec.ofNat 32 (e1 x).val := by
  simp [IntOp.addi, e1, BitVec.ofNat_add]
theorem gi2 (x : Fin 400) : IntOp.addi (BitVec.ofNat 32 x.val) 8000#32 = BitVec.ofNat 32 (e2 x).val := by
  simp [IntOp.addi, e2, BitVec.ofNat_add]

theorem sgt_ofNat {a b : ℕ} (ha : a < 8401) (hb : b < 8401) :
    IntOp.cmpi CmpIPredicate.sgt (BitVec.ofNat 32 a) (BitVec.ofNat 32 b) = BitVec.ofBool (decide (b < a)) := by
  simp only [IntOp.cmpi]
  congr 1
  rw [Bool.eq_iff_iff]
  simp only [decide_eq_true_eq, BitVec.slt_iff_toInt_lt, toInt_small ha, toInt_small hb]
  omega

theorem sgt_neg {a : ℕ} (ha : a < 8401) :
    IntOp.cmpi CmpIPredicate.sgt (BitVec.ofNat 32 a) 4294967295#32 = 1#1 := by
  simp only [IntOp.cmpi]
  have : (4294967295#32).toInt = -1 := by decide
  have h : (4294967295#32).slt (BitVec.ofNat 32 a) = true := by
    rw [BitVec.slt_iff_toInt_lt, toInt_small ha, this]; omega
  rw [h]; rfl

theorem emK_cand {n : ℕ} (hn : n < 8401) (M : Fin n → EReal) (s a : Fin n) :
    emK (M a) (BitVec.ofNat 32 a.val) (M s) (BitVec.ofNat 32 s.val) = cand M (M s) (fun a => s < a) a := by
  unfold emK cand
  rw [sgt_ofNat (by omega) (by omega), neg1]
  by_cases h1 : M a < M s <;> by_cases h2 : M a = M s <;> by_cases h3 : s < a <;>
    simp [h1, h2, h3, Scalar.select, IntOp.ori, IntOp.andi, Fin.lt_def.symm]

theorem emK_first {a : ℕ} (ha : a < 8401) (m : EReal) :
    emK m (BitVec.ofNat 32 a) (Ideal.ofBits FTy.f32 2139095040#32) 4294967295#32 = m := by
  unfold emK
  rw [sgt_neg ha, pinf]
  by_cases h2 : m = ⊤
  · simp [h2, Scalar.select, IntOp.ori, IntOp.andi]
  · simp [h2, Scalar.select, IntOp.ori, IntOp.andi, lt_top_iff_ne_top]

/-- A round that starts at the `k`-th place finds the next one. -/
theorem roundK (M : Fin 8400 → EReal) (hM : ∀ a, 0 ≤ M a) (k k' : Fin 8400) (hk : k'.val = k.val + 1) :
    mxK (fun x => M (e0 x)) (fun x => M (e1 x)) (fun x => M (e2 x)) (M (sg M k)) (BitVec.ofNat 32 (sg M k).val)
      = M (sg M k') ∧
    piK (fun x => M (e0 x)) (fun x => M (e1 x)) (fun x => M (e2 x)) (M (sg M k)) (BitVec.ofNat 32 (sg M k).val)
      (M (sg M k')) = BitVec.ofNat 32 (sg M k').val := by
  obtain ⟨h1, h2, h3⟩ := cand_step M hM k k' hk
  have key : ∀ a : Fin 8400, emK (M a) (BitVec.ofNat 32 a.val) (M (sg M k)) (BitVec.ofNat 32 (sg M k).val)
    = cand M (M (sg M k)) (fun a => sg M k < a) a := fun a => emK_cand (by omega) M (sg M k) a
  constructor
  · unfold mxK
    simp only [gi1, gi2]
    exact mx3_eq (fun a => emK (M a) (BitVec.ofNat 32 a.val) (M (sg M k)) (BitVec.ofNat 32 (sg M k).val)) _
      (fun a => by rw [key]; exact h1 a) (sg M k') (by rw [key]; exact h2)
  · unfold piK
    simp only [gi1, gi2]
    refine mn3_eq (fun a => if emK (M a) (BitVec.ofNat 32 a.val) (M (sg M k)) (BitVec.ofNat 32 (sg M k).val) = M (sg M k')
      then BitVec.ofNat 32 a.val else 8400#32) (sg M k') (fun b => ?_) ?_
    · simp only [key]
      split
      · next h => rw [toInt_small (by omega)]; exact_mod_cast h3 b h
      · rw [toInt_small (by omega)]; have := (sg M k').isLt; push_cast; omega
    · simp only [key, h2, if_true]

/-- The first round finds the first place. -/
theorem roundK_first (M : Fin 8400 → EReal) (k' : Fin 8400) (hk : k'.val = 0) :
    mxK (fun x => M (e0 x)) (fun x => M (e1 x)) (fun x => M (e2 x)) (Ideal.ofBits FTy.f32 2139095040#32) 4294967295#32
      = M (sg M k') ∧
    piK (fun x => M (e0 x)) (fun x => M (e1 x)) (fun x => M (e2 x)) (Ideal.ofBits FTy.f32 2139095040#32) 4294967295#32
      (M (sg M k')) = BitVec.ofNat 32 (sg M k').val := by
  obtain ⟨h1, h3⟩ := top_step M k' hk
  have key : ∀ a : Fin 8400, emK (M a) (BitVec.ofNat 32 a.val) (Ideal.ofBits FTy.f32 2139095040#32) 4294967295#32
    = M a := fun a => emK_first (by omega) (M a)
  constructor
  · unfold mxK
    simp only [gi1, gi2]
    exact mx3_eq (fun a => emK (M a) (BitVec.ofNat 32 a.val) (Ideal.ofBits FTy.f32 2139095040#32) 4294967295#32) _
      (fun a => by rw [key]; exact h1 a) (sg M k') (by rw [key])
  · unfold piK
    simp only [gi1, gi2]
    refine mn3_eq (fun a => if emK (M a) (BitVec.ofNat 32 a.val) (Ideal.ofBits FTy.f32 2139095040#32) 4294967295#32
      = M (sg M k') then BitVec.ofNat 32 a.val else 8400#32) (sg M k') (fun b => ?_) ?_
    · simp only [key]
      split
      · next h => rw [toInt_small (by omega)]; exact_mod_cast h3 b h
      · rw [toInt_small (by omega)]; have := (sg M k').isLt; push_cast; omega
    · simp only [key, if_true]

end Cert.Sel

end
-- ==== Proof.Scal.lean ====
module

public import proofs.«01_k».proof.Proof.Select
public import Idealize.ShloMosaic.Lib.Pointwise

/-!
The scalar functions that both sides compute: the expected distance of sixteen logits, the intersection over union of
two boxes, and the alignment metric of one box and one anchor.
-/

@[expose] public section

noncomputable section

namespace Cert.Sel
open Idealize.ShloMosaic

/-- The greatest of sixteen logits. -/
def smx (f : Fin 16 → EReal) : EReal := Finset.fold max (Ideal.ofBits FTy.f32 4286578688#32) f Finset.univ

/-- The expected distance of sixteen logits. -/
def distF (f : Fin 16 → EReal) : EReal :=
  ∑ i : Fin 16, Ideal.div (Ideal.exp (f i - smx f)) (∑ j : Fin 16, Ideal.exp (f j - smx f))
    * FloatOps.sitofp (F := Ideal) FTy.f32 (BitVec.ofNat 32 i.val)

/-- The intersection of two boxes. -/
def interF (g1 g2 g3 g4 x1 y1 x2 y2 : EReal) : EReal :=
  max 0 (min g3 x2 - max g1 x1) * max 0 (min g4 y2 - max g2 y1)

/-- Intersection over union of two boxes. -/
def iouF (g1 g2 g3 g4 x1 y1 x2 y2 : EReal) : EReal :=
  Ideal.div (interF g1 g2 g3 g4 x1 y1 x2 y2)
    ((g3 - g1) * (g4 - g2) + (x2 - x1) * (y2 - y1) - interF g1 g2 g3 g4 x1 y1 x2 y2 + Ideal.ofBits FTy.f32 814313567#32)

/-- Whether an anchor lies in a box. -/
def inF (g1 g2 g3 g4 px py : EReal) : BitVec 1 :=
  IntOp.andi (IntOp.andi (IntOp.andi (BitVec.ofBool (decide (g1 < px))) (BitVec.ofBool (decide (px < g3))))
    (BitVec.ofBool (decide (g2 < py)))) (BitVec.ofBool (decide (py < g4)))

/-- The alignment metric of a box and an anchor, from their overlap and the logit of the class. -/
def metF (i : BitVec 1) (o s : EReal) : EReal :=
  Scalar.select i (Ideal.logistic s * (o * o * (o * o) * (o * o))) 0

theorem sq_nonneg' (o : EReal) : 0 ≤ o * o := by
  rcases le_total 0 o with h | h
  · exact mul_nonneg h h
  · rw [← neg_mul_neg]
    have : 0 ≤ -o := EReal.neg_nonneg.mpr h
    exact mul_nonneg this this

theorem exp_nonneg' (x : EReal) : 0 ≤ Ideal.exp x := by
  unfold Ideal.exp
  first
    | exact bot_le
    | (split <;> first | exact le_rfl | exact le_top | exact EReal.coe_nonneg.mpr (Real.exp_pos _).le)
    | skip

theorem logistic_nonneg (x : EReal) : 0 ≤ Ideal.logistic x := by
  unfold Ideal.logistic Ideal.div
  have h : 0 ≤ 1 + Ideal.exp (-x) := add_nonneg zero_le_one (exp_nonneg' _)
  split
  · split
    · exact le_top
    · rename_i h2; exact absurd zero_lt_one h2
  · exact mul_nonneg zero_le_one (EReal.inv_nonneg_of_nonneg h)

theorem metF_nonneg (i : BitVec 1) (o s : EReal) : 0 ≤ metF i o s := by
  unfold metF Scalar.select
  split
  · exact mul_nonneg (logistic_nonneg s) (mul_nonneg (mul_nonneg (sq_nonneg' o) (sq_nonneg' o)) (sq_nonneg' o))
  · exact le_rfl

/-- The anchor is among the ten first and its metric is positive. -/
def selP (M : Fin 8400 → EReal) (a : Fin 8400) : Prop := 0 < M a ∧ ∃ j : Fin 10, sg M (j.castLE (by decide)) = a

/-- The kernel's test of a selected anchor. -/
def selK (m : EReal) (gi : BitVec 32) (pv : EReal) (pi : BitVec 32) : BitVec 1 :=
  IntOp.andi (BitVec.ofBool (decide (0 < m)))
    (IntOp.ori (BitVec.ofBool (decide (pv < m)))
      (IntOp.andi (BitVec.ofBool (decide (m = pv))) (IntOp.cmpi CmpIPredicate.sle gi pi)))

open Classical in
/-- One where some box selected the anchor. -/
def fg (M : Fin 12 → Fin 8400 → EReal) (a : Fin 8400) : EReal := if ∃ r, selP (M r) a then 1 else 0

theorem sle_ofNat {a b : ℕ} (ha : a < 8401) (hb : b < 8401) :
    IntOp.cmpi CmpIPredicate.sle (BitVec.ofNat 32 a) (BitVec.ofNat 32 b) = BitVec.ofBool (decide (a ≤ b)) := by
  simp only [IntOp.cmpi]
  congr 1
  rw [Bool.eq_iff_iff]
  simp only [decide_eq_true_eq, BitVec.sle_iff_toInt_le, toInt_small ha, toInt_small hb]
  omega

theorem selK_iff (M : Fin 8400 → EReal) (a : Fin 8400) :
    selK (M a) (BitVec.ofNat 32 a.val) (M (sg M ⟨9, by decide⟩)) (BitVec.ofNat 32 (sg M ⟨9, by decide⟩).val) = 1#1 ↔ selP M a := by
  have hp := sg_prefix M ⟨9, by decide⟩ a
  have h1 : selK (M a) (BitVec.ofNat 32 a.val) (M (sg M ⟨9, by decide⟩)) (BitVec.ofNat 32 (sg M ⟨9, by decide⟩).val) = 1#1 ↔
      0 < M a ∧ (M (sg M ⟨9, by decide⟩) < M a ∨ (M a = M (sg M ⟨9, by decide⟩) ∧ a ≤ sg M ⟨9, by decide⟩)) := by
    have hb : ∀ p q r s : Bool, IntOp.andi (BitVec.ofBool p) (IntOp.ori (BitVec.ofBool q)
        (IntOp.andi (BitVec.ofBool r) (BitVec.ofBool s))) = 1#1 ↔ (p && (q || (r && s))) = true := by decide
    unfold selK
    rw [sle_ofNat (by omega) (by omega), hb]
    simp only [Bool.and_eq_true, Bool.or_eq_true, decide_eq_true_eq, Fin.le_def]
  rw [h1, hp]
  unfold selP
  refine and_congr_right fun _ => ⟨?_, ?_⟩
  · rintro ⟨j, hj, h⟩
    exact ⟨⟨j.val, by have : j.val ≤ 9 := hj; omega⟩, h⟩
  · rintro ⟨j, h⟩
    exact ⟨j.castLE (by decide), by show j.val ≤ 9; omega, h⟩

theorem select_one (c : BitVec 1) (x y : EReal) (p : Prop) [Decidable p] (h : c = 1#1 ↔ p) :
    Scalar.select c x y = if p then x else y := by
  unfold Scalar.select
  by_cases hp : p
  · rw [if_pos hp]; exact if_pos (h.mpr hp)
  · rw [if_neg hp]; exact if_neg (fun e => hp (h.mp e))

open Classical in
theorem fold_ind (p : Fin 12 → Prop) :
    Finset.fold max (Ideal.ofBits FTy.f32 4286578688#32) (fun r => if p r then (1 : EReal) else 0) Finset.univ
      = if ∃ r, p r then 1 else 0 := by
  rw [ninf]
  by_cases h : ∃ r, p r
  · obtain ⟨r, hr⟩ := h
    rw [if_pos ⟨r, hr⟩]
    refine le_antisymm ((Finset.fold_max_le _).mpr ⟨bot_le, fun x _ => ?_⟩) ((Finset.le_fold_max _).mpr (.inr ⟨r, Finset.mem_univ _, by rw [if_pos hr]⟩))
    split
    · exact le_rfl
    · exact zero_le_one
  · rw [if_neg h]
    refine le_antisymm ((Finset.fold_max_le _).mpr ⟨bot_le, fun x _ => ?_⟩) ((Finset.le_fold_max _).mpr (.inr ⟨0, Finset.mem_univ _, by rw [if_neg (fun e => h ⟨0, e⟩)]⟩))
    rw [if_neg (fun e => h ⟨x, e⟩)]

theorem sum_pos_iff {n : ℕ} (f : Fin n → EReal) (h : ∀ i, 0 ≤ f i) : 0 < ∑ i, f i ↔ ∃ i, 0 < f i := by
  constructor
  · intro hs
    by_contra hc
    push Not at hc
    have : ∑ i, f i = 0 := Finset.sum_eq_zero fun i _ => le_antisymm (hc i) (h i)
    rw [this] at hs
    exact lt_irrefl _ hs
  · rintro ⟨i, hi⟩
    exact hi.trans_le (Finset.single_le_sum (fun j _ => h j) (Finset.mem_univ i))

open Classical in
/-- The first hundred and twenty places of the order by `fg` hold every selected anchor. -/
theorem sum_order (M : Fin 12 → Fin 8400 → EReal) (G : Fin 8400 → EReal) :
    (∑ j : Fin 120, fg M (sg (fg M) (j.castLE (by decide))) * G (sg (fg M) (j.castLE (by decide)))) = ∑ a, fg M a * G a := by
  have h := sum_first (m := 120) (n := 8400) (by omega) (fun a => ∃ r, selP (M r) a)
    (fun q => sg (M ⟨q.val / 10, by omega⟩) ⟨q.val % 10, by omega⟩) (by
      rintro a ⟨r, -, j, hj⟩
      refine ⟨⟨r.val * 10 + j.val, by omega⟩, ?_⟩
      have q1 : (⟨(r.val * 10 + j.val) / 10, by omega⟩ : Fin 12) = r := Fin.ext (by show (r.val * 10 + j.val) / 10 = r.val; omega)
      have q2 : (⟨(r.val * 10 + j.val) % 10, by omega⟩ : Fin 8400) = j.castLE (by omega) := Fin.ext (by show (r.val * 10 + j.val) % 10 = j.val; omega)
      show sg (M ⟨(r.val * 10 + j.val) / 10, _⟩) ⟨(r.val * 10 + j.val) % 10, _⟩ = a
      rw [q1, q2, hj]) G
  have e : (ind fun a => ∃ r, selP (M r) a) = fg M := by
    funext a; unfold ind fg; congr
  rw [e] at h
  refine Eq.trans (Finset.sum_congr rfl fun j _ => ?_) (h.trans (Finset.sum_congr rfl fun a _ => ?_))
  · unfold fg; split <;> simp
  · unfold fg; split <;> simp

end Cert.Sel
-- ==== Proof.KMet.lean ====
/- The ten rounds of the kernel's selection, each read as one round over the metric's rows. -/
module

public import Idealize.ShloMosaic.Lib.Pointwise
public import proofs.«01_k».proof.Proof.Chain
public import proofs.«01_k».proof.Proof.Scal

/-!
The kernel's alignment metrics of the three levels, read at an index.
-/

@[expose] public section

set_option maxRecDepth 16384

noncomputable section

namespace Cert.KernelIdeal.Gen
open Idealize.ShloMosaic Idealize.ShloMosaic.TcCoe Idealize.SL.Sem
open Facts₀ Facts
open Cert.Sel

theorem w1_at (b : Blk) (r : Fin 12) : w1 b (ix2 r 0) = b.l0 (ix3 0 r 0) := by pointwise [w1, k0_pay2, w0]
theorem w3_at (b : Blk) (r : Fin 12) : w3 b (ix2 r 0) = b.l2 (ix3 0 r 0) := by pointwise [w3, k0_pay3, w2]
theorem w5_at (b : Blk) (r : Fin 12) : w5 b (ix2 r 0) = b.l4 (ix3 0 r 0) := by pointwise [w5, k0_pay4, w4]
theorem w7_at (b : Blk) (r : Fin 12) : w7 b (ix2 r 0) = b.l6 (ix3 0 r 0) := by pointwise [w7, k0_pay5, w6]
theorem w10_at (b : Blk) (r : Fin 12) : w10 b (ix2 r 0) = (w5 b (ix2 r 0) - w1 b (ix2 r 0)) * (w7 b (ix2 r 0) - w3 b (ix2 r 0)) := by
  pointwise [w10, k0_pay6, w1, w3, w5, w7, k0_pay2, k0_pay3, k0_pay4, k0_pay5]

theorem w85_at (b : Blk) (x : Fin 6400) : w85 b (ix2 0 x) = b.l13 (ix2 0 x) - distF (fun i => b.l16 (ix3 0 i x)) * b.l15 (ix2 0 x) := by
  unfold distF smx
  pointwise [w85, w30, w16, k0_pay12, k0_pay7, k0_pay10, k0_pay8, k0_pay9, k0_pay11, w15, w13, k0_pay32]

theorem w87_at (b : Blk) (x : Fin 6400) : w87 b (ix2 0 x) = b.l14 (ix2 0 x) - distF (fun i => b.l33 (ix3 0 i x)) * b.l15 (ix2 0 x) := by
  unfold distF smx
  pointwise [w87, w47, w33, w12, k0_pay7, k0_pay18, k0_pay16, k0_pay14, k0_pay15, k0_pay17, w15, w14, k0_pay33]

theorem w89_at (b : Blk) (x : Fin 6400) : w89 b (ix2 0 x) = b.l13 (ix2 0 x) + distF (fun i => b.l50 (ix3 0 i x)) * b.l15 (ix2 0 x) := by
  unfold distF smx
  pointwise [w89, w64, w50, w12, k0_pay7, k0_pay24, k0_pay22, k0_pay20, k0_pay21, k0_pay23, w15, w13, k0_pay34]

theorem w91_at (b : Blk) (x : Fin 6400) : w91 b (ix2 0 x) = b.l14 (ix2 0 x) + distF (fun i => b.l67 (ix3 0 i x)) * b.l15 (ix2 0 x) := by
  unfold distF smx
  pointwise [w91, w77, w67, k0_pay30, k0_pay28, k0_pay26, k0_pay27, k0_pay29, w15, w14, w12, k0_pay7, k0_pay35]

theorem w123_at (b : Blk) (r : Fin 12) (x : Fin 6400) : w123 b (ix2 r x) = iouF (w1 b (ix2 r 0)) (w3 b (ix2 r 0)) (w5 b (ix2 r 0)) (w7 b (ix2 r 0)) (w85 b (ix2 0 x)) (w87 b (ix2 0 x)) (w89 b (ix2 0 x)) (w91 b (ix2 0 x)) := by
  unfold iouF interF
  pointwise [w123, k0_pay37, k0_pay36, w85, w87, w89, w91]
  all_goals simp only [w10_at]

theorem w128_at (b : Blk) (r : Fin 12) (x : Fin 6400) : w128 b (ix2 r x) = Ideal.logistic (b.l92 (ix3 0 0 x)) *
    (w123 b (ix2 r x) * w123 b (ix2 r x) * (w123 b (ix2 r x) * w123 b (ix2 r x)) * (w123 b (ix2 r x) * w123 b (ix2 r x))) := by
  pointwise [w128, k0_pay38, w92, w123]

theorem w145_at (b : Blk) (r : Fin 12) (x : Fin 6400) : w145 b (ix2 r x) = metF (inF (w1 b (ix2 r 0)) (w3 b (ix2 r 0)) (w5 b (ix2 r 0)) (w7 b (ix2 r 0)) (b.l13 (ix2 0 x)) (b.l14 (ix2 0 x)))
    (w123 b (ix2 r x)) (b.l92 (ix3 0 0 x)) := by
  unfold metF inF
  pointwise [w145, k0_pay41, w129, k0_pay39, w130, k0_pay40, w13, w14]
  all_goals simp only [w128_at]

theorem w221_at (b : Blk) (x : Fin 1600) : w221 b (ix2 0 x) = b.l149 (ix2 0 x) - distF (fun i => b.l152 (ix3 0 i x)) * b.l151 (ix2 0 x) := by
  unfold distF smx
  pointwise [w221, w166, w152, w12, k0_pay7, k0_pay47, k0_pay45, k0_pay43, k0_pay44, k0_pay46, w151, w149, k0_pay68]

theorem w223_at (b : Blk) (x : Fin 1600) : w223 b (ix2 0 x) = b.l150 (ix2 0 x) - distF (fun i => b.l169 (ix3 0 i x)) * b.l151 (ix2 0 x) := by
  unfold distF smx
  pointwise [w223, w183, w172, w169, k0_pay50, k0_pay49, w170, w12, k0_pay7, k0_pay53, k0_pay51, k0_pay52, w151, w150, k0_pay69]

theorem w225_at (b : Blk) (x : Fin 1600) : w225 b (ix2 0 x) = b.l149 (ix2 0 x) + distF (fun i => b.l186 (ix3 0 i x)) * b.l151 (ix2 0 x) := by
  unfold distF smx
  pointwise [w225, w200, w186, w12, k0_pay7, k0_pay59, k0_pay57, k0_pay55, k0_pay56, k0_pay58, w151, w149, k0_pay70]

theorem w227_at (b : Blk) (x : Fin 1600) : w227 b (ix2 0 x) = b.l150 (ix2 0 x) + distF (fun i => b.l203 (ix3 0 i x)) * b.l151 (ix2 0 x) := by
  unfold distF smx
  pointwise [w227, w217, w203, w12, k0_pay7, k0_pay65, k0_pay63, k0_pay61, k0_pay62, k0_pay64, w151, w150, k0_pay71]

theorem w259_at (b : Blk) (r : Fin 12) (x : Fin 1600) : w259 b (ix2 r x) = iouF (w1 b (ix2 r 0)) (w3 b (ix2 r 0)) (w5 b (ix2 r 0)) (w7 b (ix2 r 0)) (w221 b (ix2 0 x)) (w223 b (ix2 0 x)) (w225 b (ix2 0 x)) (w227 b (ix2 0 x)) := by
  unfold iouF interF
  pointwise [w259, k0_pay73, k0_pay72, w221, w223, w225, w227]
  all_goals simp only [w10_at]

theorem w264_at (b : Blk) (r : Fin 12) (x : Fin 1600) : w264 b (ix2 r x) = Ideal.logistic (b.l228 (ix3 0 0 x)) *
    (w259 b (ix2 r x) * w259 b (ix2 r x) * (w259 b (ix2 r x) * w259 b (ix2 r x)) * (w259 b (ix2 r x) * w259 b (ix2 r x))) := by
  pointwise [w264, k0_pay74, w228, w259]

theorem w281_at (b : Blk) (r : Fin 12) (x : Fin 1600) : w281 b (ix2 r x) = metF (inF (w1 b (ix2 r 0)) (w3 b (ix2 r 0)) (w5 b (ix2 r 0)) (w7 b (ix2 r 0)) (b.l149 (ix2 0 x)) (b.l150 (ix2 0 x)))
    (w259 b (ix2 r x)) (b.l228 (ix3 0 0 x)) := by
  unfold metF inF
  pointwise [w281, k0_pay77, w271, k0_pay75, w272, k0_pay76, w149, w150]
  all_goals simp only [w264_at]

theorem w357_at (b : Blk) (x : Fin 400) : w357 b (ix2 0 x) = b.l285 (ix2 0 x) - distF (fun i => b.l288 (ix3 0 i x)) * b.l287 (ix2 0 x) := by
  unfold distF smx
  pointwise [w357, w302, w288, w12, k0_pay7, k0_pay83, k0_pay81, k0_pay79, k0_pay80, k0_pay82, w287, w285, k0_pay101]

theorem w359_at (b : Blk) (x : Fin 400) : w359 b (ix2 0 x) = b.l286 (ix2 0 x) - distF (fun i => b.l305 (ix3 0 i x)) * b.l287 (ix2 0 x) := by
  unfold distF smx
  pointwise [w359, w313, w305, k0_pay88, k0_pay87, k0_pay85, k0_pay86, w311, w287, w286, w12, k0_pay7, k0_pay102]

theorem w361_at (b : Blk) (x : Fin 400) : w361 b (ix2 0 x) = b.l285 (ix2 0 x) + distF (fun i => b.l322 (ix3 0 i x)) * b.l287 (ix2 0 x) := by
  unfold distF smx
  pointwise [w361, w360, w322, w287, w12, k0_pay7, k0_pay103, k0_pay92, k0_pay90, k0_pay91, k0_pay93, w285, k0_pay104]

theorem w363_at (b : Blk) (x : Fin 400) : w363 b (ix2 0 x) = b.l286 (ix2 0 x) + distF (fun i => b.l339 (ix3 0 i x)) * b.l287 (ix2 0 x) := by
  unfold distF smx
  pointwise [w363, w353, w339, w12, k0_pay7, k0_pay99, k0_pay97, k0_pay95, k0_pay96, k0_pay98, w287, w286, k0_pay105]

theorem w395_at (b : Blk) (r : Fin 12) (x : Fin 400) : w395 b (ix2 r x) = iouF (w1 b (ix2 r 0)) (w3 b (ix2 r 0)) (w5 b (ix2 r 0)) (w7 b (ix2 r 0)) (w357 b (ix2 0 x)) (w359 b (ix2 0 x)) (w361 b (ix2 0 x)) (w363 b (ix2 0 x)) := by
  unfold iouF interF
  pointwise [w395, k0_pay107, k0_pay106, w361, w363]
  all_goals simp only [w10_at]

theorem w400_at (b : Blk) (r : Fin 12) (x : Fin 400) : w400 b (ix2 r x) = Ideal.logistic (b.l364 (ix3 0 0 x)) *
    (w395 b (ix2 r x) * w395 b (ix2 r x) * (w395 b (ix2 r x) * w395 b (ix2 r x)) * (w395 b (ix2 r x) * w395 b (ix2 r x))) := by
  pointwise [w400, k0_pay108, w364, w395]

theorem w417_at (b : Blk) (r : Fin 12) (x : Fin 400) : w417 b (ix2 r x) = metF (inF (w1 b (ix2 r 0)) (w3 b (ix2 r 0)) (w5 b (ix2 r 0)) (w7 b (ix2 r 0)) (b.l285 (ix2 0 x)) (b.l286 (ix2 0 x)))
    (w395 b (ix2 r x)) (b.l364 (ix3 0 0 x)) := by
  unfold metF inF
  pointwise [w417, k0_pay111, w411, k0_pay109, w414, k0_pay110, w285, w286]
  all_goals simp only [w400_at]

end Cert.KernelIdeal.Gen
-- ==== Proof.RMet.lean ====
module

public import proofs.«01_k».proof.Proof.Gen.ReferenceIdeal.Read
public import proofs.«01_k».proof.Proof.Scal

/-!
The reference's metric of a ground truth and an anchor, read at an index.
-/

@[expose] public section

set_option maxRecDepth 16384

noncomputable section

namespace Cert.ReferenceIdeal.Read
open Idealize.ShloMosaic Idealize.SL Cert.ReferenceIdeal
open Cert.Sel

theorem v6_at0 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 6400) :
    val_main_v6 (F := Ideal) x0 x1 x2 (ix1 (e0 x)) = x0 (ix2 0 x) := by
  unfold e0
  pointwise [val_main_v6, val_main_v1, val_main_v3, val_main_v5, val_main_v0, val_main_v2, val_main_v4]
  all_goals (simp <;> omega)

theorem v13_at0 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 6400) :
    val_main_v13 (F := Ideal) x0 x1 x2 (ix1 (e0 x)) = x0 (ix2 1 x) := by
  unfold e0
  pointwise [val_main_v13, val_main_v8, val_main_v10, val_main_v12, val_main_v7, val_main_v9, val_main_v11]
  all_goals (simp <;> omega)

theorem v20_at0 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 6400) :
    val_main_v20 (F := Ideal) x0 x1 x2 (ix1 (e0 x)) = x0 (ix2 2 x) := by
  unfold e0
  pointwise [val_main_v20, val_main_v15, val_main_v17, val_main_v19, val_main_v14, val_main_v16, val_main_v18]
  all_goals (simp <;> omega)

theorem v27_at0_0 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 6400) :
    val_main_v27 (F := Ideal) x4 x5 x6 (ix4 B (e0 x) 0 i) = x4 (ix3 B ⟨0 + i.val, by omega⟩ x) := by
  unfold e0
  pointwise [val_main_v27, val_main_v22, val_main_v21]
  all_goals (simp <;> omega)

theorem v27_at0_1 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 6400) :
    val_main_v27 (F := Ideal) x4 x5 x6 (ix4 B (e0 x) 1 i) = x4 (ix3 B ⟨16 + i.val, by omega⟩ x) := by
  unfold e0
  pointwise [val_main_v27, val_main_v22, val_main_v21]
  all_goals (simp <;> omega)

theorem v27_at0_2 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 6400) :
    val_main_v27 (F := Ideal) x4 x5 x6 (ix4 B (e0 x) 2 i) = x4 (ix3 B ⟨32 + i.val, by omega⟩ x) := by
  unfold e0
  pointwise [val_main_v27, val_main_v22, val_main_v21]
  all_goals (simp <;> omega)

theorem v27_at0_3 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 6400) :
    val_main_v27 (F := Ideal) x4 x5 x6 (ix4 B (e0 x) 3 i) = x4 (ix3 B ⟨48 + i.val, by omega⟩ x) := by
  unfold e0
  pointwise [val_main_v27, val_main_v22, val_main_v21]
  all_goals (simp <;> omega)

theorem v24_at0 (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (x : Fin 6400) :
    val_main_v24 (F := Ideal) x7 x8 x9 (ix3 B (e0 x) 0) = x7 (ix3 B 0 x) := by
  unfold e0
  pointwise [val_main_v24, val_main_v23]
  all_goals (simp <;> omega)

theorem v6_at1 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 1600) :
    val_main_v6 (F := Ideal) x0 x1 x2 (ix1 (e1 x)) = x1 (ix2 0 x) := by
  unfold e1
  pointwise [val_main_v6, val_main_v1, val_main_v3, val_main_v5, val_main_v0, val_main_v2, val_main_v4]
  all_goals (simp <;> omega)

theorem v13_at1 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 1600) :
    val_main_v13 (F := Ideal) x0 x1 x2 (ix1 (e1 x)) = x1 (ix2 1 x) := by
  unfold e1
  pointwise [val_main_v13, val_main_v8, val_main_v10, val_main_v12, val_main_v7, val_main_v9, val_main_v11]
  all_goals (simp <;> omega)

theorem v20_at1 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 1600) :
    val_main_v20 (F := Ideal) x0 x1 x2 (ix1 (e1 x)) = x1 (ix2 2 x) := by
  unfold e1
  pointwise [val_main_v20, val_main_v15, val_main_v17, val_main_v19, val_main_v14, val_main_v16, val_main_v18]
  all_goals (simp <;> omega)

theorem v27_at1_0 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 1600) :
    val_main_v27 (F := Ideal) x4 x5 x6 (ix4 B (e1 x) 0 i) = x5 (ix3 B ⟨0 + i.val, by omega⟩ x) := by
  unfold e1
  pointwise [val_main_v27, val_main_v22, val_main_v21]
  all_goals (simp <;> omega)

theorem v27_at1_1 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 1600) :
    val_main_v27 (F := Ideal) x4 x5 x6 (ix4 B (e1 x) 1 i) = x5 (ix3 B ⟨16 + i.val, by omega⟩ x) := by
  unfold e1
  pointwise [val_main_v27, val_main_v22, val_main_v21]
  all_goals (simp <;> omega)

theorem v27_at1_2 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 1600) :
    val_main_v27 (F := Ideal) x4 x5 x6 (ix4 B (e1 x) 2 i) = x5 (ix3 B ⟨32 + i.val, by omega⟩ x) := by
  unfold e1
  pointwise [val_main_v27, val_main_v22, val_main_v21]
  all_goals (simp <;> omega)

theorem v27_at1_3 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 1600) :
    val_main_v27 (F := Ideal) x4 x5 x6 (ix4 B (e1 x) 3 i) = x5 (ix3 B ⟨48 + i.val, by omega⟩ x) := by
  unfold e1
  pointwise [val_main_v27, val_main_v22, val_main_v21]
  all_goals (simp <;> omega)

theorem v24_at1 (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (x : Fin 1600) :
    val_main_v24 (F := Ideal) x7 x8 x9 (ix3 B (e1 x) 0) = x8 (ix3 B 0 x) := by
  unfold e1
  pointwise [val_main_v24, val_main_v23]
  all_goals (simp <;> omega)

theorem v6_at2 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 400) :
    val_main_v6 (F := Ideal) x0 x1 x2 (ix1 (e2 x)) = x2 (ix2 0 x) := by
  unfold e2
  pointwise [val_main_v6, val_main_v1, val_main_v3, val_main_v5, val_main_v0, val_main_v2, val_main_v4]
  all_goals (simp <;> omega)

theorem v13_at2 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 400) :
    val_main_v13 (F := Ideal) x0 x1 x2 (ix1 (e2 x)) = x2 (ix2 1 x) := by
  unfold e2
  pointwise [val_main_v13, val_main_v8, val_main_v10, val_main_v12, val_main_v7, val_main_v9, val_main_v11]
  all_goals (simp <;> omega)

theorem v20_at2 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x : Fin 400) :
    val_main_v20 (F := Ideal) x0 x1 x2 (ix1 (e2 x)) = x2 (ix2 2 x) := by
  unfold e2
  pointwise [val_main_v20, val_main_v15, val_main_v17, val_main_v19, val_main_v14, val_main_v16, val_main_v18]
  all_goals (simp <;> omega)

theorem v27_at2_0 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 400) :
    val_main_v27 (F := Ideal) x4 x5 x6 (ix4 B (e2 x) 0 i) = x6 (ix3 B ⟨0 + i.val, by omega⟩ x) := by
  unfold e2
  pointwise [val_main_v27, val_main_v22, val_main_v21]
  rw [dif_neg (by omega), dif_neg (by omega)]
  refine congrArg₂ (fun p q => x6 (ix3 B p q)) (Fin.ext ?_) (Fin.ext ?_) <;> first | (simp; done) | (simp; omega) | omega

theorem v27_at2_1 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 400) :
    val_main_v27 (F := Ideal) x4 x5 x6 (ix4 B (e2 x) 1 i) = x6 (ix3 B ⟨16 + i.val, by omega⟩ x) := by
  unfold e2
  pointwise [val_main_v27, val_main_v22, val_main_v21]
  rw [dif_neg (by omega), dif_neg (by omega)]
  refine congrArg₂ (fun p q => x6 (ix3 B p q)) (Fin.ext ?_) (Fin.ext ?_) <;> first | (simp; done) | (simp; omega) | omega

theorem v27_at2_2 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 400) :
    val_main_v27 (F := Ideal) x4 x5 x6 (ix4 B (e2 x) 2 i) = x6 (ix3 B ⟨32 + i.val, by omega⟩ x) := by
  unfold e2
  pointwise [val_main_v27, val_main_v22, val_main_v21]
  rw [dif_neg (by omega), dif_neg (by omega)]
  refine congrArg₂ (fun p q => x6 (ix3 B p q)) (Fin.ext ?_) (Fin.ext ?_) <;> first | (simp; done) | (simp; omega) | omega

theorem v27_at2_3 (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (i : Fin 16) (x : Fin 400) :
    val_main_v27 (F := Ideal) x4 x5 x6 (ix4 B (e2 x) 3 i) = x6 (ix3 B ⟨48 + i.val, by omega⟩ x) := by
  unfold e2
  pointwise [val_main_v27, val_main_v22, val_main_v21]
  rw [dif_neg (by omega), dif_neg (by omega)]
  refine congrArg₂ (fun p q => x6 (ix3 B p q)) (Fin.ext ?_) (Fin.ext ?_) <;> first | (simp; done) | (simp; omega) | omega

theorem v24_at2 (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (x : Fin 400) :
    val_main_v24 (F := Ideal) x7 x8 x9 (ix3 B (e2 x) 0) = x9 (ix3 B 0 x) := by
  unfold e2
  pointwise [val_main_v24, val_main_v23]
  all_goals (simp <;> omega)

theorem max_ninf (f : Fin 16 → EReal) : max (Ideal.ofBits FTy.f32 4286578688#32) (smx f) = smx f := by
  rw [ninf]; exact max_eq_right bot_le

theorem max_zero_comm (a : EReal) : max a 0 = max 0 a := max_comm a 0

theorem v30_at (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) (k : Fin 4) :
    val_main_v30 (F := Ideal) x4 x5 x6 (ix3 B a k) = smx (fun i => val_main_v27 (F := Ideal) x4 x5 x6 (ix4 B a k i)) := by
  have h28 : val_main_v28 (F := Ideal) x4 x5 x6 (ix3 B a k) = smx (fun i => val_main_v27 (F := Ideal) x4 x5 x6 (ix4 B a k i)) := by
    unfold val_main_v28 smx
    generalize val_main_v27 (F := Ideal) x4 x5 x6 = y
    pointwise [val_main_cst]
  have h29 : val_main_v29 (F := Ideal) (ix3 B a k) = Ideal.ofBits FTy.f32 4286578688#32 := by
    pointwise [val_main_v29, val_main_cst_0]
  rw [val_main_v30_apply, h28, h29]
  exact max_ninf _

theorem v34_at (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) (k : Fin 4) (i : Fin 16) :
    val_main_v34 (F := Ideal) x4 x5 x6 (ix4 B a k i) = Ideal.exp (val_main_v27 (F := Ideal) x4 x5 x6 (ix4 B a k i) - smx (fun i => val_main_v27 (F := Ideal) x4 x5 x6 (ix4 B a k i))) := by
  rw [← v30_at]
  unfold val_main_v34 val_main_v33 val_main_v32 val_main_v31
  generalize val_main_v27 (F := Ideal) x4 x5 x6 = y
  generalize val_main_v30 (F := Ideal) x4 x5 x6 = z
  pointwise []

theorem v43_at (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) (k : Fin 4) :
    val_main_v43 (F := Ideal) x4 x5 x6 (ix3 B a k) = distF (fun i => val_main_v27 (F := Ideal) x4 x5 x6 (ix4 B a k i)) := by
  have h : val_main_v43 (F := Ideal) x4 x5 x6 (ix3 B a k) = ∑ i : Fin 16, Ideal.div (val_main_v34 (F := Ideal) x4 x5 x6 (ix4 B a k i)) (∑ i : Fin 16, val_main_v34 (F := Ideal) x4 x5 x6 (ix4 B a k i)) * FloatOps.sitofp (F := Ideal) FTy.f32 (BitVec.ofNat 32 i.val) := by
    unfold val_main_v43 val_main_v42 val_main_cst_2 val_main_v38 val_main_v41 val_main_v37 val_main_v40 val_main_v36 val_main_v39 val_main_v35 val_main_cst_1
    generalize val_main_v34 (F := Ideal) x4 x5 x6 = y
    pointwise []
  rw [h]
  simp only [v34_at]
  rfl

theorem v91_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) :
    val_main_v91 (F := Ideal) x0 x1 x2 x4 x5 x6 (ix2 B a) = val_main_v6 (F := Ideal) x0 x1 x2 (ix1 a) - val_main_v43 (F := Ideal) x4 x5 x6 (ix3 B a 0) * val_main_v20 (F := Ideal) x0 x1 x2 (ix1 a) := by
  pointwise [val_main_v91, val_main_v90, val_main_v71, val_main_v67, val_main_v68, val_main_v69, val_main_v70, val_main_v51, val_main_v56, val_main_v61, val_main_v66, val_main_v50, val_main_v48, val_main_v55, val_main_v53, val_main_v60, val_main_v58, val_main_v65, val_main_v63, val_main_v49, val_main_v47, val_main_v54, val_main_v52, val_main_v59, val_main_v57, val_main_v64, val_main_v62, val_main_v46, val_main_v45, val_main_v44]

theorem v94_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) :
    val_main_v94 (F := Ideal) x0 x1 x2 x4 x5 x6 (ix2 B a) = val_main_v13 (F := Ideal) x0 x1 x2 (ix1 a) - val_main_v43 (F := Ideal) x4 x5 x6 (ix3 B a 1) * val_main_v20 (F := Ideal) x0 x1 x2 (ix1 a) := by
  pointwise [val_main_v94, val_main_v93, val_main_v71, val_main_v67, val_main_v68, val_main_v69, val_main_v70, val_main_v51, val_main_v56, val_main_v61, val_main_v66, val_main_v50, val_main_v48, val_main_v55, val_main_v53, val_main_v60, val_main_v58, val_main_v65, val_main_v63, val_main_v49, val_main_v47, val_main_v54, val_main_v52, val_main_v59, val_main_v57, val_main_v64, val_main_v62, val_main_v46, val_main_v45, val_main_v44]

theorem v97_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) :
    val_main_v97 (F := Ideal) x0 x1 x2 x4 x5 x6 (ix2 B a) = val_main_v6 (F := Ideal) x0 x1 x2 (ix1 a) + val_main_v43 (F := Ideal) x4 x5 x6 (ix3 B a 2) * val_main_v20 (F := Ideal) x0 x1 x2 (ix1 a) := by
  pointwise [val_main_v97, val_main_v96, val_main_v71, val_main_v67, val_main_v68, val_main_v69, val_main_v70, val_main_v51, val_main_v56, val_main_v61, val_main_v66, val_main_v50, val_main_v48, val_main_v55, val_main_v53, val_main_v60, val_main_v58, val_main_v65, val_main_v63, val_main_v49, val_main_v47, val_main_v54, val_main_v52, val_main_v59, val_main_v57, val_main_v64, val_main_v62, val_main_v46, val_main_v45, val_main_v44]

theorem v100_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) :
    val_main_v100 (F := Ideal) x0 x1 x2 x4 x5 x6 (ix2 B a) = val_main_v13 (F := Ideal) x0 x1 x2 (ix1 a) + val_main_v43 (F := Ideal) x4 x5 x6 (ix3 B a 3) * val_main_v20 (F := Ideal) x0 x1 x2 (ix1 a) := by
  pointwise [val_main_v100, val_main_v99, val_main_v71, val_main_v67, val_main_v68, val_main_v69, val_main_v70, val_main_v51, val_main_v56, val_main_v61, val_main_v66, val_main_v50, val_main_v48, val_main_v55, val_main_v53, val_main_v60, val_main_v58, val_main_v65, val_main_v63, val_main_v49, val_main_v47, val_main_v54, val_main_v52, val_main_v59, val_main_v57, val_main_v64, val_main_v62, val_main_v46, val_main_v45, val_main_v44]

theorem v133_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (r : Fin 12) (a : Fin 8400) :
    val_main_v133 (F := Ideal) x0 x1 x2 x3 x4 x5 x6 (ix3 B r a) = iouF (x3 (ix3 B r 0)) (x3 (ix3 B r 1)) (x3 (ix3 B r 2)) (x3 (ix3 B r 3)) (val_main_v91 (F := Ideal) x0 x1 x2 x4 x5 x6 (ix2 B a)) (val_main_v94 (F := Ideal) x0 x1 x2 x4 x5 x6 (ix2 B a)) (val_main_v97 (F := Ideal) x0 x1 x2 x4 x5 x6 (ix2 B a)) (val_main_v100 (F := Ideal) x0 x1 x2 x4 x5 x6 (ix2 B a)) := by
  unfold iouF interF
  pointwise [val_main_v133, val_main_v120, val_main_v132, val_main_v110, val_main_v119, val_main_v130, val_main_v131, val_main_v108, val_main_v109, val_main_v117, val_main_v118, val_main_v129, val_main_cst_7, val_main_v104, val_main_v107, val_main_cst_5, val_main_v113, val_main_v116, val_main_cst_6, val_main_v127, val_main_v128, val_main_v102, val_main_v103, val_main_v105, val_main_v106, val_main_v111, val_main_v112, val_main_v114, val_main_v115, val_main_v123, val_main_v126, val_main_v86, val_main_v98, val_main_v80, val_main_v92, val_main_v89, val_main_v101, val_main_v83, val_main_v95, val_main_v121, val_main_v122, val_main_v124, val_main_v125, val_main_v85, val_main_v79, val_main_v88, val_main_v82, val_main_v84, val_main_v78, val_main_v87, val_main_v81]
  all_goals simp only [max_zero_comm]

theorem v163_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (B : Fin 8) (r : Fin 12) (a : Fin 8400) :
    val_main_v163 (F := Ideal) x0 x1 x2 x3 (ix3 B r a) = inF (x3 (ix3 B r 0)) (x3 (ix3 B r 1)) (x3 (ix3 B r 2)) (x3 (ix3 B r 3)) (val_main_v6 (F := Ideal) x0 x1 x2 (ix1 a)) (val_main_v13 (F := Ideal) x0 x1 x2 (ix1 a)) := by
  unfold inF
  pointwise [val_main_v163, val_main_v157, val_main_v162, val_main_v151, val_main_v156, val_main_v160, val_main_v161, val_main_v145, val_main_v150, val_main_v154, val_main_v155, val_main_v159, val_main_v158, val_main_v143, val_main_v144, val_main_v148, val_main_v149, val_main_v153, val_main_v152, val_main_v142, val_main_v141, val_main_v147, val_main_v146]

theorem v140_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    val_main_v140 (F := Ideal) x0 x1 x2 x3 x4 x5 x6 x7 x8 x9 (ix3 B r a) = Ideal.logistic (val_main_v24 (F := Ideal) x7 x8 x9 (ix3 B a 0)) * (val_main_v133 (F := Ideal) x0 x1 x2 x3 x4 x5 x6 (ix3 B r a) * val_main_v133 (F := Ideal) x0 x1 x2 x3 x4 x5 x6 (ix3 B r a) * (val_main_v133 (F := Ideal) x0 x1 x2 x3 x4 x5 x6 (ix3 B r a) * (val_main_v133 (F := Ideal) x0 x1 x2 x3 x4 x5 x6 (ix3 B r a)) * (val_main_v133 (F := Ideal) x0 x1 x2 x3 x4 x5 x6 (ix3 B r a) * val_main_v133 (F := Ideal) x0 x1 x2 x3 x4 x5 x6 (ix3 B r a)))) := by
  unfold Ideal.logistic
  pointwise [val_main_v140, val_main_v139, val_main_v138, val_main_v135, val_main_v136, val_main_v137, val_main_v134, val_main_v77, val_main_v76, val_main_v75, val_main_cst_4, val_main_v74, val_main_v73, val_main_cst_3, val_main_v72]
  all_goals simp [Ideal.ieee]

theorem v164_met (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    val_main_v164 (F := Ideal) x0 x1 x2 x3 x4 x5 x6 x7 x8 x9 (ix3 B r a) = metF (val_main_v163 (F := Ideal) x0 x1 x2 x3 (ix3 B r a)) (val_main_v133 (F := Ideal) x0 x1 x2 x3 x4 x5 x6 (ix3 B r a)) (val_main_v24 (F := Ideal) x7 x8 x9 (ix3 B a 0)) := by
  have h : val_main_v164 (F := Ideal) x0 x1 x2 x3 x4 x5 x6 x7 x8 x9 (ix3 B r a) = Scalar.select (val_main_v163 (F := Ideal) x0 x1 x2 x3 (ix3 B r a)) (val_main_v140 (F := Ideal) x0 x1 x2 x3 x4 x5 x6 x7 x8 x9 (ix3 B r a)) 0 := by
    unfold val_main_v164 val_main_call0_v1
    rw [show val_main_call0_v0 (F := Ideal) = val_main_cst_8 from rfl]
    generalize val_main_v163 (F := Ideal) x0 x1 x2 x3 = y
    generalize val_main_v140 (F := Ideal) x0 x1 x2 x3 x4 x5 x6 x7 x8 x9 = z
    pointwise [val_main_cst_8]
  rw [h, v140_at]
  unfold metF
  generalize val_main_v133 (F := Ideal) x0 x1 x2 x3 x4 x5 x6 (ix3 B r a) = o
  rw [mul_comm (o * o) (o * o * (o * o))]

end Cert.ReferenceIdeal.Read
-- ==== Proof.Meet.lean ====
module

public import proofs.«01_k».proof.Proof.KMet
public import proofs.«01_k».proof.Proof.RMet

/-!
One image: where the blocks are the image's rows of the arguments, the kernel's metric is the reference's.
-/

@[expose] public section

set_option maxRecDepth 16384

noncomputable section

namespace Cert.Meet
open Idealize.ShloMosaic Idealize.SL
open Cert.Sel Cert.KernelIdeal.Gen Cert.ReferenceIdeal.Read Cert.ReferenceIdeal

/-- The loads that the selection uses are the image's rows of the arguments. -/
structure Rows (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) : Prop where
  g0 : ∀ r : Fin 12, b.l0 (ix3 0 r 0) = x3 (ix3 B r 0)
  g1 : ∀ r : Fin 12, b.l2 (ix3 0 r 0) = x3 (ix3 B r 1)
  g2 : ∀ r : Fin 12, b.l4 (ix3 0 r 0) = x3 (ix3 B r 2)
  g3 : ∀ r : Fin 12, b.l6 (ix3 0 r 0) = x3 (ix3 B r 3)
  a00 : ∀ x : Fin 6400, b.l13 (ix2 0 x) = x0 (ix2 0 x)
  a01 : ∀ x : Fin 6400, b.l14 (ix2 0 x) = x0 (ix2 1 x)
  a02 : ∀ x : Fin 6400, b.l15 (ix2 0 x) = x0 (ix2 2 x)
  t00 : ∀ (i : Fin 16) (x : Fin 6400), b.l16 (ix3 0 i x) = x4 (ix3 B ⟨0 + i.val, by omega⟩ x)
  t01 : ∀ (i : Fin 16) (x : Fin 6400), b.l33 (ix3 0 i x) = x4 (ix3 B ⟨16 + i.val, by omega⟩ x)
  t02 : ∀ (i : Fin 16) (x : Fin 6400), b.l50 (ix3 0 i x) = x4 (ix3 B ⟨32 + i.val, by omega⟩ x)
  t03 : ∀ (i : Fin 16) (x : Fin 6400), b.l67 (ix3 0 i x) = x4 (ix3 B ⟨48 + i.val, by omega⟩ x)
  c0 : ∀ x : Fin 6400, b.l92 (ix3 0 0 x) = x7 (ix3 B 0 x)
  d0 : ∀ x : Fin 6400, b.l1131 (ix3 0 0 x) = x7 (ix3 B 0 x)
  a10 : ∀ x : Fin 1600, b.l149 (ix2 0 x) = x1 (ix2 0 x)
  a11 : ∀ x : Fin 1600, b.l150 (ix2 0 x) = x1 (ix2 1 x)
  a12 : ∀ x : Fin 1600, b.l151 (ix2 0 x) = x1 (ix2 2 x)
  t10 : ∀ (i : Fin 16) (x : Fin 1600), b.l152 (ix3 0 i x) = x5 (ix3 B ⟨0 + i.val, by omega⟩ x)
  t11 : ∀ (i : Fin 16) (x : Fin 1600), b.l169 (ix3 0 i x) = x5 (ix3 B ⟨16 + i.val, by omega⟩ x)
  t12 : ∀ (i : Fin 16) (x : Fin 1600), b.l186 (ix3 0 i x) = x5 (ix3 B ⟨32 + i.val, by omega⟩ x)
  t13 : ∀ (i : Fin 16) (x : Fin 1600), b.l203 (ix3 0 i x) = x5 (ix3 B ⟨48 + i.val, by omega⟩ x)
  c1 : ∀ x : Fin 1600, b.l228 (ix3 0 0 x) = x8 (ix3 B 0 x)
  d1 : ∀ x : Fin 1600, b.l1470 (ix3 0 0 x) = x8 (ix3 B 0 x)
  a20 : ∀ x : Fin 400, b.l285 (ix2 0 x) = x2 (ix2 0 x)
  a21 : ∀ x : Fin 400, b.l286 (ix2 0 x) = x2 (ix2 1 x)
  a22 : ∀ x : Fin 400, b.l287 (ix2 0 x) = x2 (ix2 2 x)
  t20 : ∀ (i : Fin 16) (x : Fin 400), b.l288 (ix3 0 i x) = x6 (ix3 B ⟨0 + i.val, by omega⟩ x)
  t21 : ∀ (i : Fin 16) (x : Fin 400), b.l305 (ix3 0 i x) = x6 (ix3 B ⟨16 + i.val, by omega⟩ x)
  t22 : ∀ (i : Fin 16) (x : Fin 400), b.l322 (ix3 0 i x) = x6 (ix3 B ⟨32 + i.val, by omega⟩ x)
  t23 : ∀ (i : Fin 16) (x : Fin 400), b.l339 (ix3 0 i x) = x6 (ix3 B ⟨48 + i.val, by omega⟩ x)
  c2 : ∀ x : Fin 400, b.l364 (ix3 0 0 x) = x9 (ix3 B 0 x)
  d2 : ∀ x : Fin 400, b.l1809 (ix3 0 0 x) = x9 (ix3 B 0 x)

theorem met0 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) (x : Fin 6400) : w145 b (ix2 r x) = val_main_v164 (F := Ideal) x0 x1 x2 x3 x4 x5 x6 x7 x8 x9 (ix3 B r (e0 x)) := by
  rw [w145_at, w123_at, v164_met, v163_at, v133_at, v91_at, v94_at, v97_at, v100_at]
  simp only [w85_at, w87_at, w89_at, w91_at, w1_at, w3_at, w5_at, w7_at, v43_at, v27_at0_0, v27_at0_1, v27_at0_2, v27_at0_3, v6_at0, v13_at0, v20_at0, v24_at0,
    H.g0, H.g1, H.g2, H.g3, H.a00, H.a01, H.a02, H.t00, H.t01, H.t02, H.t03, H.c0]

theorem met1 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) (x : Fin 1600) : w281 b (ix2 r x) = val_main_v164 (F := Ideal) x0 x1 x2 x3 x4 x5 x6 x7 x8 x9 (ix3 B r (e1 x)) := by
  rw [w281_at, w259_at, v164_met, v163_at, v133_at, v91_at, v94_at, v97_at, v100_at]
  simp only [w221_at, w223_at, w225_at, w227_at, w1_at, w3_at, w5_at, w7_at, v43_at, v27_at1_0, v27_at1_1, v27_at1_2, v27_at1_3, v6_at1, v13_at1, v20_at1, v24_at1,
    H.g0, H.g1, H.g2, H.g3, H.a10, H.a11, H.a12, H.t10, H.t11, H.t12, H.t13, H.c1]

theorem met2 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) (x : Fin 400) : w417 b (ix2 r x) = val_main_v164 (F := Ideal) x0 x1 x2 x3 x4 x5 x6 x7 x8 x9 (ix3 B r (e2 x)) := by
  rw [w417_at, w395_at, v164_met, v163_at, v133_at, v91_at, v94_at, v97_at, v100_at]
  simp only [w357_at, w359_at, w361_at, w363_at, w1_at, w3_at, w5_at, w7_at, v43_at, v27_at2_0, v27_at2_1, v27_at2_2, v27_at2_3, v6_at2, v13_at2, v20_at2, v24_at2,
    H.g0, H.g1, H.g2, H.g3, H.a20, H.a21, H.a22, H.t20, H.t21, H.t22, H.t23, H.c2]

end Cert.Meet
-- ==== Proof.KBlk.lean ====
module

public import proofs.«01_k».proof.Proof.Meet
public import proofs.«01_k».proof.Proof.Gen.KernelIdeal.Value

/-! The input blocks of a grid point are the image's rows of the arguments. -/

@[expose] public section

set_option maxRecDepth 16384

noncomputable section

namespace Cert.Meet
open Idealize.ShloMosaic Idealize.ShloMosaic.TcCoe Idealize.SL
open Cert.KernelIdeal Cert.KernelIdeal.Gen

theorem of_l0 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 12) : (Blk.of x0 x1 x2 x3 x4 x5 x6 x7 x8 x9 x10 x11 x12 x13 x14).l0 (ix3 0 p1 0) = x3 (ix3 0 p1 0) := by
  refine congrArg x3 (funext fun a => Fin.ext ?_)
  match a with
  | ⟨0, _⟩ => rfl
  | ⟨1, _⟩ => show 0 + 1 * p1.val = p1.val; omega
  | ⟨2, _⟩ => rfl

theorem of_l2 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 12) : (Blk.of x0 x1 x2 x3 x4 x5 x6 x7 x8 x9 x10 x11 x12 x13 x14).l2 (ix3 0 p1 0) = x3 (ix3 0 p1 1) := by
  refine congrArg x3 (funext fun a => Fin.ext ?_)
  match a with
  | ⟨0, _⟩ => rfl
  | ⟨1, _⟩ => show 0 + 1 * p1.val = p1.val; omega
  | ⟨2, _⟩ => rfl

theorem of_l4 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 12) : (Blk.of x0 x1 x2 x3 x4 x5 x6 x7 x8 x9 x10 x11 x12 x13 x14).l4 (ix3 0 p1 0) = x3 (ix3 0 p1 2) := by
  refine congrArg x3 (funext fun a => Fin.ext ?_)
  match a with
  | ⟨0, _⟩ => rfl
  | ⟨1, _⟩ => show 0 + 1 * p1.val = p1.val; omega
  | ⟨2, _⟩ => rfl

theorem of_l6 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 12) : (Blk.of x0 x1 x2 x3 x4 x5 x6 x7 x8 x9 x10 x11 x12 x13 x14).l6 (ix3 0 p1 0) = x3 (ix3 0 p1 3) := by
  refine congrArg x3 (funext fun a => Fin.ext ?_)
  match a with
  | ⟨0, _⟩ => rfl
  | ⟨1, _⟩ => show 0 + 1 * p1.val = p1.val; omega
  | ⟨2, _⟩ => rfl

theorem of_l16 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 6400) : (Blk.of x0 x1 x2 x3 x4 x5 x6 x7 x8 x9 x10 x11 x12 x13 x14).l16 (ix3 0 p1 p2) = x4 (ix3 0 ⟨0 + p1.val, by omega⟩ p2) := by
  refine congrArg x4 (funext fun a => Fin.ext ?_)
  match a with
  | ⟨0, _⟩ => rfl
  | ⟨1, _⟩ => show 0 + 1 * p1.val = 0 + p1.val; omega
  | ⟨2, _⟩ => show 0 + 1 * p2.val = p2.val; omega

theorem of_l33 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 6400) : (Blk.of x0 x1 x2 x3 x4 x5 x6 x7 x8 x9 x10 x11 x12 x13 x14).l33 (ix3 0 p1 p2) = x4 (ix3 0 ⟨16 + p1.val, by omega⟩ p2) := by
  refine congrArg x4 (funext fun a => Fin.ext ?_)
  match a with
  | ⟨0, _⟩ => rfl
  | ⟨1, _⟩ => show 16 + 1 * p1.val = 16 + p1.val; omega
  | ⟨2, _⟩ => show 0 + 1 * p2.val = p2.val; omega

theorem of_l50 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 6400) : (Blk.of x0 x1 x2 x3 x4 x5 x6 x7 x8 x9 x10 x11 x12 x13 x14).l50 (ix3 0 p1 p2) = x4 (ix3 0 ⟨32 + p1.val, by omega⟩ p2) := by
  refine congrArg x4 (funext fun a => Fin.ext ?_)
  match a with
  | ⟨0, _⟩ => rfl
  | ⟨1, _⟩ => show 32 + 1 * p1.val = 32 + p1.val; omega
  | ⟨2, _⟩ => show 0 + 1 * p2.val = p2.val; omega

theorem of_l67 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 6400) : (Blk.of x0 x1 x2 x3 x4 x5 x6 x7 x8 x9 x10 x11 x12 x13 x14).l67 (ix3 0 p1 p2) = x4 (ix3 0 ⟨48 + p1.val, by omega⟩ p2) := by
  refine congrArg x4 (funext fun a => Fin.ext ?_)
  match a with
  | ⟨0, _⟩ => rfl
  | ⟨1, _⟩ => show 48 + 1 * p1.val = 48 + p1.val; omega
  | ⟨2, _⟩ => show 0 + 1 * p2.val = p2.val; omega

theorem of_l13 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 6400) : (Blk.of x0 x1 x2 x3 x4 x5 x6 x7 x8 x9 x10 x11 x12 x13 x14).l13 (ix2 0 p1) = x0 (ix2 0 p1) := by
  refine congrArg x0 (funext fun a => Fin.ext ?_)
  match a with
  | ⟨0, _⟩ => rfl
  | ⟨1, _⟩ => show 0 + 1 * p1.val = p1.val; omega

theorem of_l15 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 6400) : (Blk.of x0 x1 x2 x3 x4 x5 x6 x7 x8 x9 x10 x11 x12 x13 x14).l15 (ix2 0 p1) = x0 (ix2 2 p1) := by
  refine congrArg x0 (funext fun a => Fin.ext ?_)
  match a with
  | ⟨0, _⟩ => rfl
  | ⟨1, _⟩ => show 0 + 1 * p1.val = p1.val; omega

theorem of_l14 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 6400) : (Blk.of x0 x1 x2 x3 x4 x5 x6 x7 x8 x9 x10 x11 x12 x13 x14).l14 (ix2 0 p1) = x0 (ix2 1 p1) := by
  refine congrArg x0 (funext fun a => Fin.ext ?_)
  match a with
  | ⟨0, _⟩ => rfl
  | ⟨1, _⟩ => show 0 + 1 * p1.val = p1.val; omega

theorem of_l92 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p2 : Fin 6400) : (Blk.of x0 x1 x2 x3 x4 x5 x6 x7 x8 x9 x10 x11 x12 x13 x14).l92 (ix3 0 0 p2) = x7 (ix3 0 0 p2) := by
  refine congrArg x7 (funext fun a => Fin.ext ?_)
  match a with
  | ⟨0, _⟩ => rfl
  | ⟨1, _⟩ => rfl
  | ⟨2, _⟩ => show 0 + 1 * p2.val = p2.val; omega

theorem of_l152 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 1600) : (Blk.of x0 x1 x2 x3 x4 x5 x6 x7 x8 x9 x10 x11 x12 x13 x14).l152 (ix3 0 p1 p2) = x5 (ix3 0 ⟨0 + p1.val, by omega⟩ p2) := by
  refine congrArg x5 (funext fun a => Fin.ext ?_)
  match a with
  | ⟨0, _⟩ => rfl
  | ⟨1, _⟩ => show 0 + 1 * p1.val = 0 + p1.val; omega
  | ⟨2, _⟩ => show 0 + 1 * p2.val = p2.val; omega

theorem of_l169 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 1600) : (Blk.of x0 x1 x2 x3 x4 x5 x6 x7 x8 x9 x10 x11 x12 x13 x14).l169 (ix3 0 p1 p2) = x5 (ix3 0 ⟨16 + p1.val, by omega⟩ p2) := by
  refine congrArg x5 (funext fun a => Fin.ext ?_)
  match a with
  | ⟨0, _⟩ => rfl
  | ⟨1, _⟩ => show 16 + 1 * p1.val = 16 + p1.val; omega
  | ⟨2, _⟩ => show 0 + 1 * p2.val = p2.val; omega

theorem of_l186 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 1600) : (Blk.of x0 x1 x2 x3 x4 x5 x6 x7 x8 x9 x10 x11 x12 x13 x14).l186 (ix3 0 p1 p2) = x5 (ix3 0 ⟨32 + p1.val, by omega⟩ p2) := by
  refine congrArg x5 (funext fun a => Fin.ext ?_)
  match a with
  | ⟨0, _⟩ => rfl
  | ⟨1, _⟩ => show 32 + 1 * p1.val = 32 + p1.val; omega
  | ⟨2, _⟩ => show 0 + 1 * p2.val = p2.val; omega

theorem of_l203 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 1600) : (Blk.of x0 x1 x2 x3 x4 x5 x6 x7 x8 x9 x10 x11 x12 x13 x14).l203 (ix3 0 p1 p2) = x5 (ix3 0 ⟨48 + p1.val, by omega⟩ p2) := by
  refine congrArg x5 (funext fun a => Fin.ext ?_)
  match a with
  | ⟨0, _⟩ => rfl
  | ⟨1, _⟩ => show 48 + 1 * p1.val = 48 + p1.val; omega
  | ⟨2, _⟩ => show 0 + 1 * p2.val = p2.val; omega

theorem of_l149 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 1600) : (Blk.of x0 x1 x2 x3 x4 x5 x6 x7 x8 x9 x10 x11 x12 x13 x14).l149 (ix2 0 p1) = x1 (ix2 0 p1) := by
  refine congrArg x1 (funext fun a => Fin.ext ?_)
  match a with
  | ⟨0, _⟩ => rfl
  | ⟨1, _⟩ => show 0 + 1 * p1.val = p1.val; omega

theorem of_l151 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 1600) : (Blk.of x0 x1 x2 x3 x4 x5 x6 x7 x8 x9 x10 x11 x12 x13 x14).l151 (ix2 0 p1) = x1 (ix2 2 p1) := by
  refine congrArg x1 (funext fun a => Fin.ext ?_)
  match a with
  | ⟨0, _⟩ => rfl
  | ⟨1, _⟩ => show 0 + 1 * p1.val = p1.val; omega

theorem of_l150 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 1600) : (Blk.of x0 x1 x2 x3 x4 x5 x6 x7 x8 x9 x10 x11 x12 x13 x14).l150 (ix2 0 p1) = x1 (ix2 1 p1) := by
  refine congrArg x1 (funext fun a => Fin.ext ?_)
  match a with
  | ⟨0, _⟩ => rfl
  | ⟨1, _⟩ => show 0 + 1 * p1.val = p1.val; omega

theorem of_l228 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p2 : Fin 1600) : (Blk.of x0 x1 x2 x3 x4 x5 x6 x7 x8 x9 x10 x11 x12 x13 x14).l228 (ix3 0 0 p2) = x8 (ix3 0 0 p2) := by
  refine congrArg x8 (funext fun a => Fin.ext ?_)
  match a with
  | ⟨0, _⟩ => rfl
  | ⟨1, _⟩ => rfl
  | ⟨2, _⟩ => show 0 + 1 * p2.val = p2.val; omega

theorem of_l288 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 400) : (Blk.of x0 x1 x2 x3 x4 x5 x6 x7 x8 x9 x10 x11 x12 x13 x14).l288 (ix3 0 p1 p2) = x6 (ix3 0 ⟨0 + p1.val, by omega⟩ p2) := by
  refine congrArg x6 (funext fun a => Fin.ext ?_)
  match a with
  | ⟨0, _⟩ => rfl
  | ⟨1, _⟩ => show 0 + 1 * p1.val = 0 + p1.val; omega
  | ⟨2, _⟩ => show 0 + 1 * p2.val = p2.val; omega

theorem of_l305 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 400) : (Blk.of x0 x1 x2 x3 x4 x5 x6 x7 x8 x9 x10 x11 x12 x13 x14).l305 (ix3 0 p1 p2) = x6 (ix3 0 ⟨16 + p1.val, by omega⟩ p2) := by
  refine congrArg x6 (funext fun a => Fin.ext ?_)
  match a with
  | ⟨0, _⟩ => rfl
  | ⟨1, _⟩ => show 16 + 1 * p1.val = 16 + p1.val; omega
  | ⟨2, _⟩ => show 0 + 1 * p2.val = p2.val; omega

theorem of_l322 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 400) : (Blk.of x0 x1 x2 x3 x4 x5 x6 x7 x8 x9 x10 x11 x12 x13 x14).l322 (ix3 0 p1 p2) = x6 (ix3 0 ⟨32 + p1.val, by omega⟩ p2) := by
  refine congrArg x6 (funext fun a => Fin.ext ?_)
  match a with
  | ⟨0, _⟩ => rfl
  | ⟨1, _⟩ => show 32 + 1 * p1.val = 32 + p1.val; omega
  | ⟨2, _⟩ => show 0 + 1 * p2.val = p2.val; omega

theorem of_l339 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 16) (p2 : Fin 400) : (Blk.of x0 x1 x2 x3 x4 x5 x6 x7 x8 x9 x10 x11 x12 x13 x14).l339 (ix3 0 p1 p2) = x6 (ix3 0 ⟨48 + p1.val, by omega⟩ p2) := by
  refine congrArg x6 (funext fun a => Fin.ext ?_)
  match a with
  | ⟨0, _⟩ => rfl
  | ⟨1, _⟩ => show 48 + 1 * p1.val = 48 + p1.val; omega
  | ⟨2, _⟩ => show 0 + 1 * p2.val = p2.val; omega

theorem of_l285 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 400) : (Blk.of x0 x1 x2 x3 x4 x5 x6 x7 x8 x9 x10 x11 x12 x13 x14).l285 (ix2 0 p1) = x2 (ix2 0 p1) := by
  refine congrArg x2 (funext fun a => Fin.ext ?_)
  match a with
  | ⟨0, _⟩ => rfl
  | ⟨1, _⟩ => show 0 + 1 * p1.val = p1.val; omega

theorem of_l287 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 400) : (Blk.of x0 x1 x2 x3 x4 x5 x6 x7 x8 x9 x10 x11 x12 x13 x14).l287 (ix2 0 p1) = x2 (ix2 2 p1) := by
  refine congrArg x2 (funext fun a => Fin.ext ?_)
  match a with
  | ⟨0, _⟩ => rfl
  | ⟨1, _⟩ => show 0 + 1 * p1.val = p1.val; omega

theorem of_l286 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p1 : Fin 400) : (Blk.of x0 x1 x2 x3 x4 x5 x6 x7 x8 x9 x10 x11 x12 x13 x14).l286 (ix2 0 p1) = x2 (ix2 1 p1) := by
  refine congrArg x2 (funext fun a => Fin.ext ?_)
  match a with
  | ⟨0, _⟩ => rfl
  | ⟨1, _⟩ => show 0 + 1 * p1.val = p1.val; omega

theorem of_l364 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p2 : Fin 400) : (Blk.of x0 x1 x2 x3 x4 x5 x6 x7 x8 x9 x10 x11 x12 x13 x14).l364 (ix3 0 0 p2) = x9 (ix3 0 0 p2) := by
  refine congrArg x9 (funext fun a => Fin.ext ?_)
  match a with
  | ⟨0, _⟩ => rfl
  | ⟨1, _⟩ => rfl
  | ⟨2, _⟩ => show 0 + 1 * p2.val = p2.val; omega

theorem of_l1131 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p2 : Fin 6400) : (Blk.of x0 x1 x2 x3 x4 x5 x6 x7 x8 x9 x10 x11 x12 x13 x14).l1131 (ix3 0 0 p2) = x7 (ix3 0 0 p2) := by
  refine congrArg x7 (funext fun a => Fin.ext ?_)
  match a with
  | ⟨0, _⟩ => rfl
  | ⟨1, _⟩ => rfl
  | ⟨2, _⟩ => show 0 + 1 * p2.val = p2.val; omega

theorem of_l1470 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p2 : Fin 1600) : (Blk.of x0 x1 x2 x3 x4 x5 x6 x7 x8 x9 x10 x11 x12 x13 x14).l1470 (ix3 0 0 p2) = x8 (ix3 0 0 p2) := by
  refine congrArg x8 (funext fun a => Fin.ext ?_)
  match a with
  | ⟨0, _⟩ => rfl
  | ⟨1, _⟩ => rfl
  | ⟨2, _⟩ => show 0 + 1 * p2.val = p2.val; omega

theorem of_l1809 (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (p2 : Fin 400) : (Blk.of x0 x1 x2 x3 x4 x5 x6 x7 x8 x9 x10 x11 x12 x13 x14).l1809 (ix3 0 0 p2) = x9 (ix3 0 0 p2) := by
  refine congrArg x9 (funext fun a => Fin.ext ?_)
  match a with
  | ⟨0, _⟩ => rfl
  | ⟨1, _⟩ => rfl
  | ⟨2, _⟩ => show 0 + 1 * p2.val = p2.val; omega

variable (m : (ℓ : Loc nD τ sig) → Buf (Elt Ideal) ℓ)

theorem idx0 : ∀ t : Fin cfg0.N, win0_0.index t (0 : Fin 2) = 0 ∧ win0_0.index t (1 : Fin 2) = 0 := (by decide +kernel : ∀ t : Fin grid0.N, _)

theorem iblk0_at (c : Dev nD) (t : Fin cfg0.N) (p : Fin 8) (q : Fin 6400) :
    (iblk m c 0 t : Vec Ideal S8x6400 .f32) (ix2 p q) = (m ((c : Thread nD τ).loc main_arg0) : Vec Ideal S8x6400 .f32) (ix2 p q) := by
  obtain ⟨e0, e1⟩ := idx0 t
  refine congrArg (V m c main_arg0) (funext fun a => Fin.ext ?_)
  match a with
  | ⟨0, _⟩ => show win0_0.index t (0 : Fin 2) * 8 + 1 * p.val = p.val; omega
  | ⟨1, _⟩ => show win0_0.index t (1 : Fin 2) * 6400 + 1 * q.val = q.val; omega

theorem idx1 : ∀ t : Fin cfg0.N, win0_1.index t (0 : Fin 2) = 0 ∧ win0_1.index t (1 : Fin 2) = 0 := (by decide +kernel : ∀ t : Fin grid0.N, _)

theorem iblk1_at (c : Dev nD) (t : Fin cfg0.N) (p : Fin 8) (q : Fin 1600) :
    (iblk m c 1 t : Vec Ideal S8x1600 .f32) (ix2 p q) = (m ((c : Thread nD τ).loc main_arg1) : Vec Ideal S8x1600 .f32) (ix2 p q) := by
  obtain ⟨e0, e1⟩ := idx1 t
  refine congrArg (V m c main_arg1) (funext fun a => Fin.ext ?_)
  match a with
  | ⟨0, _⟩ => show win0_1.index t (0 : Fin 2) * 8 + 1 * p.val = p.val; omega
  | ⟨1, _⟩ => show win0_1.index t (1 : Fin 2) * 1600 + 1 * q.val = q.val; omega

theorem idx2 : ∀ t : Fin cfg0.N, win0_2.index t (0 : Fin 2) = 0 ∧ win0_2.index t (1 : Fin 2) = 0 := (by decide +kernel : ∀ t : Fin grid0.N, _)

theorem iblk2_at (c : Dev nD) (t : Fin cfg0.N) (p : Fin 8) (q : Fin 400) :
    (iblk m c 2 t : Vec Ideal S8x400 .f32) (ix2 p q) = (m ((c : Thread nD τ).loc main_arg2) : Vec Ideal S8x400 .f32) (ix2 p q) := by
  obtain ⟨e0, e1⟩ := idx2 t
  refine congrArg (V m c main_arg2) (funext fun a => Fin.ext ?_)
  match a with
  | ⟨0, _⟩ => show win0_2.index t (0 : Fin 2) * 8 + 1 * p.val = p.val; omega
  | ⟨1, _⟩ => show win0_2.index t (1 : Fin 2) * 400 + 1 * q.val = q.val; omega

theorem idx3 : ∀ t : Fin cfg0.N, win0_3.index t (0 : Fin 3) = t.val ∧ win0_3.index t (1 : Fin 3) = 0 ∧ win0_3.index t (2 : Fin 3) = 0 := (by decide +kernel : ∀ t : Fin grid0.N, _)

theorem iblk3_at (c : Dev nD) (t : Fin cfg0.N) (B : Fin 8) (hB : t.val = B.val) (p : Fin 12) (q : Fin 4) :
    (iblk m c 3 t : Vec Ideal S1x12x4 .f32) (ix3 0 p q) = (m ((c : Thread nD τ).loc main_arg3) : Vec Ideal S8x12x4 .f32) (ix3 B p q) := by
  obtain ⟨e0, e1, e2⟩ := idx3 t
  refine congrArg (V m c main_arg3) (funext fun a => Fin.ext ?_)
  match a with
  | ⟨0, _⟩ => show win0_3.index t (0 : Fin 3) * 1 + 1 * 0 = B.val; omega
  | ⟨1, _⟩ => show win0_3.index t (1 : Fin 3) * 12 + 1 * p.val = p.val; omega
  | ⟨2, _⟩ => show win0_3.index t (2 : Fin 3) * 4 + 1 * q.val = q.val; omega

theorem idx4 : ∀ t : Fin cfg0.N, win0_4.index t (0 : Fin 3) = t.val ∧ win0_4.index t (1 : Fin 3) = 0 ∧ win0_4.index t (2 : Fin 3) = 0 := (by decide +kernel : ∀ t : Fin grid0.N, _)

theorem iblk4_at (c : Dev nD) (t : Fin cfg0.N) (B : Fin 8) (hB : t.val = B.val) (p : Fin 64) (q : Fin 6400) :
    (iblk m c 4 t : Vec Ideal S1x64x6400 .f32) (ix3 0 p q) = (m ((c : Thread nD τ).loc main_arg4) : Vec Ideal S8x64x6400 .f32) (ix3 B p q) := by
  obtain ⟨e0, e1, e2⟩ := idx4 t
  refine congrArg (V m c main_arg4) (funext fun a => Fin.ext ?_)
  match a with
  | ⟨0, _⟩ => show win0_4.index t (0 : Fin 3) * 1 + 1 * 0 = B.val; omega
  | ⟨1, _⟩ => show win0_4.index t (1 : Fin 3) * 64 + 1 * p.val = p.val; omega
  | ⟨2, _⟩ => show win0_4.index t (2 : Fin 3) * 6400 + 1 * q.val = q.val; omega

theorem idx5 : ∀ t : Fin cfg0.N, win0_5.index t (0 : Fin 3) = t.val ∧ win0_5.index t (1 : Fin 3) = 0 ∧ win0_5.index t (2 : Fin 3) = 0 := (by decide +kernel : ∀ t : Fin grid0.N, _)

theorem iblk5_at (c : Dev nD) (t : Fin cfg0.N) (B : Fin 8) (hB : t.val = B.val) (p : Fin 64) (q : Fin 1600) :
    (iblk m c 5 t : Vec Ideal S1x64x1600 .f32) (ix3 0 p q) = (m ((c : Thread nD τ).loc main_arg5) : Vec Ideal S8x64x1600 .f32) (ix3 B p q) := by
  obtain ⟨e0, e1, e2⟩ := idx5 t
  refine congrArg (V m c main_arg5) (funext fun a => Fin.ext ?_)
  match a with
  | ⟨0, _⟩ => show win0_5.index t (0 : Fin 3) * 1 + 1 * 0 = B.val; omega
  | ⟨1, _⟩ => show win0_5.index t (1 : Fin 3) * 64 + 1 * p.val = p.val; omega
  | ⟨2, _⟩ => show win0_5.index t (2 : Fin 3) * 1600 + 1 * q.val = q.val; omega

theorem idx6 : ∀ t : Fin cfg0.N, win0_6.index t (0 : Fin 3) = t.val ∧ win0_6.index t (1 : Fin 3) = 0 ∧ win0_6.index t (2 : Fin 3) = 0 := (by decide +kernel : ∀ t : Fin grid0.N, _)

theorem iblk6_at (c : Dev nD) (t : Fin cfg0.N) (B : Fin 8) (hB : t.val = B.val) (p : Fin 64) (q : Fin 400) :
    (iblk m c 6 t : Vec Ideal S1x64x400 .f32) (ix3 0 p q) = (m ((c : Thread nD τ).loc main_arg6) : Vec Ideal S8x64x400 .f32) (ix3 B p q) := by
  obtain ⟨e0, e1, e2⟩ := idx6 t
  refine congrArg (V m c main_arg6) (funext fun a => Fin.ext ?_)
  match a with
  | ⟨0, _⟩ => show win0_6.index t (0 : Fin 3) * 1 + 1 * 0 = B.val; omega
  | ⟨1, _⟩ => show win0_6.index t (1 : Fin 3) * 64 + 1 * p.val = p.val; omega
  | ⟨2, _⟩ => show win0_6.index t (2 : Fin 3) * 400 + 1 * q.val = q.val; omega

theorem idx7 : ∀ t : Fin cfg0.N, win0_7.index t (0 : Fin 3) = t.val ∧ win0_7.index t (1 : Fin 3) = 0 ∧ win0_7.index t (2 : Fin 3) = 0 := (by decide +kernel : ∀ t : Fin grid0.N, _)

theorem iblk7_at (c : Dev nD) (t : Fin cfg0.N) (B : Fin 8) (hB : t.val = B.val) (p : Fin 1) (q : Fin 6400) :
    (iblk m c 7 t : Vec Ideal S1x1x6400 .f32) (ix3 0 p q) = (m ((c : Thread nD τ).loc main_arg7) : Vec Ideal S8x1x6400 .f32) (ix3 B p q) := by
  obtain ⟨e0, e1, e2⟩ := idx7 t
  refine congrArg (V m c main_arg7) (funext fun a => Fin.ext ?_)
  match a with
  | ⟨0, _⟩ => show win0_7.index t (0 : Fin 3) * 1 + 1 * 0 = B.val; omega
  | ⟨1, _⟩ => show win0_7.index t (1 : Fin 3) * 1 + 1 * p.val = p.val; omega
  | ⟨2, _⟩ => show win0_7.index t (2 : Fin 3) * 6400 + 1 * q.val = q.val; omega

theorem idx8 : ∀ t : Fin cfg0.N, win0_8.index t (0 : Fin 3) = t.val ∧ win0_8.index t (1 : Fin 3) = 0 ∧ win0_8.index t (2 : Fin 3) = 0 := (by decide +kernel : ∀ t : Fin grid0.N, _)

theorem iblk8_at (c : Dev nD) (t : Fin cfg0.N) (B : Fin 8) (hB : t.val = B.val) (p : Fin 1) (q : Fin 1600) :
    (iblk m c 8 t : Vec Ideal S1x1x1600 .f32) (ix3 0 p q) = (m ((c : Thread nD τ).loc main_arg8) : Vec Ideal S8x1x1600 .f32) (ix3 B p q) := by
  obtain ⟨e0, e1, e2⟩ := idx8 t
  refine congrArg (V m c main_arg8) (funext fun a => Fin.ext ?_)
  match a with
  | ⟨0, _⟩ => show win0_8.index t (0 : Fin 3) * 1 + 1 * 0 = B.val; omega
  | ⟨1, _⟩ => show win0_8.index t (1 : Fin 3) * 1 + 1 * p.val = p.val; omega
  | ⟨2, _⟩ => show win0_8.index t (2 : Fin 3) * 1600 + 1 * q.val = q.val; omega

theorem idx9 : ∀ t : Fin cfg0.N, win0_9.index t (0 : Fin 3) = t.val ∧ win0_9.index t (1 : Fin 3) = 0 ∧ win0_9.index t (2 : Fin 3) = 0 := (by decide +kernel : ∀ t : Fin grid0.N, _)

theorem iblk9_at (c : Dev nD) (t : Fin cfg0.N) (B : Fin 8) (hB : t.val = B.val) (p : Fin 1) (q : Fin 400) :
    (iblk m c 9 t : Vec Ideal S1x1x400 .f32) (ix3 0 p q) = (m ((c : Thread nD τ).loc main_arg9) : Vec Ideal S8x1x400 .f32) (ix3 B p q) := by
  obtain ⟨e0, e1, e2⟩ := idx9 t
  refine congrArg (V m c main_arg9) (funext fun a => Fin.ext ?_)
  match a with
  | ⟨0, _⟩ => show win0_9.index t (0 : Fin 3) * 1 + 1 * 0 = B.val; omega
  | ⟨1, _⟩ => show win0_9.index t (1 : Fin 3) * 1 + 1 * p.val = p.val; omega
  | ⟨2, _⟩ => show win0_9.index t (2 : Fin 3) * 400 + 1 * q.val = q.val; omega

theorem idx15 : ∀ t : Fin cfg0.N, win0_15.index t (0 : Fin 3) = t.val ∧ win0_15.index t (1 : Fin 3) = 0 ∧ win0_15.index t (2 : Fin 3) = 0 := (by decide +kernel : ∀ t : Fin grid0.N, _)

theorem emb15 (t : Fin cfg0.N) (B : Fin 8) (hB : t.val = B.val) (p : Fin 1) (q : Fin 128) :
    ((cfg0.win 15).blk t).view.emb (ix3 0 p q : S1x1x128.Idx) = (ix3 B p q : S8x1x128.Idx) := by
  obtain ⟨e0, e1, e2⟩ := idx15 t
  refine funext fun a => Fin.ext ?_
  match a with
  | ⟨0, _⟩ => show win0_15.index t (0 : Fin 3) * 1 + 1 * 0 = B.val; omega
  | ⟨1, _⟩ => show win0_15.index t (1 : Fin 3) * 1 + 1 * p.val = p.val; omega
  | ⟨2, _⟩ => show win0_15.index t (2 : Fin 3) * 128 + 1 * q.val = q.val; omega

/-- The loads of a grid point are its image's rows of the arguments. -/
theorem rows (c : Dev nD) (t : Fin cfg0.N) (B : Fin 8) (hB : t.val = B.val) :
    Rows (Blk.of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) B (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) where
  g0 r := (of_l0 _ _ _ _ _ _ _ _ _ _ _ _ _ _ _ r).trans (iblk3_at m c t B hB r 0)
  g1 r := (of_l2 _ _ _ _ _ _ _ _ _ _ _ _ _ _ _ r).trans (iblk3_at m c t B hB r 1)
  g2 r := (of_l4 _ _ _ _ _ _ _ _ _ _ _ _ _ _ _ r).trans (iblk3_at m c t B hB r 2)
  g3 r := (of_l6 _ _ _ _ _ _ _ _ _ _ _ _ _ _ _ r).trans (iblk3_at m c t B hB r 3)
  a00 x := (of_l13 _ _ _ _ _ _ _ _ _ _ _ _ _ _ _ x).trans (iblk0_at m c t 0 x)
  a01 x := (of_l14 _ _ _ _ _ _ _ _ _ _ _ _ _ _ _ x).trans (iblk0_at m c t 1 x)
  a02 x := (of_l15 _ _ _ _ _ _ _ _ _ _ _ _ _ _ _ x).trans (iblk0_at m c t 2 x)
  t00 i x := (of_l16 _ _ _ _ _ _ _ _ _ _ _ _ _ _ _ i x).trans (iblk4_at m c t B hB ⟨0 + i.val, by omega⟩ x)
  t01 i x := (of_l33 _ _ _ _ _ _ _ _ _ _ _ _ _ _ _ i x).trans (iblk4_at m c t B hB ⟨16 + i.val, by omega⟩ x)
  t02 i x := (of_l50 _ _ _ _ _ _ _ _ _ _ _ _ _ _ _ i x).trans (iblk4_at m c t B hB ⟨32 + i.val, by omega⟩ x)
  t03 i x := (of_l67 _ _ _ _ _ _ _ _ _ _ _ _ _ _ _ i x).trans (iblk4_at m c t B hB ⟨48 + i.val, by omega⟩ x)
  c0 x := (of_l92 _ _ _ _ _ _ _ _ _ _ _ _ _ _ _ x).trans (iblk7_at m c t B hB 0 x)
  d0 x := (of_l1131 _ _ _ _ _ _ _ _ _ _ _ _ _ _ _ x).trans (iblk7_at m c t B hB 0 x)
  a10 x := (of_l149 _ _ _ _ _ _ _ _ _ _ _ _ _ _ _ x).trans (iblk1_at m c t 0 x)
  a11 x := (of_l150 _ _ _ _ _ _ _ _ _ _ _ _ _ _ _ x).trans (iblk1_at m c t 1 x)
  a12 x := (of_l151 _ _ _ _ _ _ _ _ _ _ _ _ _ _ _ x).trans (iblk1_at m c t 2 x)
  t10 i x := (of_l152 _ _ _ _ _ _ _ _ _ _ _ _ _ _ _ i x).trans (iblk5_at m c t B hB ⟨0 + i.val, by omega⟩ x)
  t11 i x := (of_l169 _ _ _ _ _ _ _ _ _ _ _ _ _ _ _ i x).trans (iblk5_at m c t B hB ⟨16 + i.val, by omega⟩ x)
  t12 i x := (of_l186 _ _ _ _ _ _ _ _ _ _ _ _ _ _ _ i x).trans (iblk5_at m c t B hB ⟨32 + i.val, by omega⟩ x)
  t13 i x := (of_l203 _ _ _ _ _ _ _ _ _ _ _ _ _ _ _ i x).trans (iblk5_at m c t B hB ⟨48 + i.val, by omega⟩ x)
  c1 x := (of_l228 _ _ _ _ _ _ _ _ _ _ _ _ _ _ _ x).trans (iblk8_at m c t B hB 0 x)
  d1 x := (of_l1470 _ _ _ _ _ _ _ _ _ _ _ _ _ _ _ x).trans (iblk8_at m c t B hB 0 x)
  a20 x := (of_l285 _ _ _ _ _ _ _ _ _ _ _ _ _ _ _ x).trans (iblk2_at m c t 0 x)
  a21 x := (of_l286 _ _ _ _ _ _ _ _ _ _ _ _ _ _ _ x).trans (iblk2_at m c t 1 x)
  a22 x := (of_l287 _ _ _ _ _ _ _ _ _ _ _ _ _ _ _ x).trans (iblk2_at m c t 2 x)
  t20 i x := (of_l288 _ _ _ _ _ _ _ _ _ _ _ _ _ _ _ i x).trans (iblk6_at m c t B hB ⟨0 + i.val, by omega⟩ x)
  t21 i x := (of_l305 _ _ _ _ _ _ _ _ _ _ _ _ _ _ _ i x).trans (iblk6_at m c t B hB ⟨16 + i.val, by omega⟩ x)
  t22 i x := (of_l322 _ _ _ _ _ _ _ _ _ _ _ _ _ _ _ i x).trans (iblk6_at m c t B hB ⟨32 + i.val, by omega⟩ x)
  t23 i x := (of_l339 _ _ _ _ _ _ _ _ _ _ _ _ _ _ _ i x).trans (iblk6_at m c t B hB ⟨48 + i.val, by omega⟩ x)
  c2 x := (of_l364 _ _ _ _ _ _ _ _ _ _ _ _ _ _ _ x).trans (iblk9_at m c t B hB 0 x)
  d2 x := (of_l1809 _ _ _ _ _ _ _ _ _ _ _ _ _ _ _ x).trans (iblk9_at m c t B hB 0 x)

end Cert.Meet
-- ==== Proof.Run0.lean ====
module

public import proofs.«01_k».proof.Proof.Chain
public import proofs.«01_k».proof.Proof.Gen.KernelIdeal.Frame
public import Idealize.ShloMosaic.Lib.VecWindow
public import Idealize.ShloMosaic.Lib.Pipeline.Value

/-! The values that the run of the body finds are the values of the chain (part 1). -/

@[expose] public section

set_option maxRecDepth 65536
set_option maxHeartbeats 1000000

noncomputable section

namespace Cert.KernelIdeal.Gen

open Idealize.ShloMosaic Idealize.ShloMosaic.TcCoe Idealize.SL.Sem
open Facts₀ Facts

/-- The arguments that the body runs on. -/
structure Env where
  c : Dev nD
  i : grid0.Coords
  a1 : Memref sig .tc .vmem S8x6400 .f32
  h1 : a1.IsWhole
  a2 : Memref sig .tc .vmem S8x1600 .f32
  h2 : a2.IsWhole
  a3 : Memref sig .tc .vmem S8x400 .f32
  h3 : a3.IsWhole
  a4 : Memref sig .tc .vmem S1x12x4 .f32
  h4 : a4.IsWhole
  a5 : Memref sig .tc .vmem S1x64x6400 .f32
  h5 : a5.IsWhole
  a6 : Memref sig .tc .vmem S1x64x1600 .f32
  h6 : a6.IsWhole
  a7 : Memref sig .tc .vmem S1x64x400 .f32
  h7 : a7.IsWhole
  a8 : Memref sig .tc .vmem S1x1x6400 .f32
  h8 : a8.IsWhole
  a9 : Memref sig .tc .vmem S1x1x1600 .f32
  h9 : a9.IsWhole
  a10 : Memref sig .tc .vmem S1x1x400 .f32
  h10 : a10.IsWhole
  a11 : Memref sig .tc .vmem S1x32x6400 .f32
  h11 : a11.IsWhole
  a12 : Memref sig .tc .vmem S1x32x1600 .f32
  h12 : a12.IsWhole
  a13 : Memref sig .tc .vmem S1x32x400 .f32
  h13 : a13.IsWhole
  a14 : Memref sig .tc .vmem S1x32x25600 .f32
  h14 : a14.IsWhole
  a15 : Memref sig .tc .vmem S1x12x25600 .f32
  h15 : a15.IsWhole
  a16 : Memref sig .tc .vmem S1x1x128 .f32
  h16 : a16.IsWhole
  hc0 : cond0_0 i
  x0 : Vec Ideal S8x6400 .f32
  x1 : Vec Ideal S8x1600 .f32
  x2 : Vec Ideal S8x400 .f32
  x3 : Vec Ideal S1x12x4 .f32
  x4 : Vec Ideal S1x64x6400 .f32
  x5 : Vec Ideal S1x64x1600 .f32
  x6 : Vec Ideal S1x64x400 .f32
  x7 : Vec Ideal S1x1x6400 .f32
  x8 : Vec Ideal S1x1x1600 .f32
  x9 : Vec Ideal S1x1x400 .f32
  x10 : Vec Ideal S1x32x6400 .f32
  x11 : Vec Ideal S1x32x1600 .f32
  x12 : Vec Ideal S1x32x400 .f32
  x13 : Vec Ideal S1x32x25600 .f32
  x14 : Vec Ideal S1x12x25600 .f32

/-- What the body loads. -/
def Env.b (E : Env) : Blk := ⟨View.readAt (Elt Ideal) E.a4.view (Rect.unit (s := S1x12x4) ![0, 0, 0] S1x12x1.size inb_S1x12x4_S1x12x1_0_0_0).toLoadRect (E.h4.unread E.x3), View.readAt (Elt Ideal) E.a4.view (Rect.unit (s := S1x12x4) ![0, 0, 1] S1x12x1.size inb_S1x12x4_S1x12x1_0_0_1).toLoadRect (E.h4.unread E.x3), View.readAt (Elt Ideal) E.a4.view (Rect.unit (s := S1x12x4) ![0, 0, 2] S1x12x1.size inb_S1x12x4_S1x12x1_0_0_2).toLoadRect (E.h4.unread E.x3), View.readAt (Elt Ideal) E.a4.view (Rect.unit (s := S1x12x4) ![0, 0, 3] S1x12x1.size inb_S1x12x4_S1x12x1_0_0_3).toLoadRect (E.h4.unread E.x3), View.readAt (Elt Ideal) E.a5.view (Rect.unit (s := S1x64x6400) ![0, 0, 0] S1x16x6400.size inb_S1x64x6400_S1x16x6400_0_0_0).toLoadRect (E.h5.unread E.x4), View.readAt (Elt Ideal) E.a5.view (Rect.unit (s := S1x64x6400) ![0, 16, 0] S1x16x6400.size inb_S1x64x6400_S1x16x6400_0_16_0).toLoadRect (E.h5.unread E.x4), View.readAt (Elt Ideal) E.a5.view (Rect.unit (s := S1x64x6400) ![0, 32, 0] S1x16x6400.size inb_S1x64x6400_S1x16x6400_0_32_0).toLoadRect (E.h5.unread E.x4), View.readAt (Elt Ideal) E.a5.view (Rect.unit (s := S1x64x6400) ![0, 48, 0] S1x16x6400.size inb_S1x64x6400_S1x16x6400_0_48_0).toLoadRect (E.h5.unread E.x4), View.readAt (Elt Ideal) E.a1.view (Rect.unit (s := S8x6400) ![0, 0] S1x6400.size inb_S8x6400_S1x6400_0_0).toLoadRect (E.h1.unread E.x0), View.readAt (Elt Ideal) E.a1.view (Rect.unit (s := S8x6400) ![2, 0] S1x6400.size inb_S8x6400_S1x6400_2_0).toLoadRect (E.h1.unread E.x0), View.readAt (Elt Ideal) E.a1.view (Rect.unit (s := S8x6400) ![1, 0] S1x6400.size inb_S8x6400_S1x6400_1_0).toLoadRect (E.h1.unread E.x0), View.readAt (Elt Ideal) E.a8.view (Rect.unit (s := S1x1x6400) ![0, 0, 0] S1x1x6400.size inb_S1x1x6400_S1x1x6400_0_0_0).toLoadRect (E.h8.unread E.x7), View.readAt (Elt Ideal) E.a6.view (Rect.unit (s := S1x64x1600) ![0, 0, 0] S1x16x1600.size inb_S1x64x1600_S1x16x1600_0_0_0).toLoadRect (E.h6.unread E.x5), View.readAt (Elt Ideal) E.a6.view (Rect.unit (s := S1x64x1600) ![0, 16, 0] S1x16x1600.size inb_S1x64x1600_S1x16x1600_0_16_0).toLoadRect (E.h6.unread E.x5), View.readAt (Elt Ideal) E.a6.view (Rect.unit (s := S1x64x1600) ![0, 32, 0] S1x16x1600.size inb_S1x64x1600_S1x16x1600_0_32_0).toLoadRect (E.h6.unread E.x5), View.readAt (Elt Ideal) E.a6.view (Rect.unit (s := S1x64x1600) ![0, 48, 0] S1x16x1600.size inb_S1x64x1600_S1x16x1600_0_48_0).toLoadRect (E.h6.unread E.x5), View.readAt (Elt Ideal) E.a2.view (Rect.unit (s := S8x1600) ![0, 0] S1x1600.size inb_S8x1600_S1x1600_0_0).toLoadRect (E.h2.unread E.x1), View.readAt (Elt Ideal) E.a2.view (Rect.unit (s := S8x1600) ![2, 0] S1x1600.size inb_S8x1600_S1x1600_2_0).toLoadRect (E.h2.unread E.x1), View.readAt (Elt Ideal) E.a2.view (Rect.unit (s := S8x1600) ![1, 0] S1x1600.size inb_S8x1600_S1x1600_1_0).toLoadRect (E.h2.unread E.x1), View.readAt (Elt Ideal) E.a9.view (Rect.unit (s := S1x1x1600) ![0, 0, 0] S1x1x1600.size inb_S1x1x1600_S1x1x1600_0_0_0).toLoadRect (E.h9.unread E.x8), View.readAt (Elt Ideal) E.a7.view (Rect.unit (s := S1x64x400) ![0, 0, 0] S1x16x400.size inb_S1x64x400_S1x16x400_0_0_0).toLoadRect (E.h7.unread E.x6), View.readAt (Elt Ideal) E.a7.view (Rect.unit (s := S1x64x400) ![0, 16, 0] S1x16x400.size inb_S1x64x400_S1x16x400_0_16_0).toLoadRect (E.h7.unread E.x6), View.readAt (Elt Ideal) E.a7.view (Rect.unit (s := S1x64x400) ![0, 32, 0] S1x16x400.size inb_S1x64x400_S1x16x400_0_32_0).toLoadRect (E.h7.unread E.x6), View.readAt (Elt Ideal) E.a7.view (Rect.unit (s := S1x64x400) ![0, 48, 0] S1x16x400.size inb_S1x64x400_S1x16x400_0_48_0).toLoadRect (E.h7.unread E.x6), View.readAt (Elt Ideal) E.a3.view (Rect.unit (s := S8x400) ![0, 0] S1x400.size inb_S8x400_S1x400_0_0).toLoadRect (E.h3.unread E.x2), View.readAt (Elt Ideal) E.a3.view (Rect.unit (s := S8x400) ![2, 0] S1x400.size inb_S8x400_S1x400_2_0).toLoadRect (E.h3.unread E.x2), View.readAt (Elt Ideal) E.a3.view (Rect.unit (s := S8x400) ![1, 0] S1x400.size inb_S8x400_S1x400_1_0).toLoadRect (E.h3.unread E.x2), View.readAt (Elt Ideal) E.a10.view (Rect.unit (s := S1x1x400) ![0, 0, 0] S1x1x400.size inb_S1x1x400_S1x1x400_0_0_0).toLoadRect (E.h10.unread E.x9), View.readAt (Elt Ideal) E.a8.view (Rect.unit (s := S1x1x6400) ![0, 0, 0] S1x1x6400.size inb_S1x1x6400_S1x1x6400_0_0_0).toLoadRect (E.h8.unread E.x7), View.readAt (Elt Ideal) E.a5.view (Rect.unit (s := S1x64x6400) ![0, 0, 0] S1x16x6400.size inb_S1x64x6400_S1x16x6400_0_0_0).toLoadRect (E.h5.unread E.x4), View.readAt (Elt Ideal) E.a5.view (Rect.unit (s := S1x64x6400) ![0, 16, 0] S1x16x6400.size inb_S1x64x6400_S1x16x6400_0_16_0).toLoadRect (E.h5.unread E.x4), View.readAt (Elt Ideal) E.a5.view (Rect.unit (s := S1x64x6400) ![0, 32, 0] S1x16x6400.size inb_S1x64x6400_S1x16x6400_0_32_0).toLoadRect (E.h5.unread E.x4), View.readAt (Elt Ideal) E.a5.view (Rect.unit (s := S1x64x6400) ![0, 48, 0] S1x16x6400.size inb_S1x64x6400_S1x16x6400_0_48_0).toLoadRect (E.h5.unread E.x4), View.readAt (Elt Ideal) E.a9.view (Rect.unit (s := S1x1x1600) ![0, 0, 0] S1x1x1600.size inb_S1x1x1600_S1x1x1600_0_0_0).toLoadRect (E.h9.unread E.x8), View.readAt (Elt Ideal) E.a6.view (Rect.unit (s := S1x64x1600) ![0, 0, 0] S1x16x1600.size inb_S1x64x1600_S1x16x1600_0_0_0).toLoadRect (E.h6.unread E.x5), View.readAt (Elt Ideal) E.a6.view (Rect.unit (s := S1x64x1600) ![0, 16, 0] S1x16x1600.size inb_S1x64x1600_S1x16x1600_0_16_0).toLoadRect (E.h6.unread E.x5), View.readAt (Elt Ideal) E.a6.view (Rect.unit (s := S1x64x1600) ![0, 32, 0] S1x16x1600.size inb_S1x64x1600_S1x16x1600_0_32_0).toLoadRect (E.h6.unread E.x5), View.readAt (Elt Ideal) E.a6.view (Rect.unit (s := S1x64x1600) ![0, 48, 0] S1x16x1600.size inb_S1x64x1600_S1x16x1600_0_48_0).toLoadRect (E.h6.unread E.x5), View.readAt (Elt Ideal) E.a10.view (Rect.unit (s := S1x1x400) ![0, 0, 0] S1x1x400.size inb_S1x1x400_S1x1x400_0_0_0).toLoadRect (E.h10.unread E.x9), View.readAt (Elt Ideal) E.a7.view (Rect.unit (s := S1x64x400) ![0, 0, 0] S1x16x400.size inb_S1x64x400_S1x16x400_0_0_0).toLoadRect (E.h7.unread E.x6), View.readAt (Elt Ideal) E.a7.view (Rect.unit (s := S1x64x400) ![0, 16, 0] S1x16x400.size inb_S1x64x400_S1x16x400_0_16_0).toLoadRect (E.h7.unread E.x6), View.readAt (Elt Ideal) E.a7.view (Rect.unit (s := S1x64x400) ![0, 32, 0] S1x16x400.size inb_S1x64x400_S1x16x400_0_32_0).toLoadRect (E.h7.unread E.x6), View.readAt (Elt Ideal) E.a7.view (Rect.unit (s := S1x64x400) ![0, 48, 0] S1x16x400.size inb_S1x64x400_S1x16x400_0_48_0).toLoadRect (E.h7.unread E.x6), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a11.view (Rect.unit (s := S1x32x6400) ![0, 0, 0] S1x32x6400.size inb_S1x32x6400_S1x32x6400_0_0_0).toLoadRect (E.h11.unread E.x10), View.readAt (Elt Ideal) E.a12.view (Rect.unit (s := S1x32x1600) ![0, 0, 0] S1x32x1600.size inb_S1x32x1600_S1x32x1600_0_0_0).toLoadRect (E.h12.unread E.x11), View.readAt (Elt Ideal) E.a13.view (Rect.unit (s := S1x32x400) ![0, 0, 0] S1x32x400.size inb_S1x32x400_S1x32x400_0_0_0).toLoadRect (E.h13.unread E.x12), View.readAt (Elt Ideal) E.a14.view (Rect.unit (s := S1x32x25600) ![0, 0, 0] S1x32x12800.size inb_S1x32x25600_S1x32x12800_0_0_0).toLoadRect (E.h14.unread E.x13), View.readAt (Elt Ideal) E.a15.view (Rect.unit (s := S1x12x25600) ![0, 0, 0] S1x12x12800.size inb_S1x12x25600_S1x12x12800_0_0_0).toLoadRect (E.h15.unread E.x14), View.readAt (Elt Ideal) E.a14.view (Rect.unit (s := S1x32x25600) ![0, 0, 12800] S1x32x12800.size inb_S1x32x25600_S1x32x12800_0_0_12800).toLoadRect (E.h14.unread E.x13), View.readAt (Elt Ideal) E.a15.view (Rect.unit (s := S1x12x25600) ![0, 0, 12800] S1x12x12800.size inb_S1x12x25600_S1x12x12800_0_0_12800).toLoadRect (E.h15.unread E.x14)⟩

theorem s1 (E : Env) : kernelRun0_A.sl.v1 (F := Ideal) E.c E.a4 E.h4 E.x3 = w1 E.b := by
  unfold w1; rfl

theorem s3 (E : Env) : kernelRun0_A.sl.v3 (F := Ideal) E.c E.a4 E.h4 E.x3 = w3 E.b := by
  unfold w3; rfl

theorem s5 (E : Env) : kernelRun0_A.sl.v5 (F := Ideal) E.c E.a4 E.h4 E.x3 = w5 E.b := by
  unfold w5; rfl

theorem s7 (E : Env) : kernelRun0_A.sl.v7 (F := Ideal) E.c E.a4 E.h4 E.x3 = w7 E.b := by
  unfold w7; rfl

theorem s10 (E : Env) : kernelRun0_A.sl.v10 (F := Ideal) E.c E.a4 E.h4 E.x3 = w10 E.b := by
  unfold w10; rfl

theorem s12 (E : Env) : kernelRun0_A.sl.v12 (F := Ideal)  = w12 E.b := by
  unfold w12; rfl

theorem s30 (E : Env) : kernelRun0_A.sl.v30 (F := Ideal) E.c E.a5 E.h5 E.x4 = w30 E.b := by
  unfold w30; rfl

theorem s47 (E : Env) : kernelRun0_A.sl.v47 (F := Ideal) E.c E.a5 E.h5 E.x4 = w47 E.b := by
  unfold w47; rw [← s12]; exact rfl

theorem s64 (E : Env) : kernelRun0_A.sl.v64 (F := Ideal) E.c E.a5 E.h5 E.x4 = w64 E.b := by
  unfold w64; rw [← s12]; exact rfl

theorem s77 (E : Env) : kernelRun0_A.sl.v77 (F := Ideal) E.c E.a5 E.h5 E.x4 = w77 E.b := by
  unfold w77; rfl

theorem s85 (E : Env) : kernelRun0_A.sl.v85 (F := Ideal) E.c E.a1 E.h1 E.a5 E.h5 E.x0 E.x4 = w85 E.b := by
  unfold w85; rw [← s30]; exact rfl

theorem s87 (E : Env) : kernelRun0_A.sl.v87 (F := Ideal) E.c E.a1 E.h1 E.a5 E.h5 E.x0 E.x4 = w87 E.b := by
  unfold w87; rw [← s47]; exact rfl

theorem s89 (E : Env) : kernelRun0_A.sl.v89 (F := Ideal) E.c E.a1 E.h1 E.a5 E.h5 E.x0 E.x4 = w89 E.b := by
  unfold w89; rw [← s64]; exact rfl

theorem s91 (E : Env) : kernelRun0_A.sl.v91 (F := Ideal) E.c E.a1 E.h1 E.a5 E.h5 E.x0 E.x4 = w91 E.b := by
  unfold w91; rw [← s12, ← s77]; exact rfl

theorem s116 (E : Env) : kernelRun0_A.sl.v116 (F := Ideal) E.c E.a1 E.h1 E.a5 E.h5 E.x0 E.x4 = w116 E.b := by
  unfold w116; rw [← s12, ← s30, ← s47, ← s64, ← s77]; exact rfl

theorem s123 (E : Env) : kernelRun0_A.sl.v123 (F := Ideal) E.c E.a1 E.h1 E.a4 E.h4 E.a5 E.h5 E.x0 E.x3 E.x4 = w123 E.b := by
  unfold w123; rw [← s1, ← s3, ← s5, ← s7, ← s10, ← s12, ← s30, ← s47, ← s64, ← s77]; exact rfl

theorem s128 (E : Env) : kernelRun0_A.sl.v128 (F := Ideal) E.c E.a1 E.h1 E.a4 E.h4 E.a5 E.h5 E.a8 E.h8 E.x0 E.x3 E.x4 E.x7 = w128 E.b := by
  unfold w128; rw [← s1, ← s3, ← s5, ← s7, ← s10, ← s12, ← s30, ← s47, ← s64, ← s77]; exact rfl

theorem s129 (E : Env) : kernelRun0_A.sl.v129 (F := Ideal) E.c E.a1 E.h1 E.x0 = w129 E.b := by
  unfold w129; rfl

theorem s145 (E : Env) : kernelRun0_A.sl.v145 (F := Ideal) E.c E.a1 E.h1 E.a4 E.h4 E.a5 E.h5 E.a8 E.h8 E.x0 E.x3 E.x4 E.x7 = w145 E.b := by
  unfold w145; rw [← s3, ← s5, ← s7, ← s128, ← s129]; exact rfl

theorem s166 (E : Env) : kernelRun0_A.sl.v166 (F := Ideal) E.c E.a6 E.h6 E.x5 = w166 E.b := by
  unfold w166; rw [← s12]; exact rfl

theorem s170 (E : Env) : kernelRun0_A.sl.v170 (F := Ideal) E.c E.a6 E.h6 E.x5 = w170 E.b := by
  unfold w170; rfl

theorem s172 (E : Env) : kernelRun0_A.sl.v172 (F := Ideal) E.c E.a6 E.h6 E.x5 = w172 E.b := by
  unfold w172; rfl

theorem s183 (E : Env) : kernelRun0_A.sl.v183 (F := Ideal) E.c E.a6 E.h6 E.x5 = w183 E.b := by
  unfold w183; rw [← s12, ← s170, ← s172]; exact rfl

theorem s200 (E : Env) : kernelRun0_A.sl.v200 (F := Ideal) E.c E.a6 E.h6 E.x5 = w200 E.b := by
  unfold w200; rw [← s12]; exact rfl

theorem s217 (E : Env) : kernelRun0_A.sl.v217 (F := Ideal) E.c E.a6 E.h6 E.x5 = w217 E.b := by
  unfold w217; rw [← s12]; exact rfl

theorem s221 (E : Env) : kernelRun0_A.sl.v221 (F := Ideal) E.c E.a2 E.h2 E.a6 E.h6 E.x1 E.x5 = w221 E.b := by
  unfold w221; rw [← s166]; exact rfl

theorem s223 (E : Env) : kernelRun0_A.sl.v223 (F := Ideal) E.c E.a2 E.h2 E.a6 E.h6 E.x1 E.x5 = w223 E.b := by
  unfold w223; rw [← s183]; exact rfl

theorem s225 (E : Env) : kernelRun0_A.sl.v225 (F := Ideal) E.c E.a2 E.h2 E.a6 E.h6 E.x1 E.x5 = w225 E.b := by
  unfold w225; rw [← s200]; exact rfl

theorem s227 (E : Env) : kernelRun0_A.sl.v227 (F := Ideal) E.c E.a2 E.h2 E.a6 E.h6 E.x1 E.x5 = w227 E.b := by
  unfold w227; rw [← s217]; exact rfl

theorem s252 (E : Env) : kernelRun0_A.sl.v252 (F := Ideal) E.c E.a2 E.h2 E.a6 E.h6 E.x1 E.x5 = w252 E.b := by
  unfold w252; rw [← s166, ← s183, ← s200, ← s217]; exact rfl

theorem s259 (E : Env) : kernelRun0_A.sl.v259 (F := Ideal) E.c E.a2 E.h2 E.a4 E.h4 E.a6 E.h6 E.x1 E.x3 E.x5 = w259 E.b := by
  unfold w259; rw [← s1, ← s3, ← s5, ← s7, ← s10, ← s166, ← s183, ← s200, ← s217]; exact rfl

theorem s264 (E : Env) : kernelRun0_A.sl.v264 (F := Ideal) E.c E.a2 E.h2 E.a4 E.h4 E.a6 E.h6 E.a9 E.h9 E.x1 E.x3 E.x5 E.x8 = w264 E.b := by
  unfold w264; rw [← s1, ← s3, ← s5, ← s7, ← s10, ← s166, ← s183, ← s200, ← s217]; exact rfl

theorem s271 (E : Env) : kernelRun0_A.sl.v271 (F := Ideal) E.c E.a2 E.h2 E.a4 E.h4 E.x1 E.x3 = w271 E.b := by
  unfold w271; rw [← s1, ← s5]; exact rfl

theorem s272 (E : Env) : kernelRun0_A.sl.v272 (F := Ideal) E.c E.a2 E.h2 E.x1 = w272 E.b := by
  unfold w272; rfl

theorem s281 (E : Env) : kernelRun0_A.sl.v281 (F := Ideal) E.c E.a2 E.h2 E.a4 E.h4 E.a6 E.h6 E.a9 E.h9 E.x1 E.x3 E.x5 E.x8 = w281 E.b := by
  unfold w281; rw [← s3, ← s7, ← s264, ← s271, ← s272]; exact rfl

theorem s302 (E : Env) : kernelRun0_A.sl.v302 (F := Ideal) E.c E.a7 E.h7 E.x6 = w302 E.b := by
  unfold w302; rw [← s12]; exact rfl

theorem s311 (E : Env) : kernelRun0_A.sl.v311 (F := Ideal) E.c E.a7 E.h7 E.x6 = w311 E.b := by
  unfold w311; rfl

theorem s313 (E : Env) : kernelRun0_A.sl.v313 (F := Ideal) E.c E.a7 E.h7 E.x6 = w313 E.b := by
  unfold w313; rfl

theorem s353 (E : Env) : kernelRun0_A.sl.v353 (F := Ideal) E.c E.a7 E.h7 E.x6 = w353 E.b := by
  unfold w353; rw [← s12]; exact rfl

theorem s357 (E : Env) : kernelRun0_A.sl.v357 (F := Ideal) E.c E.a3 E.h3 E.a7 E.h7 E.x2 E.x6 = w357 E.b := by
  unfold w357; rw [← s302]; exact rfl

theorem s359 (E : Env) : kernelRun0_A.sl.v359 (F := Ideal) E.c E.a3 E.h3 E.a7 E.h7 E.x2 E.x6 = w359 E.b := by
  unfold w359; rw [← s12, ← s311, ← s313]; exact rfl

theorem s360 (E : Env) : kernelRun0_A.sl.v360 (F := Ideal) E.c E.a3 E.h3 E.a7 E.h7 E.x2 E.x6 = w360 E.b := by
  unfold w360; rw [← s12]; exact rfl

theorem s361 (E : Env) : kernelRun0_A.sl.v361 (F := Ideal) E.c E.a3 E.h3 E.a7 E.h7 E.x2 E.x6 = w361 E.b := by
  unfold w361; rw [← s360]; exact rfl

theorem s363 (E : Env) : kernelRun0_A.sl.v363 (F := Ideal) E.c E.a3 E.h3 E.a7 E.h7 E.x2 E.x6 = w363 E.b := by
  unfold w363; rw [← s353]; exact rfl

theorem s388 (E : Env) : kernelRun0_A.sl.v388 (F := Ideal) E.c E.a3 E.h3 E.a7 E.h7 E.x2 E.x6 = w388 E.b := by
  unfold w388; rw [← s353, ← s357, ← s359, ← s360]; exact rfl

theorem s395 (E : Env) : kernelRun0_A.sl.v395 (F := Ideal) E.c E.a3 E.h3 E.a4 E.h4 E.a7 E.h7 E.x2 E.x3 E.x6 = w395 E.b := by
  unfold w395; rw [← s1, ← s3, ← s5, ← s7, ← s10, ← s353, ← s357, ← s359, ← s360]; exact rfl

theorem s400 (E : Env) : kernelRun0_A.sl.v400 (F := Ideal) E.c E.a3 E.h3 E.a4 E.h4 E.a7 E.h7 E.a10 E.h10 E.x2 E.x3 E.x6 E.x9 = w400 E.b := by
  unfold w400; rw [← s1, ← s3, ← s5, ← s7, ← s10, ← s353, ← s357, ← s359, ← s360]; exact rfl

theorem s411 (E : Env) : kernelRun0_A.sl.v411 (F := Ideal) E.c E.a3 E.h3 E.a4 E.h4 E.x2 E.x3 = w411 E.b := by
  unfold w411; rw [← s1, ← s3, ← s5]; exact rfl

theorem s414 (E : Env) : kernelRun0_A.sl.v414 (F := Ideal) E.c E.a3 E.h3 E.a4 E.h4 E.x2 E.x3 = w414 E.b := by
  unfold w414; rw [← s7]; exact rfl

theorem s417 (E : Env) : kernelRun0_A.sl.v417 (F := Ideal) E.c E.a3 E.h3 E.a4 E.h4 E.a7 E.h7 E.a10 E.h10 E.x2 E.x3 E.x6 E.x9 = w417 E.b := by
  unfold w417; rw [← s400, ← s411, ← s414]; exact rfl

theorem s442 (E : Env) : kernelRun0_A.sl.v442 (F := Ideal) E.c E.a2 E.h2 E.a4 E.h4 E.a6 E.h6 E.a9 E.h9 E.x1 E.x3 E.x5 E.x8 = w442 E.b := by
  unfold w442; rw [← s281]; exact rfl

theorem s452 (E : Env) : kernelRun0_A.sl.v452 (F := Ideal) E.c E.a3 E.h3 E.a4 E.h4 E.a7 E.h7 E.a10 E.h10 E.x2 E.x3 E.x6 E.x9 = w452 E.b := by
  unfold w452; rw [← s400, ← s411, ← s414]; exact rfl

theorem s460 (E : Env) : kernelRun0_A.sl.v460 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w460 E.b := by
  unfold w460; rw [← s145, ← s281, ← s400, ← s411, ← s414]; exact rfl

theorem s462 (E : Env) : kernelRun0_A.sl.v462 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w462 E.b := by
  unfold w462; rw [← s145, ← s281, ← s400, ← s411, ← s414]; exact rfl

theorem s463 (E : Env) : kernelRun0_A.sl.v463  = w463 E.b := by
  unfold w463; rfl

theorem s490 (E : Env) : kernelRun0_A.sl.v490 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w490 E.b := by
  unfold w490; rw [← s145, ← s442, ← s452, ← s460, ← s462, ← s463]; exact rfl

theorem s500 (E : Env) : kernelRun0_A.sl.v500 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w500 E.b := by
  unfold w500; rw [← s281, ← s442, ← s452, ← s460, ← s462, ← s463]; exact rfl

theorem s510 (E : Env) : kernelRun0_A.sl.v510 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w510 E.b := by
  unfold w510; rw [← s417, ← s442, ← s452, ← s460, ← s462, ← s463]; exact rfl

theorem s512 (E : Env) : kernelRun0_A.sl.v512 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w512 E.b := by
  unfold w512; rw [← s145, ← s442, ← s452, ← s460, ← s462, ← s463]; exact rfl

theorem s513 (E : Env) : kernelRun0_A.sl.v513 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w513 E.b := by
  unfold w513; rw [← s281, ← s442, ← s452, ← s460, ← s462, ← s463]; exact rfl

theorem s548 (E : Env) : kernelRun0_A.sl.v548 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w548 E.b := by
  unfold w548; rw [← s145, ← s490, ← s500, ← s510, ← s512, ← s513]; exact rfl

theorem s558 (E : Env) : kernelRun0_A.sl.v558 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w558 E.b := by
  unfold w558; rw [← s281, ← s490, ← s500, ← s510, ← s512, ← s513]; exact rfl

theorem s560 (E : Env) : kernelRun0_A.sl.v560 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w560 E.b := by
  unfold w560; rw [← s417, ← s510, ← s512, ← s513]; exact rfl

theorem s562 (E : Env) : kernelRun0_A.sl.v562 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w562 E.b := by
  unfold w562; rw [← s417, ← s510, ← s512, ← s513]; exact rfl

theorem s564 (E : Env) : kernelRun0_A.sl.v564 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w564 E.b := by
  unfold w564; rw [← s490, ← s500, ← s510, ← s512, ← s513]; exact rfl

theorem s576 (E : Env) : kernelRun0_A.sl.v576 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w576 E.b := by
  unfold w576; rw [← s417, ← s548, ← s558, ← s560, ← s562, ← s564]; exact rfl

theorem s596 (E : Env) : kernelRun0_A.sl.v596 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w596 E.b := by
  unfold w596; rw [← s417, ← s548, ← s558, ← s560, ← s562, ← s564]; exact rfl

theorem s606 (E : Env) : kernelRun0_A.sl.v606 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w606 E.b := by
  unfold w606; rw [← s145, ← s417, ← s548, ← s558, ← s560, ← s562, ← s564]; exact rfl

theorem s608 (E : Env) : kernelRun0_A.sl.v608 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w608 E.b := by
  unfold w608; rw [← s281, ← s417, ← s548, ← s558, ← s560, ← s562, ← s564]; exact rfl

theorem s613 (E : Env) : kernelRun0_A.sl.v613 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w613 E.b := by
  unfold w613; rw [← s281, ← s417, ← s548, ← s558, ← s560, ← s562, ← s564]; exact rfl

theorem s634 (E : Env) : kernelRun0_A.sl.v634 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w634 E.b := by
  unfold w634; rw [← s281, ← s417, ← s576, ← s596, ← s606, ← s608, ← s613]; exact rfl

theorem s654 (E : Env) : kernelRun0_A.sl.v654 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w654 E.b := by
  unfold w654; rw [← s281, ← s417, ← s576, ← s596, ← s606, ← s608, ← s613]; exact rfl

theorem s662 (E : Env) : kernelRun0_A.sl.v662 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w662 E.b := by
  unfold w662; rw [← s145, ← s281, ← s417, ← s576, ← s596, ← s606, ← s608, ← s613]; exact rfl

theorem s692 (E : Env) : kernelRun0_A.sl.v692 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w692 E.b := by
  unfold w692; rw [← s145, ← s281, ← s417, ← s634, ← s654, ← s662]; exact rfl

theorem s705 (E : Env) : kernelRun0_A.sl.v705 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w705 E.b := by
  unfold w705; rw [← s145, ← s281, ← s417, ← s634, ← s654, ← s662]; exact rfl

theorem s710 (E : Env) : kernelRun0_A.sl.v710 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w710 E.b := by
  unfold w710; rw [← s145, ← s281, ← s417, ← s634, ← s654, ← s662]; exact rfl

theorem s742 (E : Env) : kernelRun0_A.sl.v742 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w742 E.b := by
  unfold w742; rw [← s417, ← s692, ← s705, ← s710]; exact rfl

theorem s750 (E : Env) : kernelRun0_A.sl.v750 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w750 E.b := by
  unfold w750; rw [← s145, ← s281, ← s417, ← s692, ← s705, ← s710]; exact rfl

theorem s756 (E : Env) : kernelRun0_A.sl.v756 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w756 E.b := by
  unfold w756; rw [← s145, ← s281, ← s417, ← s692, ← s705, ← s710]; exact rfl

theorem s760 (E : Env) : kernelRun0_A.sl.v760 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w760 E.b := by
  unfold w760; rw [← s145, ← s281, ← s417, ← s692, ← s705, ← s710]; exact rfl

theorem s790 (E : Env) : kernelRun0_A.sl.v790 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w790 E.b := by
  unfold w790; rw [← s281, ← s742, ← s750, ← s756, ← s760]; exact rfl

theorem s800 (E : Env) : kernelRun0_A.sl.v800 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w800 E.b := by
  unfold w800; rw [← s417, ← s742, ← s750, ← s756, ← s760]; exact rfl

theorem s808 (E : Env) : kernelRun0_A.sl.v808 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w808 E.b := by
  unfold w808; rw [← s145, ← s281, ← s417, ← s742, ← s750, ← s756, ← s760]; exact rfl

theorem s810 (E : Env) : kernelRun0_A.sl.v810 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w810 E.b := by
  unfold w810; rw [← s145, ← s281, ← s417, ← s742, ← s750, ← s756, ← s760]; exact rfl

theorem s838 (E : Env) : kernelRun0_A.sl.v838 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w838 E.b := by
  unfold w838; rw [← s145, ← s790, ← s800, ← s808, ← s810]; exact rfl

theorem s848 (E : Env) : kernelRun0_A.sl.v848 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w848 E.b := by
  unfold w848; rw [← s281, ← s790, ← s800, ← s808, ← s810]; exact rfl

theorem s858 (E : Env) : kernelRun0_A.sl.v858 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w858 E.b := by
  unfold w858; rw [← s417, ← s790, ← s800, ← s808, ← s810]; exact rfl

theorem s860 (E : Env) : kernelRun0_A.sl.v860 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w860 E.b := by
  unfold w860; rw [← s145, ← s790, ← s800, ← s808, ← s810]; exact rfl

theorem s861 (E : Env) : kernelRun0_A.sl.v861 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w861 E.b := by
  unfold w861; rw [← s281, ← s790, ← s800, ← s808, ← s810]; exact rfl

theorem s896 (E : Env) : kernelRun0_A.sl.v896 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w896 E.b := by
  unfold w896; rw [← s145, ← s838, ← s848, ← s858, ← s860, ← s861]; exact rfl

theorem s906 (E : Env) : kernelRun0_A.sl.v906 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w906 E.b := by
  unfold w906; rw [← s281, ← s838, ← s848, ← s858, ← s860, ← s861]; exact rfl

theorem s908 (E : Env) : kernelRun0_A.sl.v908 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w908 E.b := by
  unfold w908; rw [← s417, ← s858, ← s860, ← s861]; exact rfl

theorem s910 (E : Env) : kernelRun0_A.sl.v910 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w910 E.b := by
  unfold w910; rw [← s417, ← s858, ← s860, ← s861]; exact rfl

theorem s912 (E : Env) : kernelRun0_A.sl.v912 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w912 E.b := by
  unfold w912; rw [← s838, ← s848, ← s858, ← s860, ← s861]; exact rfl

theorem s924 (E : Env) : kernelRun0_A.sl.v924 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w924 E.b := by
  unfold w924; rw [← s417, ← s896, ← s906, ← s908, ← s910, ← s912]; exact rfl

theorem s944 (E : Env) : kernelRun0_A.sl.v944 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w944 E.b := by
  unfold w944; rw [← s417, ← s896, ← s906, ← s908, ← s910, ← s912]; exact rfl

theorem s954 (E : Env) : kernelRun0_A.sl.v954 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w954 E.b := by
  unfold w954; rw [← s145, ← s417, ← s896, ← s906, ← s908, ← s910, ← s912]; exact rfl

theorem s956 (E : Env) : kernelRun0_A.sl.v956 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w956 E.b := by
  unfold w956; rw [← s281, ← s417, ← s896, ← s906, ← s908, ← s910, ← s912]; exact rfl

theorem s961 (E : Env) : kernelRun0_A.sl.v961 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w961 E.b := by
  unfold w961; rw [← s281, ← s417, ← s896, ← s906, ← s908, ← s910, ← s912]; exact rfl

theorem s982 (E : Env) : kernelRun0_A.sl.v982 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w982 E.b := by
  unfold w982; rw [← s281, ← s417, ← s924, ← s944, ← s954, ← s956, ← s961]; exact rfl

theorem s1002 (E : Env) : kernelRun0_A.sl.v1002 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1002 E.b := by
  unfold w1002; rw [← s281, ← s417, ← s924, ← s944, ← s954, ← s956, ← s961]; exact rfl

theorem s1004 (E : Env) : kernelRun0_A.sl.v1004 (F := Ideal) E.c E.a1 E.h1 E.a4 E.h4 E.a5 E.h5 E.a8 E.h8 E.x0 E.x3 E.x4 E.x7 = w1004 E.b := by
  unfold w1004; rw [← s145]; exact rfl

theorem s1006 (E : Env) : kernelRun0_A.sl.v1006 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1006 E.b := by
  unfold w1006; rw [← s145, ← s281, ← s417, ← s924, ← s944, ← s954, ← s956, ← s961]; exact rfl

theorem s1008 (E : Env) : kernelRun0_A.sl.v1008 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1008 E.b := by
  unfold w1008; rw [← s145, ← s281, ← s417, ← s924, ← s944, ← s954, ← s956, ← s961]; exact rfl

theorem s1009 (E : Env) : kernelRun0_A.sl.v1009 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1009 E.b := by
  unfold w1009; rw [← s281, ← s417, ← s924, ← s944, ← s954, ← s956, ← s961]; exact rfl

theorem s1018 (E : Env) : kernelRun0_A.sl.v1018 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1018 E.b := by
  unfold w1018; rw [← s1004, ← s1006, ← s1008, ← s1009]; exact rfl

theorem s1023 (E : Env) : kernelRun0_A.sl.v1023 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1023 E.b := by
  unfold w1023; rw [← s1004, ← s1006, ← s1008, ← s1009]; exact rfl

theorem s1025 (E : Env) : kernelRun0_A.sl.v1025 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1025 E.b := by
  unfold w1025; rw [← s123, ← s1004, ← s1006, ← s1008, ← s1009]; exact rfl

theorem s1052 (E : Env) : kernelRun0_A.sl.v1052 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1052 E.b := by
  unfold w1052; rw [← s123, ← s1004, ← s1006, ← s1008, ← s1009]; exact rfl

theorem s1054 (E : Env) : kernelRun0_A.sl.v1054 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1054 E.b := by
  unfold w1054; rw [← s123, ← s1004, ← s1006, ← s1008, ← s1009]; exact rfl

theorem s1055 (E : Env) : kernelRun0_A.sl.v1055 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1055 E.b := by
  unfold w1055; rw [← s123, ← s1004, ← s1006, ← s1008, ← s1009]; exact rfl

theorem s1056 (E : Env) : kernelRun0_A.sl.v1056  = w1056 E.b := by
  unfold w1056; rfl

theorem s1091 (E : Env) : kernelRun0_A.sl.v1091 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1091 E.b := by
  unfold w1091; rw [← s1, ← s1025, ← s1052, ← s1054, ← s1055, ← s1056]; exact rfl

theorem s1095 (E : Env) : kernelRun0_A.sl.v1095 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1095 E.b := by
  unfold w1095; rw [← s3, ← s1025, ← s1052, ← s1054, ← s1055, ← s1056]; exact rfl

theorem s1099 (E : Env) : kernelRun0_A.sl.v1099 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1099 E.b := by
  unfold w1099; rw [← s5, ← s1025, ← s1052, ← s1054, ← s1055, ← s1056]; exact rfl

theorem s1103 (E : Env) : kernelRun0_A.sl.v1103 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1103 E.b := by
  unfold w1103; rw [← s7, ← s1025, ← s1052, ← s1054, ← s1055, ← s1056]; exact rfl

theorem s1104 (E : Env) : kernelRun0_A.sl.v1104 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1104 E.b := by
  unfold w1104; rw [← s5, ← s89, ← s1025, ← s1052, ← s1054, ← s1055, ← s1056]; exact rfl

theorem s1105 (E : Env) : kernelRun0_A.sl.v1105 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1105 E.b := by
  unfold w1105; rw [← s1, ← s85, ← s1025, ← s1052, ← s1054, ← s1055, ← s1056]; exact rfl

theorem s1130 (E : Env) : kernelRun0_A.sl.v1130 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1130 E.b := by
  unfold w1130; rw [← s87, ← s91, ← s116, ← s1018, ← s1091, ← s1095, ← s1099, ← s1103, ← s1104, ← s1105]; exact rfl

theorem s1151 (E : Env) : kernelRun0_A.sl.v1151 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1151 E.b := by
  unfold w1151; rw [← s87, ← s91, ← s116, ← s1018, ← s1091, ← s1095, ← s1099, ← s1103, ← s1104, ← s1105]; exact rfl

theorem s1152 (E : Env) : kernelRun0_A.sl.v1152 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1152 E.b := by
  unfold w1152; rw [← s1151]; exact rfl

theorem s1357 (E : Env) : kernelRun0_A.sl.v1357 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1357 E.b := by
  unfold w1357; rw [← s281, ← s982, ← s1002]; exact rfl

theorem s1362 (E : Env) : kernelRun0_A.sl.v1362 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1362 E.b := by
  unfold w1362; rw [← s281, ← s982, ← s1002, ← s1023]; exact rfl

theorem s1364 (E : Env) : kernelRun0_A.sl.v1364 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1364 E.b := by
  unfold w1364; rw [← s259, ← s281, ← s982, ← s1002]; exact rfl

theorem s1374 (E : Env) : kernelRun0_A.sl.v1374 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1374 E.b := by
  unfold w1374; rw [← s259, ← s281, ← s982, ← s1002]; exact rfl

theorem s1376 (E : Env) : kernelRun0_A.sl.v1376 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1376 E.b := by
  unfold w1376; rw [← s259, ← s281, ← s982, ← s1002]; exact rfl

theorem s1423 (E : Env) : kernelRun0_A.sl.v1423 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1423 E.b := by
  unfold w1423; rw [← s1364, ← s1374, ← s1376]; exact rfl

theorem s1461 (E : Env) : kernelRun0_A.sl.v1461 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1461 E.b := by
  unfold w1461; rw [← s1, ← s3, ← s5, ← s7, ← s221, ← s223, ← s225, ← s227, ← s252, ← s1423]; exact rfl

theorem s1469 (E : Env) : kernelRun0_A.sl.v1469 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1469 E.b := by
  unfold w1469; rw [← s1, ← s3, ← s5, ← s7, ← s221, ← s223, ← s225, ← s227, ← s252, ← s1130, ← s1357, ← s1423]; exact rfl

theorem s1491 (E : Env) : kernelRun0_A.sl.v1491 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1491 E.b := by
  unfold w1491; rw [← s1152, ← s1357, ← s1461]; exact rfl

theorem s1691 (E : Env) : kernelRun0_A.sl.v1691 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1691 E.b := by
  unfold w1691; rw [← s417, ← s982, ← s1002]; exact rfl

theorem s1696 (E : Env) : kernelRun0_A.sl.v1696 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1696 E.b := by
  unfold w1696; rw [← s417, ← s982, ← s1002]; exact rfl

theorem s1699 (E : Env) : kernelRun0_A.sl.v1699 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1699 E.b := by
  unfold w1699; rw [← s417, ← s982, ← s1002]; exact rfl

theorem s1701 (E : Env) : kernelRun0_A.sl.v1701 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1701 E.b := by
  unfold w1701; rw [← s1362, ← s1699]; exact rfl

theorem s1703 (E : Env) : kernelRun0_A.sl.v1703 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1703 E.b := by
  unfold w1703; rw [← s395, ← s1691]; exact rfl

theorem s1745 (E : Env) : kernelRun0_A.sl.v1745 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1745 E.b := by
  unfold w1745; rw [← s395, ← s1691]; exact rfl

theorem s1747 (E : Env) : kernelRun0_A.sl.v1747 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1747 E.b := by
  unfold w1747; rw [← s395, ← s1691]; exact rfl

theorem s1748 (E : Env) : kernelRun0_A.sl.v1748 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1748 E.b := by
  unfold w1748; rw [← s395, ← s1691]; exact rfl

theorem s1792 (E : Env) : kernelRun0_A.sl.v1792 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1792 E.b := by
  unfold w1792; rw [← s1, ← s3, ← s5, ← s7, ← s357, ← s359, ← s361, ← s363, ← s1703, ← s1745, ← s1747, ← s1748]; exact rfl

theorem s1797 (E : Env) : kernelRun0_A.sl.v1797 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1797 E.b := by
  unfold w1797; rw [← s1, ← s3, ← s5, ← s7, ← s357, ← s359, ← s361, ← s363, ← s388, ← s1703, ← s1745, ← s1747, ← s1748]; exact rfl

theorem s1808 (E : Env) : kernelRun0_A.sl.v1808 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1808 E.b := by
  unfold w1808; rw [← s1469, ← s1696, ← s1792, ← s1797]; exact rfl

theorem s1830 (E : Env) : kernelRun0_A.sl.v1830 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1830 E.b := by
  unfold w1830; rw [← s1491, ← s1696, ← s1792, ← s1797]; exact rfl

end Cert.KernelIdeal.Gen
-- ==== Proof.KLink.lean ====
module

public import proofs.«01_k».proof.Proof.Run0
public import proofs.«01_k».proof.Proof.Gen.KernelIdeal.Frame
public import Idealize.ShloMosaic.Lib.VecWindow
public import Idealize.ShloMosaic.Lib.Pipeline.Value

/-! What the run of the body leaves in the output block, lane by lane. -/

@[expose] public section

set_option maxRecDepth 65536
set_option maxHeartbeats 1000000

noncomputable section

namespace Cert.KernelIdeal.Gen

open Idealize.ShloMosaic Idealize.ShloMosaic.TcCoe Idealize.SL.Sem
open Facts₀ Facts

theorem b_eq (E : Env) : E.b = Blk.of E.x0 E.x1 E.x2 E.x3 E.x4 E.x5 E.x6 E.x7 E.x8 E.x9 E.x10 E.x11 E.x12 E.x13 E.x14 := by
  unfold Env.b Blk.of
  simp only [View.readAt_eq_ld, E.h1.read_unread, E.h2.read_unread, E.h3.read_unread, E.h4.read_unread, E.h5.read_unread, E.h6.read_unread, E.h7.read_unread, E.h8.read_unread, E.h9.read_unread, E.h10.read_unread, E.h11.read_unread, E.h12.read_unread, E.h13.read_unread, E.h14.read_unread, E.h15.read_unread]

theorem pay1_at (b : Blk) (p q r s t : Ideal .f32) (l : Fin 128) : k0_pay1 p q r s t (w2641 b) (w_c0_i32_812 b) (ix3 0 0 l) =
      Scalar.select (IntOp.cmpi CmpIPredicate.eq (BitVec.ofNat 32 l.val) 0#32) q 0 + Scalar.select (IntOp.cmpi CmpIPredicate.eq (BitVec.ofNat 32 l.val) 1#32) r 0
      + Scalar.select (IntOp.cmpi CmpIPredicate.eq (BitVec.ofNat 32 l.val) 2#32) s 0 + Scalar.select (IntOp.cmpi CmpIPredicate.eq (BitVec.ofNat 32 l.val) 3#32) t 0
      + Scalar.select (IntOp.cmpi CmpIPredicate.eq (BitVec.ofNat 32 l.val) 4#32) p 0 := by
  pointwise [k0_pay1, w2641, w2641, w_c0_i32_812]
  all_goals rfl

theorem sel_lane (l : Fin 128) (k : Fin 5) (q : EReal) :
    Scalar.select (IntOp.cmpi CmpIPredicate.eq (BitVec.ofNat 32 l.val) (BitVec.ofNat 32 k.val)) q 0 = if l.val = k.val then q else 0 := by
  unfold Scalar.select
  have h : IntOp.cmpi CmpIPredicate.eq (BitVec.ofNat 32 l.val) (BitVec.ofNat 32 k.val) = 1#1 ↔ l.val = k.val := by
    revert l k; decide +kernel
  by_cases hc : l.val = k.val
  · rw [if_pos hc]; exact if_pos (h.mpr hc)
  · rw [if_neg hc]; exact if_neg (fun e => hc (h.mp e))

/-- The lane of the box sum, of the class sum, of the count; the lanes that hold nothing. -/
theorem pay1_lane (b : Blk) (p q r s t : Ideal .f32) (l : Fin 128) (h2 : l.val ≠ 2) (h3 : l.val ≠ 3) :
    k0_pay1 p q r s t (w2641 b) (w_c0_i32_812 b) (ix3 0 0 l) = if l.val = 0 then q else if l.val = 1 then r else if l.val = 4 then p else 0 := by
  rw [pay1_at]
  refine (congrArg₂ _ (congrArg₂ _ (congrArg₂ _ (congrArg₂ _ (sel_lane l 0 q) (sel_lane l 1 r)) (sel_lane l 2 s)) (sel_lane l 3 t)) (sel_lane l 4 p)).trans ?_
  show (if l.val = 0 then q else 0) + (if l.val = 1 then r else 0) + (if l.val = 2 then s else 0) + (if l.val = 3 then t else 0) + (if l.val = 4 then p else 0) = _
  rw [if_neg h2, if_neg h3]
  by_cases e0 : l.val = 0
  · simp [e0]
  · by_cases e1 : l.val = 1
    · simp [e1]
    · by_cases e4 : l.val = 4 <;> simp [e0, e1, e4]

set_option maxHeartbeats 2000000 in
theorem out_env (E : Env) (l : Fin 128) (h2 : l.val ≠ 2) (h3 : l.val ≠ 3) : out0_A_15 (F := Ideal) E.c E.i E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.hc0 E.x0 E.x1 E.x2 E.x3 E.x4 E.x5 E.x6 E.x7 E.x8 E.x9 E.x10 E.x11 E.x12 E.x13 E.x14 (ix3 0 0 l)
    = if l.val = 0 then w1808 E.b else if l.val = 1 then w1830 E.b else if l.val = 4 then w1701 E.b else 0 := by
  have h : ∃ z : Ideal .f32, out0_A_15 (F := Ideal) E.c E.i E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.hc0 E.x0 E.x1 E.x2 E.x3 E.x4 E.x5 E.x6 E.x7 E.x8 E.x9 E.x10 E.x11 E.x12 E.x13 E.x14 = k0_pay1 (kernelRun0_A.sl.v1701 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (kernelRun0_A.sl.v1808 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (kernelRun0_A.sl.v1830 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (kernelRun0_A.sl.v2019 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) z (w2641 E.b) (w_c0_i32_812 E.b) := by
    unfold out0_A_15 kernelRun0_A
    exact ⟨_, (View.read_writes_full _ _ _ _ _).trans rfl⟩
  obtain ⟨z, h⟩ := h
  rw [h, pay1_lane E.b _ _ _ _ _ l h2 h3, s1701, s1808, s1830]

theorem out_eq (c : Dev nD) (i : grid0.Coords) (arg1 : Memref sig .tc .vmem S8x6400 .f32) (harg1 : arg1.IsWhole) (arg2 : Memref sig .tc .vmem S8x1600 .f32) (harg2 : arg2.IsWhole) (arg3 : Memref sig .tc .vmem S8x400 .f32) (harg3 : arg3.IsWhole) (arg4 : Memref sig .tc .vmem S1x12x4 .f32) (harg4 : arg4.IsWhole) (arg5 : Memref sig .tc .vmem S1x64x6400 .f32) (harg5 : arg5.IsWhole) (arg6 : Memref sig .tc .vmem S1x64x1600 .f32) (harg6 : arg6.IsWhole) (arg7 : Memref sig .tc .vmem S1x64x400 .f32) (harg7 : arg7.IsWhole) (arg8 : Memref sig .tc .vmem S1x1x6400 .f32) (harg8 : arg8.IsWhole) (arg9 : Memref sig .tc .vmem S1x1x1600 .f32) (harg9 : arg9.IsWhole) (arg10 : Memref sig .tc .vmem S1x1x400 .f32) (harg10 : arg10.IsWhole) (arg11 : Memref sig .tc .vmem S1x32x6400 .f32) (harg11 : arg11.IsWhole) (arg12 : Memref sig .tc .vmem S1x32x1600 .f32) (harg12 : arg12.IsWhole) (arg13 : Memref sig .tc .vmem S1x32x400 .f32) (harg13 : arg13.IsWhole) (arg14 : Memref sig .tc .vmem S1x32x25600 .f32) (harg14 : arg14.IsWhole) (arg15 : Memref sig .tc .vmem S1x12x25600 .f32) (harg15 : arg15.IsWhole) (arg16 : Memref sig .tc .vmem S1x1x128 .f32) (harg16 : arg16.IsWhole) (hc0 : cond0_0 i)
    (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (l : Fin 128) (h2 : l.val ≠ 2) (h3 : l.val ≠ 3) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14 (ix3 0 0 l) = if l.val = 0 then w1808 (Blk.of x0 x1 x2 x3 x4 x5 x6 x7 x8 x9 x10 x11 x12 x13 x14) else if l.val = 1 then w1830 (Blk.of x0 x1 x2 x3 x4 x5 x6 x7 x8 x9 x10 x11 x12 x13 x14) else if l.val = 4 then w1701 (Blk.of x0 x1 x2 x3 x4 x5 x6 x7 x8 x9 x10 x11 x12 x13 x14) else 0 :=
  (out_env ⟨c, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, hc0, x0, x1, x2, x3, x4, x5, x6, x7, x8, x9, x10, x11, x12, x13, x14⟩ l h2 h3).trans (by rw [b_eq ⟨c, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, hc0, x0, x1, x2, x3, x4, x5, x6, x7, x8, x9, x10, x11, x12, x13, x14⟩])

end Cert.KernelIdeal.Gen
-- ==== Proof.Assign.lean ====
module

public import proofs.«01_k».proof.Proof.Scal

/-!
The ground truth of an anchor: the first of the twelve boxes whose claim is the greatest. The kernel finds it in eleven steps
that keep the best value and its index; the reference takes the least index at which the maximum is attained.
-/

@[expose] public section

noncomputable section

namespace Cert.Sel
open Idealize.ShloMosaic

/-- Whether a value is above the best one so far. -/
def stepB (x m : EReal) : BitVec 1 := BitVec.ofBool (decide (m < x))

/-- The best value after `n` steps from `m`, the values read from place `s`. -/
def lastV (v : ℕ → EReal) (s : ℕ) (m : EReal) : ℕ → EReal
  | 0 => m
  | n + 1 => Scalar.select (stepB (v (s + n + 1)) (lastV v s m n)) (v (s + n + 1)) (lastV v s m n)

/-- The index of the best value after `n` steps. -/
def lastI (v : ℕ → EReal) (s : ℕ) (m : EReal) (i : BitVec 32) : ℕ → BitVec 32
  | 0 => i
  | n + 1 => Scalar.select (stepB (v (s + n + 1)) (lastV v s m n)) (BitVec.ofNat 32 (s + n + 1)) (lastI v s m i n)

def bv (v : ℕ → EReal) (n : ℕ) : EReal := lastV v 0 (v 0) n
def bi (v : ℕ → EReal) (n : ℕ) : BitVec 32 := lastI v 0 (v 0) 0#32 n

theorem bv_succ (v : ℕ → EReal) (n : ℕ) : bv v (n + 1) = Scalar.select (stepB (v (n + 1)) (bv v n)) (v (n + 1)) (bv v n) := by
  show Scalar.select (stepB (v (0 + n + 1)) (bv v n)) (v (0 + n + 1)) (bv v n) = _
  rw [Nat.zero_add]

theorem bi_succ (v : ℕ → EReal) (n : ℕ) :
    bi v (n + 1) = Scalar.select (stepB (v (n + 1)) (bv v n)) (BitVec.ofNat 32 (n + 1)) (bi v n) := by
  show Scalar.select (stepB (v (0 + n + 1)) (bv v n)) (BitVec.ofNat 32 (0 + n + 1)) (bi v n) = _
  rw [Nat.zero_add]

theorem lastV_bv (v : ℕ → EReal) (s n : ℕ) : lastV v s (bv v s) n = bv v (s + n) := by
  induction n with
  | zero => rfl
  | succ n ih =>
    show Scalar.select (stepB (v (s + n + 1)) (lastV v s (bv v s) n)) (v (s + n + 1)) (lastV v s (bv v s) n) = bv v (s + n + 1)
    rw [ih, bv_succ]

theorem lastI_bi (v : ℕ → EReal) (s n : ℕ) : lastI v s (bv v s) (bi v s) n = bi v (s + n) := by
  induction n with
  | zero => rfl
  | succ n ih =>
    show Scalar.select (stepB (v (s + n + 1)) (lastV v s (bv v s) n)) (BitVec.ofNat 32 (s + n + 1)) (lastI v s (bv v s) (bi v s) n)
      = bi v (s + n + 1)
    rw [ih, lastV_bv, bi_succ]

theorem select_step {α : Type} (x m : EReal) (a b : α) : Scalar.select (stepB x m) a b = if m < x then a else b := by
  unfold Scalar.select stepB
  by_cases h : m < x <;> simp [h]

/-- The index of the best value, as a number. -/
def fi (v : ℕ → EReal) : ℕ → ℕ
  | 0 => 0
  | n + 1 => if bv v n < v (n + 1) then n + 1 else fi v n

theorem bi_eq (v : ℕ → EReal) (n : ℕ) : bi v n = BitVec.ofNat 32 (fi v n) := by
  induction n with
  | zero => rfl
  | succ n ih =>
    rw [bi_succ, select_step, ih]
    show _ = BitVec.ofNat 32 (if bv v n < v (n + 1) then n + 1 else fi v n)
    split <;> rfl

theorem fi_spec (v : ℕ → EReal) (n : ℕ) :
    fi v n ≤ n ∧ v (fi v n) = bv v n ∧ (∀ j ≤ n, v j ≤ bv v n) ∧ ∀ j < fi v n, v j < bv v n := by
  induction n with
  | zero =>
    refine ⟨le_rfl, rfl, fun j hj => ?_, fun j hj => absurd hj (Nat.not_lt_zero _)⟩
    obtain rfl : j = 0 := by omega
    exact le_rfl
  | succ n ih =>
    obtain ⟨h1, h2, h3, h4⟩ := ih
    rw [bv_succ, select_step]
    by_cases h : bv v n < v (n + 1)
    · have e : fi v (n + 1) = n + 1 := if_pos h
      rw [if_pos h, e]
      refine ⟨le_rfl, rfl, fun j hj => ?_, fun j hj => (h3 j (by omega)).trans_lt h⟩
      rcases Nat.lt_or_ge j (n + 1) with hj' | hj'
      · exact ((h3 j (by omega)).trans_lt h).le
      · obtain rfl : j = n + 1 := by omega
        exact le_rfl
    · have e : fi v (n + 1) = fi v n := if_neg h
      rw [if_neg h, e]
      refine ⟨h1.trans (Nat.le_succ _), h2, fun j hj => ?_, h4⟩
      rcases Nat.lt_or_ge j (n + 1) with hj' | hj'
      · exact h3 j (by omega)
      · obtain rfl : j = n + 1 := by omega
        exact not_lt.mp h

/-- Twelve values read by a natural number. -/
def ext (f : Fin 12 → EReal) (k : ℕ) : EReal := f (Fin.ofNat 12 k)

theorem ext_val (f : Fin 12 → EReal) (r : Fin 12) : ext f r.val = f r :=
  congrArg f (Fin.ext (Nat.mod_eq_of_lt r.isLt))

/-- The first index of the greatest of twelve values. -/
def asg (f : Fin 12 → EReal) : Fin 12 := ⟨fi (ext f) 11, Nat.lt_succ_of_le (fi_spec _ _).1⟩

theorem asg_le (f : Fin 12 → EReal) (r : Fin 12) : f r ≤ f (asg f) := by
  obtain ⟨-, h2, h3, -⟩ := fi_spec (ext f) 11
  have h := h3 r.val (by omega)
  rw [← h2, ext_val] at h
  exact h.trans (ext_val f (asg f)).le

theorem asg_lt (f : Fin 12 → EReal) (r : Fin 12) (hr : r < asg f) : f r < f (asg f) := by
  obtain ⟨-, h2, -, h4⟩ := fi_spec (ext f) 11
  have h := h4 r.val hr
  rw [← h2, ext_val] at h
  exact h.trans_le (ext_val f (asg f)).le

theorem cmpi_eq_iff (a b : Fin 12) : IntOp.cmpi CmpIPredicate.eq (BitVec.ofNat 32 a.val) (BitVec.ofNat 32 b.val) = 1#1 ↔ a = b := by
  revert a b; decide

/-- The row that the one-hot column of the ground truth picks. -/
theorem onehot (f g : Fin 12 → EReal) :
    ∑ r : Fin 12, Scalar.select (IntOp.cmpi CmpIPredicate.eq (BitVec.ofNat 32 r.val) (bi (ext f) 11)) (1 : EReal) 0 * g r = g (asg f) := by
  have h : ∀ r : Fin 12, Scalar.select (IntOp.cmpi CmpIPredicate.eq (BitVec.ofNat 32 r.val) (bi (ext f) 11)) (1 : EReal) 0 * g r
      = if r = asg f then g r else 0 := by
    intro r
    rw [bi_eq]
    rw [show Scalar.select (IntOp.cmpi CmpIPredicate.eq (BitVec.ofNat 32 r.val) (BitVec.ofNat 32 (fi (ext f) 11))) (1 : EReal) 0 = if r = asg f then 1 else 0 from
      select_one _ _ _ (r = asg f) (cmpi_eq_iff r (asg f))]
    split <;> simp
  simp only [h, Finset.sum_ite_eq', Finset.mem_univ, if_true]

theorem fold_top (f : Fin 12 → EReal) : Finset.fold max (Ideal.ofBits FTy.f32 4286578688#32) f Finset.univ = f (asg f) := by
  rw [ninf]
  exact le_antisymm ((Finset.fold_max_le _).mpr ⟨bot_le, fun x _ => asg_le f x⟩)
    ((Finset.le_fold_max _).mpr (.inr ⟨asg f, Finset.mem_univ _, le_rfl⟩))

theorem fold_asg (f : Fin 12 → EReal) :
    Finset.fold IntOp.minsi 2147483647#32 (fun r : Fin 12 => Scalar.select (BitVec.ofBool (decide (f r = f (asg f)))) (BitVec.ofNat 32 r.val) 12#32)
      Finset.univ = BitVec.ofNat 32 (asg f).val := by
  have hs : ∀ r : Fin 12, Scalar.select (BitVec.ofBool (decide (f r = f (asg f)))) (BitVec.ofNat 32 r.val) 12#32
      = if f r = f (asg f) then BitVec.ofNat 32 r.val else 12#32 := by
    intro r
    unfold Scalar.select
    by_cases h : f r = f (asg f) <;> simp [h]
  have h12 : (12#32 : BitVec 32).toInt = 12 := by decide
  have hb : (2147483647#32 : BitVec 32).toInt = 2147483647 := by decide
  have ha := (asg f).isLt
  simp only [hs]
  apply BitVec.eq_of_toInt_eq
  rw [← Finset.fold_hom minsi_toInt, hb, show (BitVec.ofNat 32 (asg f).val).toInt = ((asg f).val : ℤ) from toInt_small (by omega)]
  refine le_antisymm ((Finset.fold_min_le _).mpr (.inr ⟨asg f, Finset.mem_univ _, ?_⟩)) ((Finset.le_fold_min _).mpr ⟨?_, fun r _ => ?_⟩)
  · rw [if_pos rfl, toInt_small (by omega)]
  · omega
  · have hrl := r.isLt
    split
    · rename_i h
      rw [toInt_small (by omega)]
      have hr : ¬ r < asg f := fun hl => absurd h (asg_lt f r hl).ne
      have : (asg f).val ≤ r.val := not_lt.mp hr
      omega
    · rw [h12]; omega

/-- Intersection over union of an anchor's box and its ground truth. -/
def iouE (x1 y1 x2 y2 g1 g2 g3 g4 : EReal) : EReal :=
  Ideal.div (interF g1 g2 g3 g4 x1 y1 x2 y2)
    ((x2 - x1) * (y2 - y1) + (g3 - g1) * (g4 - g2) - interF g1 g2 g3 g4 x1 y1 x2 y2 + Ideal.ofBits FTy.f32 814313567#32)

/-- The class loss of a logit against an overlap. -/
def clsF (x o : EReal) : EReal :=
  max x 0 - x * min 1 (max 0 o) + Ideal.log1p (Ideal.exp (-(max x (-x))))

open Classical in
/-- What each box claims of an anchor. -/
def claimF (M O : Fin 12 → Fin 8400 → EReal) (a : Fin 8400) (r : Fin 12) : EReal := if selP (M r) a then O r a else -1

end Cert.Sel
-- ==== Proof.KStep0.lean ====
module

public import Idealize.ShloMosaic.Lib.Pointwise
public import proofs.«01_k».proof.Proof.Chain
public import proofs.«01_k».proof.Proof.Assign

/-!
The ground truth that the kernel picks for an anchor of level 0.
-/

@[expose] public section

set_option maxRecDepth 16384

noncomputable section

namespace Cert.KernelIdeal.Gen
open Idealize.ShloMosaic Idealize.ShloMosaic.TcCoe Idealize.SL.Sem
open Facts₀ Facts
open Cert.Sel

theorem w1026_at (b : Blk) (x : Fin 6400) : w1026 b (ix2 0 x) = ext (fun r => w1025 b (ix2 r x)) 0 := by
  show extractStridedSlice S1x6400 ![0, 0] (w1025 b) slices_S12x6400_o0_0_S1x6400 (ix2 0 x) = _
  generalize w1025 b = z
  pointwise [ext]
  all_goals first | rfl | (simp only [lastI, lastV, select_step]; rfl)

theorem w1028_at (b : Blk) (x : Fin 6400) : w1028 b (ix2 0 x) = ext (fun r => w1025 b (ix2 r x)) 1 := by
  show extractStridedSlice S1x6400 ![1, 0] (w1025 b) slices_S12x6400_o1_0_S1x6400 (ix2 0 x) = _
  generalize w1025 b = z
  pointwise [ext]
  all_goals first | rfl | (simp only [lastI, lastV, select_step]; rfl)

theorem w1033_at (b : Blk) (x : Fin 6400) : w1033 b (ix2 0 x) = ext (fun r => w1025 b (ix2 r x)) 2 := by
  show extractStridedSlice S1x6400 ![2, 0] (w1025 b) slices_S12x6400_o2_0_S1x6400 (ix2 0 x) = _
  generalize w1025 b = z
  pointwise [ext]
  all_goals first | rfl | (simp only [lastI, lastV, select_step]; rfl)

theorem w1038_at (b : Blk) (x : Fin 6400) : w1038 b (ix2 0 x) = ext (fun r => w1025 b (ix2 r x)) 3 := by
  show extractStridedSlice S1x6400 ![3, 0] (w1025 b) slices_S12x6400_o3_0_S1x6400 (ix2 0 x) = _
  generalize w1025 b = z
  pointwise [ext]
  all_goals first | rfl | (simp only [lastI, lastV, select_step]; rfl)

theorem w1043_at (b : Blk) (x : Fin 6400) : w1043 b (ix2 0 x) = ext (fun r => w1025 b (ix2 r x)) 4 := by
  show extractStridedSlice S1x6400 ![4, 0] (w1025 b) slices_S12x6400_o4_0_S1x6400 (ix2 0 x) = _
  generalize w1025 b = z
  pointwise [ext]
  all_goals first | rfl | (simp only [lastI, lastV, select_step]; rfl)

theorem w1048_at (b : Blk) (x : Fin 6400) : w1048 b (ix2 0 x) = ext (fun r => w1025 b (ix2 r x)) 5 := by
  show extractStridedSlice S1x6400 ![5, 0] (w1025 b) slices_S12x6400_o5_0_S1x6400 (ix2 0 x) = _
  generalize w1025 b = z
  pointwise [ext]
  all_goals first | rfl | (simp only [lastI, lastV, select_step]; rfl)

theorem w1053_at (b : Blk) (x : Fin 6400) : w1053 b (ix2 0 x) = ext (fun r => w1025 b (ix2 r x)) 6 := by
  show extractStridedSlice S1x6400 ![6, 0] (w1025 b) slices_S12x6400_o6_0_S1x6400 (ix2 0 x) = _
  generalize w1025 b = z
  pointwise [ext]
  all_goals first | rfl | (simp only [lastI, lastV, select_step]; rfl)

theorem w1029_at (b : Blk) (x : Fin 6400) : w1029 b (ix2 0 x) = stepB (w1028 b (ix2 0 x)) (w1026 b (ix2 0 x)) := rfl

theorem w1030_at (b : Blk) (x : Fin 6400) : w1030 b (ix2 0 x) = bv (ext fun r => w1025 b (ix2 r x)) 1 := by
  have h : w1030 b (ix2 0 x) = Scalar.select (stepB (w1028 b (ix2 0 x)) (w1026 b (ix2 0 x))) (w1028 b (ix2 0 x)) (w1026 b (ix2 0 x)) := rfl
  rw [h, w1028_at, w1026_at]
  rfl

theorem w1034_at (b : Blk) (x : Fin 6400) : w1034 b (ix2 0 x) = stepB (w1033 b (ix2 0 x)) (w1030 b (ix2 0 x)) := rfl

theorem w1035_at (b : Blk) (x : Fin 6400) : w1035 b (ix2 0 x) = bv (ext fun r => w1025 b (ix2 r x)) 2 := by
  have h : w1035 b (ix2 0 x) = Scalar.select (stepB (w1033 b (ix2 0 x)) (w1030 b (ix2 0 x))) (w1033 b (ix2 0 x)) (w1030 b (ix2 0 x)) := rfl
  rw [h, w1033_at, w1030_at]
  rfl

theorem w1039_at (b : Blk) (x : Fin 6400) : w1039 b (ix2 0 x) = stepB (w1038 b (ix2 0 x)) (w1035 b (ix2 0 x)) := rfl

theorem w1040_at (b : Blk) (x : Fin 6400) : w1040 b (ix2 0 x) = bv (ext fun r => w1025 b (ix2 r x)) 3 := by
  have h : w1040 b (ix2 0 x) = Scalar.select (stepB (w1038 b (ix2 0 x)) (w1035 b (ix2 0 x))) (w1038 b (ix2 0 x)) (w1035 b (ix2 0 x)) := rfl
  rw [h, w1038_at, w1035_at]
  rfl

theorem w1044_at (b : Blk) (x : Fin 6400) : w1044 b (ix2 0 x) = stepB (w1043 b (ix2 0 x)) (w1040 b (ix2 0 x)) := rfl

theorem w1045_at (b : Blk) (x : Fin 6400) : w1045 b (ix2 0 x) = bv (ext fun r => w1025 b (ix2 r x)) 4 := by
  have h : w1045 b (ix2 0 x) = Scalar.select (stepB (w1043 b (ix2 0 x)) (w1040 b (ix2 0 x))) (w1043 b (ix2 0 x)) (w1040 b (ix2 0 x)) := rfl
  rw [h, w1043_at, w1040_at]
  rfl

theorem w1049_at (b : Blk) (x : Fin 6400) : w1049 b (ix2 0 x) = stepB (w1048 b (ix2 0 x)) (w1045 b (ix2 0 x)) := rfl

theorem w1050_at (b : Blk) (x : Fin 6400) : w1050 b (ix2 0 x) = bv (ext fun r => w1025 b (ix2 r x)) 5 := by
  have h : w1050 b (ix2 0 x) = Scalar.select (stepB (w1048 b (ix2 0 x)) (w1045 b (ix2 0 x))) (w1048 b (ix2 0 x)) (w1045 b (ix2 0 x)) := rfl
  rw [h, w1048_at, w1045_at]
  rfl

theorem w1054_at (b : Blk) (x : Fin 6400) : w1054 b (ix2 0 x) = stepB (w1053 b (ix2 0 x)) (w1050 b (ix2 0 x)) := rfl

theorem w1055_at (b : Blk) (x : Fin 6400) : w1055 b (ix2 0 x) = bv (ext fun r => w1025 b (ix2 r x)) 6 := by
  have h : w1055 b (ix2 0 x) = Scalar.select (stepB (w1053 b (ix2 0 x)) (w1050 b (ix2 0 x))) (w1053 b (ix2 0 x)) (w1050 b (ix2 0 x)) := rfl
  rw [h, w1053_at, w1050_at]
  rfl

theorem w1052_at (b : Blk) (x : Fin 6400) : w1052 b (ix2 0 x) = bi (ext fun r => w1025 b (ix2 r x)) 5 := by
  have h : w1052 b (ix2 0 x) = (Scalar.select (w1049 b (ix2 0 x)) 5#32 (Scalar.select (w1044 b (ix2 0 x)) 4#32 (Scalar.select (w1039 b (ix2 0 x)) 3#32 (Scalar.select (w1034 b (ix2 0 x)) 2#32 (Scalar.select (w1029 b (ix2 0 x)) 1#32 0#32))))) := rfl
  rw [h]
  simp only [w1029_at, w1034_at, w1039_at, w1044_at, w1049_at, w1028_at, w1033_at, w1038_at, w1043_at, w1048_at, w1026_at, w1030_at, w1035_at, w1040_at, w1045_at]
  rfl

theorem pay217_at (z : FVec Ideal S12x6400 .f32) (p : IVec S1x6400 32) (c : IVec S1x6400 1) (m : FVec Ideal S1x6400 .f32) (q : IVec S1x6400 32) (r : Fin 12) (x : Fin 6400) :
    k0_pay217 z p c m q (ix2 r x) = Scalar.select (IntOp.cmpi CmpIPredicate.eq (BitVec.ofNat 32 r.val) (lastI (ext fun r => z (ix2 r x)) 6 (m (ix2 0 x))
      (Scalar.select (c (ix2 0 x)) (q (ix2 0 x)) (p (ix2 0 x))) 5)) 1 0 := by
  pointwise [k0_pay217]
  all_goals first | rfl | (simp only [lastI, lastV, select_step]; rfl)

theorem w1087_at (b : Blk) (r : Fin 12) (x : Fin 6400) : w1087 b (ix2 r x) =
    Scalar.select (IntOp.cmpi CmpIPredicate.eq (BitVec.ofNat 32 r.val) (bi (ext fun r => w1025 b (ix2 r x)) 11)) 1 0 := by
  have h : Scalar.select (w1054 b (ix2 0 x)) 6#32 (w1052 b (ix2 0 x)) = bi (ext fun r => w1025 b (ix2 r x)) 6 := by
    rw [w1054_at, w1053_at, w1050_at, w1052_at]
    rfl
  have q : w1056 b (ix2 0 x) = 6#32 := rfl
  rw [show w1087 b = k0_pay217 (w1025 b) (w1052 b) (w1054 b) (w1055 b) (w1056 b) from rfl, pay217_at, q, h, w1055_at, lastI_bi]

theorem w1091_at (b : Blk) (x : Fin 6400) : w1091 b (ix2 0 x) = w1 b (ix2 (asg fun r => w1025 b (ix2 r x)) 0) := by
  have h : w1091 b (ix2 0 x) = ∑ r : Fin 12, w1087 b (ix2 r x) * w1 b (ix2 r 0) := by
    unfold w1091 k0_pay218
    rw [show k0_pay217 (w1025 b) (w1052 b) (w1054 b) (w1055 b) (w1056 b) = w1087 b from rfl]
    generalize w1087 b = y
    generalize w1 b = z
    pointwise [id]
  rw [h]
  simp only [w1087_at]
  exact onehot _ fun r => w1 b (ix2 r 0)

theorem w1095_at (b : Blk) (x : Fin 6400) : w1095 b (ix2 0 x) = w3 b (ix2 (asg fun r => w1025 b (ix2 r x)) 0) := by
  have h : w1095 b (ix2 0 x) = ∑ r : Fin 12, w1087 b (ix2 r x) * w3 b (ix2 r 0) := by
    unfold w1095 k0_pay219
    rw [show k0_pay217 (w1025 b) (w1052 b) (w1054 b) (w1055 b) (w1056 b) = w1087 b from rfl]
    generalize w1087 b = y
    generalize w3 b = z
    pointwise [id]
  rw [h]
  simp only [w1087_at]
  exact onehot _ fun r => w3 b (ix2 r 0)

theorem w1099_at (b : Blk) (x : Fin 6400) : w1099 b (ix2 0 x) = w5 b (ix2 (asg fun r => w1025 b (ix2 r x)) 0) := by
  have h : w1099 b (ix2 0 x) = ∑ r : Fin 12, w1087 b (ix2 r x) * w5 b (ix2 r 0) := by
    unfold w1099 k0_pay220
    rw [show k0_pay217 (w1025 b) (w1052 b) (w1054 b) (w1055 b) (w1056 b) = w1087 b from rfl]
    generalize w1087 b = y
    generalize w5 b = z
    pointwise [id]
  rw [h]
  simp only [w1087_at]
  exact onehot _ fun r => w5 b (ix2 r 0)

theorem w1103_at (b : Blk) (x : Fin 6400) : w1103 b (ix2 0 x) = w7 b (ix2 (asg fun r => w1025 b (ix2 r x)) 0) := by
  have h : w1103 b (ix2 0 x) = ∑ r : Fin 12, w1087 b (ix2 r x) * w7 b (ix2 r 0) := by
    unfold w1103 k0_pay221
    rw [show k0_pay217 (w1025 b) (w1052 b) (w1054 b) (w1055 b) (w1056 b) = w1087 b from rfl]
    generalize w1087 b = y
    generalize w7 b = z
    pointwise [id]
  rw [h]
  simp only [w1087_at]
  exact onehot _ fun r => w7 b (ix2 r 0)

end Cert.KernelIdeal.Gen
-- ==== Proof.KStep1.lean ====
module

public import Idealize.ShloMosaic.Lib.Pointwise
public import proofs.«01_k».proof.Proof.Chain
public import proofs.«01_k».proof.Proof.Assign

/-!
The ground truth that the kernel picks for an anchor of level 1.
-/

@[expose] public section

set_option maxRecDepth 16384

noncomputable section

namespace Cert.KernelIdeal.Gen
open Idealize.ShloMosaic Idealize.ShloMosaic.TcCoe Idealize.SL.Sem
open Facts₀ Facts
open Cert.Sel

theorem w1365_at (b : Blk) (x : Fin 1600) : w1365 b (ix2 0 x) = ext (fun r => w1364 b (ix2 r x)) 0 := by
  show extractStridedSlice S1x1600 ![0, 0] (w1364 b) slices_S12x1600_o0_0_S1x1600 (ix2 0 x) = _
  generalize w1364 b = z
  pointwise [ext]
  all_goals first | rfl | (simp only [lastI, lastV, select_step]; rfl)

theorem w1367_at (b : Blk) (x : Fin 1600) : w1367 b (ix2 0 x) = ext (fun r => w1364 b (ix2 r x)) 1 := by
  show extractStridedSlice S1x1600 ![1, 0] (w1364 b) slices_S12x1600_o1_0_S1x1600 (ix2 0 x) = _
  generalize w1364 b = z
  pointwise [ext]
  all_goals first | rfl | (simp only [lastI, lastV, select_step]; rfl)

theorem w1372_at (b : Blk) (x : Fin 1600) : w1372 b (ix2 0 x) = ext (fun r => w1364 b (ix2 r x)) 2 := by
  show extractStridedSlice S1x1600 ![2, 0] (w1364 b) slices_S12x1600_o2_0_S1x1600 (ix2 0 x) = _
  generalize w1364 b = z
  pointwise [ext]
  all_goals first | rfl | (simp only [lastI, lastV, select_step]; rfl)

theorem w1368_at (b : Blk) (x : Fin 1600) : w1368 b (ix2 0 x) = stepB (w1367 b (ix2 0 x)) (w1365 b (ix2 0 x)) := rfl

theorem w1369_at (b : Blk) (x : Fin 1600) : w1369 b (ix2 0 x) = bv (ext fun r => w1364 b (ix2 r x)) 1 := by
  have h : w1369 b (ix2 0 x) = Scalar.select (stepB (w1367 b (ix2 0 x)) (w1365 b (ix2 0 x))) (w1367 b (ix2 0 x)) (w1365 b (ix2 0 x)) := rfl
  rw [h, w1367_at, w1365_at]
  rfl

theorem w1373_at (b : Blk) (x : Fin 1600) : w1373 b (ix2 0 x) = stepB (w1372 b (ix2 0 x)) (w1369 b (ix2 0 x)) := rfl

theorem w1374_at (b : Blk) (x : Fin 1600) : w1374 b (ix2 0 x) = bv (ext fun r => w1364 b (ix2 r x)) 2 := by
  have h : w1374 b (ix2 0 x) = Scalar.select (stepB (w1372 b (ix2 0 x)) (w1369 b (ix2 0 x))) (w1372 b (ix2 0 x)) (w1369 b (ix2 0 x)) := rfl
  rw [h, w1372_at, w1369_at]
  rfl

theorem w1376_at (b : Blk) (x : Fin 1600) : w1376 b (ix2 0 x) = bi (ext fun r => w1364 b (ix2 r x)) 2 := by
  have h : w1376 b (ix2 0 x) = (Scalar.select (w1373 b (ix2 0 x)) 2#32 (Scalar.select (w1368 b (ix2 0 x)) 1#32 0#32)) := rfl
  rw [h]
  simp only [w1368_at, w1373_at, w1367_at, w1372_at, w1365_at, w1369_at]
  rfl

theorem pay284_at (z : FVec Ideal S12x1600 .f32) (m : FVec Ideal S1x1600 .f32) (p : IVec S1x1600 32) (r : Fin 12) (x : Fin 1600) :
    k0_pay284 z m p (ix2 r x) = IntOp.cmpi CmpIPredicate.eq (BitVec.ofNat 32 r.val) (lastI (ext fun r => z (ix2 r x)) 2 (m (ix2 0 x)) (p (ix2 0 x)) 9) := by
  pointwise [k0_pay284]
  all_goals first | rfl | (simp only [lastI, lastV, select_step]; rfl)

theorem w1426_at (b : Blk) (r : Fin 12) (x : Fin 1600) : w1426 b (ix2 r x) =
    Scalar.select (IntOp.cmpi CmpIPredicate.eq (BitVec.ofNat 32 r.val) (bi (ext fun r => w1364 b (ix2 r x)) 11)) 1 0 := by
  have h : w1426 b (ix2 r x) = Scalar.select (w1423 b (ix2 r x)) 1 0 := by
    unfold w1426
    generalize w1423 b = y
    pointwise [k0_pay287, w1424, w1425, k0_pay285, k0_pay286]
  rw [h, show w1423 b = k0_pay284 (w1364 b) (w1374 b) (w1376 b) from rfl, pay284_at, w1374_at, w1376_at, lastI_bi]

theorem w1430_at (b : Blk) (x : Fin 1600) : w1430 b (ix2 0 x) = w1 b (ix2 (asg fun r => w1364 b (ix2 r x)) 0) := by
  have h : w1430 b (ix2 0 x) = ∑ r : Fin 12, w1426 b (ix2 r x) * w1 b (ix2 r 0) := by
    unfold w1430 k0_pay288
    rw [show k0_pay287 (w1423 b) (w1424 b) (w1425 b) = w1426 b from rfl]
    generalize w1426 b = y
    generalize w1 b = z
    pointwise [id]
  rw [h]
  simp only [w1426_at]
  exact onehot _ fun r => w1 b (ix2 r 0)

theorem w1434_at (b : Blk) (x : Fin 1600) : w1434 b (ix2 0 x) = w3 b (ix2 (asg fun r => w1364 b (ix2 r x)) 0) := by
  have h : w1434 b (ix2 0 x) = ∑ r : Fin 12, w1426 b (ix2 r x) * w3 b (ix2 r 0) := by
    unfold w1434 k0_pay289
    rw [show k0_pay287 (w1423 b) (w1424 b) (w1425 b) = w1426 b from rfl]
    generalize w1426 b = y
    generalize w3 b = z
    pointwise [id]
  rw [h]
  simp only [w1426_at]
  exact onehot _ fun r => w3 b (ix2 r 0)

theorem w1438_at (b : Blk) (x : Fin 1600) : w1438 b (ix2 0 x) = w5 b (ix2 (asg fun r => w1364 b (ix2 r x)) 0) := by
  have h : w1438 b (ix2 0 x) = ∑ r : Fin 12, w1426 b (ix2 r x) * w5 b (ix2 r 0) := by
    unfold w1438 k0_pay290
    rw [show k0_pay287 (w1423 b) (w1424 b) (w1425 b) = w1426 b from rfl]
    generalize w1426 b = y
    generalize w5 b = z
    pointwise [id]
  rw [h]
  simp only [w1426_at]
  exact onehot _ fun r => w5 b (ix2 r 0)

theorem w1442_at (b : Blk) (x : Fin 1600) : w1442 b (ix2 0 x) = w7 b (ix2 (asg fun r => w1364 b (ix2 r x)) 0) := by
  have h : w1442 b (ix2 0 x) = ∑ r : Fin 12, w1426 b (ix2 r x) * w7 b (ix2 r 0) := by
    unfold w1442 k0_pay291
    rw [show k0_pay287 (w1423 b) (w1424 b) (w1425 b) = w1426 b from rfl]
    generalize w1426 b = y
    generalize w7 b = z
    pointwise [id]
  rw [h]
  simp only [w1426_at]
  exact onehot _ fun r => w7 b (ix2 r 0)

end Cert.KernelIdeal.Gen
-- ==== Proof.KStep2.lean ====
module

public import Idealize.ShloMosaic.Lib.Pointwise
public import proofs.«01_k».proof.Proof.Chain
public import proofs.«01_k».proof.Proof.Assign

/-!
The ground truth that the kernel picks for an anchor of level 2.
-/

@[expose] public section

set_option maxRecDepth 16384

noncomputable section

namespace Cert.KernelIdeal.Gen
open Idealize.ShloMosaic Idealize.ShloMosaic.TcCoe Idealize.SL.Sem
open Facts₀ Facts
open Cert.Sel

theorem w1704_at (b : Blk) (x : Fin 400) : w1704 b (ix2 0 x) = ext (fun r => w1703 b (ix2 r x)) 0 := by
  show extractStridedSlice S1x400 ![0, 0] (w1703 b) slices_S12x400_o0_0_S1x400 (ix2 0 x) = _
  generalize w1703 b = z
  pointwise [ext]
  all_goals first | rfl | (simp only [lastI, lastV, select_step]; rfl)

theorem w1706_at (b : Blk) (x : Fin 400) : w1706 b (ix2 0 x) = ext (fun r => w1703 b (ix2 r x)) 1 := by
  show extractStridedSlice S1x400 ![1, 0] (w1703 b) slices_S12x400_o1_0_S1x400 (ix2 0 x) = _
  generalize w1703 b = z
  pointwise [ext]
  all_goals first | rfl | (simp only [lastI, lastV, select_step]; rfl)

theorem w1711_at (b : Blk) (x : Fin 400) : w1711 b (ix2 0 x) = ext (fun r => w1703 b (ix2 r x)) 2 := by
  show extractStridedSlice S1x400 ![2, 0] (w1703 b) slices_S12x400_o2_0_S1x400 (ix2 0 x) = _
  generalize w1703 b = z
  pointwise [ext]
  all_goals first | rfl | (simp only [lastI, lastV, select_step]; rfl)

theorem w1716_at (b : Blk) (x : Fin 400) : w1716 b (ix2 0 x) = ext (fun r => w1703 b (ix2 r x)) 3 := by
  show extractStridedSlice S1x400 ![3, 0] (w1703 b) slices_S12x400_o3_0_S1x400 (ix2 0 x) = _
  generalize w1703 b = z
  pointwise [ext]
  all_goals first | rfl | (simp only [lastI, lastV, select_step]; rfl)

theorem w1721_at (b : Blk) (x : Fin 400) : w1721 b (ix2 0 x) = ext (fun r => w1703 b (ix2 r x)) 4 := by
  show extractStridedSlice S1x400 ![4, 0] (w1703 b) slices_S12x400_o4_0_S1x400 (ix2 0 x) = _
  generalize w1703 b = z
  pointwise [ext]
  all_goals first | rfl | (simp only [lastI, lastV, select_step]; rfl)

theorem w1726_at (b : Blk) (x : Fin 400) : w1726 b (ix2 0 x) = ext (fun r => w1703 b (ix2 r x)) 5 := by
  show extractStridedSlice S1x400 ![5, 0] (w1703 b) slices_S12x400_o5_0_S1x400 (ix2 0 x) = _
  generalize w1703 b = z
  pointwise [ext]
  all_goals first | rfl | (simp only [lastI, lastV, select_step]; rfl)

theorem w1731_at (b : Blk) (x : Fin 400) : w1731 b (ix2 0 x) = ext (fun r => w1703 b (ix2 r x)) 6 := by
  show extractStridedSlice S1x400 ![6, 0] (w1703 b) slices_S12x400_o6_0_S1x400 (ix2 0 x) = _
  generalize w1703 b = z
  pointwise [ext]
  all_goals first | rfl | (simp only [lastI, lastV, select_step]; rfl)

theorem w1736_at (b : Blk) (x : Fin 400) : w1736 b (ix2 0 x) = ext (fun r => w1703 b (ix2 r x)) 7 := by
  show extractStridedSlice S1x400 ![7, 0] (w1703 b) slices_S12x400_o7_0_S1x400 (ix2 0 x) = _
  generalize w1703 b = z
  pointwise [ext]
  all_goals first | rfl | (simp only [lastI, lastV, select_step]; rfl)

theorem w1741_at (b : Blk) (x : Fin 400) : w1741 b (ix2 0 x) = ext (fun r => w1703 b (ix2 r x)) 8 := by
  show extractStridedSlice S1x400 ![8, 0] (w1703 b) slices_S12x400_o8_0_S1x400 (ix2 0 x) = _
  generalize w1703 b = z
  pointwise [ext]
  all_goals first | rfl | (simp only [lastI, lastV, select_step]; rfl)

theorem w1746_at (b : Blk) (x : Fin 400) : w1746 b (ix2 0 x) = ext (fun r => w1703 b (ix2 r x)) 9 := by
  show extractStridedSlice S1x400 ![9, 0] (w1703 b) slices_S12x400_o9_0_S1x400 (ix2 0 x) = _
  generalize w1703 b = z
  pointwise [ext]
  all_goals first | rfl | (simp only [lastI, lastV, select_step]; rfl)

theorem w1707_at (b : Blk) (x : Fin 400) : w1707 b (ix2 0 x) = stepB (w1706 b (ix2 0 x)) (w1704 b (ix2 0 x)) := rfl

theorem w1708_at (b : Blk) (x : Fin 400) : w1708 b (ix2 0 x) = bv (ext fun r => w1703 b (ix2 r x)) 1 := by
  have h : w1708 b (ix2 0 x) = Scalar.select (stepB (w1706 b (ix2 0 x)) (w1704 b (ix2 0 x))) (w1706 b (ix2 0 x)) (w1704 b (ix2 0 x)) := rfl
  rw [h, w1706_at, w1704_at]
  rfl

theorem w1712_at (b : Blk) (x : Fin 400) : w1712 b (ix2 0 x) = stepB (w1711 b (ix2 0 x)) (w1708 b (ix2 0 x)) := rfl

theorem w1713_at (b : Blk) (x : Fin 400) : w1713 b (ix2 0 x) = bv (ext fun r => w1703 b (ix2 r x)) 2 := by
  have h : w1713 b (ix2 0 x) = Scalar.select (stepB (w1711 b (ix2 0 x)) (w1708 b (ix2 0 x))) (w1711 b (ix2 0 x)) (w1708 b (ix2 0 x)) := rfl
  rw [h, w1711_at, w1708_at]
  rfl

theorem w1717_at (b : Blk) (x : Fin 400) : w1717 b (ix2 0 x) = stepB (w1716 b (ix2 0 x)) (w1713 b (ix2 0 x)) := rfl

theorem w1718_at (b : Blk) (x : Fin 400) : w1718 b (ix2 0 x) = bv (ext fun r => w1703 b (ix2 r x)) 3 := by
  have h : w1718 b (ix2 0 x) = Scalar.select (stepB (w1716 b (ix2 0 x)) (w1713 b (ix2 0 x))) (w1716 b (ix2 0 x)) (w1713 b (ix2 0 x)) := rfl
  rw [h, w1716_at, w1713_at]
  rfl

theorem w1722_at (b : Blk) (x : Fin 400) : w1722 b (ix2 0 x) = stepB (w1721 b (ix2 0 x)) (w1718 b (ix2 0 x)) := rfl

theorem w1723_at (b : Blk) (x : Fin 400) : w1723 b (ix2 0 x) = bv (ext fun r => w1703 b (ix2 r x)) 4 := by
  have h : w1723 b (ix2 0 x) = Scalar.select (stepB (w1721 b (ix2 0 x)) (w1718 b (ix2 0 x))) (w1721 b (ix2 0 x)) (w1718 b (ix2 0 x)) := rfl
  rw [h, w1721_at, w1718_at]
  rfl

theorem w1727_at (b : Blk) (x : Fin 400) : w1727 b (ix2 0 x) = stepB (w1726 b (ix2 0 x)) (w1723 b (ix2 0 x)) := rfl

theorem w1728_at (b : Blk) (x : Fin 400) : w1728 b (ix2 0 x) = bv (ext fun r => w1703 b (ix2 r x)) 5 := by
  have h : w1728 b (ix2 0 x) = Scalar.select (stepB (w1726 b (ix2 0 x)) (w1723 b (ix2 0 x))) (w1726 b (ix2 0 x)) (w1723 b (ix2 0 x)) := rfl
  rw [h, w1726_at, w1723_at]
  rfl

theorem w1732_at (b : Blk) (x : Fin 400) : w1732 b (ix2 0 x) = stepB (w1731 b (ix2 0 x)) (w1728 b (ix2 0 x)) := rfl

theorem w1733_at (b : Blk) (x : Fin 400) : w1733 b (ix2 0 x) = bv (ext fun r => w1703 b (ix2 r x)) 6 := by
  have h : w1733 b (ix2 0 x) = Scalar.select (stepB (w1731 b (ix2 0 x)) (w1728 b (ix2 0 x))) (w1731 b (ix2 0 x)) (w1728 b (ix2 0 x)) := rfl
  rw [h, w1731_at, w1728_at]
  rfl

theorem w1737_at (b : Blk) (x : Fin 400) : w1737 b (ix2 0 x) = stepB (w1736 b (ix2 0 x)) (w1733 b (ix2 0 x)) := rfl

theorem w1738_at (b : Blk) (x : Fin 400) : w1738 b (ix2 0 x) = bv (ext fun r => w1703 b (ix2 r x)) 7 := by
  have h : w1738 b (ix2 0 x) = Scalar.select (stepB (w1736 b (ix2 0 x)) (w1733 b (ix2 0 x))) (w1736 b (ix2 0 x)) (w1733 b (ix2 0 x)) := rfl
  rw [h, w1736_at, w1733_at]
  rfl

theorem w1742_at (b : Blk) (x : Fin 400) : w1742 b (ix2 0 x) = stepB (w1741 b (ix2 0 x)) (w1738 b (ix2 0 x)) := rfl

theorem w1743_at (b : Blk) (x : Fin 400) : w1743 b (ix2 0 x) = bv (ext fun r => w1703 b (ix2 r x)) 8 := by
  have h : w1743 b (ix2 0 x) = Scalar.select (stepB (w1741 b (ix2 0 x)) (w1738 b (ix2 0 x))) (w1741 b (ix2 0 x)) (w1738 b (ix2 0 x)) := rfl
  rw [h, w1741_at, w1738_at]
  rfl

theorem w1747_at (b : Blk) (x : Fin 400) : w1747 b (ix2 0 x) = stepB (w1746 b (ix2 0 x)) (w1743 b (ix2 0 x)) := rfl

theorem w1748_at (b : Blk) (x : Fin 400) : w1748 b (ix2 0 x) = bv (ext fun r => w1703 b (ix2 r x)) 9 := by
  have h : w1748 b (ix2 0 x) = Scalar.select (stepB (w1746 b (ix2 0 x)) (w1743 b (ix2 0 x))) (w1746 b (ix2 0 x)) (w1743 b (ix2 0 x)) := rfl
  rw [h, w1746_at, w1743_at]
  rfl

theorem w1745_at (b : Blk) (x : Fin 400) : w1745 b (ix2 0 x) = bi (ext fun r => w1703 b (ix2 r x)) 8 := by
  have h : w1745 b (ix2 0 x) = (Scalar.select (w1742 b (ix2 0 x)) 8#32 (Scalar.select (w1737 b (ix2 0 x)) 7#32 (Scalar.select (w1732 b (ix2 0 x)) 6#32 (Scalar.select (w1727 b (ix2 0 x)) 5#32 (Scalar.select (w1722 b (ix2 0 x)) 4#32 (Scalar.select (w1717 b (ix2 0 x)) 3#32 (Scalar.select (w1712 b (ix2 0 x)) 2#32 (Scalar.select (w1707 b (ix2 0 x)) 1#32 0#32)))))))) := rfl
  rw [h]
  simp only [w1707_at, w1712_at, w1717_at, w1722_at, w1727_at, w1732_at, w1737_at, w1742_at, w1706_at, w1711_at, w1716_at, w1721_at, w1726_at, w1731_at, w1736_at, w1741_at, w1704_at, w1708_at, w1713_at, w1718_at, w1723_at, w1728_at, w1733_at, w1738_at]
  rfl

theorem pay366_at (z : FVec Ideal S12x400 .f32) (p : IVec S1x400 32) (c : IVec S1x400 1) (m : FVec Ideal S1x400 .f32) (q : BitVec 32) (r : Fin 12) (x : Fin 400) :
    k0_pay366 z p c m q (ix2 r x) = Scalar.select (IntOp.cmpi CmpIPredicate.eq (BitVec.ofNat 32 r.val) (lastI (ext fun r => z (ix2 r x)) 9 (m (ix2 0 x))
      (Scalar.select (c (ix2 0 x)) q (p (ix2 0 x))) 2)) 1 0 := by
  pointwise [k0_pay366]
  all_goals first | rfl | (simp only [lastI, lastV, select_step]; rfl)

theorem w1765_at (b : Blk) (r : Fin 12) (x : Fin 400) : w1765 b (ix2 r x) =
    Scalar.select (IntOp.cmpi CmpIPredicate.eq (BitVec.ofNat 32 r.val) (bi (ext fun r => w1703 b (ix2 r x)) 11)) 1 0 := by
  have h : Scalar.select (w1747 b (ix2 0 x)) 9#32 (w1745 b (ix2 0 x)) = bi (ext fun r => w1703 b (ix2 r x)) 9 := by
    rw [w1747_at, w1746_at, w1743_at, w1745_at]
    rfl
  have q : w_c9_i32_444 b = 9#32 := rfl
  rw [show w1765 b = k0_pay366 (w1703 b) (w1745 b) (w1747 b) (w1748 b) (w_c9_i32_444 b) from rfl, pay366_at, q, h, w1748_at, lastI_bi]

theorem w1769_at (b : Blk) (x : Fin 400) : w1769 b (ix2 0 x) = w1 b (ix2 (asg fun r => w1703 b (ix2 r x)) 0) := by
  have h : w1769 b (ix2 0 x) = ∑ r : Fin 12, w1765 b (ix2 r x) * w1 b (ix2 r 0) := by
    unfold w1769 k0_pay367
    rw [show k0_pay366 (w1703 b) (w1745 b) (w1747 b) (w1748 b) (w_c9_i32_444 b) = w1765 b from rfl]
    generalize w1765 b = y
    generalize w1 b = z
    pointwise [id]
  rw [h]
  simp only [w1765_at]
  exact onehot _ fun r => w1 b (ix2 r 0)

theorem w1773_at (b : Blk) (x : Fin 400) : w1773 b (ix2 0 x) = w3 b (ix2 (asg fun r => w1703 b (ix2 r x)) 0) := by
  have h : w1773 b (ix2 0 x) = ∑ r : Fin 12, w1765 b (ix2 r x) * w3 b (ix2 r 0) := by
    unfold w1773 k0_pay368
    rw [show k0_pay366 (w1703 b) (w1745 b) (w1747 b) (w1748 b) (w_c9_i32_444 b) = w1765 b from rfl]
    generalize w1765 b = y
    generalize w3 b = z
    pointwise [id]
  rw [h]
  simp only [w1765_at]
  exact onehot _ fun r => w3 b (ix2 r 0)

theorem w1777_at (b : Blk) (x : Fin 400) : w1777 b (ix2 0 x) = w5 b (ix2 (asg fun r => w1703 b (ix2 r x)) 0) := by
  have h : w1777 b (ix2 0 x) = ∑ r : Fin 12, w1765 b (ix2 r x) * w5 b (ix2 r 0) := by
    unfold w1777 k0_pay369
    rw [show k0_pay366 (w1703 b) (w1745 b) (w1747 b) (w1748 b) (w_c9_i32_444 b) = w1765 b from rfl]
    generalize w1765 b = y
    generalize w5 b = z
    pointwise [id]
  rw [h]
  simp only [w1765_at]
  exact onehot _ fun r => w5 b (ix2 r 0)

theorem w1781_at (b : Blk) (x : Fin 400) : w1781 b (ix2 0 x) = w7 b (ix2 (asg fun r => w1703 b (ix2 r x)) 0) := by
  have h : w1781 b (ix2 0 x) = ∑ r : Fin 12, w1765 b (ix2 r x) * w7 b (ix2 r 0) := by
    unfold w1781 k0_pay370
    rw [show k0_pay366 (w1703 b) (w1745 b) (w1747 b) (w1748 b) (w_c9_i32_444 b) = w1765 b from rfl]
    generalize w1765 b = y
    generalize w7 b = z
    pointwise [id]
  rw [h]
  simp only [w1765_at]
  exact onehot _ fun r => w7 b (ix2 r 0)

end Cert.KernelIdeal.Gen
-- ==== Proof.Rounds.lean ====
/- The ten rounds of the kernel's selection, each read as one round over the metric's rows. -/
module

public import Idealize.ShloMosaic.Lib.Pointwise
public import proofs.«01_k».proof.Proof.Chain
public import proofs.«01_k».proof.Proof.Scal

/-!
One round of the kernel's search for the next largest metric, as vectors and read at an index.
-/

@[expose] public section

set_option maxRecDepth 16384

noncomputable section

namespace Cert.KernelIdeal.Gen
open Idealize.ShloMosaic Idealize.ShloMosaic.TcCoe Idealize.SL.Sem
open Facts₀ Facts
open Cert.Sel

/-- The candidates of level 0. -/
def emV0 (v145 : FVec Ideal S12x6400 .f32) (v148 : IVec S12x6400 32) (pv : FVec Ideal S12x1 .f32) (pi : IVec S12x1 32) : FVec Ideal S12x6400 .f32 :=
  have v945 : FVec Ideal S12x6400 .f32 := broadcastTo S12x6400 pv broadcasts_S12x1_S12x6400
  have v946 : IVec S12x6400 1 := cmpf .olt v145 v945
  have v947 : FVec Ideal S12x6400 .f32 := broadcastTo S12x6400 pv broadcasts_S12x1_S12x6400
  have v948 : IVec S12x6400 1 := cmpf .oeq v145 v947
  have v949 : IVec S12x6400 32 := broadcastTo S12x6400 pi broadcasts_S12x1_S12x6400
  have v950 : IVec S12x6400 1 := cmpi .sgt v148 v949
  have v951 : IVec S12x6400 1 := andi v948 v950
  have v952 : IVec S12x6400 1 := ori v946 v951
  have cst_223 : Ideal .f32 := Scalar.ofBits .f32 0xBF800000#32
  have v953 : FVec Ideal S12x6400 .f32 := broadcast S12x6400 cst_223
  have v954 : FVec Ideal S12x6400 .f32 := select v952 v145 v953
  v954

/-- The candidates of level 1. -/
def emV1 (v281 : FVec Ideal S12x1600 .f32) (v284 : IVec S12x1600 32) (pv : FVec Ideal S12x1 .f32) (pi : IVec S12x1 32) : FVec Ideal S12x1600 .f32 :=
  have v955 : FVec Ideal S12x1600 .f32 := broadcastTo S12x1600 pv broadcasts_S12x1_S12x1600
  have v956 : IVec S12x1600 1 := cmpf .olt v281 v955
  have v957 : FVec Ideal S12x1600 .f32 := broadcastTo S12x1600 pv broadcasts_S12x1_S12x1600
  have v958 : IVec S12x1600 1 := cmpf .oeq v281 v957
  have v959 : IVec S12x1600 32 := broadcastTo S12x1600 pi broadcasts_S12x1_S12x1600
  have v960 : IVec S12x1600 1 := cmpi .sgt v284 v959
  have v961 : IVec S12x1600 1 := andi v958 v960
  have v962 : IVec S12x1600 1 := ori v956 v961
  have cst_224 : Ideal .f32 := Scalar.ofBits .f32 0xBF800000#32
  have v963 : FVec Ideal S12x1600 .f32 := broadcast S12x1600 cst_224
  have v964 : FVec Ideal S12x1600 .f32 := select v962 v281 v963
  v964

/-- The candidates of level 2. -/
def emV2 (v417 : FVec Ideal S12x400 .f32) (v420 : IVec S12x400 32) (v924 : FVec Ideal S12x1 .f32) (v944 : IVec S12x1 32) : FVec Ideal S12x400 .f32 :=
  have v965 : FVec Ideal S12x400 .f32 := broadcastTo S12x400 v924 broadcasts_S12x1_S12x400
  have v966 : IVec S12x400 1 := cmpf .olt v417 v965
  have v967 : FVec Ideal S12x400 .f32 := broadcastTo S12x400 v924 broadcasts_S12x1_S12x400
  have v968 : IVec S12x400 1 := cmpf .oeq v417 v967
  have v969 : IVec S12x400 32 := broadcastTo S12x400 v944 broadcasts_S12x1_S12x400
  have v970 : IVec S12x400 1 := cmpi .sgt v420 v969
  have v971 : IVec S12x400 1 := andi v968 v970
  have v972 : IVec S12x400 1 := ori v966 v971
  have cst_225 : Ideal .f32 := Scalar.ofBits .f32 0xBF800000#32
  have v973 : FVec Ideal S12x400 .f32 := broadcast S12x400 cst_225
  have v974 : FVec Ideal S12x400 .f32 := select v972 v417 v973
  v974

/-- The greatest candidate. -/
def mxV (e0 : FVec Ideal S12x6400 .f32) (e1 : FVec Ideal S12x1600 .f32) (e2 : FVec Ideal S12x400 .f32) : FVec Ideal S12x1 .f32 :=
  have v975 : FVec Ideal S12 .f32 := multiReduction .maximumf [1] S12 e0 0xFF800000#32 reduces_S12x6400_S12 (.inl rfl) rfl
  have v976 : FVec Ideal S12x1 .f32 := shapeCast S12x1 v975 shapeCasts_S12_S12x1
  have v977 : FVec Ideal S12 .f32 := multiReduction .maximumf [1] S12 e1 0xFF800000#32 reduces_S12x1600_S12 (.inl rfl) rfl
  have v978 : FVec Ideal S12x1 .f32 := shapeCast S12x1 v977 shapeCasts_S12_S12x1
  have v979 : FVec Ideal S12x1 .f32 := maximumf v976 v978
  have v980 : FVec Ideal S12 .f32 := multiReduction .maximumf [1] S12 e2 0xFF800000#32 reduces_S12x400_S12 (.inl rfl) rfl
  have v981 : FVec Ideal S12x1 .f32 := shapeCast S12x1 v980 shapeCasts_S12_S12x1
  have v982 : FVec Ideal S12x1 .f32 := maximumf v979 v981
  v982

/-- The first place of the greatest candidate. -/
def piV (v148 : IVec S12x6400 32) (v284 : IVec S12x1600 32) (v420 : IVec S12x400 32) (e0 : FVec Ideal S12x6400 .f32) (e1 : FVec Ideal S12x1600 .f32) (e2 : FVec Ideal S12x400 .f32) (mx : FVec Ideal S12x1 .f32) : IVec S12x1 32 :=
  have v983 : FVec Ideal S12x6400 .f32 := broadcastTo S12x6400 mx broadcasts_S12x1_S12x6400
  have v984 : IVec S12x6400 1 := cmpf .oeq e0 v983
  have v985 : IVec S12x6400 32 := broadcast S12x6400 8400#32
  have v986 : IVec S12x6400 32 := select v984 v148 v985
  have v987 : IVec S12 32 := multiReductionI .minsi [1] S12 v986 2147483647#32 reduces_S12x6400_S12 rfl
  have v988 : IVec S12x1 32 := shapeCast S12x1 v987 shapeCasts_S12_S12x1
  have v989 : FVec Ideal S12x1600 .f32 := broadcastTo S12x1600 mx broadcasts_S12x1_S12x1600
  have v990 : IVec S12x1600 1 := cmpf .oeq e1 v989
  have v991 : IVec S12x1600 32 := broadcast S12x1600 8400#32
  have v992 : IVec S12x1600 32 := select v990 v284 v991
  have v993 : IVec S12 32 := multiReductionI .minsi [1] S12 v992 2147483647#32 reduces_S12x1600_S12 rfl
  have v994 : IVec S12x1 32 := shapeCast S12x1 v993 shapeCasts_S12_S12x1
  have v995 : IVec S12x1 32 := minsi v988 v994
  have v996 : FVec Ideal S12x400 .f32 := broadcastTo S12x400 mx broadcasts_S12x1_S12x400
  have v997 : IVec S12x400 1 := cmpf .oeq e2 v996
  have v998 : IVec S12x400 32 := broadcast S12x400 8400#32
  have v999 : IVec S12x400 32 := select v997 v420 v998
  have v1000 : IVec S12 32 := multiReductionI .minsi [1] S12 v999 2147483647#32 reduces_S12x400_S12 rfl
  have v1001 : IVec S12x1 32 := shapeCast S12x1 v1000 shapeCasts_S12_S12x1
  have v1002 : IVec S12x1 32 := minsi v995 v1001
  v1002

theorem emV0_at (m : FVec Ideal S12x6400 .f32) (gi : IVec S12x6400 32) (pv : FVec Ideal S12x1 .f32) (pi : IVec S12x1 32) (r : Fin 12) (x : Fin 6400) :
    emV0 m gi pv pi (ix2 r x) = emK (m (ix2 r x)) (gi (ix2 r x)) (pv (ix2 r 0)) (pi (ix2 r 0)) := by
  unfold emK
  pointwise [emV0]

theorem emV1_at (m : FVec Ideal S12x1600 .f32) (gi : IVec S12x1600 32) (pv : FVec Ideal S12x1 .f32) (pi : IVec S12x1 32) (r : Fin 12) (x : Fin 1600) :
    emV1 m gi pv pi (ix2 r x) = emK (m (ix2 r x)) (gi (ix2 r x)) (pv (ix2 r 0)) (pi (ix2 r 0)) := by
  unfold emK
  pointwise [emV1]

theorem emV2_at (m : FVec Ideal S12x400 .f32) (gi : IVec S12x400 32) (pv : FVec Ideal S12x1 .f32) (pi : IVec S12x1 32) (r : Fin 12) (x : Fin 400) :
    emV2 m gi pv pi (ix2 r x) = emK (m (ix2 r x)) (gi (ix2 r x)) (pv (ix2 r 0)) (pi (ix2 r 0)) := by
  unfold emK
  pointwise [emV2]

theorem mxV_at (f : FVec Ideal S12x6400 .f32) (g : FVec Ideal S12x1600 .f32) (h : FVec Ideal S12x400 .f32) (r : Fin 12) :
    mxV f g h (ix2 r 0) = mx3 (fun x => f (ix2 r x)) (fun x => g (ix2 r x)) (fun x => h (ix2 r x)) := by
  unfold mx3
  pointwise [mxV]

theorem piV_at (i : IVec S12x6400 32) (j : IVec S12x1600 32) (k : IVec S12x400 32) (f : FVec Ideal S12x6400 .f32) (g : FVec Ideal S12x1600 .f32) (h : FVec Ideal S12x400 .f32) (m : FVec Ideal S12x1 .f32) (r : Fin 12) :
    piV i j k f g h m (ix2 r 0) = mn3 (fun x => if f (ix2 r x) = m (ix2 r 0) then i (ix2 r x) else 8400#32)
      (fun x => if g (ix2 r x) = m (ix2 r 0) then j (ix2 r x) else 8400#32)
      (fun x => if h (ix2 r x) = m (ix2 r 0) then k (ix2 r x) else 8400#32) := by
  unfold mn3
  pointwise [piV]

theorem gi0_at (b : Blk) (r : Fin 12) (x : Fin 6400) : w148 b (ix2 r x) = BitVec.ofNat 32 x.val := by
  pointwise [w148, k0_pay42]
  all_goals simp [IntOp.addi]
theorem gi1_at (b : Blk) (r : Fin 12) (x : Fin 1600) : w284 b (ix2 r x) = IntOp.addi (BitVec.ofNat 32 x.val) 6400#32 := by
  pointwise [w284, k0_pay78]
theorem gi2_at (b : Blk) (r : Fin 12) (x : Fin 400) : w420 b (ix2 r x) = IntOp.addi (BitVec.ofNat 32 x.val) 8000#32 := by
  pointwise [w420, k0_pay112]

theorem mxv_0 (b : Blk) : w460 b = mxV (emV0 (w145 b) (w148 b) (w421 b) (w422 b)) (emV1 (w281 b) (w284 b) (w421 b) (w422 b)) (emV2 (w417 b) (w420 b) (w421 b) (w422 b)) := rfl
theorem piv_0 (b : Blk) : w480 b = piV (w148 b) (w284 b) (w420 b) (emV0 (w145 b) (w148 b) (w421 b) (w422 b)) (emV1 (w281 b) (w284 b) (w421 b) (w422 b)) (emV2 (w417 b) (w420 b) (w421 b) (w422 b)) (w460 b) := rfl

theorem mxv_1 (b : Blk) : w518 b = mxV (emV0 (w145 b) (w148 b) (w460 b) (w480 b)) (emV1 (w281 b) (w284 b) (w460 b) (w480 b)) (emV2 (w417 b) (w420 b) (w460 b) (w480 b)) := rfl
theorem piv_1 (b : Blk) : w538 b = piV (w148 b) (w284 b) (w420 b) (emV0 (w145 b) (w148 b) (w460 b) (w480 b)) (emV1 (w281 b) (w284 b) (w460 b) (w480 b)) (emV2 (w417 b) (w420 b) (w460 b) (w480 b)) (w518 b) := rfl

theorem mxv_2 (b : Blk) : w576 b = mxV (emV0 (w145 b) (w148 b) (w518 b) (w538 b)) (emV1 (w281 b) (w284 b) (w518 b) (w538 b)) (emV2 (w417 b) (w420 b) (w518 b) (w538 b)) := rfl
theorem piv_2 (b : Blk) : w596 b = piV (w148 b) (w284 b) (w420 b) (emV0 (w145 b) (w148 b) (w518 b) (w538 b)) (emV1 (w281 b) (w284 b) (w518 b) (w538 b)) (emV2 (w417 b) (w420 b) (w518 b) (w538 b)) (w576 b) := rfl

theorem mxv_3 (b : Blk) : w634 b = mxV (emV0 (w145 b) (w148 b) (w576 b) (w596 b)) (emV1 (w281 b) (w284 b) (w576 b) (w596 b)) (emV2 (w417 b) (w420 b) (w576 b) (w596 b)) := rfl
theorem piv_3 (b : Blk) : w654 b = piV (w148 b) (w284 b) (w420 b) (emV0 (w145 b) (w148 b) (w576 b) (w596 b)) (emV1 (w281 b) (w284 b) (w576 b) (w596 b)) (emV2 (w417 b) (w420 b) (w576 b) (w596 b)) (w634 b) := rfl

theorem mxv_4 (b : Blk) : w692 b = mxV (emV0 (w145 b) (w148 b) (w634 b) (w654 b)) (emV1 (w281 b) (w284 b) (w634 b) (w654 b)) (emV2 (w417 b) (w420 b) (w634 b) (w654 b)) := rfl
theorem piv_4 (b : Blk) : w712 b = piV (w148 b) (w284 b) (w420 b) (emV0 (w145 b) (w148 b) (w634 b) (w654 b)) (emV1 (w281 b) (w284 b) (w634 b) (w654 b)) (emV2 (w417 b) (w420 b) (w634 b) (w654 b)) (w692 b) := rfl

theorem mxv_5 (b : Blk) : w750 b = mxV (emV0 (w145 b) (w148 b) (w692 b) (w712 b)) (emV1 (w281 b) (w284 b) (w692 b) (w712 b)) (emV2 (w417 b) (w420 b) (w692 b) (w712 b)) := rfl
theorem piv_5 (b : Blk) : w770 b = piV (w148 b) (w284 b) (w420 b) (emV0 (w145 b) (w148 b) (w692 b) (w712 b)) (emV1 (w281 b) (w284 b) (w692 b) (w712 b)) (emV2 (w417 b) (w420 b) (w692 b) (w712 b)) (w750 b) := rfl

theorem mxv_6 (b : Blk) : w808 b = mxV (emV0 (w145 b) (w148 b) (w750 b) (w770 b)) (emV1 (w281 b) (w284 b) (w750 b) (w770 b)) (emV2 (w417 b) (w420 b) (w750 b) (w770 b)) := rfl
theorem piv_6 (b : Blk) : w828 b = piV (w148 b) (w284 b) (w420 b) (emV0 (w145 b) (w148 b) (w750 b) (w770 b)) (emV1 (w281 b) (w284 b) (w750 b) (w770 b)) (emV2 (w417 b) (w420 b) (w750 b) (w770 b)) (w808 b) := rfl

theorem mxv_7 (b : Blk) : w866 b = mxV (emV0 (w145 b) (w148 b) (w808 b) (w828 b)) (emV1 (w281 b) (w284 b) (w808 b) (w828 b)) (emV2 (w417 b) (w420 b) (w808 b) (w828 b)) := rfl
theorem piv_7 (b : Blk) : w886 b = piV (w148 b) (w284 b) (w420 b) (emV0 (w145 b) (w148 b) (w808 b) (w828 b)) (emV1 (w281 b) (w284 b) (w808 b) (w828 b)) (emV2 (w417 b) (w420 b) (w808 b) (w828 b)) (w866 b) := rfl

theorem mxv_8 (b : Blk) : w924 b = mxV (emV0 (w145 b) (w148 b) (w866 b) (w886 b)) (emV1 (w281 b) (w284 b) (w866 b) (w886 b)) (emV2 (w417 b) (w420 b) (w866 b) (w886 b)) := rfl
theorem piv_8 (b : Blk) : w944 b = piV (w148 b) (w284 b) (w420 b) (emV0 (w145 b) (w148 b) (w866 b) (w886 b)) (emV1 (w281 b) (w284 b) (w866 b) (w886 b)) (emV2 (w417 b) (w420 b) (w866 b) (w886 b)) (w924 b) := rfl

theorem mxv_9 (b : Blk) : w982 b = mxV (emV0 (w145 b) (w148 b) (w924 b) (w944 b)) (emV1 (w281 b) (w284 b) (w924 b) (w944 b)) (emV2 (w417 b) (w420 b) (w924 b) (w944 b)) := rfl
theorem piv_9 (b : Blk) : w1002 b = piV (w148 b) (w284 b) (w420 b) (emV0 (w145 b) (w148 b) (w924 b) (w944 b)) (emV1 (w281 b) (w284 b) (w924 b) (w944 b)) (emV2 (w417 b) (w420 b) (w924 b) (w944 b)) (w982 b) := rfl

theorem pv0_at (b : Blk) (r : Fin 12) : w421 b (ix2 r 0) = Ideal.ofBits FTy.f32 2139095040#32 := by
  pointwise [w421, k0_pay113]
theorem pi0_at (b : Blk) (r : Fin 12) : w422 b (ix2 r 0) = 4294967295#32 := by
  pointwise [w422, k0_pay114]

theorem round_at (b : Blk) (r : Fin 12) (M : Fin 8400 → EReal) (h0 : ∀ x, w145 b (ix2 r x) = M (e0 x))
    (h1 : ∀ x, w281 b (ix2 r x) = M (e1 x)) (h2 : ∀ x, w417 b (ix2 r x) = M (e2 x)) (pv : FVec Ideal S12x1 .f32)
    (pi : IVec S12x1 32) :
    mxV (emV0 (w145 b) (w148 b) pv pi) (emV1 (w281 b) (w284 b) pv pi) (emV2 (w417 b) (w420 b) pv pi) (ix2 r 0)
      = mxK (fun x => M (e0 x)) (fun x => M (e1 x)) (fun x => M (e2 x)) (pv (ix2 r 0)) (pi (ix2 r 0)) ∧
    ∀ mx : FVec Ideal S12x1 .f32, piV (w148 b) (w284 b) (w420 b) (emV0 (w145 b) (w148 b) pv pi) (emV1 (w281 b) (w284 b) pv pi) (emV2 (w417 b) (w420 b) pv pi) mx (ix2 r 0)
      = piK (fun x => M (e0 x)) (fun x => M (e1 x)) (fun x => M (e2 x)) (pv (ix2 r 0)) (pi (ix2 r 0)) (mx (ix2 r 0)) := by
  unfold mxK piK
  simp only [mxV_at, piV_at, emV0_at, emV1_at, emV2_at, gi0_at, gi1_at, gi2_at, h0, h1, h2]
  exact ⟨trivial, fun _ => trivial⟩

theorem top_0 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w460 b (ix2 r 0) = M (sg M ⟨0, by decide⟩) ∧ w480 b (ix2 r 0) = BitVec.ofNat 32 (sg M ⟨0, by decide⟩).val := by
  obtain ⟨ha, hb⟩ := round_at b r M h0 h1 h2 (w421 b) (w422 b)
  rw [pv0_at, pi0_at] at ha
  simp only [pv0_at, pi0_at] at hb
  obtain ⟨hc, hd⟩ := roundK_first M ⟨0, by decide⟩ rfl
  have he : w460 b (ix2 r 0) = M (sg M ⟨0, by decide⟩) := by rw [mxv_0]; exact ha.trans hc
  refine ⟨he, ?_⟩
  rw [piv_0, hb, he]
  exact hd

theorem top_1 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w518 b (ix2 r 0) = M (sg M ⟨1, by decide⟩) ∧ w538 b (ix2 r 0) = BitVec.ofNat 32 (sg M ⟨1, by decide⟩).val := by
  obtain ⟨hx, hy⟩ := top_0 b r M hM h0 h1 h2
  obtain ⟨ha, hb⟩ := round_at b r M h0 h1 h2 (w460 b) (w480 b)
  rw [hx, hy] at ha
  simp only [hx, hy] at hb
  obtain ⟨hc, hd⟩ := roundK M hM ⟨0, by decide⟩ ⟨1, by decide⟩ rfl
  have he : w518 b (ix2 r 0) = M (sg M ⟨1, by decide⟩) := by rw [mxv_1]; exact ha.trans hc
  refine ⟨he, ?_⟩
  rw [piv_1, hb, he]
  exact hd

theorem top_2 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w576 b (ix2 r 0) = M (sg M ⟨2, by decide⟩) ∧ w596 b (ix2 r 0) = BitVec.ofNat 32 (sg M ⟨2, by decide⟩).val := by
  obtain ⟨hx, hy⟩ := top_1 b r M hM h0 h1 h2
  obtain ⟨ha, hb⟩ := round_at b r M h0 h1 h2 (w518 b) (w538 b)
  rw [hx, hy] at ha
  simp only [hx, hy] at hb
  obtain ⟨hc, hd⟩ := roundK M hM ⟨1, by decide⟩ ⟨2, by decide⟩ rfl
  have he : w576 b (ix2 r 0) = M (sg M ⟨2, by decide⟩) := by rw [mxv_2]; exact ha.trans hc
  refine ⟨he, ?_⟩
  rw [piv_2, hb, he]
  exact hd

theorem top_3 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w634 b (ix2 r 0) = M (sg M ⟨3, by decide⟩) ∧ w654 b (ix2 r 0) = BitVec.ofNat 32 (sg M ⟨3, by decide⟩).val := by
  obtain ⟨hx, hy⟩ := top_2 b r M hM h0 h1 h2
  obtain ⟨ha, hb⟩ := round_at b r M h0 h1 h2 (w576 b) (w596 b)
  rw [hx, hy] at ha
  simp only [hx, hy] at hb
  obtain ⟨hc, hd⟩ := roundK M hM ⟨2, by decide⟩ ⟨3, by decide⟩ rfl
  have he : w634 b (ix2 r 0) = M (sg M ⟨3, by decide⟩) := by rw [mxv_3]; exact ha.trans hc
  refine ⟨he, ?_⟩
  rw [piv_3, hb, he]
  exact hd

theorem top_4 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w692 b (ix2 r 0) = M (sg M ⟨4, by decide⟩) ∧ w712 b (ix2 r 0) = BitVec.ofNat 32 (sg M ⟨4, by decide⟩).val := by
  obtain ⟨hx, hy⟩ := top_3 b r M hM h0 h1 h2
  obtain ⟨ha, hb⟩ := round_at b r M h0 h1 h2 (w634 b) (w654 b)
  rw [hx, hy] at ha
  simp only [hx, hy] at hb
  obtain ⟨hc, hd⟩ := roundK M hM ⟨3, by decide⟩ ⟨4, by decide⟩ rfl
  have he : w692 b (ix2 r 0) = M (sg M ⟨4, by decide⟩) := by rw [mxv_4]; exact ha.trans hc
  refine ⟨he, ?_⟩
  rw [piv_4, hb, he]
  exact hd

theorem top_5 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w750 b (ix2 r 0) = M (sg M ⟨5, by decide⟩) ∧ w770 b (ix2 r 0) = BitVec.ofNat 32 (sg M ⟨5, by decide⟩).val := by
  obtain ⟨hx, hy⟩ := top_4 b r M hM h0 h1 h2
  obtain ⟨ha, hb⟩ := round_at b r M h0 h1 h2 (w692 b) (w712 b)
  rw [hx, hy] at ha
  simp only [hx, hy] at hb
  obtain ⟨hc, hd⟩ := roundK M hM ⟨4, by decide⟩ ⟨5, by decide⟩ rfl
  have he : w750 b (ix2 r 0) = M (sg M ⟨5, by decide⟩) := by rw [mxv_5]; exact ha.trans hc
  refine ⟨he, ?_⟩
  rw [piv_5, hb, he]
  exact hd

theorem top_6 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w808 b (ix2 r 0) = M (sg M ⟨6, by decide⟩) ∧ w828 b (ix2 r 0) = BitVec.ofNat 32 (sg M ⟨6, by decide⟩).val := by
  obtain ⟨hx, hy⟩ := top_5 b r M hM h0 h1 h2
  obtain ⟨ha, hb⟩ := round_at b r M h0 h1 h2 (w750 b) (w770 b)
  rw [hx, hy] at ha
  simp only [hx, hy] at hb
  obtain ⟨hc, hd⟩ := roundK M hM ⟨5, by decide⟩ ⟨6, by decide⟩ rfl
  have he : w808 b (ix2 r 0) = M (sg M ⟨6, by decide⟩) := by rw [mxv_6]; exact ha.trans hc
  refine ⟨he, ?_⟩
  rw [piv_6, hb, he]
  exact hd

theorem top_7 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w866 b (ix2 r 0) = M (sg M ⟨7, by decide⟩) ∧ w886 b (ix2 r 0) = BitVec.ofNat 32 (sg M ⟨7, by decide⟩).val := by
  obtain ⟨hx, hy⟩ := top_6 b r M hM h0 h1 h2
  obtain ⟨ha, hb⟩ := round_at b r M h0 h1 h2 (w808 b) (w828 b)
  rw [hx, hy] at ha
  simp only [hx, hy] at hb
  obtain ⟨hc, hd⟩ := roundK M hM ⟨6, by decide⟩ ⟨7, by decide⟩ rfl
  have he : w866 b (ix2 r 0) = M (sg M ⟨7, by decide⟩) := by rw [mxv_7]; exact ha.trans hc
  refine ⟨he, ?_⟩
  rw [piv_7, hb, he]
  exact hd

theorem top_8 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w924 b (ix2 r 0) = M (sg M ⟨8, by decide⟩) ∧ w944 b (ix2 r 0) = BitVec.ofNat 32 (sg M ⟨8, by decide⟩).val := by
  obtain ⟨hx, hy⟩ := top_7 b r M hM h0 h1 h2
  obtain ⟨ha, hb⟩ := round_at b r M h0 h1 h2 (w866 b) (w886 b)
  rw [hx, hy] at ha
  simp only [hx, hy] at hb
  obtain ⟨hc, hd⟩ := roundK M hM ⟨7, by decide⟩ ⟨8, by decide⟩ rfl
  have he : w924 b (ix2 r 0) = M (sg M ⟨8, by decide⟩) := by rw [mxv_8]; exact ha.trans hc
  refine ⟨he, ?_⟩
  rw [piv_8, hb, he]
  exact hd

theorem top_9 (b : Blk) (r : Fin 12) (M : Fin 8400 → EReal) (hM : ∀ a, 0 ≤ M a) (h0 : ∀ x, w145 b (ix2 r x) = M (e0 x))
    (h1 : ∀ x, w281 b (ix2 r x) = M (e1 x)) (h2 : ∀ x, w417 b (ix2 r x) = M (e2 x)) :
    w982 b (ix2 r 0) = M (sg M ⟨9, by decide⟩) ∧ w1002 b (ix2 r 0) = BitVec.ofNat 32 (sg M ⟨9, by decide⟩).val := by
  obtain ⟨hx, hy⟩ := top_8 b r M hM h0 h1 h2
  obtain ⟨ha, hb⟩ := round_at b r M h0 h1 h2 (w924 b) (w944 b)
  rw [hx, hy] at ha
  simp only [hx, hy] at hb
  obtain ⟨hc, hd⟩ := roundK M hM ⟨8, by decide⟩ ⟨9, by decide⟩ rfl
  have he : w982 b (ix2 r 0) = M (sg M ⟨9, by decide⟩) := by rw [mxv_9]; exact ha.trans hc
  refine ⟨he, ?_⟩
  rw [piv_9, hb, he]
  exact hd

end Cert.KernelIdeal.Gen
-- ==== Proof.KSel.lean ====
/- The ten rounds of the kernel's selection, each read as one round over the metric's rows. -/
module

public import Idealize.ShloMosaic.Lib.Pointwise
public import proofs.«01_k».proof.Proof.Chain
public import proofs.«01_k».proof.Proof.Rounds

/-!
The kernel's selected anchors and their number, read at an index.
-/

@[expose] public section

set_option maxRecDepth 16384

noncomputable section

namespace Cert.KernelIdeal.Gen
open Idealize.ShloMosaic Idealize.ShloMosaic.TcCoe Idealize.SL.Sem
open Facts₀ Facts
open Cert.Sel

theorem w1006_eq (b : Blk) : w1006 b = cmpf .ogt (w145 b) (broadcastTo S12x6400 (w982 b) broadcasts_S12x1_S12x6400) := rfl
theorem w1008_eq (b : Blk) : w1008 b = cmpf .oeq (w145 b) (broadcastTo S12x6400 (w982 b) broadcasts_S12x1_S12x6400) := rfl
theorem w1009_eq (b : Blk) : w1009 b = broadcastTo S12x6400 (w1002 b) broadcasts_S12x1_S12x6400 := rfl

theorem w1018_at (b : Blk) (x : Fin 6400) : w1018 b (ix2 0 x) = Finset.fold max (Ideal.ofBits FTy.f32 4286578688#32)
    (fun r => Scalar.select (selK (w145 b (ix2 r x)) (w148 b (ix2 r x)) (w982 b (ix2 r 0)) (w1002 b (ix2 r 0))) 1 0) Finset.univ := by
  unfold selK w1018
  unfold w1004; rw [w1006_eq, w1008_eq, w1009_eq]
  generalize w145 b = zw145
  generalize w148 b = zw148
  generalize w982 b = zw982
  generalize w1002 b = zw1002
  pointwise [k0_pay193, k0_pay192, k0_pay188]

theorem w1357_at (b : Blk) (x : Fin 1600) : w1357 b (ix2 0 x) = Finset.fold max (Ideal.ofBits FTy.f32 4286578688#32)
    (fun r => Scalar.select (selK (w281 b (ix2 r x)) (w284 b (ix2 r x)) (w982 b (ix2 r 0)) (w1002 b (ix2 r 0))) 1 0) Finset.univ := by
  unfold selK w1357
  generalize w281 b = zw281
  generalize w284 b = zw284
  generalize w982 b = zw982
  generalize w1002 b = zw1002
  pointwise [k0_pay273, k0_pay272]

theorem w1696_at (b : Blk) (x : Fin 400) : w1696 b (ix2 0 x) = Finset.fold max (Ideal.ofBits FTy.f32 4286578688#32)
    (fun r => Scalar.select (selK (w417 b (ix2 r x)) (w420 b (ix2 r x)) (w982 b (ix2 r 0)) (w1002 b (ix2 r 0))) 1 0) Finset.univ := by
  unfold selK w1696
  generalize w417 b = zw417
  generalize w420 b = zw420
  generalize w982 b = zw982
  generalize w1002 b = zw1002
  pointwise [k0_pay333, k0_pay332]

theorem pay194_at (a : IVec S12x6400 32) (b c d : IVec S12x6400 1) (e : IVec S12x6400 32) :
    k0_pay194 (F := Ideal) a b c d e = ∑ x : Fin 6400, k0_pay193 (F := Ideal) a b c d e (ix2 0 x) := by
  unfold k0_pay194
  generalize k0_pay193 (F := Ideal) a b c d e = y
  pointwise []
  all_goals simp only [Finset.univ_unique, Finset.sum_singleton, Fin.default_eq_zero, Fin.isValue, zero_add]

theorem pay274_at (a : FVec Ideal S12x1600 .f32) (b : IVec S12x1600 32) (c : FVec Ideal S12x1 .f32) (d : IVec S12x1 32) (e : Ideal .f32) :
    k0_pay274 (F := Ideal) a b c d e = e + ∑ x : Fin 1600, k0_pay273 (F := Ideal) a b c d (ix2 0 x) := by
  unfold k0_pay274
  generalize k0_pay273 (F := Ideal) a b c d = y
  pointwise []
  all_goals simp only [Finset.univ_unique, Finset.sum_singleton, Fin.default_eq_zero, Fin.isValue, zero_add]

theorem pay335_at (a : FVec Ideal S12x400 .f32) (b : IVec S12x400 32) (c : FVec Ideal S12x1 .f32) (d : IVec S12x1 32) (e : Ideal .f32) :
    k0_pay335 (F := Ideal) e (k0_pay334 (F := Ideal) a b c d) = e + ∑ x : Fin 400, k0_pay333 (F := Ideal) a b c d (ix2 0 x) := by
  unfold k0_pay335 k0_pay334
  generalize k0_pay333 (F := Ideal) a b c d = y
  pointwise []
  all_goals simp only [Finset.univ_unique, Finset.sum_singleton, Fin.default_eq_zero, Fin.isValue, zero_add]

theorem w1023_at (b : Blk) : w1023 b = ∑ x, w1018 b (ix2 0 x) := by
  unfold w1023 w1018
  exact pay194_at _ _ _ _ _
theorem w1362_at (b : Blk) : w1362 b = w1023 b + ∑ x, w1357 b (ix2 0 x) := by
  unfold w1362 w1357
  exact pay274_at _ _ _ _ _
theorem w1701_at (b : Blk) : w1701 b = w1362 b + ∑ x, w1696 b (ix2 0 x) := by
  unfold w1701 w1699 w1696
  exact pay335_at _ _ _ _ _

/-- What the body's number of foreground anchors is, for metrics `M`. -/
theorem count_at (b : Blk) (M : Fin 12 → Fin 8400 → EReal) (hM : ∀ r a, 0 ≤ M r a) (h0 : ∀ r x, w145 b (ix2 r x) = M r (e0 x))
    (h1 : ∀ r x, w281 b (ix2 r x) = M r (e1 x)) (h2 : ∀ r x, w417 b (ix2 r x) = M r (e2 x)) : w1701 b = ∑ a, fg M a := by
  classical
  have hp : ∀ r, w982 b (ix2 r 0) = M r (sg (M r) ⟨9, by decide⟩) := fun r => (top_9 b r (M r) (hM r) (h0 r) (h1 r) (h2 r)).1
  have hi : ∀ r, w1002 b (ix2 r 0) = BitVec.ofNat 32 (sg (M r) ⟨9, by decide⟩).val := fun r => (top_9 b r (M r) (hM r) (h0 r) (h1 r) (h2 r)).2
  have key : ∀ a : Fin 8400, Finset.fold max (Ideal.ofBits FTy.f32 4286578688#32) (fun r : Fin 12 => Scalar.select (selK (M r a) (BitVec.ofNat 32 a.val)
      (M r (sg (M r) ⟨9, by decide⟩)) (BitVec.ofNat 32 (sg (M r) ⟨9, by decide⟩).val)) (1 : EReal) 0) Finset.univ = fg M a := by
    intro a
    unfold fg
    rw [← fold_ind]
    congr 1
    funext r
    exact select_one _ _ _ _ (selK_iff (M r) a)
  rw [w1701_at, w1362_at, w1023_at, sum_levels (fg M)]
  refine congrArg₂ _ (congrArg₂ _ (Finset.sum_congr rfl fun x _ => ?_) (Finset.sum_congr rfl fun x _ => ?_)) (Finset.sum_congr rfl fun x _ => ?_)
  · rw [w1018_at, ← key]; simp only [h0, gi0_at, hp, hi]; rfl
  · rw [w1357_at, ← key]; simp only [h1, gi1_at, gi1, hp, hi]
  · rw [w1696_at, ← key]; simp only [h2, gi2_at, gi2, hp, hi]

end Cert.KernelIdeal.Gen
-- ==== Proof.KBox.lean ====
module

public import Idealize.ShloMosaic.Lib.Pointwise
public import proofs.«01_k».proof.Proof.KStep0
public import proofs.«01_k».proof.Proof.KStep1
public import proofs.«01_k».proof.Proof.KStep2
public import proofs.«01_k».proof.Proof.KMet
public import proofs.«01_k».proof.Proof.KSel

/-!
The box loss and the class loss of the kernel, as sums over all the anchors.
-/

@[expose] public section

set_option maxRecDepth 16384

noncomputable section

namespace Cert.KernelIdeal.Gen
open Idealize.ShloMosaic Idealize.ShloMosaic.TcCoe Idealize.SL.Sem
open Facts₀ Facts
open Cert.Sel

theorem w116_at (b : Blk) (x : Fin 6400) : w116 b (ix2 0 x) = ((w89 b (ix2 0 x)) - (w85 b (ix2 0 x))) * ((w91 b (ix2 0 x)) - (w87 b (ix2 0 x))) := by
  pointwise [w116, k0_pay36, w85, w87, w89, w91]

theorem w1122_at (b : Blk) (x : Fin 6400) : w1122 b (ix2 0 x) =
    iouE (w85 b (ix2 0 x)) (w87 b (ix2 0 x)) (w89 b (ix2 0 x)) (w91 b (ix2 0 x)) (w1091 b (ix2 0 x)) (w1095 b (ix2 0 x)) (w1099 b (ix2 0 x)) (w1103 b (ix2 0 x)) := by
  have h1 : w1104 b (ix2 0 x) = min (w1099 b (ix2 0 x)) (w89 b (ix2 0 x)) := rfl
  have h2 : w1105 b (ix2 0 x) = max (w1091 b (ix2 0 x)) (w85 b (ix2 0 x)) := rfl
  unfold iouE interF
  rw [← w116_at, ← h1, ← h2]
  unfold w1122
  generalize w116 b = zw116
  generalize w87 b = zw87
  generalize w91 b = zw91
  generalize w1091 b = zw1091
  generalize w1095 b = zw1095
  generalize w1099 b = zw1099
  generalize w1103 b = zw1103
  generalize w1104 b = zw1104
  generalize w1105 b = zw1105
  pointwise [k0_pay224]

theorem w1130_at (b : Blk) : w1130 b = ∑ x : Fin 6400, (1 - (w1122 b (ix2 0 x))) * (w1018 b (ix2 0 x)) := by
  unfold w1130 k0_pay225
  rw [show k0_pay224 (w87 b) (w91 b) (w116 b) (w1091 b) (w1095 b) (w1099 b) (w1103 b) (w1104 b) (w1105 b) = w1122 b from rfl]
  generalize w1122 b = zw1122
  generalize w1018 b = zw1018
  pointwise [id]
  all_goals simp only [Finset.univ_unique, Finset.sum_singleton, Fin.default_eq_zero, Fin.isValue, zero_add]

theorem w1151_at (b : Blk) : w1151 b = ∑ x : Fin 6400, clsF (b.l1131 (ix3 0 0 x)) (w1122 b (ix2 0 x)) * (w1018 b (ix2 0 x)) := by
  unfold clsF
  unfold w1151 k0_pay226
  rw [show k0_pay224 (w87 b) (w91 b) (w116 b) (w1091 b) (w1095 b) (w1099 b) (w1103 b) (w1104 b) (w1105 b) = w1122 b from rfl]
  generalize w1122 b = zw1122
  generalize w1018 b = zw1018
  pointwise [w1131]
  all_goals simp only [Finset.univ_unique, Finset.sum_singleton, Fin.default_eq_zero, Fin.isValue, zero_add, zero_sub]
  all_goals rfl

theorem w1152_at (b : Blk) : w1152 b = w1151 b := by
  unfold w1152
  generalize w1151 b = y
  pointwise [k0_pay227]
  all_goals simp only [zero_add]

theorem w1025_at (b : Blk) (r : Fin 12) (x : Fin 6400) : w1025 b (ix2 r x) =
    Scalar.select (selK (w145 b (ix2 r x)) (w148 b (ix2 r x)) (w982 b (ix2 r 0)) (w1002 b (ix2 r 0))) (w123 b (ix2 r x)) (-1) := by
  rw [← neg1]
  unfold selK w1025
  unfold w1004; rw [w1006_eq, w1008_eq, w1009_eq]
  generalize w145 b = zw145
  generalize w148 b = zw148
  generalize w982 b = zw982
  generalize w1002 b = zw1002
  generalize w123 b = zw123
  pointwise [k0_pay195, k0_pay192, k0_pay188]

theorem w252_at (b : Blk) (x : Fin 1600) : w252 b (ix2 0 x) = ((w225 b (ix2 0 x)) - (w221 b (ix2 0 x))) * ((w227 b (ix2 0 x)) - (w223 b (ix2 0 x))) := by
  pointwise [w252, k0_pay72, w221, w223, w225, w227]

theorem w1461_at (b : Blk) (x : Fin 1600) : w1461 b (ix2 0 x) =
    iouE (w221 b (ix2 0 x)) (w223 b (ix2 0 x)) (w225 b (ix2 0 x)) (w227 b (ix2 0 x)) (w1430 b (ix2 0 x)) (w1434 b (ix2 0 x)) (w1438 b (ix2 0 x)) (w1442 b (ix2 0 x)) := by
  unfold iouE interF
  rw [← w252_at]
  unfold w1461 k0_pay292
  rw [show k0_pay288 (w1 b) (w1423 b) (w1424 b) (w1425 b) = w1430 b from rfl, show k0_pay289 (w3 b) (w1423 b) (w1424 b) (w1425 b) = w1434 b from rfl, show k0_pay290 (w5 b) (w1423 b) (w1424 b) (w1425 b) = w1438 b from rfl, show k0_pay291 (w7 b) (w1423 b) (w1424 b) (w1425 b) = w1442 b from rfl]
  generalize w252 b = zw252
  generalize w221 b = zw221
  generalize w223 b = zw223
  generalize w225 b = zw225
  generalize w227 b = zw227
  generalize w1430 b = zw1430
  generalize w1434 b = zw1434
  generalize w1438 b = zw1438
  generalize w1442 b = zw1442
  pointwise [id]

theorem w1469_at (b : Blk) : w1469 b = w1130 b + ∑ x : Fin 1600, (1 - (w1461 b (ix2 0 x))) * (w1357 b (ix2 0 x)) := by
  unfold w1469 k0_pay293
  rw [show k0_pay292 (w1 b) (w3 b) (w5 b) (w7 b) (w221 b) (w223 b) (w225 b) (w227 b) (w252 b) (w1423 b) (w1424 b) (w1425 b) = w1461 b from rfl]
  generalize w1461 b = zw1461
  generalize w1357 b = zw1357
  generalize w1130 b = zw1130
  pointwise [id]
  all_goals simp only [Finset.univ_unique, Finset.sum_singleton, Fin.default_eq_zero, Fin.isValue, zero_add]

theorem w1491_at (b : Blk) : w1491 b = w1152 b + ∑ x : Fin 1600, clsF (b.l1470 (ix3 0 0 x)) (w1461 b (ix2 0 x)) * (w1357 b (ix2 0 x)) := by
  unfold clsF
  unfold w1491 k0_pay295
  generalize w1461 b = zw1461
  generalize w1357 b = zw1357
  generalize w1152 b = zw1152
  pointwise [w1470, w1471, k0_pay294, w_cst_360, w_cst_361]
  all_goals simp only [Finset.univ_unique, Finset.sum_singleton, Fin.default_eq_zero, Fin.isValue, zero_add, zero_sub]
  all_goals rfl

theorem w1364_at (b : Blk) (r : Fin 12) (x : Fin 1600) : w1364 b (ix2 r x) =
    Scalar.select (selK (w281 b (ix2 r x)) (w284 b (ix2 r x)) (w982 b (ix2 r 0)) (w1002 b (ix2 r 0))) (w259 b (ix2 r x)) (-1) := by
  rw [← neg1]
  unfold selK w1364
  generalize w281 b = zw281
  generalize w284 b = zw284
  generalize w982 b = zw982
  generalize w1002 b = zw1002
  generalize w259 b = zw259
  pointwise [k0_pay275, k0_pay272]

theorem w388_at (b : Blk) (x : Fin 400) : w388 b (ix2 0 x) = ((w361 b (ix2 0 x)) - (w357 b (ix2 0 x))) * ((w363 b (ix2 0 x)) - (w359 b (ix2 0 x))) := by
  pointwise [w388, k0_pay106, w357, w359, w361, w363]

theorem w1792_at (b : Blk) (x : Fin 400) : w1792 b (ix2 0 x) = interF (w1769 b (ix2 0 x)) (w1773 b (ix2 0 x)) (w1777 b (ix2 0 x)) (w1781 b (ix2 0 x)) (w357 b (ix2 0 x)) (w359 b (ix2 0 x)) (w361 b (ix2 0 x)) (w363 b (ix2 0 x)) := by
  unfold interF w1792 k0_pay371
  rw [show k0_pay367 (w1 b) (w1703 b) (w1745 b) (w1747 b) (w1748 b) (w_c9_i32_444 b) = w1769 b from rfl, show k0_pay368 (w3 b) (w1703 b) (w1745 b) (w1747 b) (w1748 b) (w_c9_i32_444 b) = w1773 b from rfl, show k0_pay369 (w5 b) (w1703 b) (w1745 b) (w1747 b) (w1748 b) (w_c9_i32_444 b) = w1777 b from rfl, show k0_pay370 (w7 b) (w1703 b) (w1745 b) (w1747 b) (w1748 b) (w_c9_i32_444 b) = w1781 b from rfl]
  generalize w357 b = zw357
  generalize w359 b = zw359
  generalize w361 b = zw361
  generalize w363 b = zw363
  generalize w1769 b = zw1769
  generalize w1773 b = zw1773
  generalize w1777 b = zw1777
  generalize w1781 b = zw1781
  pointwise [id]

theorem w1797_at (b : Blk) (x : Fin 400) : w1797 b (ix2 0 x) = (w388 b (ix2 0 x)) + ((w1777 b (ix2 0 x)) - (w1769 b (ix2 0 x))) * ((w1781 b (ix2 0 x)) - (w1773 b (ix2 0 x))) - (w1792 b (ix2 0 x)) := by
  unfold w1797 k0_pay372
  rw [show k0_pay367 (w1 b) (w1703 b) (w1745 b) (w1747 b) (w1748 b) (w_c9_i32_444 b) = w1769 b from rfl, show k0_pay368 (w3 b) (w1703 b) (w1745 b) (w1747 b) (w1748 b) (w_c9_i32_444 b) = w1773 b from rfl, show k0_pay369 (w5 b) (w1703 b) (w1745 b) (w1747 b) (w1748 b) (w_c9_i32_444 b) = w1777 b from rfl, show k0_pay370 (w7 b) (w1703 b) (w1745 b) (w1747 b) (w1748 b) (w_c9_i32_444 b) = w1781 b from rfl, show k0_pay371 (w1 b) (w3 b) (w5 b) (w7 b) (w357 b) (w359 b) (w361 b) (w363 b) (w1703 b) (w1745 b) (w1747 b) (w1748 b) (w_c9_i32_444 b) = w1792 b from rfl]
  generalize w388 b = zw388
  generalize w1792 b = zw1792
  generalize w1769 b = zw1769
  generalize w1773 b = zw1773
  generalize w1777 b = zw1777
  generalize w1781 b = zw1781
  pointwise [id]

theorem w1800_at (b : Blk) (x : Fin 400) : w1800 b (ix2 0 x) =
    iouE (w357 b (ix2 0 x)) (w359 b (ix2 0 x)) (w361 b (ix2 0 x)) (w363 b (ix2 0 x)) (w1769 b (ix2 0 x)) (w1773 b (ix2 0 x)) (w1777 b (ix2 0 x)) (w1781 b (ix2 0 x)) := by
  have h : w1800 b (ix2 0 x) = Ideal.div (w1792 b (ix2 0 x)) ((w1797 b (ix2 0 x)) + Ideal.ofBits FTy.f32 814313567#32) := by
    unfold w1800
    generalize w1792 b = y
    generalize w1797 b = z
    pointwise [k0_pay373, w_cst_455]
  rw [h, w1797_at, w1792_at, w388_at]
  rfl

theorem w1808_at (b : Blk) : w1808 b = w1469 b + ∑ x : Fin 400, (1 - (w1800 b (ix2 0 x))) * (w1696 b (ix2 0 x)) := by
  unfold w1808 k0_pay374
  rw [show k0_pay373 (w1792 b) (w1797 b) (w_cst_455 b) = w1800 b from rfl]
  generalize w1800 b = zw1800
  generalize w1696 b = zw1696
  generalize w1469 b = zw1469
  pointwise [id]
  all_goals simp only [Finset.univ_unique, Finset.sum_singleton, Fin.default_eq_zero, Fin.isValue, zero_add]

theorem w1830_at (b : Blk) : w1830 b = w1491 b + ∑ x : Fin 400, clsF (b.l1809 (ix3 0 0 x)) (w1800 b (ix2 0 x)) * (w1696 b (ix2 0 x)) := by
  unfold clsF
  unfold w1830 k0_pay375
  rw [show k0_pay373 (w1792 b) (w1797 b) (w_cst_455 b) = w1800 b from rfl]
  generalize w1800 b = zw1800
  generalize w1696 b = zw1696
  generalize w1491 b = zw1491
  pointwise [w1809]
  all_goals simp only [Finset.univ_unique, Finset.sum_singleton, Fin.default_eq_zero, Fin.isValue, zero_add, zero_sub]
  all_goals rfl

theorem w1703_at (b : Blk) (r : Fin 12) (x : Fin 400) : w1703 b (ix2 r x) =
    Scalar.select (selK (w417 b (ix2 r x)) (w420 b (ix2 r x)) (w982 b (ix2 r 0)) (w1002 b (ix2 r 0))) (w395 b (ix2 r x)) (-1) := by
  rw [← neg1]
  unfold selK w1703 w1691
  generalize w417 b = zw417
  generalize w420 b = zw420
  generalize w982 b = zw982
  generalize w1002 b = zw1002
  generalize w395 b = zw395
  pointwise [k0_pay336, k0_pay332]

/-- What the selection and the losses use of an image: the metric, the overlaps with the anchors, the decoded boxes and the logits. -/
structure Img (b : Blk) (M O : Fin 12 → Fin 8400 → EReal) (X : Fin 4 → Fin 8400 → EReal) (C : Fin 8400 → EReal) : Prop where
  pos : ∀ r a, 0 ≤ M r a
  m0 : ∀ (r : Fin 12) (x : Fin 6400), w145 b (ix2 r x) = M r (e0 x)
  o0 : ∀ (r : Fin 12) (x : Fin 6400), w123 b (ix2 r x) = O r (e0 x)
  x00 : ∀ x : Fin 6400, w85 b (ix2 0 x) = X 0 (e0 x)
  x01 : ∀ x : Fin 6400, w87 b (ix2 0 x) = X 1 (e0 x)
  x02 : ∀ x : Fin 6400, w89 b (ix2 0 x) = X 2 (e0 x)
  x03 : ∀ x : Fin 6400, w91 b (ix2 0 x) = X 3 (e0 x)
  c0 : ∀ x : Fin 6400, b.l1131 (ix3 0 0 x) = C (e0 x)
  m1 : ∀ (r : Fin 12) (x : Fin 1600), w281 b (ix2 r x) = M r (e1 x)
  o1 : ∀ (r : Fin 12) (x : Fin 1600), w259 b (ix2 r x) = O r (e1 x)
  x10 : ∀ x : Fin 1600, w221 b (ix2 0 x) = X 0 (e1 x)
  x11 : ∀ x : Fin 1600, w223 b (ix2 0 x) = X 1 (e1 x)
  x12 : ∀ x : Fin 1600, w225 b (ix2 0 x) = X 2 (e1 x)
  x13 : ∀ x : Fin 1600, w227 b (ix2 0 x) = X 3 (e1 x)
  c1 : ∀ x : Fin 1600, b.l1470 (ix3 0 0 x) = C (e1 x)
  m2 : ∀ (r : Fin 12) (x : Fin 400), w417 b (ix2 r x) = M r (e2 x)
  o2 : ∀ (r : Fin 12) (x : Fin 400), w395 b (ix2 r x) = O r (e2 x)
  x20 : ∀ x : Fin 400, w357 b (ix2 0 x) = X 0 (e2 x)
  x21 : ∀ x : Fin 400, w359 b (ix2 0 x) = X 1 (e2 x)
  x22 : ∀ x : Fin 400, w361 b (ix2 0 x) = X 2 (e2 x)
  x23 : ∀ x : Fin 400, w363 b (ix2 0 x) = X 3 (e2 x)
  c2 : ∀ x : Fin 400, b.l1809 (ix3 0 0 x) = C (e2 x)

/-- The overlap of an anchor's decoded box with its ground truth. -/
def iouA (P : Fin 4 → Fin 12 → EReal) (M O : Fin 12 → Fin 8400 → EReal) (X : Fin 4 → Fin 8400 → EReal) (a : Fin 8400) : EReal :=
  iouE (X 0 a) (X 1 a) (X 2 a) (X 3 a) (P 0 (asg (claimF M O a))) (P 1 (asg (claimF M O a))) (P 2 (asg (claimF M O a))) (P 3 (asg (claimF M O a)))

/-- The coordinates of the ground truths. -/
def gts (b : Blk) : Fin 4 → Fin 12 → EReal := ![fun r => w1 b (ix2 r 0), fun r => w3 b (ix2 r 0), fun r => w5 b (ix2 r 0), fun r => w7 b (ix2 r 0)]

section
variable {b : Blk} {M O : Fin 12 → Fin 8400 → EReal} {X : Fin 4 → Fin 8400 → EReal} {C : Fin 8400 → EReal} (I : Img b M O X C)
include I

theorem Img.hp (r : Fin 12) : w982 b (ix2 r 0) = M r (sg (M r) ⟨9, by decide⟩) := (top_9 b r (M r) (I.pos r) (I.m0 r) (I.m1 r) (I.m2 r)).1
theorem Img.hi (r : Fin 12) : w1002 b (ix2 r 0) = BitVec.ofNat 32 (sg (M r) ⟨9, by decide⟩).val := (top_9 b r (M r) (I.pos r) (I.m0 r) (I.m1 r) (I.m2 r)).2

omit I in
theorem fg_key (M : Fin 12 → Fin 8400 → EReal) (a : Fin 8400) : Finset.fold max (Ideal.ofBits FTy.f32 4286578688#32) (fun r : Fin 12 => Scalar.select (selK (M r a) (BitVec.ofNat 32 a.val)
      (M r (sg (M r) ⟨9, by decide⟩)) (BitVec.ofNat 32 (sg (M r) ⟨9, by decide⟩).val)) (1 : EReal) 0) Finset.univ = fg M a := by
  classical
  unfold fg
  rw [← fold_ind]
  congr 1
  funext r
  exact select_one _ _ _ _ (selK_iff (M r) a)

omit I in
theorem claim_key (M O : Fin 12 → Fin 8400 → EReal) (r : Fin 12) (a : Fin 8400) : Scalar.select (selK (M r a) (BitVec.ofNat 32 a.val)
      (M r (sg (M r) ⟨9, by decide⟩)) (BitVec.ofNat 32 (sg (M r) ⟨9, by decide⟩).val)) (O r a) (-1) = claimF M O a r := by
  classical
  exact select_one _ _ _ _ (selK_iff (M r) a)

theorem Img.fg0 (x : Fin 6400) : w1018 b (ix2 0 x) = fg M (e0 x) := by
  rw [w1018_at, ← fg_key]; simp only [I.m0, gi0_at, I.hp, I.hi]; rfl

theorem Img.claim0 (x : Fin 6400) : (fun r => w1025 b (ix2 r x)) = claimF M O (e0 x) := by
  funext r
  rw [w1025_at, ← claim_key]; simp only [I.m0, I.o0, gi0_at, I.hp, I.hi]; rfl

theorem Img.iou0 (x : Fin 6400) : w1122 b (ix2 0 x) = iouA (gts b) M O X (e0 x) := by
  rw [w1122_at, w1091_at, w1095_at, w1099_at, w1103_at, I.claim0, I.x00, I.x01, I.x02, I.x03]
  rfl

theorem Img.fg1 (x : Fin 1600) : w1357 b (ix2 0 x) = fg M (e1 x) := by
  rw [w1357_at, ← fg_key]; simp only [I.m1, gi1_at, gi1, I.hp, I.hi]

theorem Img.claim1 (x : Fin 1600) : (fun r => w1364 b (ix2 r x)) = claimF M O (e1 x) := by
  funext r
  rw [w1364_at, ← claim_key]; simp only [I.m1, I.o1, gi1_at, gi1, I.hp, I.hi]

theorem Img.iou1 (x : Fin 1600) : w1461 b (ix2 0 x) = iouA (gts b) M O X (e1 x) := by
  rw [w1461_at, w1430_at, w1434_at, w1438_at, w1442_at, I.claim1, I.x10, I.x11, I.x12, I.x13]
  rfl

theorem Img.fg2 (x : Fin 400) : w1696 b (ix2 0 x) = fg M (e2 x) := by
  rw [w1696_at, ← fg_key]; simp only [I.m2, gi2_at, gi2, I.hp, I.hi]

theorem Img.claim2 (x : Fin 400) : (fun r => w1703 b (ix2 r x)) = claimF M O (e2 x) := by
  funext r
  rw [w1703_at, ← claim_key]; simp only [I.m2, I.o2, gi2_at, gi2, I.hp, I.hi]

theorem Img.iou2 (x : Fin 400) : w1800 b (ix2 0 x) = iouA (gts b) M O X (e2 x) := by
  rw [w1800_at, w1769_at, w1773_at, w1777_at, w1781_at, I.claim2, I.x20, I.x21, I.x22, I.x23]
  rfl

theorem Img.box_sum : w1808 b = ∑ a, (1 - iouA (gts b) M O X a) * fg M a := by
  rw [w1808_at, w1469_at, w1130_at, sum_levels (fun a => (1 - iouA (gts b) M O X a) * fg M a)]
  simp only [I.iou0, I.iou1, I.iou2, I.fg0, I.fg1, I.fg2]

theorem Img.cls_sum : w1830 b = ∑ a, clsF (C a) (iouA (gts b) M O X a) * fg M a := by
  rw [w1830_at, w1491_at, w1152_at, w1151_at, sum_levels (fun a => clsF (C a) (iouA (gts b) M O X a) * fg M a)]
  simp only [I.iou0, I.iou1, I.iou2, I.fg0, I.fg1, I.fg2, I.c0, I.c1, I.c2]

end

end Cert.KernelIdeal.Gen
-- ==== Proof.RSel.lean ====
module

public import proofs.«01_k».proof.Proof.Gen.ReferenceIdeal.Read
public import proofs.«01_k».proof.Proof.Scal

/-!
The reference's selection: the ten largest metrics of a ground truth, the foreground anchors, their order and number.
-/

@[expose] public section

set_option maxRecDepth 16384

noncomputable section

namespace Cert.ReferenceIdeal.Read
open Idealize.ShloMosaic Idealize.SL Cert.ReferenceIdeal
open Cert.Sel

theorem v164_sel (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    val_main_v164 (F := Ideal) x0 x1 x2 x3 x4 x5 x6 x7 x8 x9 (ix3 B r a) = Scalar.select (val_main_v163 (F := Ideal) x0 x1 x2 x3 (ix3 B r a)) (val_main_v140 (F := Ideal) x0 x1 x2 x3 x4 x5 x6 x7 x8 x9 (ix3 B r a)) 0 := by
  unfold val_main_v164 val_main_call0_v1
  rw [show val_main_call0_v0 (F := Ideal) = val_main_cst_8 from rfl]
  generalize val_main_v163 (F := Ideal) x0 x1 x2 x3 = y
  generalize val_main_v140 (F := Ideal) x0 x1 x2 x3 x4 x5 x6 x7 x8 x9 = z
  pointwise [val_main_cst_8]

theorem cmpf_gt (M : Fin 8400 → EReal) :
    (fun k k' => (FloatOps.cmpfTotal (F := Ideal) (φ := .f32) .gt (M k) (M k') == 1#1)) = gtB M := by
  funext a b
  show (BitVec.ofBool (decide (M b < M a)) == 1#1) = decide (M b < M a)
  by_cases h : M b < M a <;> simp [h]

theorem sort3_gen {α β : Type} {n : ℕ} (cmp : α × β → α × β → BitVec 1) (v : (⟨3, ![8, 12, n]⟩ : Shape).Idx → α) (y : (⟨3, ![8, 12, n]⟩ : Shape).Idx → β) (B : Fin 8) (r : Fin 12) (j : Fin n) :
    (Host.sort2 ⟨3, ![8, 12, n]⟩ 2 cmp v y).1 (ix3 B r j) = v (ix3 B r (sortedFrom (fun k k' => cmp (v (ix3 B r k), y (ix3 B r k)) (v (ix3 B r k'), y (ix3 B r k')) == 1#1) j)) ∧
    (Host.sort2 ⟨3, ![8, 12, n]⟩ 2 cmp v y).2 (ix3 B r j) = y (ix3 B r (sortedFrom (fun k k' => cmp (v (ix3 B r k), y (ix3 B r k)) (v (ix3 B r k'), y (ix3 B r k')) == 1#1) j)) := by
  have hu : ∀ p : Fin n, (ix3 B r j : (⟨3, ![8, 12, n]⟩ : Shape).Idx).along 2 p = ix3 B r p := by
    intro p; funext a; refine Fin.ext ?_
    match a with
    | ⟨0, _⟩ => rfl
    | ⟨1, _⟩ => rfl
    | ⟨2, _⟩ => rfl
  have hf : (fun k k' => cmp (v ((ix3 B r j : (⟨3, ![8, 12, n]⟩ : Shape).Idx).along 2 k), y ((ix3 B r j : (⟨3, ![8, 12, n]⟩ : Shape).Idx).along 2 k))
        (v ((ix3 B r j : (⟨3, ![8, 12, n]⟩ : Shape).Idx).along 2 k'), y ((ix3 B r j : (⟨3, ![8, 12, n]⟩ : Shape).Idx).along 2 k')) == 1#1)
      = fun k k' => cmp (v (ix3 B r k), y (ix3 B r k)) (v (ix3 B r k'), y (ix3 B r k')) == 1#1 := by
    funext k k'
    exact congrArg₂ (fun p q => cmp (v p, y p) (v q, y q) == 1#1) (hu k) (hu k')
  unfold Host.sort2
  rw [dif_pos (show 2 < (⟨3, ![8, 12, n]⟩ : Shape).rank from Nat.lt_succ_self 2)]
  exact ⟨(congrArg v (hu _)).trans (congrArg (fun f : Fin n → Fin n → Bool => v (ix3 B r (sortedFrom f j))) hf),
    (congrArg y (hu _)).trans (congrArg (fun f : Fin n → Fin n → Bool => y (ix3 B r (sortedFrom f j))) hf)⟩

theorem sort2_gen {α β : Type} {n : ℕ} (cmp : α × β → α × β → BitVec 1) (v : (⟨2, ![8, n]⟩ : Shape).Idx → α) (y : (⟨2, ![8, n]⟩ : Shape).Idx → β) (B : Fin 8) (j : Fin n) :
    (Host.sort2 ⟨2, ![8, n]⟩ 1 cmp v y).2 (ix2 B j) = y (ix2 B (sortedFrom (fun k k' => cmp (v (ix2 B k), y (ix2 B k)) (v (ix2 B k'), y (ix2 B k')) == 1#1) j)) := by
  have hu : ∀ p : Fin n, (ix2 B j : (⟨2, ![8, n]⟩ : Shape).Idx).along 1 p = ix2 B p := by
    intro p; funext a; refine Fin.ext ?_
    match a with
    | ⟨0, _⟩ => rfl
    | ⟨1, _⟩ => rfl
  have hf : (fun k k' => cmp (v ((ix2 B j : (⟨2, ![8, n]⟩ : Shape).Idx).along 1 k), y ((ix2 B j : (⟨2, ![8, n]⟩ : Shape).Idx).along 1 k))
        (v ((ix2 B j : (⟨2, ![8, n]⟩ : Shape).Idx).along 1 k'), y ((ix2 B j : (⟨2, ![8, n]⟩ : Shape).Idx).along 1 k')) == 1#1)
      = fun k k' => cmp (v (ix2 B k), y (ix2 B k)) (v (ix2 B k'), y (ix2 B k')) == 1#1 := by
    funext k k'
    exact congrArg₂ (fun p q => cmp (v p, y p) (v q, y q) == 1#1) (hu k) (hu k')
  unfold Host.sort2
  rw [dif_pos (show 1 < (⟨2, ![8, n]⟩ : Shape).rank from Nat.lt_succ_self 1)]
  exact (congrArg y (hu _)).trans (congrArg (fun f : Fin n → Fin n → Bool => y (ix2 B (sortedFrom f j))) hf)

theorem topK_gen {α : Type} {n : ℕ} (gt : α → α → BitVec 1) (x : (⟨3, ![8, 12, n]⟩ : Shape).Idx → α)
    (h : (⟨3, ![8, 12, n]⟩ : Shape).Slices (fun _ => 0) ⟨3, ![8, 12, 10]⟩) (hn : 10 ≤ n) (B : Fin 8) (r : Fin 12) (k : Fin 10) :
    (Host.topK ⟨3, ![8, 12, 10]⟩ 2 gt x h).1 (ix3 B r k) = x (ix3 B r (sortedFrom (fun a b => gt (x (ix3 B r a)) (x (ix3 B r b)) == 1#1) (k.castLE hn))) ∧
    (Host.topK ⟨3, ![8, 12, 10]⟩ 2 gt x h).2 (ix3 B r k) = BitVec.ofNat 32 (sortedFrom (fun a b => gt (x (ix3 B r a)) (x (ix3 B r b)) == 1#1) (k.castLE hn)).val := by
  have hJ : ∀ J : (⟨3, ![8, 12, n]⟩ : Shape).Idx, (J 0).val = 0 + B.val → (J 1).val = 0 + r.val → (J 2).val = 0 + k.val → J = ix3 B r (k.castLE hn) := by
    intro J h0 h1 h2
    funext a
    refine Fin.ext ?_
    match a with
    | ⟨0, _⟩ => exact h0.trans (Nat.zero_add _)
    | ⟨1, _⟩ => exact h1.trans (Nat.zero_add _)
    | ⟨2, _⟩ => exact h2.trans (Nat.zero_add _)
  unfold Host.topK extractStridedSlice
  dsimp only
  refine ⟨(congrArg (Host.sort2 (⟨3, ![8, 12, n]⟩ : Shape) 2 (fun l r => gt l.1 r.1) x _).1 (hJ _ ?_ ?_ ?_)).trans (sort3_gen _ _ _ B r _).1,
    (congrArg (Host.sort2 (⟨3, ![8, 12, n]⟩ : Shape) 2 (fun l r => gt l.1 r.1) x _).2 (hJ _ ?_ ?_ ?_)).trans (sort3_gen _ _ _ B r _).2⟩ <;> rfl

theorem topK_at (t : FVec Ideal S8x12x8400 .f32) (h) (B : Fin 8) (r : Fin 12) (k : Fin 10) :
    (Host.topK S8x12x10 2 (FloatOps.cmpfTotal (F := Ideal) (φ := .f32) .gt) t h).1 (ix3 B r k)
      = t (ix3 B r (sg (fun a => t (ix3 B r a)) (k.castLE (by decide)))) ∧
    (Host.topK S8x12x10 2 (FloatOps.cmpfTotal (F := Ideal) (φ := .f32) .gt) t h).2 (ix3 B r k)
      = BitVec.ofNat 32 (sg (fun a => t (ix3 B r a)) (k.castLE (by decide))).val := by
  have q := topK_gen (n := 8400) (FloatOps.cmpfTotal (F := Ideal) (φ := .f32) .gt) t h (by omega) B r k
  unfold sg
  rw [← cmpf_gt]
  exact q

theorem eq_ofNat {n : ℕ} (hn : n ≤ 2 ^ 31) (p q : Fin n) :
    IntOp.cmpi CmpIPredicate.eq (BitVec.ofNat 32 p.val) (BitVec.ofNat 32 q.val) = BitVec.ofBool (decide (p = q)) := by
  simp only [IntOp.cmpi]
  have e : (BitVec.ofNat 32 p.val == BitVec.ofNat 32 q.val) = decide (p = q) := by
    rw [Bool.eq_iff_iff]
    simp only [decide_eq_true_eq, beq_iff_eq, Fin.ext_iff]
    constructor
    · intro e
      have := congrArg BitVec.toNat e
      simp only [BitVec.toNat_ofNat] at this
      have := p.isLt
      have := q.isLt
      omega
    · intro e; rw [e]
  rw [e]

theorem slt_zero {n : ℕ} (h : n < 8401) : IntOp.cmpi CmpIPredicate.slt (BitVec.ofNat 32 n) 0#32 = 0#1 := by
  simp only [IntOp.cmpi]
  have : ((BitVec.ofNat 32 n).slt 0#32) = false := by
    rw [BitVec.slt_eq_decide, toInt_small h]
    simp
  rw [this]; rfl

theorem values_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (k : Fin 10) :
    val_main_values (F := Ideal) x0 x1 x2 x3 x4 x5 x6 x7 x8 x9 (ix3 B r k) = val_main_v164 (F := Ideal) x0 x1 x2 x3 x4 x5 x6 x7 x8 x9 (ix3 B r (sg (fun a => val_main_v164 (F := Ideal) x0 x1 x2 x3 x4 x5 x6 x7 x8 x9 (ix3 B r a)) (k.castLE (by decide)))) := by
  exact (topK_at _ _ B r k).1

theorem indices_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (k : Fin 10) :
    val_main_indices (F := Ideal) x0 x1 x2 x3 x4 x5 x6 x7 x8 x9 (ix3 B r k) = BitVec.ofNat 32 (sg (fun a => val_main_v164 (F := Ideal) x0 x1 x2 x3 x4 x5 x6 x7 x8 x9 (ix3 B r a)) (k.castLE (by decide))).val := by
  exact (topK_at _ _ B r k).2

theorem v178_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    val_main_v178 (F := Ideal) x0 x1 x2 x3 x4 x5 x6 x7 x8 x9 (ix3 B r a) = ∑ k : Fin 10, Scalar.select (IntOp.andi (IntOp.cmpi CmpIPredicate.eq (val_main_indices (F := Ideal) x0 x1 x2 x3 x4 x5 x6 x7 x8 x9 (ix3 B r k)) (BitVec.ofNat 32 a.val)) (BitVec.ofBool (decide (0 < val_main_values (F := Ideal) x0 x1 x2 x3 x4 x5 x6 x7 x8 x9 (ix3 B r k))))) 1 0 := by
  pointwise [id, val_main_v178, val_main_v177, val_main_cst_12, val_main_v176, val_main_v175, val_main_call1_v0, val_main_call1_v1, val_main_v170, val_main_v174, val_main_cst_10, val_main_cst_11, val_main_v168, val_main_v169, val_main_v173, val_main_v165, val_main_v167, val_main_v172, val_main_v166, val_main_v171, val_main_cst_9]

theorem v181_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    val_main_v181 (F := Ideal) x0 x1 x2 x3 x4 x5 x6 x7 x8 x9 (ix3 B r a) = val_main_v178 (F := Ideal) x0 x1 x2 x3 x4 x5 x6 x7 x8 x9 (ix3 B r a) * Scalar.select (val_main_v163 (F := Ideal) x0 x1 x2 x3 (ix3 B r a)) 1 0 := by
  pointwise [id, val_main_v181, val_main_v180, val_main_v179, val_main_call2_v0, val_main_call2_v1, val_main_cst_13, val_main_cst_14]

theorem v185_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (a : Fin 8400) :
    val_main_v185 (F := Ideal) x0 x1 x2 x3 x4 x5 x6 x7 x8 x9 (ix2 B a) = Scalar.select (BitVec.ofBool (decide (0 < ∑ r : Fin 12, val_main_v181 (F := Ideal) x0 x1 x2 x3 x4 x5 x6 x7 x8 x9 (ix3 B r a)))) 1 0 := by
  pointwise [id, val_main_v185, val_main_v184, val_main_call3_v0, val_main_call3_v1, val_main_v182, val_main_v183, val_main_cst_17, val_main_cst_18, val_main_cst_15, val_main_cst_16]

theorem v178_pos (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    0 ≤ val_main_v178 (F := Ideal) x0 x1 x2 x3 x4 x5 x6 x7 x8 x9 (ix3 B r a) ∧ (0 < val_main_v178 (F := Ideal) x0 x1 x2 x3 x4 x5 x6 x7 x8 x9 (ix3 B r a) ↔ ∃ k : Fin 10, sg (fun a => val_main_v164 (F := Ideal) x0 x1 x2 x3 x4 x5 x6 x7 x8 x9 (ix3 B r a)) (k.castLE (by decide)) = a ∧ 0 < val_main_v164 (F := Ideal) x0 x1 x2 x3 x4 x5 x6 x7 x8 x9 (ix3 B r a)) := by
  rw [v178_at]
  simp only [values_at, indices_at]
  have h : ∀ k : Fin 10, (0 : EReal) ≤ Scalar.select (IntOp.andi (IntOp.cmpi CmpIPredicate.eq (BitVec.ofNat 32 (sg (fun a => val_main_v164 (F := Ideal) x0 x1 x2 x3 x4 x5 x6 x7 x8 x9 (ix3 B r a)) (k.castLE (by decide))).val) (BitVec.ofNat 32 a.val)) (BitVec.ofBool (decide (0 < val_main_v164 (F := Ideal) x0 x1 x2 x3 x4 x5 x6 x7 x8 x9 (ix3 B r (sg (fun a => val_main_v164 (F := Ideal) x0 x1 x2 x3 x4 x5 x6 x7 x8 x9 (ix3 B r a)) (k.castLE (by decide)))))))) 1 0 := by
    intro k; unfold Scalar.select; split
    · exact zero_le_one
    · exact le_rfl
  refine ⟨Finset.sum_nonneg fun k _ => h k, (sum_pos_iff _ h).trans (exists_congr fun k => ?_)⟩
  have he := eq_ofNat (by omega) (sg (fun a => val_main_v164 (F := Ideal) x0 x1 x2 x3 x4 x5 x6 x7 x8 x9 (ix3 B r a)) (k.castLE (by decide))) a
  rw [he]
  by_cases h1 : sg (fun a => val_main_v164 (F := Ideal) x0 x1 x2 x3 x4 x5 x6 x7 x8 x9 (ix3 B r a)) (k.castLE (by decide)) = a
  · rw [h1]
    by_cases h2 : 0 < val_main_v164 (F := Ideal) x0 x1 x2 x3 x4 x5 x6 x7 x8 x9 (ix3 B r a) <;> simp [h1, h2, Scalar.select, IntOp.andi]
  · simp [h1, Scalar.select, IntOp.andi]

theorem v181_pos (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    0 ≤ val_main_v181 (F := Ideal) x0 x1 x2 x3 x4 x5 x6 x7 x8 x9 (ix3 B r a) ∧ (0 < val_main_v181 (F := Ideal) x0 x1 x2 x3 x4 x5 x6 x7 x8 x9 (ix3 B r a) ↔ selP (fun a => val_main_v164 (F := Ideal) x0 x1 x2 x3 x4 x5 x6 x7 x8 x9 (ix3 B r a)) a) := by
  obtain ⟨h0, h1⟩ := v178_pos x0 x1 x2 x3 x4 x5 x6 x7 x8 x9 B r a
  rw [v181_at]
  unfold selP
  have hm := v164_sel x0 x1 x2 x3 x4 x5 x6 x7 x8 x9 B r a
  unfold Scalar.select
  split
  · rw [mul_one]
    exact ⟨h0, h1.trans ⟨fun ⟨k, e, h⟩ => ⟨h, k, e⟩, fun ⟨h, k, e⟩ => ⟨k, e, h⟩⟩⟩
  · rename_i hn
    have hz : val_main_v164 (F := Ideal) x0 x1 x2 x3 x4 x5 x6 x7 x8 x9 (ix3 B r a) = 0 := by rw [hm]; unfold Scalar.select; exact if_neg hn
    rw [mul_zero]
    exact ⟨le_rfl, ⟨fun h => absurd h (lt_irrefl _), fun h => absurd (hz ▸ h.1) (lt_irrefl _)⟩⟩

theorem v185_eq (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (a : Fin 8400) :
    val_main_v185 (F := Ideal) x0 x1 x2 x3 x4 x5 x6 x7 x8 x9 (ix2 B a) = fg (fun r a => val_main_v164 (F := Ideal) x0 x1 x2 x3 x4 x5 x6 x7 x8 x9 (ix3 B r a)) a := by
  classical
  rw [v185_at]
  unfold fg
  refine select_one _ _ _ _ ?_
  have h := fun r => v181_pos x0 x1 x2 x3 x4 x5 x6 x7 x8 x9 B r a
  have h2 := sum_pos_iff (fun r => val_main_v181 (F := Ideal) x0 x1 x2 x3 x4 x5 x6 x7 x8 x9 (ix3 B r a)) (fun r => (h r).1)
  rw [← exists_congr fun r => (h r).2, ← h2]
  by_cases hc : 0 < ∑ r : Fin 12, val_main_v181 (F := Ideal) x0 x1 x2 x3 x4 x5 x6 x7 x8 x9 (ix3 B r a) <;> simp [hc]

theorem comparator_eq (l r : EReal) (i j : BitVec 32) : comparator_f32_i32_d1 (F := Ideal) (l, i) (r, j) = BitVec.ofBool (decide (l < r)) := by
  have hz : FloatOps.ofBits (F := Ideal) FTy.f32 0#32 = (0 : EReal) := by simp [FloatOps.ofBits, Ideal.ofBits, Ideal.ieee]
  have hs : ∀ x : EReal, Scalar.select (FloatOps.cmpf (F := Ideal) (φ := .f32) .une x x) (FloatOps.ofBits (F := Ideal) FTy.f32 0x7FC00000#32)
      (Scalar.select (FloatOps.cmpf (F := Ideal) (φ := .f32) .oeq x (FloatOps.ofBits (F := Ideal) FTy.f32 0#32)) (FloatOps.ofBits (F := Ideal) FTy.f32 0#32) x) = x := by
    intro x
    have h1 : FloatOps.cmpf (F := Ideal) (φ := .f32) .une x x = 0#1 := by
      show BitVec.ofBool (decide (x ≠ x)) = 0#1
      simp
    rw [h1, hz]
    show Scalar.select 0#1 _ (Scalar.select (BitVec.ofBool (decide (x = 0))) (0 : EReal) x) = x
    by_cases h : x = 0 <;> simp [Scalar.select, h]
  unfold comparator_f32_i32_d1
  simp only [hs]
  rfl

theorem sort2_at (v : FVec Ideal S8x8400 .f32) (y : IVec S8x8400 32) (M : Fin 8400 → EReal) (B : Fin 8) (j : Fin 8400)
    (h : ∀ a, v (ix2 B a) = -(M a)) (hy : ∀ a, y (ix2 B a) = BitVec.ofNat 32 a.val) :
    (Host.sort2 S8x8400 1 (comparator_f32_i32_d1 (F := Ideal)) v y).2 (ix2 B j) = BitVec.ofNat 32 (sg M j).val := by
  refine (sort2_gen (n := 8400) (comparator_f32_i32_d1 (F := Ideal)) v y B j).trans ?_
  rw [hy]
  unfold sg
  congr 3
  funext a b
  rw [comparator_eq, h, h]
  unfold gtB
  have e : (-(M a) < -(M b)) ↔ M b < M a := EReal.neg_lt_neg_iff
  by_cases hc : M b < M a <;> simp [hc, e]

theorem gather_at {α : Type} (x : S8x8400.Idx → α) (idx : IVec S8x120x1 32) (B : Fin 8) (j : Fin 120) (p : Fin 8400)
    (h : idx (ix3 B j 0) = BitVec.ofNat 32 p.val) :
    Host.gather gather_S8x8400_S8x120x1_S8x120_n_1_0_0_1_2_11 x idx (ix2 B j) = x (ix2 B p) := by
  unfold Host.gather
  congr 1
  funext a
  refine Fin.ext ?_
  show gather_S8x8400_S8x120x1_S8x120_n_1_0_0_1_2_11.start (ix2 B j) idx a + gather_S8x8400_S8x120x1_S8x120_n_1_0_0_1_2_11.batchCoord (ix2 B j) a
      + gather_S8x8400_S8x120x1_S8x120_n_1_0_0_1_2_11.offCoord (ix2 B j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8x8400_S8x120x1_S8x120_n_1_0_0_1_2_11.operandBatchingDims from List.mem_singleton.mpr rfl)]
    rfl
  · rw [GatherDims.batchCoord_eq_zero _ _ _ (fun h => by simp [gather_S8x8400_S8x120x1_S8x120_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8x8400_S8x120x1_S8x120_n_1_0_0_1_2_11.startIndexMap from List.mem_singleton.mpr rfl)]
    have hsi : gather_S8x8400_S8x120x1_S8x120_n_1_0_0_1_2_11.siIdx (ix2 B j) ⟨List.idxOf (1 : Fin 2) gather_S8x8400_S8x120x1_S8x120_n_1_0_0_1_2_11.startIndexMap,
        List.idxOf_lt_length_iff.2 (List.mem_singleton.mpr rfl)⟩ = ix3 B j 0 := by
      funext b; refine Fin.ext ?_
      match b with
      | ⟨0, _⟩ => rfl
      | ⟨1, _⟩ => rfl
      | ⟨2, _⟩ => rfl
    rw [hsi, h, toInt_small (by have := p.isLt; omega)]
    show min p.val 8399 = p.val
    have := p.isLt; omega

theorem v198_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 8400) :
    val_main_v198 (F := Ideal) x0 x1 x2 x3 x4 x5 x6 x7 x8 x9 (ix2 B j) = BitVec.ofNat 32 (sg (fg (fun r a => val_main_v164 (F := Ideal) x0 x1 x2 x3 x4 x5 x6 x7 x8 x9 (ix3 B r a))) j).val := by
  refine sort2_at _ _ (fg (fun r a => val_main_v164 (F := Ideal) x0 x1 x2 x3 x4 x5 x6 x7 x8 x9 (ix3 B r a))) B j (fun a => ?_) (fun a => ?_)
  · rw [← v185_eq]
    pointwise [id, val_main_v197]
  · pointwise [id, val_main_call6_v0]

theorem v205_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v205 (F := Ideal) x0 x1 x2 x3 x4 x5 x6 x7 x8 x9 (ix3 B j 0) = BitVec.ofNat 32 (sg (fg (fun r a => val_main_v164 (F := Ideal) x0 x1 x2 x3 x4 x5 x6 x7 x8 x9 (ix3 B r a))) (j.castLE (by decide))).val := by
  have h : val_main_v205 (F := Ideal) x0 x1 x2 x3 x4 x5 x6 x7 x8 x9 (ix3 B j 0) = Scalar.select (IntOp.cmpi CmpIPredicate.slt (val_main_v198 (F := Ideal) x0 x1 x2 x3 x4 x5 x6 x7 x8 x9 (ix2 B (j.castLE (by decide)))) 0#32) (IntOp.addi (val_main_v198 (F := Ideal) x0 x1 x2 x3 x4 x5 x6 x7 x8 x9 (ix2 B (j.castLE (by decide)))) 8400#32) (val_main_v198 (F := Ideal) x0 x1 x2 x3 x4 x5 x6 x7 x8 x9 (ix2 B (j.castLE (by decide)))) := by
    pointwise [id, val_main_v205, val_main_v204, val_main_v201, val_main_v203, val_main_v199, val_main_v200, val_main_v202, val_main_c_23, val_main_c_24]
    all_goals rfl
  rw [h, v198_at]
  rw [slt_zero (lt_trans (Fin.isLt _) (by omega))]
  unfold Scalar.select
  exact if_neg (by decide)

theorem v206_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v206 (F := Ideal) x0 x1 x2 x3 x4 x5 x6 x7 x8 x9 (ix2 B j) = fg (fun r a => val_main_v164 (F := Ideal) x0 x1 x2 x3 x4 x5 x6 x7 x8 x9 (ix3 B r a)) (sg (fg (fun r a => val_main_v164 (F := Ideal) x0 x1 x2 x3 x4 x5 x6 x7 x8 x9 (ix3 B r a))) (j.castLE (by decide))) := by
  unfold val_main_v206
  rw [gather_at _ _ B j _ (v205_at _ _ _ _ _ _ _ _ _ _ B j)]
  exact v185_eq _ _ _ _ _ _ _ _ _ _ B _

theorem v215_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) :
    val_main_v215 (F := Ideal) x0 x1 x2 x3 x4 x5 x6 x7 x8 x9 (ix1 B) = ∑ a, fg (fun r a => val_main_v164 (F := Ideal) x0 x1 x2 x3 x4 x5 x6 x7 x8 x9 (ix3 B r a)) a := by
  have h : val_main_v215 (F := Ideal) x0 x1 x2 x3 x4 x5 x6 x7 x8 x9 (ix1 B) = ∑ j : Fin 120, val_main_v206 (F := Ideal) x0 x1 x2 x3 x4 x5 x6 x7 x8 x9 (ix2 B j) := by
    pointwise [id, val_main_v215, val_main_v214, val_main_cst_27]
  rw [h]
  simp only [v206_at]
  have := sum_order (fun r a => val_main_v164 (F := Ideal) x0 x1 x2 x3 x4 x5 x6 x7 x8 x9 (ix3 B r a)) (fun _ => 1)
  simpa only [mul_one] using this

theorem v428_count (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (B : Fin 8) :
    val_main_v428 (F := Ideal) x0 x1 x2 x3 x4 x5 x6 x7 x8 x9 x10 x11 x12 x13 x14 (ix3 B 0 4) = val_main_v215 (F := Ideal) x0 x1 x2 x3 x4 x5 x6 x7 x8 x9 (ix1 B) := by
  pointwise [id, val_main_v428, val_main_call20_v0, val_main_call20_v1, val_main_v426, val_main_v427, val_main_v407, val_main_v425, val_main_c_72]
  all_goals simp [Scalar.select, IntOp.cmpi]

end Cert.ReferenceIdeal.Read
-- ==== Proof.RBox.lean ====
module

public import proofs.«01_k».proof.Proof.Gen.ReferenceIdeal.Read
public import proofs.«01_k».proof.Proof.RSel
public import proofs.«01_k».proof.Proof.Assign

/-!
The reference's ground truth of an anchor, and its box loss and class loss as sums over all the anchors.
-/

@[expose] public section

set_option maxRecDepth 16384

noncomputable section

namespace Cert.ReferenceIdeal.Read
open Idealize.ShloMosaic Idealize.SL Cert.ReferenceIdeal
open Cert.Sel

theorem gather12_at {α : Type} (x : S8x12x4.Idx → α) (idx : IVec S8x120x1 32) (B : Fin 8) (j : Fin 120) (p : Fin 12) (c : Fin 4)
    (h : idx (ix3 B j 0) = BitVec.ofNat 32 p.val) : Host.gather gather_S8x12x4_S8x120x1_S8x120x4_2_1_0_0_1_2_114 x idx (ix3 B j c) = x (ix3 B p c) := by
  unfold Host.gather
  congr 1
  funext a
  refine Fin.ext ?_
  show gather_S8x12x4_S8x120x1_S8x120x4_2_1_0_0_1_2_114.start (ix3 B j c) idx a + gather_S8x12x4_S8x120x1_S8x120x4_2_1_0_0_1_2_114.batchCoord (ix3 B j c) a
      + gather_S8x12x4_S8x120x1_S8x120x4_2_1_0_0_1_2_114.offCoord (ix3 B j c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x12x4_S8x120x1_S8x120x4_2_1_0_0_1_2_114.operandBatchingDims from List.mem_singleton.mpr rfl)]
    rfl
  · rw [GatherDims.batchCoord_eq_zero _ _ _ (fun h => by simp [gather_S8x12x4_S8x120x1_S8x120x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x12x4_S8x120x1_S8x120x4_2_1_0_0_1_2_114.startIndexMap from List.mem_singleton.mpr rfl)]
    have hsi : gather_S8x12x4_S8x120x1_S8x120x4_2_1_0_0_1_2_114.siIdx (ix3 B j c) ⟨List.idxOf (1 : Fin 3) gather_S8x12x4_S8x120x1_S8x120x4_2_1_0_0_1_2_114.startIndexMap,
        List.idxOf_lt_length_iff.2 (List.mem_singleton.mpr rfl)⟩ = ix3 B j 0 := by
      funext b; refine Fin.ext ?_
      match b with
      | ⟨0, _⟩ => rfl
      | ⟨1, _⟩ => rfl
      | ⟨2, _⟩ => rfl
    rw [hsi, h, toInt_small (by have := p.isLt; omega)]
    show min p.val 11 = p.val
    have := p.isLt; omega
  · rw [GatherDims.batchCoord_eq_zero _ _ _ (fun h => by simp [gather_S8x12x4_S8x120x1_S8x120x4_2_1_0_0_1_2_114] at h)]
    have hs : gather_S8x12x4_S8x120x1_S8x120x4_2_1_0_0_1_2_114.start (ix3 B j c) idx 2 = 0 := by
      unfold GatherDims.start
      rw [dif_neg (fun h => by simp [gather_S8x12x4_S8x120x1_S8x120x4_2_1_0_0_1_2_114] at h)]
    rw [hs]
    simp only [Nat.zero_add]
    unfold GatherDims.offCoord
    rw [dif_pos (show (2 : Fin 3) ∈ gather_S8x12x4_S8x120x1_S8x120x4_2_1_0_0_1_2_114.sKept from by decide)]
    rfl

theorem gather4_at {α : Type} (x : S8x8400x4.Idx → α) (idx : IVec S8x120x1 32) (B : Fin 8) (j : Fin 120) (p : Fin 8400) (c : Fin 4)
    (h : idx (ix3 B j 0) = BitVec.ofNat 32 p.val) : Host.gather gather_S8x8400x4_S8x120x1_S8x120x4_2_1_0_0_1_2_114 x idx (ix3 B j c) = x (ix3 B p c) := by
  unfold Host.gather
  congr 1
  funext a
  refine Fin.ext ?_
  show gather_S8x8400x4_S8x120x1_S8x120x4_2_1_0_0_1_2_114.start (ix3 B j c) idx a + gather_S8x8400x4_S8x120x1_S8x120x4_2_1_0_0_1_2_114.batchCoord (ix3 B j c) a
      + gather_S8x8400x4_S8x120x1_S8x120x4_2_1_0_0_1_2_114.offCoord (ix3 B j c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x8400x4_S8x120x1_S8x120x4_2_1_0_0_1_2_114.operandBatchingDims from List.mem_singleton.mpr rfl)]
    rfl
  · rw [GatherDims.batchCoord_eq_zero _ _ _ (fun h => by simp [gather_S8x8400x4_S8x120x1_S8x120x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x8400x4_S8x120x1_S8x120x4_2_1_0_0_1_2_114.startIndexMap from List.mem_singleton.mpr rfl)]
    have hsi : gather_S8x8400x4_S8x120x1_S8x120x4_2_1_0_0_1_2_114.siIdx (ix3 B j c) ⟨List.idxOf (1 : Fin 3) gather_S8x8400x4_S8x120x1_S8x120x4_2_1_0_0_1_2_114.startIndexMap,
        List.idxOf_lt_length_iff.2 (List.mem_singleton.mpr rfl)⟩ = ix3 B j 0 := by
      funext b; refine Fin.ext ?_
      match b with
      | ⟨0, _⟩ => rfl
      | ⟨1, _⟩ => rfl
      | ⟨2, _⟩ => rfl
    rw [hsi, h, toInt_small (by have := p.isLt; omega)]
    show min p.val 8399 = p.val
    have := p.isLt; omega
  · rw [GatherDims.batchCoord_eq_zero _ _ _ (fun h => by simp [gather_S8x8400x4_S8x120x1_S8x120x4_2_1_0_0_1_2_114] at h)]
    have hs : gather_S8x8400x4_S8x120x1_S8x120x4_2_1_0_0_1_2_114.start (ix3 B j c) idx 2 = 0 := by
      unfold GatherDims.start
      rw [dif_neg (fun h => by simp [gather_S8x8400x4_S8x120x1_S8x120x4_2_1_0_0_1_2_114] at h)]
    rw [hs]
    simp only [Nat.zero_add]
    unfold GatherDims.offCoord
    rw [dif_pos (show (2 : Fin 3) ∈ gather_S8x8400x4_S8x120x1_S8x120x4_2_1_0_0_1_2_114.sKept from by decide)]
    rfl

theorem gather1_at {α : Type} (x : S8x8400x1.Idx → α) (idx : IVec S8x120x1 32) (B : Fin 8) (j : Fin 120) (p : Fin 8400) (c : Fin 1)
    (h : idx (ix3 B j 0) = BitVec.ofNat 32 p.val) : Host.gather gather_S8x8400x1_S8x120x1_S8x120x1_2_1_0_0_1_2_111 x idx (ix3 B j c) = x (ix3 B p c) := by
  unfold Host.gather
  congr 1
  funext a
  refine Fin.ext ?_
  show gather_S8x8400x1_S8x120x1_S8x120x1_2_1_0_0_1_2_111.start (ix3 B j c) idx a + gather_S8x8400x1_S8x120x1_S8x120x1_2_1_0_0_1_2_111.batchCoord (ix3 B j c) a
      + gather_S8x8400x1_S8x120x1_S8x120x1_2_1_0_0_1_2_111.offCoord (ix3 B j c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x8400x1_S8x120x1_S8x120x1_2_1_0_0_1_2_111.operandBatchingDims from List.mem_singleton.mpr rfl)]
    rfl
  · rw [GatherDims.batchCoord_eq_zero _ _ _ (fun h => by simp [gather_S8x8400x1_S8x120x1_S8x120x1_2_1_0_0_1_2_111] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x8400x1_S8x120x1_S8x120x1_2_1_0_0_1_2_111.startIndexMap from List.mem_singleton.mpr rfl)]
    have hsi : gather_S8x8400x1_S8x120x1_S8x120x1_2_1_0_0_1_2_111.siIdx (ix3 B j c) ⟨List.idxOf (1 : Fin 3) gather_S8x8400x1_S8x120x1_S8x120x1_2_1_0_0_1_2_111.startIndexMap,
        List.idxOf_lt_length_iff.2 (List.mem_singleton.mpr rfl)⟩ = ix3 B j 0 := by
      funext b; refine Fin.ext ?_
      match b with
      | ⟨0, _⟩ => rfl
      | ⟨1, _⟩ => rfl
      | ⟨2, _⟩ => rfl
    rw [hsi, h, toInt_small (by have := p.isLt; omega)]
    show min p.val 8399 = p.val
    have := p.isLt; omega
  · rw [GatherDims.batchCoord_eq_zero _ _ _ (fun h => by simp [gather_S8x8400x1_S8x120x1_S8x120x1_2_1_0_0_1_2_111] at h)]
    have hs : gather_S8x8400x1_S8x120x1_S8x120x1_2_1_0_0_1_2_111.start (ix3 B j c) idx 2 = 0 := by
      unfold GatherDims.start
      rw [dif_neg (fun h => by simp [gather_S8x8400x1_S8x120x1_S8x120x1_2_1_0_0_1_2_111] at h)]
    rw [hs]
    simp only [Nat.zero_add]
    unfold GatherDims.offCoord
    rw [dif_pos (show (2 : Fin 3) ∈ gather_S8x8400x1_S8x120x1_S8x120x1_2_1_0_0_1_2_111.sKept from by decide)]
    rfl

theorem v231_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v231 (F := Ideal) x0 x1 x2 x3 x4 x5 x6 x7 x8 x9 (ix2 B j) = val_main_v229 (F := Ideal) x0 x1 x2 x3 x4 x5 x6 x7 x8 x9 (ix3 B j 0) := by
  unfold val_main_v231 val_main_v230
  generalize val_main_v229 (F := Ideal) x0 x1 x2 x3 x4 x5 x6 x7 x8 x9 = y
  pointwise [id]
  all_goals rfl

theorem v233_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v233 (F := Ideal) x0 x1 x2 x3 x4 x5 x6 x7 x8 x9 (ix2 B j) = val_main_v229 (F := Ideal) x0 x1 x2 x3 x4 x5 x6 x7 x8 x9 (ix3 B j 1) := by
  unfold val_main_v233 val_main_v232
  generalize val_main_v229 (F := Ideal) x0 x1 x2 x3 x4 x5 x6 x7 x8 x9 = y
  pointwise [id]
  all_goals rfl

theorem v235_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v235 (F := Ideal) x0 x1 x2 x3 x4 x5 x6 x7 x8 x9 (ix2 B j) = val_main_v229 (F := Ideal) x0 x1 x2 x3 x4 x5 x6 x7 x8 x9 (ix3 B j 2) := by
  unfold val_main_v235 val_main_v234
  generalize val_main_v229 (F := Ideal) x0 x1 x2 x3 x4 x5 x6 x7 x8 x9 = y
  pointwise [id]
  all_goals rfl

theorem v237_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v237 (F := Ideal) x0 x1 x2 x3 x4 x5 x6 x7 x8 x9 (ix2 B j) = val_main_v229 (F := Ideal) x0 x1 x2 x3 x4 x5 x6 x7 x8 x9 (ix3 B j 3) := by
  unfold val_main_v237 val_main_v236
  generalize val_main_v229 (F := Ideal) x0 x1 x2 x3 x4 x5 x6 x7 x8 x9 = y
  pointwise [id]
  all_goals rfl

theorem v239_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v239 (F := Ideal) x0 x1 x2 x3 x4 x5 x6 x7 x8 x9 (ix2 B j) = val_main_v222 (F := Ideal) x0 x1 x2 x3 x4 x5 x6 x7 x8 x9 (ix3 B j 0) := by
  unfold val_main_v239 val_main_v238
  generalize val_main_v222 (F := Ideal) x0 x1 x2 x3 x4 x5 x6 x7 x8 x9 = y
  pointwise [id]
  all_goals rfl

theorem v241_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v241 (F := Ideal) x0 x1 x2 x3 x4 x5 x6 x7 x8 x9 (ix2 B j) = val_main_v222 (F := Ideal) x0 x1 x2 x3 x4 x5 x6 x7 x8 x9 (ix3 B j 1) := by
  unfold val_main_v241 val_main_v240
  generalize val_main_v222 (F := Ideal) x0 x1 x2 x3 x4 x5 x6 x7 x8 x9 = y
  pointwise [id]
  all_goals rfl

theorem v243_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v243 (F := Ideal) x0 x1 x2 x3 x4 x5 x6 x7 x8 x9 (ix2 B j) = val_main_v222 (F := Ideal) x0 x1 x2 x3 x4 x5 x6 x7 x8 x9 (ix3 B j 2) := by
  unfold val_main_v243 val_main_v242
  generalize val_main_v222 (F := Ideal) x0 x1 x2 x3 x4 x5 x6 x7 x8 x9 = y
  pointwise [id]
  all_goals rfl

theorem v245_col (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v245 (F := Ideal) x0 x1 x2 x3 x4 x5 x6 x7 x8 x9 (ix2 B j) = val_main_v222 (F := Ideal) x0 x1 x2 x3 x4 x5 x6 x7 x8 x9 (ix3 B j 3) := by
  unfold val_main_v245 val_main_v244
  generalize val_main_v222 (F := Ideal) x0 x1 x2 x3 x4 x5 x6 x7 x8 x9 = y
  pointwise [id]
  all_goals rfl

theorem v188_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) :
    val_main_v188 (F := Ideal) x0 x1 x2 x3 x4 x5 x6 x7 x8 x9 (ix3 B r a) = claimF (fun r a => val_main_v164 (F := Ideal) x0 x1 x2 x3 x4 x5 x6 x7 x8 x9 (ix3 B r a)) (fun r a => val_main_v133 (F := Ideal) x0 x1 x2 x3 x4 x5 x6 (ix3 B r a)) a r := by
  classical
  have h : val_main_v188 (F := Ideal) x0 x1 x2 x3 x4 x5 x6 x7 x8 x9 (ix3 B r a) = Scalar.select (BitVec.ofBool (decide (0 < val_main_v181 (F := Ideal) x0 x1 x2 x3 x4 x5 x6 x7 x8 x9 (ix3 B r a)))) (val_main_v133 (F := Ideal) x0 x1 x2 x3 x4 x5 x6 (ix3 B r a)) (-1) := by
    rw [← neg1]
    unfold val_main_v188 val_main_v187
    generalize val_main_v181 (F := Ideal) x0 x1 x2 x3 x4 x5 x6 x7 x8 x9 = y
    generalize val_main_v133 (F := Ideal) x0 x1 x2 x3 x4 x5 x6 = z
    pointwise [id, val_main_call4_v1, val_main_v186, val_main_call4_v0, val_main_cst_19, val_main_cst_20]
  rw [h]
  have q := (v181_pos x0 x1 x2 x3 x4 x5 x6 x7 x8 x9 B r a).2
  refine select_one _ _ _ _ (Iff.trans ?_ q)
  by_cases hc : 0 < val_main_v181 (F := Ideal) x0 x1 x2 x3 x4 x5 x6 x7 x8 x9 (ix3 B r a) <;> simp [hc]

theorem v189_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (a : Fin 8400) :
    val_main_v189 (F := Ideal) x0 x1 x2 x3 x4 x5 x6 x7 x8 x9 (ix2 B a) = Finset.fold max (Ideal.ofBits FTy.f32 4286578688#32) (fun r : Fin 12 => val_main_v188 (F := Ideal) x0 x1 x2 x3 x4 x5 x6 x7 x8 x9 (ix3 B r a)) Finset.univ := by
  unfold val_main_v189
  generalize val_main_v188 (F := Ideal) x0 x1 x2 x3 x4 x5 x6 x7 x8 x9 = y
  pointwise [val_main_cst_21]

theorem v196_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (a : Fin 8400) :
    val_main_v196 (F := Ideal) x0 x1 x2 x3 x4 x5 x6 x7 x8 x9 (ix2 B a) = BitVec.ofNat 32 (asg (claimF (fun r a => val_main_v164 (F := Ideal) x0 x1 x2 x3 x4 x5 x6 x7 x8 x9 (ix3 B r a)) (fun r a => val_main_v133 (F := Ideal) x0 x1 x2 x3 x4 x5 x6 (ix3 B r a)) a)).val := by
  have h : val_main_v196 (F := Ideal) x0 x1 x2 x3 x4 x5 x6 x7 x8 x9 (ix2 B a) = Finset.fold IntOp.minsi 2147483647#32 (fun r : Fin 12 => Scalar.select
      (BitVec.ofBool (decide (val_main_v188 (F := Ideal) x0 x1 x2 x3 x4 x5 x6 x7 x8 x9 (ix3 B r a) = val_main_v189 (F := Ideal) x0 x1 x2 x3 x4 x5 x6 x7 x8 x9 (ix2 B a)))) (BitVec.ofNat 32 r.val) 12#32) Finset.univ := by
    unfold val_main_v196 val_main_v195 val_main_v192 val_main_v191 val_main_v190
    generalize val_main_v189 (F := Ideal) x0 x1 x2 x3 x4 x5 x6 x7 x8 x9 = m
    generalize val_main_v188 (F := Ideal) x0 x1 x2 x3 x4 x5 x6 x7 x8 x9 = y
    pointwise [id, val_main_call5_v1, val_main_call5_v2, val_main_c_22, val_main_v194, val_main_call5_v0, val_main_v193, val_main_c]
  have hm : val_main_v189 (F := Ideal) x0 x1 x2 x3 x4 x5 x6 x7 x8 x9 (ix2 B a) = claimF (fun r a => val_main_v164 (F := Ideal) x0 x1 x2 x3 x4 x5 x6 x7 x8 x9 (ix3 B r a)) (fun r a => val_main_v133 (F := Ideal) x0 x1 x2 x3 x4 x5 x6 (ix3 B r a)) a (asg (claimF (fun r a => val_main_v164 (F := Ideal) x0 x1 x2 x3 x4 x5 x6 x7 x8 x9 (ix3 B r a)) (fun r a => val_main_v133 (F := Ideal) x0 x1 x2 x3 x4 x5 x6 (ix3 B r a)) a)) := by
    rw [v189_at]
    simp only [v188_at]
    exact fold_top _
  rw [h, hm]
  simp only [v188_at]
  exact fold_asg _

theorem v212_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v212 (F := Ideal) x0 x1 x2 x3 x4 x5 x6 x7 x8 x9 (ix3 B j 0) = BitVec.ofNat 32 (sg (fg (fun r a => val_main_v164 (F := Ideal) x0 x1 x2 x3 x4 x5 x6 x7 x8 x9 (ix3 B r a))) (j.castLE (by decide))).val := by
  have h : val_main_v212 (F := Ideal) x0 x1 x2 x3 x4 x5 x6 x7 x8 x9 (ix3 B j 0) = Scalar.select (IntOp.cmpi CmpIPredicate.slt (val_main_v198 (F := Ideal) x0 x1 x2 x3 x4 x5 x6 x7 x8 x9 (ix2 B (j.castLE (by decide)))) 0#32) (IntOp.addi (val_main_v198 (F := Ideal) x0 x1 x2 x3 x4 x5 x6 x7 x8 x9 (ix2 B (j.castLE (by decide)))) 8400#32) (val_main_v198 (F := Ideal) x0 x1 x2 x3 x4 x5 x6 x7 x8 x9 (ix2 B (j.castLE (by decide)))) := by
    pointwise [id, val_main_v212, val_main_v211, val_main_v208, val_main_v210, val_main_v199, val_main_v207, val_main_v209, val_main_c_25, val_main_c_26]
    all_goals rfl
  rw [h, v198_at]
  rw [slt_zero (lt_trans (Fin.isLt _) (by omega))]
  unfold Scalar.select
  exact if_neg (by decide)

theorem v228_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v228 (F := Ideal) x0 x1 x2 x3 x4 x5 x6 x7 x8 x9 (ix3 B j 0) = BitVec.ofNat 32 (sg (fg (fun r a => val_main_v164 (F := Ideal) x0 x1 x2 x3 x4 x5 x6 x7 x8 x9 (ix3 B r a))) (j.castLE (by decide))).val := by
  have h : val_main_v228 (F := Ideal) x0 x1 x2 x3 x4 x5 x6 x7 x8 x9 (ix3 B j 0) = Scalar.select (IntOp.cmpi CmpIPredicate.slt (val_main_v198 (F := Ideal) x0 x1 x2 x3 x4 x5 x6 x7 x8 x9 (ix2 B (j.castLE (by decide)))) 0#32) (IntOp.addi (val_main_v198 (F := Ideal) x0 x1 x2 x3 x4 x5 x6 x7 x8 x9 (ix2 B (j.castLE (by decide)))) 8400#32) (val_main_v198 (F := Ideal) x0 x1 x2 x3 x4 x5 x6 x7 x8 x9 (ix2 B (j.castLE (by decide)))) := by
    pointwise [id, val_main_v228, val_main_v227, val_main_v224, val_main_v226, val_main_v199, val_main_v223, val_main_v225, val_main_c_30, val_main_c_31]
    all_goals rfl
  rw [h, v198_at]
  rw [slt_zero (lt_trans (Fin.isLt _) (by omega))]
  unfold Scalar.select
  exact if_neg (by decide)

theorem v278_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v278 (F := Ideal) x0 x1 x2 x3 x4 x5 x6 x7 x8 x9 (ix3 B j 0) = BitVec.ofNat 32 (sg (fg (fun r a => val_main_v164 (F := Ideal) x0 x1 x2 x3 x4 x5 x6 x7 x8 x9 (ix3 B r a))) (j.castLE (by decide))).val := by
  have h : val_main_v278 (F := Ideal) x0 x1 x2 x3 x4 x5 x6 x7 x8 x9 (ix3 B j 0) = Scalar.select (IntOp.cmpi CmpIPredicate.slt (val_main_v198 (F := Ideal) x0 x1 x2 x3 x4 x5 x6 x7 x8 x9 (ix2 B (j.castLE (by decide)))) 0#32) (IntOp.addi (val_main_v198 (F := Ideal) x0 x1 x2 x3 x4 x5 x6 x7 x8 x9 (ix2 B (j.castLE (by decide)))) 8400#32) (val_main_v198 (F := Ideal) x0 x1 x2 x3 x4 x5 x6 x7 x8 x9 (ix2 B (j.castLE (by decide)))) := by
    pointwise [id, val_main_v278, val_main_v277, val_main_v274, val_main_v276, val_main_v199, val_main_v273, val_main_v275, val_main_c_37, val_main_c_38]
    all_goals rfl
  rw [h, v198_at]
  rw [slt_zero (lt_trans (Fin.isLt _) (by omega))]
  unfold Scalar.select
  exact if_neg (by decide)

theorem v213_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v213 (F := Ideal) x0 x1 x2 x3 x4 x5 x6 x7 x8 x9 (ix2 B j) = BitVec.ofNat 32 (asg (claimF (fun r a => val_main_v164 (F := Ideal) x0 x1 x2 x3 x4 x5 x6 x7 x8 x9 (ix3 B r a)) (fun r a => val_main_v133 (F := Ideal) x0 x1 x2 x3 x4 x5 x6 (ix3 B r a)) (sg (fg (fun r a => val_main_v164 (F := Ideal) x0 x1 x2 x3 x4 x5 x6 x7 x8 x9 (ix3 B r a))) (j.castLE (by decide))))).val := by
  unfold val_main_v213
  rw [gather_at _ _ B j _ (v212_at _ _ _ _ _ _ _ _ _ _ B j)]
  exact v196_at _ _ _ _ _ _ _ _ _ _ B _

theorem v221_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v221 (F := Ideal) x0 x1 x2 x3 x4 x5 x6 x7 x8 x9 (ix3 B j 0) = BitVec.ofNat 32 (asg (claimF (fun r a => val_main_v164 (F := Ideal) x0 x1 x2 x3 x4 x5 x6 x7 x8 x9 (ix3 B r a)) (fun r a => val_main_v133 (F := Ideal) x0 x1 x2 x3 x4 x5 x6 (ix3 B r a)) (sg (fg (fun r a => val_main_v164 (F := Ideal) x0 x1 x2 x3 x4 x5 x6 x7 x8 x9 (ix3 B r a))) (j.castLE (by decide))))).val := by
  have h : val_main_v221 (F := Ideal) x0 x1 x2 x3 x4 x5 x6 x7 x8 x9 (ix3 B j 0) = Scalar.select (IntOp.cmpi CmpIPredicate.slt (val_main_v213 (F := Ideal) x0 x1 x2 x3 x4 x5 x6 x7 x8 x9 (ix2 B j)) 0#32) (IntOp.addi (val_main_v213 (F := Ideal) x0 x1 x2 x3 x4 x5 x6 x7 x8 x9 (ix2 B j)) 12#32) (val_main_v213 (F := Ideal) x0 x1 x2 x3 x4 x5 x6 x7 x8 x9 (ix2 B j)) := by
    pointwise [id, val_main_v221, val_main_v220, val_main_v217, val_main_v219, val_main_v216, val_main_v218, val_main_c_28, val_main_c_29]
    all_goals rfl
  rw [h, v213_at]
  rw [slt_zero (lt_trans (Fin.isLt _) (by omega))]
  unfold Scalar.select
  exact if_neg (by decide)

theorem v222_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) (c : Fin 4) :
    val_main_v222 (F := Ideal) x0 x1 x2 x3 x4 x5 x6 x7 x8 x9 (ix3 B j c) = x3 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) (sg (fg (fun r a => val_main_v164 (F := Ideal) x0 x1 x2 x3 x4 x5 x6 x7 x8 x9 (ix3 B r a))) (j.castLE (by decide))))) c) := by
  unfold val_main_v222
  exact gather12_at _ _ B j _ c (v221_at _ _ _ _ _ _ _ _ _ _ B j)

theorem v229_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) (c : Fin 4) :
    val_main_v229 (F := Ideal) x0 x1 x2 x3 x4 x5 x6 x7 x8 x9 (ix3 B j c) = val_main_v71 (F := Ideal) x0 x1 x2 x4 x5 x6 (ix3 B (sg (fg (fun r a => val_main_v164 (F := Ideal) x0 x1 x2 x3 x4 x5 x6 x7 x8 x9 (ix3 B r a))) (j.castLE (by decide))) c) := by
  unfold val_main_v229
  exact gather4_at _ _ B j _ c (v228_at _ _ _ _ _ _ _ _ _ _ B j)

theorem v280_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v280 (F := Ideal) x0 x1 x2 x3 x4 x5 x6 x7 x8 x9 (ix2 B j) = val_main_v24 (F := Ideal) x7 x8 x9 (ix3 B (sg (fg (fun r a => val_main_v164 (F := Ideal) x0 x1 x2 x3 x4 x5 x6 x7 x8 x9 (ix3 B r a))) (j.castLE (by decide))) 0) := by
  have h : val_main_v280 (F := Ideal) x0 x1 x2 x3 x4 x5 x6 x7 x8 x9 (ix2 B j) = val_main_v279 (F := Ideal) x0 x1 x2 x3 x4 x5 x6 x7 x8 x9 (ix3 B j 0) := by
    unfold val_main_v280
    generalize val_main_v279 (F := Ideal) x0 x1 x2 x3 x4 x5 x6 x7 x8 x9 = y
    pointwise [id]
  rw [h]
  unfold val_main_v279
  exact gather1_at _ _ B j _ 0 (v278_at _ _ _ _ _ _ _ _ _ _ B j)

theorem v267_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v267 (F := Ideal) x0 x1 x2 x3 x4 x5 x6 x7 x8 x9 (ix2 B j) = iouE (val_main_v229 (F := Ideal) x0 x1 x2 x3 x4 x5 x6 x7 x8 x9 (ix3 B j 0)) (val_main_v229 (F := Ideal) x0 x1 x2 x3 x4 x5 x6 x7 x8 x9 (ix3 B j 1)) (val_main_v229 (F := Ideal) x0 x1 x2 x3 x4 x5 x6 x7 x8 x9 (ix3 B j 2)) (val_main_v229 (F := Ideal) x0 x1 x2 x3 x4 x5 x6 x7 x8 x9 (ix3 B j 3))
      (val_main_v222 (F := Ideal) x0 x1 x2 x3 x4 x5 x6 x7 x8 x9 (ix3 B j 0)) (val_main_v222 (F := Ideal) x0 x1 x2 x3 x4 x5 x6 x7 x8 x9 (ix3 B j 1)) (val_main_v222 (F := Ideal) x0 x1 x2 x3 x4 x5 x6 x7 x8 x9 (ix3 B j 2)) (val_main_v222 (F := Ideal) x0 x1 x2 x3 x4 x5 x6 x7 x8 x9 (ix3 B j 3)) := by
  unfold iouE interF
  unfold val_main_v267 val_main_v266 val_main_v264 val_main_v263 val_main_v262 val_main_v261 val_main_v260 val_main_v259 val_main_v258 val_main_v257 val_main_v256 val_main_v255 val_main_v253 val_main_v252 val_main_v251 val_main_v250 val_main_v248 val_main_v247 val_main_v246
  rw [← v231_col, ← v233_col, ← v235_col, ← v237_col, ← v239_col, ← v241_col, ← v243_col, ← v245_col]
  generalize val_main_v231 (F := Ideal) x0 x1 x2 x3 x4 x5 x6 x7 x8 x9 = y231
  generalize val_main_v233 (F := Ideal) x0 x1 x2 x3 x4 x5 x6 x7 x8 x9 = y233
  generalize val_main_v235 (F := Ideal) x0 x1 x2 x3 x4 x5 x6 x7 x8 x9 = y235
  generalize val_main_v237 (F := Ideal) x0 x1 x2 x3 x4 x5 x6 x7 x8 x9 = y237
  generalize val_main_v239 (F := Ideal) x0 x1 x2 x3 x4 x5 x6 x7 x8 x9 = y239
  generalize val_main_v241 (F := Ideal) x0 x1 x2 x3 x4 x5 x6 x7 x8 x9 = y241
  generalize val_main_v243 (F := Ideal) x0 x1 x2 x3 x4 x5 x6 x7 x8 x9 = y243
  generalize val_main_v245 (F := Ideal) x0 x1 x2 x3 x4 x5 x6 x7 x8 x9 = y245
  pointwise [id, val_main_v265, val_main_v249, val_main_v254, val_main_cst_34, val_main_cst_32, val_main_cst_33]
  all_goals simp only [min_comm, max_comm]

theorem v91_box (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) : val_main_v71 (F := Ideal) x0 x1 x2 x4 x5 x6 (ix3 B a 0) = val_main_v91 (F := Ideal) x0 x1 x2 x4 x5 x6 (ix2 B a) := by
  unfold val_main_v91 val_main_v90
  generalize val_main_v71 (F := Ideal) x0 x1 x2 x4 x5 x6 = y
  pointwise [id]
  all_goals rfl

theorem v94_box (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) : val_main_v71 (F := Ideal) x0 x1 x2 x4 x5 x6 (ix3 B a 1) = val_main_v94 (F := Ideal) x0 x1 x2 x4 x5 x6 (ix2 B a) := by
  unfold val_main_v94 val_main_v93
  generalize val_main_v71 (F := Ideal) x0 x1 x2 x4 x5 x6 = y
  pointwise [id]
  all_goals rfl

theorem v97_box (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) : val_main_v71 (F := Ideal) x0 x1 x2 x4 x5 x6 (ix3 B a 2) = val_main_v97 (F := Ideal) x0 x1 x2 x4 x5 x6 (ix2 B a) := by
  unfold val_main_v97 val_main_v96
  generalize val_main_v71 (F := Ideal) x0 x1 x2 x4 x5 x6 = y
  pointwise [id]
  all_goals rfl

theorem v100_box (x0 : (⟨S8x6400, .f32⟩ : BufTy).Contents (Elt Ideal)) (x1 : (⟨S8x1600, .f32⟩ : BufTy).Contents (Elt Ideal)) (x2 : (⟨S8x400, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (B : Fin 8) (a : Fin 8400) : val_main_v71 (F := Ideal) x0 x1 x2 x4 x5 x6 (ix3 B a 3) = val_main_v100 (F := Ideal) x0 x1 x2 x4 x5 x6 (ix2 B a) := by
  unfold val_main_v100 val_main_v99
  generalize val_main_v71 (F := Ideal) x0 x1 x2 x4 x5 x6 = y
  pointwise [id]
  all_goals rfl

/-- The overlap of an anchor's decoded box with its ground truth. -/
def rIou (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (a : Fin 8400) : EReal :=
  iouE (val_main_v91 (F := Ideal) x0 x1 x2 x4 x5 x6 (ix2 B a)) (val_main_v94 (F := Ideal) x0 x1 x2 x4 x5 x6 (ix2 B a)) (val_main_v97 (F := Ideal) x0 x1 x2 x4 x5 x6 (ix2 B a)) (val_main_v100 (F := Ideal) x0 x1 x2 x4 x5 x6 (ix2 B a))
    (x3 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) a)) 0)) (x3 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) a)) 1)) (x3 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) a)) 2)) (x3 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) a)) 3))

theorem v267_iou (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) : val_main_v267 (F := Ideal) x0 x1 x2 x3 x4 x5 x6 x7 x8 x9 (ix2 B j) = rIou x0 x1 x2 x3 x4 x5 x6 x7 x8 x9 B (sg (fg (fun r a => val_main_v164 (F := Ideal) x0 x1 x2 x3 x4 x5 x6 x7 x8 x9 (ix3 B r a))) (j.castLE (by decide))) := by
  rw [v267_at]
  simp only [v229_at, v222_at, v91_box, v94_box, v97_box, v100_box]
  rfl

theorem v272_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) :
    val_main_v272 (F := Ideal) x0 x1 x2 x3 x4 x5 x6 x7 x8 x9 (ix1 B) = ∑ a, (1 - rIou x0 x1 x2 x3 x4 x5 x6 x7 x8 x9 B a) * fg (fun r a => val_main_v164 (F := Ideal) x0 x1 x2 x3 x4 x5 x6 x7 x8 x9 (ix3 B r a)) a := by
  have h : val_main_v272 (F := Ideal) x0 x1 x2 x3 x4 x5 x6 x7 x8 x9 (ix1 B) = ∑ j : Fin 120, (1 - val_main_v267 (F := Ideal) x0 x1 x2 x3 x4 x5 x6 x7 x8 x9 (ix2 B j)) * val_main_v206 (F := Ideal) x0 x1 x2 x3 x4 x5 x6 x7 x8 x9 (ix2 B j) := by
    unfold val_main_v272 val_main_v271 val_main_v269 val_main_v270
    generalize val_main_v267 (F := Ideal) x0 x1 x2 x3 x4 x5 x6 x7 x8 x9 = y
    generalize val_main_v206 (F := Ideal) x0 x1 x2 x3 x4 x5 x6 x7 x8 x9 = z
    pointwise [id, val_main_v268, val_main_cst_36, val_main_cst_35]
  rw [h]
  simp only [v267_iou, v206_at]
  have q := sum_order (fun r a => val_main_v164 (F := Ideal) x0 x1 x2 x3 x4 x5 x6 x7 x8 x9 (ix3 B r a)) (fun a => 1 - rIou x0 x1 x2 x3 x4 x5 x6 x7 x8 x9 B a)
  simp only [mul_comm (fg _ _)] at q
  exact q

theorem v293_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) :
    val_main_v293 (F := Ideal) x0 x1 x2 x3 x4 x5 x6 x7 x8 x9 (ix1 B) = ∑ a, clsF (val_main_v24 (F := Ideal) x7 x8 x9 (ix3 B a 0)) (rIou x0 x1 x2 x3 x4 x5 x6 x7 x8 x9 B a) * fg (fun r a => val_main_v164 (F := Ideal) x0 x1 x2 x3 x4 x5 x6 x7 x8 x9 (ix3 B r a)) a := by
  have h : val_main_v293 (F := Ideal) x0 x1 x2 x3 x4 x5 x6 x7 x8 x9 (ix1 B) = ∑ j : Fin 120, clsF (val_main_v280 (F := Ideal) x0 x1 x2 x3 x4 x5 x6 x7 x8 x9 (ix2 B j)) (val_main_v267 (F := Ideal) x0 x1 x2 x3 x4 x5 x6 x7 x8 x9 (ix2 B j)) * val_main_v206 (F := Ideal) x0 x1 x2 x3 x4 x5 x6 x7 x8 x9 (ix2 B j) := by
    unfold clsF
    unfold val_main_v293 val_main_v292 val_main_v290 val_main_v291 val_main_v285 val_main_v289 val_main_v283 val_main_v284 val_main_v288 val_main_v281 val_main_v287 val_main_call7_v2 val_main_v286
    generalize val_main_v267 (F := Ideal) x0 x1 x2 x3 x4 x5 x6 x7 x8 x9 = y
    generalize val_main_v280 (F := Ideal) x0 x1 x2 x3 x4 x5 x6 x7 x8 x9 = w
    generalize val_main_v206 (F := Ideal) x0 x1 x2 x3 x4 x5 x6 x7 x8 x9 = z
    pointwise [id, val_main_v282, val_main_call7_v4, val_main_call7_v1, val_main_cst_42, val_main_cst_41, val_main_call7_v3, val_main_call7_v0, val_main_cst_40, val_main_cst_39]
    all_goals rfl
  rw [h]
  simp only [v267_iou, v206_at, v280_at]
  have q := sum_order (fun r a => val_main_v164 (F := Ideal) x0 x1 x2 x3 x4 x5 x6 x7 x8 x9 (ix3 B r a)) (fun a => clsF (val_main_v24 (F := Ideal) x7 x8 x9 (ix3 B a 0)) (rIou x0 x1 x2 x3 x4 x5 x6 x7 x8 x9 B a))
  simp only [mul_comm (fg _ _)] at q
  exact q

theorem cmp_lane (l : Fin 128) (k : Fin 5) (p q : EReal) :
    Scalar.select (IntOp.cmpi CmpIPredicate.eq (BitVec.ofNat 32 l.val) (BitVec.ofNat 32 k.val)) p q = if l.val = k.val then p else q := by
  unfold Scalar.select
  have h : IntOp.cmpi CmpIPredicate.eq (BitVec.ofNat 32 l.val) (BitVec.ofNat 32 k.val) = 1#1 ↔ l.val = k.val := by
    revert l k; decide +kernel
  by_cases hc : l.val = k.val
  · rw [if_pos hc]; exact if_pos (h.mpr hc)
  · rw [if_neg hc]; exact if_neg (fun e => hc (h.mp e))

/-- The lane of the box sum, of the class sum, of the count; the lanes that hold nothing. -/
theorem v428_lane (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (B : Fin 8) (l : Fin 128) (h2 : l.val ≠ 2) (h3 : l.val ≠ 3) :
    val_main_v428 (F := Ideal) x0 x1 x2 x3 x4 x5 x6 x7 x8 x9 x10 x11 x12 x13 x14 (ix3 B 0 l) = if l.val = 0 then val_main_v272 (F := Ideal) x0 x1 x2 x3 x4 x5 x6 x7 x8 x9 (ix1 B) else if l.val = 1 then val_main_v293 (F := Ideal) x0 x1 x2 x3 x4 x5 x6 x7 x8 x9 (ix1 B)
      else if l.val = 4 then val_main_v215 (F := Ideal) x0 x1 x2 x3 x4 x5 x6 x7 x8 x9 (ix1 B) else 0 := by
  unfold val_main_v428 val_main_call20_v1 val_main_v424 val_main_v427 val_main_call19_v1 val_main_v420 val_main_v423 val_main_call18_v1 val_main_v416 val_main_v419 val_main_call17_v1 val_main_v412 val_main_v415 val_main_call16_v1 val_main_v411
  generalize val_main_v272 (F := Ideal) x0 x1 x2 x3 x4 x5 x6 x7 x8 x9 = s0
  generalize val_main_v293 (F := Ideal) x0 x1 x2 x3 x4 x5 x6 x7 x8 x9 = s1
  generalize val_main_v375 (F := Ideal) x0 x1 x2 x3 x4 x5 x6 x7 x8 x9 = s2
  generalize val_main_v406 (F := Ideal) x0 x1 x2 x3 x4 x5 x6 x7 x8 x9 x10 x11 x12 x13 x14 = s3
  generalize val_main_v215 (F := Ideal) x0 x1 x2 x3 x4 x5 x6 x7 x8 x9 = s4
  have h : ∀ k : Fin 5, ∀ p q : EReal, Scalar.select (IntOp.cmpi CmpIPredicate.eq (BitVec.ofNat 32 l.val) (BitVec.ofNat 32 k.val)) p q
      = if l.val = k.val then p else q := fun k p q => cmp_lane l k p q
  have g0 := h 0; have g1 := h 1; have g2 := h 2; have g3 := h 3; have g4 := h 4
  simp only [Fin.isValue, Fin.coe_ofNat_eq_mod, Nat.reduceMod] at g0 g1 g2 g3 g4
  pointwise [id, val_main_call16_v0, val_main_call17_v0, val_main_call18_v0, val_main_call19_v0, val_main_call20_v0, val_main_v408, val_main_v410, val_main_v414, val_main_v418, val_main_v422, val_main_v426, val_main_cst_67, val_main_v407, val_main_v409, val_main_v413, val_main_v417, val_main_v421, val_main_v425, val_main_c_68, val_main_c_69, val_main_c_70, val_main_c_71, val_main_c_72]
  all_goals
    by_cases e0 : l.val = 0
    · simp [e0, Scalar.select, IntOp.cmpi]
    · by_cases e1 : l.val = 1
      · simp [e1, Scalar.select, IntOp.cmpi]
      · by_cases e4 : l.val = 4
        · simp [e4, Scalar.select, IntOp.cmpi]
        · simp_all [e0, e1, e4]

end Cert.ReferenceIdeal.Read
-- ==== Proof.Losses.lean ====
module

public import proofs.«01_k».proof.Proof.Meet
public import proofs.«01_k».proof.Proof.KBox
public import proofs.«01_k».proof.Proof.RBox

/-! One image: the kernel's box sum, class sum and count are the reference's. -/

@[expose] public section

set_option maxRecDepth 16384

noncomputable section

namespace Cert.Meet
open Idealize.ShloMosaic Idealize.SL
open Cert.Sel Cert.KernelIdeal.Gen Cert.ReferenceIdeal.Read Cert.ReferenceIdeal

theorem ious0 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) (x : Fin 6400) : w123 b (ix2 r x) = val_main_v133 (F := Ideal) x0 x1 x2 x3 x4 x5 x6 (ix3 B r (e0 x)) := by
  rw [w123_at, v133_at, v91_at, v94_at, v97_at, v100_at]
  simp only [w85_at, w87_at, w89_at, w91_at, w1_at, w3_at, w5_at, w7_at, v43_at, v27_at0_0, v27_at0_1, v27_at0_2, v27_at0_3, v6_at0, v13_at0, v20_at0, H.a00, H.a01, H.a02, H.t00, H.t01, H.t02, H.t03, H.g0, H.g1, H.g2, H.g3]

theorem box00 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 6400) : w85 b (ix2 0 x) = val_main_v91 (F := Ideal) x0 x1 x2 x4 x5 x6 (ix2 B (e0 x)) := by
  rw [w85_at, v91_at]
  simp only [v43_at, v27_at0_0, v27_at0_1, v27_at0_2, v27_at0_3, v6_at0, v13_at0, v20_at0, H.a00, H.a01, H.a02, H.t00, H.t01, H.t02, H.t03]

theorem box01 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 6400) : w87 b (ix2 0 x) = val_main_v94 (F := Ideal) x0 x1 x2 x4 x5 x6 (ix2 B (e0 x)) := by
  rw [w87_at, v94_at]
  simp only [v43_at, v27_at0_0, v27_at0_1, v27_at0_2, v27_at0_3, v6_at0, v13_at0, v20_at0, H.a00, H.a01, H.a02, H.t00, H.t01, H.t02, H.t03]

theorem box02 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 6400) : w89 b (ix2 0 x) = val_main_v97 (F := Ideal) x0 x1 x2 x4 x5 x6 (ix2 B (e0 x)) := by
  rw [w89_at, v97_at]
  simp only [v43_at, v27_at0_0, v27_at0_1, v27_at0_2, v27_at0_3, v6_at0, v13_at0, v20_at0, H.a00, H.a01, H.a02, H.t00, H.t01, H.t02, H.t03]

theorem box03 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 6400) : w91 b (ix2 0 x) = val_main_v100 (F := Ideal) x0 x1 x2 x4 x5 x6 (ix2 B (e0 x)) := by
  rw [w91_at, v100_at]
  simp only [v43_at, v27_at0_0, v27_at0_1, v27_at0_2, v27_at0_3, v6_at0, v13_at0, v20_at0, H.a00, H.a01, H.a02, H.t00, H.t01, H.t02, H.t03]

theorem ious1 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) (x : Fin 1600) : w259 b (ix2 r x) = val_main_v133 (F := Ideal) x0 x1 x2 x3 x4 x5 x6 (ix3 B r (e1 x)) := by
  rw [w259_at, v133_at, v91_at, v94_at, v97_at, v100_at]
  simp only [w221_at, w223_at, w225_at, w227_at, w1_at, w3_at, w5_at, w7_at, v43_at, v27_at1_0, v27_at1_1, v27_at1_2, v27_at1_3, v6_at1, v13_at1, v20_at1, H.a10, H.a11, H.a12, H.t10, H.t11, H.t12, H.t13, H.g0, H.g1, H.g2, H.g3]

theorem box10 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 1600) : w221 b (ix2 0 x) = val_main_v91 (F := Ideal) x0 x1 x2 x4 x5 x6 (ix2 B (e1 x)) := by
  rw [w221_at, v91_at]
  simp only [v43_at, v27_at1_0, v27_at1_1, v27_at1_2, v27_at1_3, v6_at1, v13_at1, v20_at1, H.a10, H.a11, H.a12, H.t10, H.t11, H.t12, H.t13]

theorem box11 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 1600) : w223 b (ix2 0 x) = val_main_v94 (F := Ideal) x0 x1 x2 x4 x5 x6 (ix2 B (e1 x)) := by
  rw [w223_at, v94_at]
  simp only [v43_at, v27_at1_0, v27_at1_1, v27_at1_2, v27_at1_3, v6_at1, v13_at1, v20_at1, H.a10, H.a11, H.a12, H.t10, H.t11, H.t12, H.t13]

theorem box12 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 1600) : w225 b (ix2 0 x) = val_main_v97 (F := Ideal) x0 x1 x2 x4 x5 x6 (ix2 B (e1 x)) := by
  rw [w225_at, v97_at]
  simp only [v43_at, v27_at1_0, v27_at1_1, v27_at1_2, v27_at1_3, v6_at1, v13_at1, v20_at1, H.a10, H.a11, H.a12, H.t10, H.t11, H.t12, H.t13]

theorem box13 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 1600) : w227 b (ix2 0 x) = val_main_v100 (F := Ideal) x0 x1 x2 x4 x5 x6 (ix2 B (e1 x)) := by
  rw [w227_at, v100_at]
  simp only [v43_at, v27_at1_0, v27_at1_1, v27_at1_2, v27_at1_3, v6_at1, v13_at1, v20_at1, H.a10, H.a11, H.a12, H.t10, H.t11, H.t12, H.t13]

theorem ious2 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) (x : Fin 400) : w395 b (ix2 r x) = val_main_v133 (F := Ideal) x0 x1 x2 x3 x4 x5 x6 (ix3 B r (e2 x)) := by
  rw [w395_at, v133_at, v91_at, v94_at, v97_at, v100_at]
  simp only [w357_at, w359_at, w361_at, w363_at, w1_at, w3_at, w5_at, w7_at, v43_at, v27_at2_0, v27_at2_1, v27_at2_2, v27_at2_3, v6_at2, v13_at2, v20_at2, H.a20, H.a21, H.a22, H.t20, H.t21, H.t22, H.t23, H.g0, H.g1, H.g2, H.g3]

theorem box20 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 400) : w357 b (ix2 0 x) = val_main_v91 (F := Ideal) x0 x1 x2 x4 x5 x6 (ix2 B (e2 x)) := by
  rw [w357_at, v91_at]
  simp only [v43_at, v27_at2_0, v27_at2_1, v27_at2_2, v27_at2_3, v6_at2, v13_at2, v20_at2, H.a20, H.a21, H.a22, H.t20, H.t21, H.t22, H.t23]

theorem box21 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 400) : w359 b (ix2 0 x) = val_main_v94 (F := Ideal) x0 x1 x2 x4 x5 x6 (ix2 B (e2 x)) := by
  rw [w359_at, v94_at]
  simp only [v43_at, v27_at2_0, v27_at2_1, v27_at2_2, v27_at2_3, v6_at2, v13_at2, v20_at2, H.a20, H.a21, H.a22, H.t20, H.t21, H.t22, H.t23]

theorem box22 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 400) : w361 b (ix2 0 x) = val_main_v97 (F := Ideal) x0 x1 x2 x4 x5 x6 (ix2 B (e2 x)) := by
  rw [w361_at, v97_at]
  simp only [v43_at, v27_at2_0, v27_at2_1, v27_at2_2, v27_at2_3, v6_at2, v13_at2, v20_at2, H.a20, H.a21, H.a22, H.t20, H.t21, H.t22, H.t23]

theorem box23 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x : Fin 400) : w363 b (ix2 0 x) = val_main_v100 (F := Ideal) x0 x1 x2 x4 x5 x6 (ix2 B (e2 x)) := by
  rw [w363_at, v100_at]
  simp only [v43_at, v27_at2_0, v27_at2_1, v27_at2_2, v27_at2_3, v6_at2, v13_at2, v20_at2, H.a20, H.a21, H.a22, H.t20, H.t21, H.t22, H.t23]

theorem img (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) : Img b (fun r a => val_main_v164 (F := Ideal) x0 x1 x2 x3 x4 x5 x6 x7 x8 x9 (ix3 B r a)) (fun r a => val_main_v133 (F := Ideal) x0 x1 x2 x3 x4 x5 x6 (ix3 B r a)) ![fun a => val_main_v91 (F := Ideal) x0 x1 x2 x4 x5 x6 (ix2 B a), fun a => val_main_v94 (F := Ideal) x0 x1 x2 x4 x5 x6 (ix2 B a), fun a => val_main_v97 (F := Ideal) x0 x1 x2 x4 x5 x6 (ix2 B a), fun a => val_main_v100 (F := Ideal) x0 x1 x2 x4 x5 x6 (ix2 B a)] (fun a => val_main_v24 (F := Ideal) x7 x8 x9 (ix3 B a 0)) where
  pos r a := by show 0 ≤ val_main_v164 (F := Ideal) x0 x1 x2 x3 x4 x5 x6 x7 x8 x9 (ix3 B r a); rw [v164_met]; exact metF_nonneg _ _ _
  m0 r x := met0 b B x0 x1 x2 x3 x4 x5 x6 x7 x8 x9 H r x
  o0 r x := ious0 b B x0 x1 x2 x3 x4 x5 x6 x7 x8 x9 H r x
  x00 x := box00 b B x0 x1 x2 x3 x4 x5 x6 x7 x8 x9 H x
  x01 x := box01 b B x0 x1 x2 x3 x4 x5 x6 x7 x8 x9 H x
  x02 x := box02 b B x0 x1 x2 x3 x4 x5 x6 x7 x8 x9 H x
  x03 x := box03 b B x0 x1 x2 x3 x4 x5 x6 x7 x8 x9 H x
  c0 x := by show _ = val_main_v24 (F := Ideal) x7 x8 x9 (ix3 B (e0 x) 0); rw [v24_at0, H.d0]
  m1 r x := met1 b B x0 x1 x2 x3 x4 x5 x6 x7 x8 x9 H r x
  o1 r x := ious1 b B x0 x1 x2 x3 x4 x5 x6 x7 x8 x9 H r x
  x10 x := box10 b B x0 x1 x2 x3 x4 x5 x6 x7 x8 x9 H x
  x11 x := box11 b B x0 x1 x2 x3 x4 x5 x6 x7 x8 x9 H x
  x12 x := box12 b B x0 x1 x2 x3 x4 x5 x6 x7 x8 x9 H x
  x13 x := box13 b B x0 x1 x2 x3 x4 x5 x6 x7 x8 x9 H x
  c1 x := by show _ = val_main_v24 (F := Ideal) x7 x8 x9 (ix3 B (e1 x) 0); rw [v24_at1, H.d1]
  m2 r x := met2 b B x0 x1 x2 x3 x4 x5 x6 x7 x8 x9 H r x
  o2 r x := ious2 b B x0 x1 x2 x3 x4 x5 x6 x7 x8 x9 H r x
  x20 x := box20 b B x0 x1 x2 x3 x4 x5 x6 x7 x8 x9 H x
  x21 x := box21 b B x0 x1 x2 x3 x4 x5 x6 x7 x8 x9 H x
  x22 x := box22 b B x0 x1 x2 x3 x4 x5 x6 x7 x8 x9 H x
  x23 x := box23 b B x0 x1 x2 x3 x4 x5 x6 x7 x8 x9 H x
  c2 x := by show _ = val_main_v24 (F := Ideal) x7 x8 x9 (ix3 B (e2 x) 0); rw [v24_at2, H.d2]

theorem gts0 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) : gts b 0 r = x3 (ix3 B r 0) := by
  show w1 b (ix2 r 0) = _
  rw [w1_at, H.g0]

theorem gts1 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) : gts b 1 r = x3 (ix3 B r 1) := by
  show w3 b (ix2 r 0) = _
  rw [w3_at, H.g1]

theorem gts2 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) : gts b 2 r = x3 (ix3 B r 2) := by
  show w5 b (ix2 r 0) = _
  rw [w5_at, H.g2]

theorem gts3 (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (r : Fin 12) : gts b 3 r = x3 (ix3 B r 3) := by
  show w7 b (ix2 r 0) = _
  rw [w7_at, H.g3]

theorem iou_eq (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (a : Fin 8400) : iouA (gts b) (fun r a => val_main_v164 (F := Ideal) x0 x1 x2 x3 x4 x5 x6 x7 x8 x9 (ix3 B r a)) (fun r a => val_main_v133 (F := Ideal) x0 x1 x2 x3 x4 x5 x6 (ix3 B r a)) ![fun a => val_main_v91 (F := Ideal) x0 x1 x2 x4 x5 x6 (ix2 B a), fun a => val_main_v94 (F := Ideal) x0 x1 x2 x4 x5 x6 (ix2 B a), fun a => val_main_v97 (F := Ideal) x0 x1 x2 x4 x5 x6 (ix2 B a), fun a => val_main_v100 (F := Ideal) x0 x1 x2 x4 x5 x6 (ix2 B a)] a = rIou x0 x1 x2 x3 x4 x5 x6 x7 x8 x9 B a := by
  unfold iouA rIou
  rw [gts0 b B x0 x1 x2 x3 x4 x5 x6 x7 x8 x9 H, gts1 b B x0 x1 x2 x3 x4 x5 x6 x7 x8 x9 H, gts2 b B x0 x1 x2 x3 x4 x5 x6 x7 x8 x9 H, gts3 b B x0 x1 x2 x3 x4 x5 x6 x7 x8 x9 H]
  rfl

theorem box_eq (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) : w1808 b = val_main_v272 (F := Ideal) x0 x1 x2 x3 x4 x5 x6 x7 x8 x9 (ix1 B) := by
  rw [(img b B x0 x1 x2 x3 x4 x5 x6 x7 x8 x9 H).box_sum, v272_at]
  simp only [iou_eq b B x0 x1 x2 x3 x4 x5 x6 x7 x8 x9 H]

theorem cls_eq (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) : w1830 b = val_main_v293 (F := Ideal) x0 x1 x2 x3 x4 x5 x6 x7 x8 x9 (ix1 B) := by
  rw [(img b B x0 x1 x2 x3 x4 x5 x6 x7 x8 x9 H).cls_sum, v293_at]
  simp only [iou_eq b B x0 x1 x2 x3 x4 x5 x6 x7 x8 x9 H]

theorem count_eq (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) : w1701 b = val_main_v215 (F := Ideal) x0 x1 x2 x3 x4 x5 x6 x7 x8 x9 (ix1 B) := by
  rw [v215_at]
  have I := img b B x0 x1 x2 x3 x4 x5 x6 x7 x8 x9 H
  exact count_at b _ I.pos I.m0 I.m1 I.m2

theorem lanes (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (H : Rows b B x0 x1 x2 x3 x4 x5 x6 x7 x8 x9) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (l : Fin 128) (h2 : l.val ≠ 2) (h3 : l.val ≠ 3) :
    (if l.val = 0 then w1808 b else if l.val = 1 then w1830 b else if l.val = 4 then w1701 b else 0) = val_main_v428 (F := Ideal) x0 x1 x2 x3 x4 x5 x6 x7 x8 x9 x10 x11 x12 x13 x14 (ix3 B 0 l) := by
  rw [v428_lane _ _ _ _ _ _ _ _ _ _ _ _ _ _ _ B l h2 h3, box_eq b B x0 x1 x2 x3 x4 x5 x6 x7 x8 x9 H, cls_eq b B x0 x1 x2 x3 x4 x5 x6 x7 x8 x9 H, count_eq b B x0 x1 x2 x3 x4 x5 x6 x7 x8 x9 H]

end Cert.Meet
-- ==== Proof.Final.lean ====
module

public import proofs.«01_k».proof.Proof.KBlk
public import proofs.«01_k».proof.Proof.KLink
public import proofs.«01_k».proof.Proof.Losses

/-! The kernel's result array is the reference's. -/

@[expose] public section

set_option maxRecDepth 16384

noncomputable section

namespace Cert.Meet
open Idealize.ShloMosaic Idealize.ShloMosaic.TcCoe Idealize.SL
open Cert.KernelIdeal Cert.KernelIdeal.Gen
open Cert.Sel Cert.ReferenceIdeal.Read

variable (m : (ℓ : Loc nD τ sig) → Buf (Elt Ideal) ℓ)

theorem array_at (c : Dev nD) (B : Fin 8) (t : Fin cfg0.N) (hB : t.val = B.val) (l : Fin 128) (h2 : l.val ≠ 2) (h3 : l.val ≠ 3) :
    ((dats m 0 c).arrAt 15 cfg0.N : Vec Ideal S8x1x128 .f32) (ix3 B 0 l)
      = if l.val = 0 then w1808 (Blk.of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) else if l.val = 1 then w1830 (Blk.of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) else if l.val = 4 then w1701 (Blk.of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) else 0 := by
  have hf : (cfg0.win 15).flush t = true := (by decide +kernel : ∀ t : Fin grid0.N, win0_15.flush t = true) t
  have b := congrFun (Cert.KernelIdeal.Value.blocks15 m c t hf) (ix3 0 0 l : S1x1x128.Idx)
  rw [Cert.KernelIdeal.Value.flushed15_A] at b
  have b' : (dats m 0 c).arrAt 15 cfg0.N (((cfg0.win 15).blk t).view.emb (ix3 0 0 l : S1x1x128.Idx)) = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 0 l) := b
  rw [emb15 t B hB 0 l] at b'
  exact b'.trans (out_eq (l := l) (h2 := h2) (h3 := h3) ..)

theorem lane_eq (c : Dev nD) (B : Fin 8) (l : Fin 128) (h2 : l.val ≠ 2) (h3 : l.val ≠ 3) :
    ((dats m 0 c).arrAt 15 cfg0.N : Vec Ideal S8x1x128 .f32) (ix3 B 0 l)
      = Cert.ReferenceIdeal.Read.val_main_v428 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix3 B 0 l) :=
  (array_at m c B ⟨B.val, B.isLt⟩ rfl l h2 h3).trans (lanes _ B _ _ _ _ _ _ _ _ _ _ (rows m c ⟨B.val, B.isLt⟩ B rfl) _ _ _ _ _ l h2 h3)

/-- The kernel's result array. -/
def result (c : Dev nD) : Buf (Elt Ideal) ((c.tc : Thread nD τ).loc main_v0) := (dats m 0 c).arrAt 15 cfg0.N

/-- The reference's array at a lane of the claim, of arguments equal to the kernel's, is the kernel's. -/
theorem agree (c : Dev nD) (B : Fin 8) (l : Fin 128) (n2 : l.val ≠ 2) (n3 : l.val ≠ 3) {y0 : Buf (Elt Ideal) ((c : Thread nD τ).loc main_arg0)} {y1 : Buf (Elt Ideal) ((c : Thread nD τ).loc main_arg1)} {y2 : Buf (Elt Ideal) ((c : Thread nD τ).loc main_arg2)} {y3 : Buf (Elt Ideal) ((c : Thread nD τ).loc main_arg3)} {y4 : Buf (Elt Ideal) ((c : Thread nD τ).loc main_arg4)} {y5 : Buf (Elt Ideal) ((c : Thread nD τ).loc main_arg5)} {y6 : Buf (Elt Ideal) ((c : Thread nD τ).loc main_arg6)} {y7 : Buf (Elt Ideal) ((c : Thread nD τ).loc main_arg7)} {y8 : Buf (Elt Ideal) ((c : Thread nD τ).loc main_arg8)} {y9 : Buf (Elt Ideal) ((c : Thread nD τ).loc main_arg9)} {y10 : Buf (Elt Ideal) ((c : Thread nD τ).loc main_arg10)} {y11 : Buf (Elt Ideal) ((c : Thread nD τ).loc main_arg11)} {y12 : Buf (Elt Ideal) ((c : Thread nD τ).loc main_arg12)} {y13 : Buf (Elt Ideal) ((c : Thread nD τ).loc main_arg13)} {y14 : Buf (Elt Ideal) ((c : Thread nD τ).loc main_arg14)}
    (h0 : y0 = m ((c : Thread nD τ).loc main_arg0)) (h1 : y1 = m ((c : Thread nD τ).loc main_arg1)) (h2 : y2 = m ((c : Thread nD τ).loc main_arg2)) (h3 : y3 = m ((c : Thread nD τ).loc main_arg3)) (h4 : y4 = m ((c : Thread nD τ).loc main_arg4)) (h5 : y5 = m ((c : Thread nD τ).loc main_arg5)) (h6 : y6 = m ((c : Thread nD τ).loc main_arg6)) (h7 : y7 = m ((c : Thread nD τ).loc main_arg7)) (h8 : y8 = m ((c : Thread nD τ).loc main_arg8)) (h9 : y9 = m ((c : Thread nD τ).loc main_arg9)) (h10 : y10 = m ((c : Thread nD τ).loc main_arg10)) (h11 : y11 = m ((c : Thread nD τ).loc main_arg11)) (h12 : y12 = m ((c : Thread nD τ).loc main_arg12)) (h13 : y13 = m ((c : Thread nD τ).loc main_arg13)) (h14 : y14 = m ((c : Thread nD τ).loc main_arg14)) :
    Cert.ReferenceIdeal.Read.val_main_v428 (F := Ideal) y0 y1 y2 y3 y4 y5 y6 y7 y8 y9 y10 y11 y12 y13 y14 (ix3 B 0 l) = (result m c : Vec Ideal S8x1x128 .f32) (ix3 B 0 l) := by
  subst h0 h1 h2 h3 h4 h5 h6 h7 h8 h9 h10 h11 h12 h13 h14
  exact (lane_eq m c B l n2 n3).symm

end Cert.Meet
-- ==== Proof.Lane.lean ====
module

public import proofs.«01_k».proof.Proof.Gen.On_box_class_count
public import Idealize.ShloMosaic.Lib.Pointwise

@[expose] public section

/-! The mask is set at every lane but lanes 2 and 3. -/

namespace Cert.Meet
open Idealize.ShloMosaic Idealize.SL
open Cert.On_box_class_count

theorem mask_at [Cert.On_box_class_count.Facts] (a0 : FVec Ideal S8x6400 .f32) (a1 : FVec Ideal S8x1600 .f32) (a2 : FVec Ideal S8x400 .f32) (a3 : FVec Ideal S8x12x4 .f32) (a4 : FVec Ideal S8x64x6400 .f32) (a5 : FVec Ideal S8x64x1600 .f32) (a6 : FVec Ideal S8x64x400 .f32) (a7 : FVec Ideal S8x1x6400 .f32) (a8 : FVec Ideal S8x1x1600 .f32) (a9 : FVec Ideal S8x1x400 .f32) (a10 : FVec Ideal S8x32x6400 .f32) (a11 : FVec Ideal S8x32x1600 .f32) (a12 : FVec Ideal S8x32x400 .f32) (a13 : FVec Ideal S8x32x25600 .f32) (a14 : FVec Ideal S8x12x25600 .f32) (B : Fin 8) (q : Fin 128) :
    Cert.On_box_class_count.fn (F := Ideal) a0 a1 a2 a3 a4 a5 a6 a7 a8 a9 a10 a11 a12 a13 a14 (ix3 B 0 q) = IntOp.andi (IntOp.cmpi .ne (BitVec.ofNat 32 q.val) 2#32) (IntOp.cmpi .ne (BitVec.ofNat 32 q.val) 3#32) := by
  pointwise [Cert.On_box_class_count.fn]

theorem lane_dec : ∀ q : Fin 128, IntOp.andi (IntOp.cmpi .ne (BitVec.ofNat 32 q.val) 2#32) (IntOp.cmpi .ne (BitVec.ofNat 32 q.val) 3#32) = 1#1 → q.val ≠ 2 ∧ q.val ≠ 3 := by decide +kernel

theorem lane_of [Cert.On_box_class_count.Facts] {a0 : FVec Ideal S8x6400 .f32} {a1 : FVec Ideal S8x1600 .f32} {a2 : FVec Ideal S8x400 .f32} {a3 : FVec Ideal S8x12x4 .f32} {a4 : FVec Ideal S8x64x6400 .f32} {a5 : FVec Ideal S8x64x1600 .f32} {a6 : FVec Ideal S8x64x400 .f32} {a7 : FVec Ideal S8x1x6400 .f32} {a8 : FVec Ideal S8x1x1600 .f32} {a9 : FVec Ideal S8x1x400 .f32} {a10 : FVec Ideal S8x32x6400 .f32} {a11 : FVec Ideal S8x32x1600 .f32} {a12 : FVec Ideal S8x32x400 .f32} {a13 : FVec Ideal S8x32x25600 .f32} {a14 : FVec Ideal S8x12x25600 .f32} (i : S8x1x128.Idx)
    (h : Cert.On_box_class_count.fn (F := Ideal) a0 a1 a2 a3 a4 a5 a6 a7 a8 a9 a10 a11 a12 a13 a14 i = 1#1) : ∃ (B : Fin 8) (q : Fin 128), i = ix3 B 0 q ∧ q.val ≠ 2 ∧ q.val ≠ 3 := by
  have e : ∃ (B : Fin 8) (q : Fin 128), i = ix3 B 0 q := by
    refine ⟨i 0, i 2, funext fun a => ?_⟩
    match a with
    | ⟨0, _⟩ => rfl
    | ⟨1, _⟩ => exact Subsingleton.elim (α := Fin 1) _ _
    | ⟨2, _⟩ => rfl
  obtain ⟨B, q, rfl⟩ := e
  rw [mask_at] at h
  exact ⟨B, q, rfl, lane_dec q h⟩
end Cert.Meet
-- ==== Proof.KLink3.lean ====
module

public import proofs.«01_k».proof.Proof.KLink
public import proofs.«01_k».proof.Proof.Gen.KernelIdeal.Frame
public import Idealize.ShloMosaic.Lib.VecWindow
public import Idealize.ShloMosaic.Lib.Pipeline.Value

/-! The values of the mask loss that the run of the body finds, and its lane of the output block. -/

@[expose] public section

set_option maxRecDepth 65536
set_option maxHeartbeats 1000000

noncomputable section

namespace Cert.KernelIdeal.Gen

open Idealize.ShloMosaic Idealize.ShloMosaic.TcCoe Idealize.SL.Sem
open Facts₀ Facts

theorem s480 (E : Env) : kernelRun0_A.sl.v480 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w480 E.b := by
  unfold w480; rw [← s442, ← s452, ← s460, ← s462, ← s463]; exact rfl

theorem s518 (E : Env) : kernelRun0_A.sl.v518 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w518 E.b := by
  unfold w518; rw [← s510, ← s512, ← s513]; exact rfl

theorem s538 (E : Env) : kernelRun0_A.sl.v538 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w538 E.b := by
  unfold w538; rw [← s490, ← s500, ← s510, ← s512, ← s513]; exact rfl

theorem s712 (E : Env) : kernelRun0_A.sl.v712 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w712 E.b := by
  unfold w712; rw [← s705, ← s710]; exact rfl

theorem s770 (E : Env) : kernelRun0_A.sl.v770 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w770 E.b := by
  unfold w770; rw [← s742, ← s750, ← s756, ← s760]; exact rfl

theorem s828 (E : Env) : kernelRun0_A.sl.v828 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w828 E.b := by
  unfold w828; rw [← s790, ← s800, ← s808, ← s810]; exact rfl

theorem s866 (E : Env) : kernelRun0_A.sl.v866 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w866 E.b := by
  unfold w866; rw [← s858, ← s860, ← s861]; exact rfl

theorem s886 (E : Env) : kernelRun0_A.sl.v886 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w886 E.b := by
  unfold w886; rw [← s838, ← s848, ← s858, ← s860, ← s861]; exact rfl

theorem s1087 (E : Env) : kernelRun0_A.sl.v1087 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1087 E.b := by
  unfold w1087; rw [← s1025, ← s1052, ← s1054, ← s1055, ← s1056]; exact rfl

theorem s1426 (E : Env) : kernelRun0_A.sl.v1426 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1426 E.b := by
  unfold w1426; rw [← s1423]; exact rfl

theorem s1765 (E : Env) : kernelRun0_A.sl.v1765 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w1765 E.b := by
  unfold w1765; rw [← s1703, ← s1745, ← s1747, ← s1748]; exact rfl

theorem s2021 (E : Env) : kernelRun0_A.sl.v2021 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2021 E.b := by
  unfold w2021; rw [← s460]; exact rfl

theorem s2049 (E : Env) : kernelRun0_A.sl.v2049 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2049 E.b := by
  unfold w2049 w2022; rw [← s480, ← s1087, ← s1426, ← s2021]; exact rfl

theorem s2053 (E : Env) : kernelRun0_A.sl.v2053 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.x0 E.x1 E.x2 E.x3 E.x4 E.x5 E.x6 E.x7 E.x8 E.x9 E.x10 E.x11 = w2053 E.b := by
  unfold w2053 w2022; rw [← s480, ← s2021]; exact rfl

theorem s2060 (E : Env) : kernelRun0_A.sl.v2060 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2060 E.b := by
  unfold w2060; rw [← s480, ← s2021]; exact rfl

theorem s2063 (E : Env) : kernelRun0_A.sl.v2063 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2063 E.b := by
  unfold w2063; rw [← s480, ← s1765, ← s2021]; exact rfl

theorem s2073 (E : Env) : kernelRun0_A.sl.v2073 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2073 E.b := by
  unfold w2073; rw [← s2049, ← s2063]; exact rfl

theorem s2075 (E : Env) : kernelRun0_A.sl.v2075 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2075 E.b := by
  unfold w2075; rw [← s2049, ← s2053, ← s2060, ← s2063]; exact rfl

theorem s2077 (E : Env) : kernelRun0_A.sl.v2077 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2077 E.b := by
  unfold w2077; rw [← s518]; exact rfl

theorem s2089 (E : Env) : kernelRun0_A.sl.v2089 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2089 E.b := by
  unfold w2089; rw [← s518, ← s538, ← s1087]; exact rfl

theorem s2094 (E : Env) : kernelRun0_A.sl.v2094 (F := Ideal) E.c E.a1 E.h1 E.a2 E.h2 E.a3 E.h3 E.a4 E.h4 E.a5 E.h5 E.a6 E.h6 E.a7 E.h7 E.a8 E.h8 E.a9 E.h9 E.a10 E.h10 E.a11 E.h11 E.x0 E.x1 E.x2 E.x3 E.x4 E.x5 E.x6 E.x7 E.x8 E.x9 E.x10 = w2094 E.b := by
  unfold w2094; rw [← s518, ← s538]; exact rfl

theorem s2101 (E : Env) : kernelRun0_A.sl.v2101 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2101 E.b := by
  unfold w2101; rw [← s518, ← s538]; exact rfl

theorem s2104 (E : Env) : kernelRun0_A.sl.v2104 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2104 E.b := by
  unfold w2104; rw [← s518, ← s538, ← s1426]; exact rfl

theorem s2129 (E : Env) : kernelRun0_A.sl.v2129 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2129 E.b := by
  unfold w2129; rw [← s538, ← s1765, ← s2073, ← s2077, ← s2089, ← s2104]; exact rfl

theorem s2131 (E : Env) : kernelRun0_A.sl.v2131 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2131 E.b := by
  unfold w2131; rw [← s538, ← s1765, ← s2077, ← s2089, ← s2094, ← s2101, ← s2104]; exact rfl

theorem s2133 (E : Env) : kernelRun0_A.sl.v2133 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2133 E.b := by
  unfold w2133; rw [← s576]; exact rfl

theorem s2140 (E : Env) : kernelRun0_A.sl.v2140 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2140 E.b := by
  unfold w2140; rw [← s576, ← s596]; exact rfl

theorem s2145 (E : Env) : kernelRun0_A.sl.v2145 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2145 E.b := by
  unfold w2145; rw [← s576, ← s596, ← s1087]; exact rfl

theorem s2185 (E : Env) : kernelRun0_A.sl.v2185 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2185 E.b := by
  unfold w2185; rw [← s596, ← s1426, ← s1765, ← s2129, ← s2133, ← s2145]; exact rfl

theorem s2187 (E : Env) : kernelRun0_A.sl.v2187 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2187 E.b := by
  unfold w2187; rw [← s596, ← s1426, ← s1765, ← s2133, ← s2140, ← s2145]; exact rfl

theorem s2217 (E : Env) : kernelRun0_A.sl.v2217 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2217 E.b := by
  unfold w2217; rw [← s634, ← s654, ← s1087, ← s1426]; exact rfl

theorem s2221 (E : Env) : kernelRun0_A.sl.v2221 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.x0 E.x1 E.x2 E.x3 E.x4 E.x5 E.x6 E.x7 E.x8 E.x9 E.x10 E.x11 = w2221 E.b := by
  unfold w2221; rw [← s634, ← s654]; exact rfl

theorem s2228 (E : Env) : kernelRun0_A.sl.v2228 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2228 E.b := by
  unfold w2228; rw [← s634, ← s654]; exact rfl

theorem s2241 (E : Env) : kernelRun0_A.sl.v2241 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2241 E.b := by
  unfold w2241; rw [← s1765, ← s2185, ← s2217, ← s2228]; exact rfl

theorem s2243 (E : Env) : kernelRun0_A.sl.v2243 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2243 E.b := by
  unfold w2243; rw [← s1765, ← s2217, ← s2221, ← s2228]; exact rfl

theorem s2245 (E : Env) : kernelRun0_A.sl.v2245 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2245 E.b := by
  unfold w2245; rw [← s692]; exact rfl

theorem s2257 (E : Env) : kernelRun0_A.sl.v2257 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2257 E.b := by
  unfold w2257; rw [← s692, ← s712, ← s1087]; exact rfl

theorem s2262 (E : Env) : kernelRun0_A.sl.v2262 (F := Ideal) E.c E.a1 E.h1 E.a2 E.h2 E.a3 E.h3 E.a4 E.h4 E.a5 E.h5 E.a6 E.h6 E.a7 E.h7 E.a8 E.h8 E.a9 E.h9 E.a10 E.h10 E.a11 E.h11 E.x0 E.x1 E.x2 E.x3 E.x4 E.x5 E.x6 E.x7 E.x8 E.x9 E.x10 = w2262 E.b := by
  unfold w2262; rw [← s692, ← s712]; exact rfl

theorem s2269 (E : Env) : kernelRun0_A.sl.v2269 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2269 E.b := by
  unfold w2269; rw [← s692, ← s712]; exact rfl

theorem s2270 (E : Env) : kernelRun0_A.sl.v2270 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2270 E.b := by
  unfold w2270; rw [← s692, ← s712, ← s1426]; exact rfl

theorem s2297 (E : Env) : kernelRun0_A.sl.v2297 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2297 E.b := by
  unfold w2297; rw [← s712, ← s1765, ← s2241, ← s2245, ← s2257, ← s2270]; exact rfl

theorem s2299 (E : Env) : kernelRun0_A.sl.v2299 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2299 E.b := by
  unfold w2299; rw [← s712, ← s1765, ← s2245, ← s2257, ← s2262, ← s2269, ← s2270]; exact rfl

theorem s2301 (E : Env) : kernelRun0_A.sl.v2301 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2301 E.b := by
  unfold w2301; rw [← s750]; exact rfl

theorem s2308 (E : Env) : kernelRun0_A.sl.v2308 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2308 E.b := by
  unfold w2308; rw [← s750, ← s770]; exact rfl

theorem s2311 (E : Env) : kernelRun0_A.sl.v2311 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2311 E.b := by
  unfold w2311; rw [← s750, ← s770, ← s1087]; exact rfl

theorem s2344 (E : Env) : kernelRun0_A.sl.v2344 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2344 E.b := by
  unfold w2344; rw [← s770, ← s1426, ← s1765, ← s2301, ← s2311]; exact rfl

theorem s2348 (E : Env) : kernelRun0_A.sl.v2348 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2348 E.b := by
  unfold w2348; rw [← s770, ← s2301, ← s2308]; exact rfl

theorem s2352 (E : Env) : kernelRun0_A.sl.v2352 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2352 E.b := by
  unfold w2352; rw [← s770, ← s1426, ← s1765, ← s2301, ← s2311]; exact rfl

theorem s2353 (E : Env) : kernelRun0_A.sl.v2353 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2353 E.b := by
  unfold w2353; rw [← s2297, ← s2352]; exact rfl

theorem s2355 (E : Env) : kernelRun0_A.sl.v2355 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2355 E.b := by
  unfold w2355; rw [← s2344, ← s2348]; exact rfl

theorem s2385 (E : Env) : kernelRun0_A.sl.v2385 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2385 E.b := by
  unfold w2385; rw [← s808, ← s828, ← s1087, ← s1426]; exact rfl

theorem s2389 (E : Env) : kernelRun0_A.sl.v2389 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.x0 E.x1 E.x2 E.x3 E.x4 E.x5 E.x6 E.x7 E.x8 E.x9 E.x10 E.x11 = w2389 E.b := by
  unfold w2389; rw [← s808, ← s828]; exact rfl

theorem s2393 (E : Env) : kernelRun0_A.sl.v2393 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2393 E.b := by
  unfold w2393; rw [← s808, ← s828]; exact rfl

theorem s2409 (E : Env) : kernelRun0_A.sl.v2409 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2409 E.b := by
  unfold w2409; rw [← s1765, ← s2353, ← s2385, ← s2393]; exact rfl

theorem s2411 (E : Env) : kernelRun0_A.sl.v2411 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2411 E.b := by
  unfold w2411; rw [← s1765, ← s2385, ← s2389, ← s2393]; exact rfl

theorem s2413 (E : Env) : kernelRun0_A.sl.v2413 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2413 E.b := by
  unfold w2413; rw [← s866]; exact rfl

theorem s2425 (E : Env) : kernelRun0_A.sl.v2425 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2425 E.b := by
  unfold w2425; rw [← s866, ← s886, ← s1087]; exact rfl

theorem s2430 (E : Env) : kernelRun0_A.sl.v2430 (F := Ideal) E.c E.a1 E.h1 E.a2 E.h2 E.a3 E.h3 E.a4 E.h4 E.a5 E.h5 E.a6 E.h6 E.a7 E.h7 E.a8 E.h8 E.a9 E.h9 E.a10 E.h10 E.a11 E.h11 E.x0 E.x1 E.x2 E.x3 E.x4 E.x5 E.x6 E.x7 E.x8 E.x9 E.x10 = w2430 E.b := by
  unfold w2430; rw [← s866, ← s886]; exact rfl

theorem s2434 (E : Env) : kernelRun0_A.sl.v2434 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2434 E.b := by
  unfold w2434; rw [← s866, ← s886]; exact rfl

theorem s2465 (E : Env) : kernelRun0_A.sl.v2465 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2465 E.b := by
  unfold w2465; rw [← s886, ← s1426, ← s1765, ← s2409, ← s2413, ← s2425, ← s2434]; exact rfl

theorem s2467 (E : Env) : kernelRun0_A.sl.v2467 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2467 E.b := by
  unfold w2467; rw [← s886, ← s1426, ← s1765, ← s2413, ← s2425, ← s2430, ← s2434]; exact rfl

theorem s2469 (E : Env) : kernelRun0_A.sl.v2469 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2469 E.b := by
  unfold w2469; rw [← s924]; exact rfl

theorem s2476 (E : Env) : kernelRun0_A.sl.v2476 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2476 E.b := by
  unfold w2476; rw [← s924, ← s944]; exact rfl

theorem s2478 (E : Env) : kernelRun0_A.sl.v2478 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2478 E.b := by
  unfold w2478; rw [← s924, ← s944, ← s1087]; exact rfl

theorem s2512 (E : Env) : kernelRun0_A.sl.v2512 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2512 E.b := by
  unfold w2512; rw [← s944, ← s1426, ← s1765, ← s2469, ← s2478]; exact rfl

theorem s2516 (E : Env) : kernelRun0_A.sl.v2516 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2516 E.b := by
  unfold w2516; rw [← s944, ← s2469, ← s2476]; exact rfl

theorem s2517 (E : Env) : kernelRun0_A.sl.v2517 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2517 E.b := by
  unfold w2517; rw [← s944, ← s1426, ← s1765, ← s2469, ← s2478]; exact rfl

theorem s2521 (E : Env) : kernelRun0_A.sl.v2521 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2521 E.b := by
  unfold w2521; rw [← s2465, ← s2517]; exact rfl

theorem s2523 (E : Env) : kernelRun0_A.sl.v2523 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2523 E.b := by
  unfold w2523; rw [← s2512, ← s2516]; exact rfl

theorem s2553 (E : Env) : kernelRun0_A.sl.v2553 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2553 E.b := by
  unfold w2553; rw [← s982, ← s1002, ← s1087, ← s1426]; exact rfl

theorem s2557 (E : Env) : kernelRun0_A.sl.v2557 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.x0 E.x1 E.x2 E.x3 E.x4 E.x5 E.x6 E.x7 E.x8 E.x9 E.x10 E.x11 = w2557 E.b := by
  unfold w2557; rw [← s982, ← s1002]; exact rfl

theorem s2559 (E : Env) : kernelRun0_A.sl.v2559 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2559 E.b := by
  unfold w2559; rw [← s1002]; exact rfl

theorem s2560 (E : Env) : kernelRun0_A.sl.v2560 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2560 E.b := by
  unfold w2560; rw [← s982]; exact rfl

theorem s2577 (E : Env) : kernelRun0_A.sl.v2577 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9 = w2577 E.b := by
  unfold w2577; rw [← s1765, ← s2521, ← s2553, ← s2559, ← s2560]; exact rfl

theorem s2580 (E : Env) : kernelRun0_A.sl.v2580 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2580 E.b := by
  unfold w2580; rw [← s1765, ← s2075, ← s2131, ← s2187, ← s2243, ← s2299, ← s2355, ← s2411, ← s2467, ← s2523, ← s2553, ← s2557, ← s2559, ← s2560]; exact rfl

theorem s2588 (E : Env) : kernelRun0_A.sl.v2588 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12 = w2588 E.b := by
  unfold w2588; rw [← s1765, ← s2075, ← s2131, ← s2187, ← s2243, ← s2299, ← s2355, ← s2411, ← s2467, ← s2523, ← s2553, ← s2557, ← s2559, ← s2560]; exact rfl

theorem s2591 (E : Env) : kernelRun0_A.sl.v2591 (F := Ideal) E.c E.a14 E.h14 E.x13 = w2591 E.b := by
  unfold w2591; rfl

theorem s2593 (E : Env) : kernelRun0_A.sl.v2593 (F := Ideal) E.c E.a15 E.h15 E.x14 = w2593 E.b := by
  unfold w2593; rfl

theorem s2596 (E : Env) : kernelRun0_A.sl.v2596 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.x0 E.x1 E.x2 E.x3 E.x4 E.x5 E.x6 E.x7 E.x8 E.x9 E.x10 E.x11 E.x12 E.x13 = w2596 E.b := by
  unfold w2596; rw [← s1765, ← s2075, ← s2131, ← s2187, ← s2243, ← s2299, ← s2355, ← s2411, ← s2467, ← s2523, ← s2553, ← s2557, ← s2559, ← s2560]; exact rfl

theorem s2599 (E : Env) : kernelRun0_A.sl.v2599 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.x0 E.x1 E.x2 E.x3 E.x4 E.x5 E.x6 E.x7 E.x8 E.x9 E.x10 E.x11 E.x12 E.x13 = w2599 E.b := by
  unfold w2599; rw [← s1765, ← s2075, ← s2131, ← s2187, ← s2243, ← s2299, ← s2355, ← s2411, ← s2467, ← s2523, ← s2553, ← s2557, ← s2559, ← s2560]; exact rfl

/-- The lane of the mask sum. -/
theorem pay1_lane3 (b : Blk) (p q r s t : Ideal .f32) (l : Fin 128) (h3 : l.val = 3) :
    k0_pay1 p q r s t (w2641 b) (w_c0_i32_812 b) (ix3 0 0 l) = t := by
  rw [pay1_at]
  refine (congrArg₂ _ (congrArg₂ _ (congrArg₂ _ (congrArg₂ _ (sel_lane l 0 q) (sel_lane l 1 r)) (sel_lane l 2 s)) (sel_lane l 3 t)) (sel_lane l 4 p)).trans ?_
  show (if l.val = 0 then q else 0) + (if l.val = 1 then r else 0) + (if l.val = 2 then s else 0) + (if l.val = 3 then t else 0) + (if l.val = 4 then p else 0) = _
  simp [h3]

set_option maxHeartbeats 4000000 in
theorem out_env3 (E : Env) (l : Fin 128) (h3 : l.val = 3) : out0_A_15 (F := Ideal) E.c E.i E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.hc0 E.x0 E.x1 E.x2 E.x3 E.x4 E.x5 E.x6 E.x7 E.x8 E.x9 E.x10 E.x11 E.x12 E.x13 E.x14 (ix3 0 0 l) = w2640 E.b := by
  have h : out0_A_15 (F := Ideal) E.c E.i E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.hc0 E.x0 E.x1 E.x2 E.x3 E.x4 E.x5 E.x6 E.x7 E.x8 E.x9 E.x10 E.x11 E.x12 E.x13 E.x14 = k0_pay1 (kernelRun0_A.sl.v1701 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (kernelRun0_A.sl.v1808 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (kernelRun0_A.sl.v1830 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (kernelRun0_A.sl.v2019 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (k0_pay498 (kernelRun0_A.sl.v2577 (F := Ideal) E.c E.a1 E.h1 E.a2 E.h2 E.a3 E.h3 E.a4 E.h4 E.a5 E.h5 E.a6 E.h6 E.a7 E.h7 E.a8 E.h8 E.a9 E.h9 E.a10 E.h10 E.x0 E.x1 E.x2 E.x3 E.x4 E.x5 E.x6 E.x7 E.x8 E.x9) (kernelRun0_A.sl.v2580 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12) (kernelRun0_A.sl.v2588 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.x0 E.x1 E.x2 E.x3 E.x4 E.x5 E.x6 E.x7 E.x8 E.x9 E.x10 E.x11 E.x12) (w2589 E.b) (kernelRun0_A.sl.v2591 (F := Ideal) E.c E.a14 E.h14 E.x13) (kernelRun0_A.sl.v2593 (F := Ideal) E.c E.a15 E.h15 E.x14) (kernelRun0_A.sl.v2596 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.x0 E.x1 E.x2 E.x3 E.x4 E.x5 E.x6 E.x7 E.x8 E.x9 E.x10 E.x11 E.x12 E.x13) (kernelRun0_A.sl.v2599 (F := Ideal) E.c E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.x0 E.x1 E.x2 E.x3 E.x4 E.x5 E.x6 E.x7 E.x8 E.x9 E.x10 E.x11 E.x12 E.x13) (w2610 E.b) (w2612 E.b)) (w2641 E.b) (w_c0_i32_812 E.b) := by
    unfold out0_A_15 kernelRun0_A
    exact (View.read_writes_full _ _ _ _ _).trans rfl
  rw [h, pay1_lane3 E.b _ _ _ _ _ l h3, s2577, s2580, s2588, s2591, s2593, s2596, s2599]
  rfl

theorem out_eq3 (c : Dev nD) (i : grid0.Coords) (arg1 : Memref sig .tc .vmem S8x6400 .f32) (harg1 : arg1.IsWhole) (arg2 : Memref sig .tc .vmem S8x1600 .f32) (harg2 : arg2.IsWhole) (arg3 : Memref sig .tc .vmem S8x400 .f32) (harg3 : arg3.IsWhole) (arg4 : Memref sig .tc .vmem S1x12x4 .f32) (harg4 : arg4.IsWhole) (arg5 : Memref sig .tc .vmem S1x64x6400 .f32) (harg5 : arg5.IsWhole) (arg6 : Memref sig .tc .vmem S1x64x1600 .f32) (harg6 : arg6.IsWhole) (arg7 : Memref sig .tc .vmem S1x64x400 .f32) (harg7 : arg7.IsWhole) (arg8 : Memref sig .tc .vmem S1x1x6400 .f32) (harg8 : arg8.IsWhole) (arg9 : Memref sig .tc .vmem S1x1x1600 .f32) (harg9 : arg9.IsWhole) (arg10 : Memref sig .tc .vmem S1x1x400 .f32) (harg10 : arg10.IsWhole) (arg11 : Memref sig .tc .vmem S1x32x6400 .f32) (harg11 : arg11.IsWhole) (arg12 : Memref sig .tc .vmem S1x32x1600 .f32) (harg12 : arg12.IsWhole) (arg13 : Memref sig .tc .vmem S1x32x400 .f32) (harg13 : arg13.IsWhole) (arg14 : Memref sig .tc .vmem S1x32x25600 .f32) (harg14 : arg14.IsWhole) (arg15 : Memref sig .tc .vmem S1x12x25600 .f32) (harg15 : arg15.IsWhole) (arg16 : Memref sig .tc .vmem S1x1x128 .f32) (harg16 : arg16.IsWhole) (hc0 : cond0_0 i)
    (x0 : Vec Ideal S8x6400 .f32) (x1 : Vec Ideal S8x1600 .f32) (x2 : Vec Ideal S8x400 .f32) (x3 : Vec Ideal S1x12x4 .f32) (x4 : Vec Ideal S1x64x6400 .f32) (x5 : Vec Ideal S1x64x1600 .f32) (x6 : Vec Ideal S1x64x400 .f32) (x7 : Vec Ideal S1x1x6400 .f32) (x8 : Vec Ideal S1x1x1600 .f32) (x9 : Vec Ideal S1x1x400 .f32) (x10 : Vec Ideal S1x32x6400 .f32) (x11 : Vec Ideal S1x32x1600 .f32) (x12 : Vec Ideal S1x32x400 .f32) (x13 : Vec Ideal S1x32x25600 .f32) (x14 : Vec Ideal S1x12x25600 .f32) (l : Fin 128) (h3 : l.val = 3) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14 (ix3 0 0 l) = w2640 (Blk.of x0 x1 x2 x3 x4 x5 x6 x7 x8 x9 x10 x11 x12 x13 x14) :=
  (out_env3 ⟨c, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, hc0, x0, x1, x2, x3, x4, x5, x6, x7, x8, x9, x10, x11, x12, x13, x14⟩ l h3).trans (by rw [b_eq ⟨c, i, arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, hc0, x0, x1, x2, x3, x4, x5, x6, x7, x8, x9, x10, x11, x12, x13, x14⟩])

end Cert.KernelIdeal.Gen
-- ==== Proof.KRow.lean ====
module

public import Idealize.ShloMosaic.Lib.Pointwise
public import proofs.«01_k».proof.Proof.KBox

/-!
The rows of mask coefficients that the kernel picks, one for each box and each round.
-/

@[expose] public section

set_option maxRecDepth 16384

noncomputable section

namespace Cert.KernelIdeal.Gen
open Idealize.ShloMosaic Idealize.ShloMosaic.TcCoe Idealize.SL.Sem
open Facts₀ Facts
open Cert.Sel

/-- The weights of one round's picks: one where the anchor picked has that box as its ground truth. -/
def wkV (b : Blk) (pv : FVec Ideal S12x1 .f32) (pi : IVec S12x1 32) : FVec Ideal S12x1 .f32 :=
  k0_pay398 (k0_pay394 (w148 b) (w284 b) pi (w1087 b) (w1426 b) (k0_pay390 pv) (k0_pay391 pi)) (k0_pay397 (w420 b) pi (w1765 b) (k0_pay390 pv))

/-- The rows of one round's picks. -/
def rowV (b : Blk) (pv : FVec Ideal S12x1 .f32) (pi : IVec S12x1 32) (A : Vec Ideal S1x32x6400 .f32) (B : Vec Ideal S1x32x1600 .f32) (C : Vec Ideal S1x32x400 .f32) : FVec Ideal S12x32 .f32 :=
  k0_pay400 (k0_pay394 (w148 b) (w284 b) pi (w1087 b) (w1426 b) (k0_pay390 pv) (k0_pay391 pi)) (k0_pay395 (w148 b) (w284 b) pi (k0_pay390 pv) (k0_pay391 pi) A B)
    (k0_pay396 (w420 b) pi (k0_pay390 pv)) (k0_pay397 (w420 b) pi (w1765 b) (k0_pay390 pv)) C

/-- A round's weights added to a number. -/
def nvV (n : Ideal .f32) (w : FVec Ideal S12x1 .f32) : Ideal .f32 := k0_pay478 n (shapeCast S1x12x1 w shapeCasts_S12x1_S1x12x1)

/-- The ten rounds' rows in one array. -/
def catV (r0 r1 r2 r3 r4 r5 r6 r7 r8 r9 : FVec Ideal S12x32 .f32) : FVec Ideal S120x32 .f32 :=
  concatenate S120x32 0 [⟨S12x32, r0⟩, ⟨S12x32, r1⟩, ⟨S12x32, r2⟩, ⟨S12x32, r3⟩, ⟨S12x32, r4⟩, ⟨S12x32, r5⟩, ⟨S12x32, r6⟩, ⟨S12x32, r7⟩, ⟨S12x32, r8⟩, ⟨S12x32, r9⟩] concatenates_S12x32_S12x32_S12x32_S12x32_S12x32_S12x32_S12x32_S12x32_S12x32_S12x32_S120x32_d0

theorem row_0 (b : Blk) : w2075 b = rowV b (w460 b) (w480 b) b.l2034 b.l2050 b.l2065 := rfl
theorem nv_0 (b : Blk) : w2073 b = nvV (Scalar.ofBits .f32 0x00000000#32) (wkV b (w460 b) (w480 b)) := rfl
theorem row_1 (b : Blk) : w2131 b = rowV b (w518 b) (w538 b) b.l2090 b.l2106 b.l2121 := rfl
theorem nv_1 (b : Blk) : w2129 b = nvV (w2073 b) (wkV b (w518 b) (w538 b)) := rfl
theorem row_2 (b : Blk) : w2187 b = rowV b (w576 b) (w596 b) b.l2146 b.l2162 b.l2177 := rfl
theorem nv_2 (b : Blk) : w2185 b = nvV (w2129 b) (wkV b (w576 b) (w596 b)) := rfl
theorem row_3 (b : Blk) : w2243 b = rowV b (w634 b) (w654 b) b.l2202 b.l2218 b.l2233 := rfl
theorem nv_3 (b : Blk) : w2241 b = nvV (w2185 b) (wkV b (w634 b) (w654 b)) := rfl
theorem row_4 (b : Blk) : w2299 b = rowV b (w692 b) (w712 b) b.l2258 b.l2274 b.l2289 := rfl
theorem nv_4 (b : Blk) : w2297 b = nvV (w2241 b) (wkV b (w692 b) (w712 b)) := rfl
theorem row_5 (b : Blk) : w2355 b = rowV b (w750 b) (w770 b) b.l2314 b.l2330 b.l2345 := rfl
theorem nv_5 (b : Blk) : w2353 b = nvV (w2297 b) (wkV b (w750 b) (w770 b)) := rfl
theorem row_6 (b : Blk) : w2411 b = rowV b (w808 b) (w828 b) b.l2370 b.l2386 b.l2401 := rfl
theorem nv_6 (b : Blk) : w2409 b = nvV (w2353 b) (wkV b (w808 b) (w828 b)) := rfl
theorem row_7 (b : Blk) : w2467 b = rowV b (w866 b) (w886 b) b.l2426 b.l2442 b.l2457 := rfl
theorem nv_7 (b : Blk) : w2465 b = nvV (w2409 b) (wkV b (w866 b) (w886 b)) := rfl
theorem row_8 (b : Blk) : w2523 b = rowV b (w924 b) (w944 b) b.l2482 b.l2498 b.l2513 := rfl
theorem nv_8 (b : Blk) : w2521 b = nvV (w2465 b) (wkV b (w924 b) (w944 b)) := rfl
theorem nv_9 (b : Blk) : w2577 b = nvV (w2521 b) (wkV b (w982 b) (w1002 b)) := rfl
theorem cat_eq (b : Blk) : w2580 b = catV (w2075 b) (w2131 b) (w2187 b) (w2243 b) (w2299 b) (w2355 b) (w2411 b) (w2467 b) (w2523 b) (rowV b (w982 b) (w1002 b) b.l2538 b.l2554 b.l2569) := rfl

/-- One where a pick is valid and its place is this one. -/
def pickK (i : BitVec 32) (p : EReal) (j : BitVec 32) : EReal :=
  Scalar.select (IntOp.andi (IntOp.cmpi .eq i j) (BitVec.ofBool (decide (0 < p)))) 1 0

theorem wkV_at (b : Blk) (pv : FVec Ideal S12x1 .f32) (pi : IVec S12x1 32) (g : Fin 12) : wkV b pv pi (ix2 g 0) =
    (∑ x : Fin 6400, pickK (w148 b (ix2 g x)) (pv (ix2 g 0)) (pi (ix2 g 0)) * w1087 b (ix2 g x))
    + (∑ x : Fin 1600, pickK (w284 b (ix2 g x)) (pv (ix2 g 0)) (pi (ix2 g 0)) * w1426 b (ix2 g x))
    + (∑ x : Fin 400, pickK (w420 b (ix2 g x)) (pv (ix2 g 0)) (pi (ix2 g 0)) * w1765 b (ix2 g x)) := by
  unfold wkV pickK
  generalize w148 b = z148
  generalize w284 b = z284
  generalize w420 b = z420
  generalize w1087 b = z1087
  generalize w1426 b = z1426
  generalize w1765 b = z1765
  pointwise [k0_pay398, k0_pay394, k0_pay397, k0_pay390, k0_pay391, k0_pay392, k0_pay393, k0_pay396]

theorem rowV_at (b : Blk) (pv : FVec Ideal S12x1 .f32) (pi : IVec S12x1 32) (A : Vec Ideal S1x32x6400 .f32) (B : Vec Ideal S1x32x1600 .f32) (C : Vec Ideal S1x32x400 .f32) (g : Fin 12) (n : Fin 32) :
    rowV b pv pi A B C (ix2 g n) =
    ((∑ x : Fin 6400, pickK (w148 b (ix2 g x)) (pv (ix2 g 0)) (pi (ix2 g 0)) * A (ix3 0 n x))
    + (∑ x : Fin 1600, pickK (w284 b (ix2 g x)) (pv (ix2 g 0)) (pi (ix2 g 0)) * B (ix3 0 n x))
    + (∑ x : Fin 400, pickK (w420 b (ix2 g x)) (pv (ix2 g 0)) (pi (ix2 g 0)) * C (ix3 0 n x))) * wkV b pv pi (ix2 g 0) := by
  rw [show rowV b pv pi A B C = mulf (addf (k0_pay395 (w148 b) (w284 b) pi (k0_pay390 pv) (k0_pay391 pi) A B) (matmul dot_S12x400_S32x400_S12x32_1_1_0_0_n_n none (k0_pay396 (w420 b) pi (k0_pay390 pv)) (shapeCast S32x400 C shapeCasts_S1x32x400_S32x400) (constant S12x32 .f32 0x00000000#32))) (broadcastTo S12x32 (wkV b pv pi) broadcasts_S12x1_S12x32) from rfl]
  generalize wkV b pv pi = w
  unfold pickK
  generalize w148 b = z148
  generalize w284 b = z284
  generalize w420 b = z420
  pointwise [k0_pay395, k0_pay390, k0_pay391, k0_pay392, k0_pay393, k0_pay396]

theorem nvV_at (n : Ideal .f32) (w : FVec Ideal S12x1 .f32) : nvV n w = n + ∑ g : Fin 12, w (ix2 g 0) := by
  pointwise [nvV, k0_pay478]
  all_goals simp only [Finset.univ_unique, Finset.sum_singleton, Fin.default_eq_zero, Fin.isValue, zero_add]

end Cert.KernelIdeal.Gen
-- ==== Proof.KMask.lean ====
module

public import Idealize.ShloMosaic.Lib.Pointwise
public import proofs.«01_k».proof.Proof.KRow

/-!
The mask loss of the kernel, from the rows of mask coefficients.
-/

@[expose] public section

set_option maxRecDepth 16384

noncomputable section

namespace Cert.KernelIdeal.Gen
open Idealize.ShloMosaic Idealize.ShloMosaic.TcCoe Idealize.SL.Sem
open Facts₀ Facts
open Cert.Sel

/-- The softplus of a logit. -/
def spF (x : EReal) : EReal := max x 0 + Ideal.log1p (Ideal.exp (0 - max x (-x)))

theorem w2594_at (b : Blk) (r : Fin 120) (p : Fin 12800) : w2594 b (ix2 r p) = ∑ n : Fin 32, w2580 b (ix2 r n) * b.l2590 (ix3 0 n p) := by
  unfold w2594 k0_pay495
  rw [← show w2580 b = k0_pay490 (w1765 b) (w2075 b) (w2131 b) (w2187 b) (w2243 b) (w2299 b) (w2355 b) (w2411 b) (w2467 b) (w2523 b) (w2553 b) (w2557 b) (w2559 b) (w2560 b) (w2569 b) from rfl]
  generalize w2580 b = z
  pointwise [k0_pay493, w2590]

/-- The products of the second half of the prototypes. -/
def pm2 (b : Blk) : FVec Ideal S120x12800 .f32 :=
  matmul dot_S120x32_S32x12800_S120x12800_1_0_0_1_n_n (φ₂ := .f32) none (w2580 b) (shapeCast S32x12800 b.l2610 shapeCasts_S1x32x12800_S32x12800) (constant S120x12800 .f32 0x00000000#32)

theorem pm2_at (b : Blk) (r : Fin 120) (p : Fin 12800) : pm2 b (ix2 r p) = ∑ n : Fin 32, w2580 b (ix2 r n) * b.l2610 (ix3 0 n p) := by
  unfold pm2
  generalize w2580 b = z
  pointwise []

/-- The softplus of the products of one half. -/
def spV (z : FVec Ideal S120x12800 .f32) : FVec Ideal S120x12800 .f32 :=
  addf (maximumf z (broadcast S120x12800 (Scalar.ofBits .f32 0x00000000#32))) (log1p (exp (subf (broadcast S120x12800 (Scalar.ofBits .f32 0x00000000#32)) (absf z))))

theorem spV_at (z : FVec Ideal S120x12800 .f32) (r : Fin 120) (p : Fin 12800) : spV z (ix2 r p) = spF (z (ix2 r p)) := by
  unfold spF
  pointwise [spV]
  all_goals rfl

/-- The products of the masks with the prototypes. -/
def crossV (b : Blk) : FVec Ideal S12x32 .f32 :=
  addf (addf (k0_pay492) (matmul dot_S12x12800_S32x12800_S12x32_1_1_0_0_n_n none (w2593 b) (w2591 b) (constant S12x32 .f32 0x00000000#32)))
    (matmul dot_S12x12800_S32x12800_S12x32_1_1_0_0_n_n (φ₁ := .f32) (φ₂ := .f32) none (shapeCast S12x12800 b.l2612 shapeCasts_S1x12x12800_S12x12800) (shapeCast S32x12800 b.l2610 shapeCasts_S1x32x12800_S32x12800) (constant S12x32 .f32 0x00000000#32))

theorem crossV_at (b : Blk) (g : Fin 12) (n : Fin 32) : crossV b (ix2 g n)
    = (∑ p : Fin 12800, b.l2592 (ix3 0 g p) * b.l2590 (ix3 0 n p)) + ∑ p : Fin 12800, b.l2612 (ix3 0 g p) * b.l2610 (ix3 0 n p) := by
  pointwise [crossV, k0_pay492, w2593, w2591, k0_pay494, k0_pay493, w2590, w2592]

/-- The last lines of the mask loss. -/
def endV (nv : Ideal .f32) (s1 s2 : FVec Ideal S120x12800 .f32) (agg cross : FVec Ideal S12x32 .f32) : Ideal .f32 :=
  Scalar.divf (Scalar.subf (Scalar.subf
    (Scalar.addf (Scalar.addf (Scalar.ofBits .f32 0x00000000#32) (extractAt ![0, 0, 0] (shapeCast S1x1x1 (multiReduction .add [1, 2] S1 (shapeCast S1x120x12800 s1 shapeCasts_S120x12800_S1x120x12800) 0x00000000#32 reduces_S1x120x12800_S1 (.inl rfl) rfl) shapeCasts_S1_S1x1x1) inpos_S1x1x1_p0_0_0))
      (extractAt ![0, 0, 0] (shapeCast S1x1x1 (multiReduction .add [1, 2] S1 (shapeCast S1x120x12800 s2 shapeCasts_S120x12800_S1x120x12800) 0x00000000#32 reduces_S1x120x12800_S1 (.inl rfl) rfl) shapeCasts_S1_S1x1x1) inpos_S1x1x1_p0_0_0))
    (Scalar.mulf (Scalar.mulf (Scalar.subf (Scalar.ofBits .f32 0x42F00000#32) nv) (Named.named κ "ln2" 0x3F317218#32)) (Scalar.ofBits .f32 0x46C80000#32)))
    (extractAt ![0, 0, 0] (shapeCast S1x1x1 (multiReduction .add [1, 2] S1 (shapeCast S1x12x32 (mulf agg cross) shapeCasts_S12x32_S1x12x32) 0x00000000#32 reduces_S1x12x32_S1 (.inl rfl) rfl) shapeCasts_S1_S1x1x1) inpos_S1x1x1_p0_0_0))
    (Scalar.ofBits .f32 0x46C80000#32)

theorem w2640_eq (b : Blk) : w2640 b = endV (w2577 b) (spV (w2594 b)) (spV (pm2 b)) (w2588 b) (crossV b) := rfl

theorem c120 : Ideal.ofBits FTy.f32 1123024896#32 = ((120 : ℝ) : EReal) := by
  simp [Ideal.ofBits, Ideal.ieee, -EReal.coe_mul]; norm_num
theorem c25600 : Ideal.ofBits FTy.f32 1187512320#32 = ((25600 : ℝ) : EReal) := by
  simp [Ideal.ofBits, Ideal.ieee, -EReal.coe_mul]; norm_num

theorem endV_at (nv : Ideal .f32) (s1 s2 : FVec Ideal S120x12800 .f32) (agg cross : FVec Ideal S12x32 .f32) : endV nv s1 s2 agg cross
    = Ideal.div (((∑ r : Fin 120, ∑ p : Fin 12800, s1 (ix2 r p)) + (∑ r : Fin 120, ∑ p : Fin 12800, s2 (ix2 r p))
      - (((120 : ℝ) : EReal) - nv) * ((Real.log 2 : ℝ) : EReal) * ((25600 : ℝ) : EReal)) - ∑ g : Fin 12, ∑ n : Fin 32, agg (ix2 g n) * cross (ix2 g n)) ((25600 : ℝ) : EReal) := by
  rw [← c120, ← c25600, ← show Named.named (F := Ideal) (φ := .f32) κ "ln2" 0x3F317218#32 = ((Real.log 2 : ℝ) : EReal) from rfl]
  pointwise [endV]

/-- The unit matrix over the boxes. -/
def eyeV : FVec Ideal S12x12 .f32 :=
  select (cmpi .eq (iota .tc S12x12 32 [0] iota_S12x12_d0_w32) (iota .tc S12x12 32 [1] iota_S12x12_d1_w32)) (broadcast S12x12 (Scalar.ofBits .f32 0x3F800000#32)) (broadcast S12x12 (Scalar.ofBits .f32 0x00000000#32))

/-- Ten unit matrices stacked. -/
def tselV : FVec Ideal S120x12 .f32 :=
  concatenate S120x12 0 [⟨S12x12, eyeV⟩, ⟨S12x12, eyeV⟩, ⟨S12x12, eyeV⟩, ⟨S12x12, eyeV⟩, ⟨S12x12, eyeV⟩, ⟨S12x12, eyeV⟩, ⟨S12x12, eyeV⟩, ⟨S12x12, eyeV⟩, ⟨S12x12, eyeV⟩, ⟨S12x12, eyeV⟩] concatenates_S12x12_S12x12_S12x12_S12x12_S12x12_S12x12_S12x12_S12x12_S12x12_S12x12_S120x12_d0

theorem eyeV_at (g h : Fin 12) : eyeV (ix2 g h) = Scalar.select (IntOp.cmpi .eq (BitVec.ofNat 32 g.val) (BitVec.ofNat 32 h.val)) 1 0 := by
  pointwise [eyeV]

/-- The place of a box's row in the array of all rounds. -/
def at120 (k : Fin 10) (g : Fin 12) : Fin 120 := ⟨12 * k.val + g.val, by omega⟩

theorem catV_at (f : Fin 10 → FVec Ideal S12x32 .f32) (k : Fin 10) (g : Fin 12) (n : Fin 32) :
    catV (f 0) (f 1) (f 2) (f 3) (f 4) (f 5) (f 6) (f 7) (f 8) (f 9) (ix2 (at120 k g) n) = f k (ix2 g n) := by
  refine concatenate_ofFn_apply (t := S120x32) (s₁ := S12x32) 0 f concatenates_S12x32_S12x32_S12x32_S12x32_S12x32_S12x32_S12x32_S12x32_S12x32_S12x32_S120x32_d0 rfl 12 rfl (ix2 (at120 k g) n) k ?_ (ix2 g n) ?_ ?_
  · show (12 * k.val + g.val) / 12 = k.val
    omega
  · show g.val = (12 * k.val + g.val) % 12
    omega
  · intro b hb
    match b with
    | ⟨0, _⟩ => exact absurd rfl hb
    | ⟨1, _⟩ => rfl

theorem tselV_at (k : Fin 10) (g h : Fin 12) : tselV (ix2 (at120 k g) h) = eyeV (ix2 g h) := by
  refine concatenate_ofFn_apply (t := S120x12) (s₁ := S12x12) 0 (fun _ : Fin 10 => eyeV) concatenates_S12x12_S12x12_S12x12_S12x12_S12x12_S12x12_S12x12_S12x12_S12x12_S12x12_S120x12_d0 rfl 12 rfl (ix2 (at120 k g) h) k ?_ (ix2 g h) ?_ ?_
  · show (12 * k.val + g.val) / 12 = k.val
    omega
  · show g.val = (12 * k.val + g.val) % 12
    omega
  · intro b hb
    match b with
    | ⟨0, _⟩ => exact absurd rfl hb
    | ⟨1, _⟩ => rfl

theorem sum120 (f : Fin 120 → EReal) : ∑ r, f r = ∑ k, ∑ g, f (at120 k g) := by
  rw [← Finset.sum_product', Finset.univ_product_univ]
  refine (Equiv.sum_comp (finProdFinEquiv (m := 10) (n := 12)) f).symm.trans (Finset.sum_congr rfl fun x _ => congrArg f (Fin.ext ?_))
  show x.2.val + 12 * x.1.val = 12 * x.1.val + x.2.val
  omega

theorem w2588_eq (b : Blk) : w2588 b = matmul dot_S120x12_S120x32_S12x32_0_0_1_1_n_n none tselV (w2580 b) (constant S12x32 .f32 0x00000000#32) := rfl

theorem w2588_at (b : Blk) (g : Fin 12) (n : Fin 32) : w2588 b (ix2 g n) = ∑ r : Fin 120, tselV (ix2 r g) * w2580 b (ix2 r n) := by
  rw [w2588_eq]
  generalize w2580 b = z
  generalize tselV = t
  pointwise []

end Cert.KernelIdeal.Gen
-- ==== Proof.MaskAlg.lean ====
module

public import Idealize.ShloMosaic.Lib.Pointwise
public import proofs.«01_k».proof.Proof.Assign

/-!
The algebra of the mask loss: sums over the anchors picked, and sums over the foreground anchors.
-/

@[expose] public section

set_option maxRecDepth 16384

noncomputable section

namespace Cert.Sel
open Idealize.ShloMosaic

/-- The anchor a box picks in a round. -/
def pk (M : Fin 12 → Fin 8400 → EReal) (k : Fin 10) (g : Fin 12) : Fin 8400 := sg (M g) (k.castLE (by decide))

/-- Whether the pick of a round is valid and assigned to its box. -/
def act (M O : Fin 12 → Fin 8400 → EReal) (k : Fin 10) (g : Fin 12) : Prop := 0 < M g (pk M k g) ∧ asg (claimF M O (pk M k g)) = g

/-- A foreground anchor is selected by the box it is assigned to. -/
theorem asg_sel (M O : Fin 12 → Fin 8400 → EReal) (hO : ∀ r a, 0 < M r a → -1 < O r a) (a : Fin 8400) (h : ∃ r, selP (M r) a) :
    selP (M (asg (claimF M O a))) a := by
  classical
  obtain ⟨r, hr⟩ := h
  by_contra hc
  have h1 := asg_le (claimF M O a) r
  have h2 : claimF M O a (asg (claimF M O a)) = -1 := by
    show (if selP (M (asg (claimF M O a))) a then O (asg (claimF M O a)) a else -1) = -1
    exact if_neg hc
  have h3 : claimF M O a r = O r a := by
    show (if selP (M r) a then O r a else -1) = O r a
    exact if_pos hr
  rw [h2, h3] at h1
  exact absurd (hO r a hr.1) (not_lt.mpr h1)

open Classical in
/-- A sum over the active picks is a sum over the foreground anchors. -/
theorem sum_act {β : Type} [AddCommMonoid β] (M O : Fin 12 → Fin 8400 → EReal) (hO : ∀ r a, 0 < M r a → -1 < O r a) (F : Fin 8400 → Fin 12 → β) :
    (∑ k : Fin 10, ∑ g : Fin 12, if act M O k g then F (pk M k g) g else 0)
      = ∑ a : Fin 8400, if (∃ r, selP (M r) a) then F a (asg (claimF M O a)) else 0 := by
  have h1 : ∀ (k : Fin 10) (g : Fin 12), (if act M O k g then F (pk M k g) g else 0)
      = ∑ a : Fin 8400, if (pk M k g = a ∧ 0 < M g a ∧ asg (claimF M O a) = g) then F a g else 0 := by
    intro k g
    rw [Finset.sum_eq_single (pk M k g)]
    · refine if_congr ?_ rfl rfl
      unfold act
      exact ⟨fun h => ⟨rfl, h⟩, fun h => h.2⟩
    · intro b _ hb
      exact if_neg fun h => hb h.1.symm
    · intro h; exact absurd (Finset.mem_univ _) h
  simp only [h1]
  rw [Finset.sum_comm' (t' := Finset.univ) (s' := fun _ => Finset.univ) (by simp)]
  rw [show (∑ g : Fin 12, ∑ k : Fin 10, ∑ a : Fin 8400, if (pk M k g = a ∧ 0 < M g a ∧ asg (claimF M O a) = g) then F a g else 0)
      = ∑ a : Fin 8400, ∑ g : Fin 12, ∑ k : Fin 10, if (pk M k g = a ∧ 0 < M g a ∧ asg (claimF M O a) = g) then F a g else 0 from by
    rw [Finset.sum_congr rfl fun g _ => Finset.sum_comm]
    exact Finset.sum_comm]
  refine Finset.sum_congr rfl fun a _ => ?_
  rw [Finset.sum_eq_single (asg (claimF M O a))]
  · by_cases hf : ∃ r, selP (M r) a
    · rw [if_pos hf]
      obtain ⟨hp, k, hk⟩ := asg_sel M O hO a hf
      rw [Finset.sum_eq_single k]
      · exact if_pos ⟨hk, hp, rfl⟩
      · intro j _ hj
        refine if_neg fun h => hj ?_
        have := sg_inj (M (asg (claimF M O a))) (h.1.trans hk.symm)
        exact Fin.ext (congrArg (fun t : Fin 8400 => t.val) this)
      · intro h; exact absurd (Finset.mem_univ _) h
    · rw [if_neg hf]
      refine Finset.sum_eq_zero fun k _ => if_neg fun h => hf ⟨_, h.2.1, k, h.1⟩
  · intro g _ hg
    exact Finset.sum_eq_zero fun k _ => if_neg fun h => hg h.2.2.symm
  · intro h; exact absurd (Finset.mem_univ _) h

/-- The softplus of a real number. -/
def spR (x : ℝ) : ℝ := max x 0 + Real.log (1 + Real.exp (-(max x (-x))))

theorem spR_zero : spR 0 = Real.log 2 := by
  unfold spR
  simp
  norm_num

theorem coe_sumE {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_maxE (x y : ℝ) : ((max x y : ℝ) : EReal) = max (x : EReal) (y : EReal) :=
  Monotone.map_max (f := fun r : ℝ => (r : EReal)) (fun _ _ h => EReal.coe_le_coe_iff.mpr h)

theorem log1pexp_coe (y : ℝ) : Ideal.log1p (Ideal.exp (y : EReal)) = ((Real.log (1 + Real.exp y) : ℝ) : EReal) := by
  have h : (0 : ℝ) < 1 + Real.exp y := by positivity
  show Ideal.log (1 + ((Real.exp y : ℝ) : EReal)) = _
  rw [← EReal.coe_one, ← EReal.coe_add]
  show (if _ then _ else _) = _
  first
    | (rw [if_neg (not_le.mpr h)])
    | (rw [if_neg (not_lt.mpr h.le), if_neg h.ne'])
    | (split_ifs <;> first | rfl | (exfalso; linarith))

/-- The algebra of the mask loss over the reals, one box of one round. -/
theorem term_alg {N P : Type} [Fintype N] [Fintype P] (c : Prop) [Decidable c] (m : N → ℝ) (pr : N → P → ℝ) (gt : P → ℝ) :
    (∑ p, spR (∑ n, (if c then m n else 0) * pr n p)) - (1 - (if c then 1 else 0)) * Real.log 2 * (Fintype.card P : ℝ)
      - ∑ n, (if c then m n else 0) * ∑ p, gt p * pr n p
    = if c then ∑ p, (max (∑ n, m n * pr n p) 0 - (∑ n, m n * pr n p) * gt p + Real.log (1 + Real.exp (-(max (∑ n, m n * pr n p) (-(∑ n, m n * pr n p)))))) else 0 := by
  by_cases h : c
  · simp only [if_pos h]
    have e : (∑ n, m n * ∑ p, gt p * pr n p) = ∑ p, (∑ n, m n * pr n p) * gt p := by
      simp only [Finset.mul_sum, Finset.sum_mul]
      rw [Finset.sum_comm]
      refine Finset.sum_congr rfl fun p _ => Finset.sum_congr rfl fun n _ => by ring
    rw [e, sub_self, zero_mul, zero_mul, sub_zero, ← Finset.sum_sub_distrib]
    refine Finset.sum_congr rfl fun p _ => ?_
    unfold spR
    ring
  · simp only [if_neg h, zero_mul, Finset.sum_const_zero, spR_zero, Finset.sum_const, Finset.card_univ, nsmul_eq_mul]
    ring

end Cert.Sel
-- ==== Proof.KWt.lean ====
module

public import proofs.«01_k».proof.Proof.KMask
public import proofs.«01_k».proof.Proof.MaskAlg
public import proofs.«01_k».proof.Proof.RSel

/-!
The weights and the rows of the kernel's picks: a pick counts where it is valid and assigned to its box.
-/

@[expose] public section

set_option maxRecDepth 16384

noncomputable section

namespace Cert.KernelIdeal.Gen
open Idealize.ShloMosaic Idealize.ShloMosaic.TcCoe Idealize.SL.Sem
open Facts₀ Facts
open Cert.Sel

theorem pickK_at (a c : Fin 8400) (p : EReal) : pickK (BitVec.ofNat 32 c.val) p (BitVec.ofNat 32 a.val) = if c = a ∧ 0 < p then 1 else 0 := by
  unfold pickK
  rw [Cert.ReferenceIdeal.Read.eq_ofNat (by norm_num) c a]
  by_cases h : c = a <;> by_cases q : 0 < p <;> simp [h, q, Scalar.select, IntOp.andi]

/-- The one-hot column of an anchor's box. -/
def ohE (M O : Fin 12 → Fin 8400 → EReal) (g : Fin 12) (a : Fin 8400) : EReal := if asg (claimF M O a) = g then 1 else 0

theorem oh_at (f : Fin 12 → EReal) (g : Fin 12) : Scalar.select (IntOp.cmpi CmpIPredicate.eq (BitVec.ofNat 32 g.val) (bi (ext f) 11)) (1 : EReal) 0 = if asg f = g then 1 else 0 := by
  rw [bi_eq]
  exact select_one _ _ _ _ ((cmpi_eq_iff g (asg f)).trans eq_comm)

theorem pick_sum (a : Fin 8400) (p : EReal) (G : Fin 8400 → EReal) : (∑ c, pickK (BitVec.ofNat 32 c.val) p (BitVec.ofNat 32 a.val) * G c) = if 0 < p then G a else 0 := by
  rw [Finset.sum_eq_single a]
  · rw [pickK_at]
    by_cases q : 0 < p <;> simp [q]
  · intro c _ hc
    rw [pickK_at, if_neg (fun h => hc h.1), zero_mul]
  · exact fun h => absurd (Finset.mem_univ _) h

/-- A round's pick of every box. -/
def PickOf (M : Fin 12 → Fin 8400 → EReal) (k : Fin 10) (pv : FVec Ideal S12x1 .f32) (pi : IVec S12x1 32) : Prop :=
  ∀ g, pv (ix2 g 0) = M g (pk M k g) ∧ pi (ix2 g 0) = BitVec.ofNat 32 (pk M k g).val

variable {b : Blk} {M O : Fin 12 → Fin 8400 → EReal} {X : Fin 4 → Fin 8400 → EReal} {C : Fin 8400 → EReal} (I : Img b M O X C)
include I

open Classical in
theorem Img.wk {k : Fin 10} {pv : FVec Ideal S12x1 .f32} {pi : IVec S12x1 32} (h : PickOf M k pv pi) (g : Fin 12) :
    wkV b pv pi (ix2 g 0) = if act M O k g then 1 else 0 := by
  rw [wkV_at, (h g).1, (h g).2]
  simp only [w1087_at, w1426_at, w1765_at, oh_at, I.claim0, I.claim1, I.claim2, gi0_at, gi1_at, gi2_at, gi1, gi2]
  refine (sum_levels (fun c => pickK (BitVec.ofNat 32 c.val) (M g (pk M k g)) (BitVec.ofNat 32 (pk M k g).val) * (if asg (claimF M O c) = g then 1 else 0))).symm.trans ?_
  rw [pick_sum]
  unfold act
  by_cases p : 0 < M g (pk M k g) <;> by_cases q : asg (claimF M O (pk M k g)) = g <;> simp [p, q]

open Classical in
theorem Img.row {k : Fin 10} {pv : FVec Ideal S12x1 .f32} {pi : IVec S12x1 32} (h : PickOf M k pv pi) (A : Vec Ideal S1x32x6400 .f32) (B : Vec Ideal S1x32x1600 .f32) (D : Vec Ideal S1x32x400 .f32)
    (m : Fin 32 → Fin 8400 → EReal) (hA : ∀ n x, A (ix3 0 n x) = m n (e0 x)) (hB : ∀ n x, B (ix3 0 n x) = m n (e1 x)) (hD : ∀ n x, D (ix3 0 n x) = m n (e2 x)) (g : Fin 12) (n : Fin 32) :
    rowV b pv pi A B D (ix2 g n) = if act M O k g then m n (pk M k g) else 0 := by
  rw [rowV_at, I.wk h, (h g).1, (h g).2]
  simp only [gi0_at, gi1_at, gi2_at, gi1, gi2, hA, hB, hD]
  refine (congrArg (· * _) ((sum_levels (fun c => pickK (BitVec.ofNat 32 c.val) (M g (pk M k g)) (BitVec.ofNat 32 (pk M k g).val) * m n c)).symm.trans (pick_sum _ _ _))).trans ?_
  by_cases p : act M O k g
  · simp only [if_pos p, if_pos p.1, mul_one]
  · simp only [if_neg p, mul_zero]

theorem Img.pick_0 : PickOf M 0 (w460 b) (w480 b) := fun g => top_0 b g (M g) (I.pos g) (I.m0 g) (I.m1 g) (I.m2 g)
theorem Img.pick_1 : PickOf M 1 (w518 b) (w538 b) := fun g => top_1 b g (M g) (I.pos g) (I.m0 g) (I.m1 g) (I.m2 g)
theorem Img.pick_2 : PickOf M 2 (w576 b) (w596 b) := fun g => top_2 b g (M g) (I.pos g) (I.m0 g) (I.m1 g) (I.m2 g)
theorem Img.pick_3 : PickOf M 3 (w634 b) (w654 b) := fun g => top_3 b g (M g) (I.pos g) (I.m0 g) (I.m1 g) (I.m2 g)
theorem Img.pick_4 : PickOf M 4 (w692 b) (w712 b) := fun g => top_4 b g (M g) (I.pos g) (I.m0 g) (I.m1 g) (I.m2 g)
theorem Img.pick_5 : PickOf M 5 (w750 b) (w770 b) := fun g => top_5 b g (M g) (I.pos g) (I.m0 g) (I.m1 g) (I.m2 g)
theorem Img.pick_6 : PickOf M 6 (w808 b) (w828 b) := fun g => top_6 b g (M g) (I.pos g) (I.m0 g) (I.m1 g) (I.m2 g)
theorem Img.pick_7 : PickOf M 7 (w866 b) (w886 b) := fun g => top_7 b g (M g) (I.pos g) (I.m0 g) (I.m1 g) (I.m2 g)
theorem Img.pick_8 : PickOf M 8 (w924 b) (w944 b) := fun g => top_8 b g (M g) (I.pos g) (I.m0 g) (I.m1 g) (I.m2 g)
theorem Img.pick_9 : PickOf M 9 (w982 b) (w1002 b) := fun g => top_9 b g (M g) (I.pos g) (I.m0 g) (I.m1 g) (I.m2 g)

/-- The rows of a round. -/
def rowS (b : Blk) : Fin 10 → FVec Ideal S12x32 .f32 := ![w2075 b, w2131 b, w2187 b, w2243 b, w2299 b, w2355 b, w2411 b, w2467 b, w2523 b, rowV b (w982 b) (w1002 b) b.l2538 b.l2554 b.l2569]

/-- The loads of the mask coefficients are these. -/
structure Coef (b : Blk) (m : Fin 32 → Fin 8400 → EReal) : Prop where
  c0_0 : ∀ (n : Fin 32) (x : Fin 6400), b.l2034 (ix3 0 n x) = m n (e0 x)
  c1_0 : ∀ (n : Fin 32) (x : Fin 1600), b.l2050 (ix3 0 n x) = m n (e1 x)
  c2_0 : ∀ (n : Fin 32) (x : Fin 400), b.l2065 (ix3 0 n x) = m n (e2 x)
  c0_1 : ∀ (n : Fin 32) (x : Fin 6400), b.l2090 (ix3 0 n x) = m n (e0 x)
  c1_1 : ∀ (n : Fin 32) (x : Fin 1600), b.l2106 (ix3 0 n x) = m n (e1 x)
  c2_1 : ∀ (n : Fin 32) (x : Fin 400), b.l2121 (ix3 0 n x) = m n (e2 x)
  c0_2 : ∀ (n : Fin 32) (x : Fin 6400), b.l2146 (ix3 0 n x) = m n (e0 x)
  c1_2 : ∀ (n : Fin 32) (x : Fin 1600), b.l2162 (ix3 0 n x) = m n (e1 x)
  c2_2 : ∀ (n : Fin 32) (x : Fin 400), b.l2177 (ix3 0 n x) = m n (e2 x)
  c0_3 : ∀ (n : Fin 32) (x : Fin 6400), b.l2202 (ix3 0 n x) = m n (e0 x)
  c1_3 : ∀ (n : Fin 32) (x : Fin 1600), b.l2218 (ix3 0 n x) = m n (e1 x)
  c2_3 : ∀ (n : Fin 32) (x : Fin 400), b.l2233 (ix3 0 n x) = m n (e2 x)
  c0_4 : ∀ (n : Fin 32) (x : Fin 6400), b.l2258 (ix3 0 n x) = m n (e0 x)
  c1_4 : ∀ (n : Fin 32) (x : Fin 1600), b.l2274 (ix3 0 n x) = m n (e1 x)
  c2_4 : ∀ (n : Fin 32) (x : Fin 400), b.l2289 (ix3 0 n x) = m n (e2 x)
  c0_5 : ∀ (n : Fin 32) (x : Fin 6400), b.l2314 (ix3 0 n x) = m n (e0 x)
  c1_5 : ∀ (n : Fin 32) (x : Fin 1600), b.l2330 (ix3 0 n x) = m n (e1 x)
  c2_5 : ∀ (n : Fin 32) (x : Fin 400), b.l2345 (ix3 0 n x) = m n (e2 x)
  c0_6 : ∀ (n : Fin 32) (x : Fin 6400), b.l2370 (ix3 0 n x) = m n (e0 x)
  c1_6 : ∀ (n : Fin 32) (x : Fin 1600), b.l2386 (ix3 0 n x) = m n (e1 x)
  c2_6 : ∀ (n : Fin 32) (x : Fin 400), b.l2401 (ix3 0 n x) = m n (e2 x)
  c0_7 : ∀ (n : Fin 32) (x : Fin 6400), b.l2426 (ix3 0 n x) = m n (e0 x)
  c1_7 : ∀ (n : Fin 32) (x : Fin 1600), b.l2442 (ix3 0 n x) = m n (e1 x)
  c2_7 : ∀ (n : Fin 32) (x : Fin 400), b.l2457 (ix3 0 n x) = m n (e2 x)
  c0_8 : ∀ (n : Fin 32) (x : Fin 6400), b.l2482 (ix3 0 n x) = m n (e0 x)
  c1_8 : ∀ (n : Fin 32) (x : Fin 1600), b.l2498 (ix3 0 n x) = m n (e1 x)
  c2_8 : ∀ (n : Fin 32) (x : Fin 400), b.l2513 (ix3 0 n x) = m n (e2 x)
  c0_9 : ∀ (n : Fin 32) (x : Fin 6400), b.l2538 (ix3 0 n x) = m n (e0 x)
  c1_9 : ∀ (n : Fin 32) (x : Fin 1600), b.l2554 (ix3 0 n x) = m n (e1 x)
  c2_9 : ∀ (n : Fin 32) (x : Fin 400), b.l2569 (ix3 0 n x) = m n (e2 x)

open Classical in
theorem Img.rows (m : Fin 32 → Fin 8400 → EReal) (K : Coef b m) (k : Fin 10) (g : Fin 12) (n : Fin 32) : rowS b k (ix2 g n) = if act M O k g then m n (pk M k g) else 0 := by
  match k with
  | ⟨0, _⟩ => show w2075 b (ix2 g n) = _; rw [row_0]; exact I.row I.pick_0 _ _ _ m K.c0_0 K.c1_0 K.c2_0 g n
  | ⟨1, _⟩ => show w2131 b (ix2 g n) = _; rw [row_1]; exact I.row I.pick_1 _ _ _ m K.c0_1 K.c1_1 K.c2_1 g n
  | ⟨2, _⟩ => show w2187 b (ix2 g n) = _; rw [row_2]; exact I.row I.pick_2 _ _ _ m K.c0_2 K.c1_2 K.c2_2 g n
  | ⟨3, _⟩ => show w2243 b (ix2 g n) = _; rw [row_3]; exact I.row I.pick_3 _ _ _ m K.c0_3 K.c1_3 K.c2_3 g n
  | ⟨4, _⟩ => show w2299 b (ix2 g n) = _; rw [row_4]; exact I.row I.pick_4 _ _ _ m K.c0_4 K.c1_4 K.c2_4 g n
  | ⟨5, _⟩ => show w2355 b (ix2 g n) = _; rw [row_5]; exact I.row I.pick_5 _ _ _ m K.c0_5 K.c1_5 K.c2_5 g n
  | ⟨6, _⟩ => show w2411 b (ix2 g n) = _; rw [row_6]; exact I.row I.pick_6 _ _ _ m K.c0_6 K.c1_6 K.c2_6 g n
  | ⟨7, _⟩ => show w2467 b (ix2 g n) = _; rw [row_7]; exact I.row I.pick_7 _ _ _ m K.c0_7 K.c1_7 K.c2_7 g n
  | ⟨8, _⟩ => show w2523 b (ix2 g n) = _; rw [row_8]; exact I.row I.pick_8 _ _ _ m K.c0_8 K.c1_8 K.c2_8 g n
  | ⟨9, _⟩ => show rowV b (w982 b) (w1002 b) b.l2538 b.l2554 b.l2569 (ix2 g n) = _; exact I.row I.pick_9 _ _ _ m K.c0_9 K.c1_9 K.c2_9 g n

open Classical in
theorem Img.cat (m : Fin 32 → Fin 8400 → EReal) (K : Coef b m) (k : Fin 10) (g : Fin 12) (n : Fin 32) : w2580 b (ix2 (at120 k g) n) = if act M O k g then m n (pk M k g) else 0 := by
  rw [cat_eq]
  exact (catV_at (rowS b) k g n).trans (I.rows m K k g n)

open Classical in
theorem Img.agg (m : Fin 32 → Fin 8400 → EReal) (K : Coef b m) (g : Fin 12) (n : Fin 32) : w2588 b (ix2 g n) = ∑ k : Fin 10, if act M O k g then m n (pk M k g) else 0 := by
  rw [w2588_at, sum120]
  refine Finset.sum_congr rfl fun k _ => ?_
  rw [Finset.sum_eq_single g]
  · rw [tselV_at, eyeV_at, I.cat m K, select_one _ _ _ (g = g) (cmpi_eq_iff g g), if_pos rfl, one_mul]
  · intro h _ hc
    rw [tselV_at, eyeV_at, select_one _ _ _ (h = g) (cmpi_eq_iff h g), if_neg hc, zero_mul]
  · exact fun h => absurd (Finset.mem_univ _) h

omit I in
theorem sum_ten (s : Fin 10 → EReal) : ((((((((((0 + s 0) + s 1) + s 2) + s 3) + s 4) + s 5) + s 6) + s 7) + s 8) + s 9) = ∑ k, s k := by
  simp only [Fin.sum_univ_castSucc, Fin.sum_univ_zero]
  rfl

open Classical in
theorem Img.nv : w2577 b = ∑ k : Fin 10, ∑ g : Fin 12, if act M O k g then (1 : EReal) else 0 := by
  rw [nv_9, nv_8, nv_7, nv_6, nv_5, nv_4, nv_3, nv_2, nv_1, nv_0]
  simp only [nvV_at, I.wk I.pick_0, I.wk I.pick_1, I.wk I.pick_2, I.wk I.pick_3, I.wk I.pick_4, I.wk I.pick_5, I.wk I.pick_6, I.wk I.pick_7, I.wk I.pick_8, I.wk I.pick_9]
  rw [show (Scalar.ofBits .f32 0x00000000#32 : Ideal .f32) = 0 from Ideal.ofBits_zero_f32]
  exact sum_ten (fun k => ∑ g : Fin 12, if act M O k g then (1 : EReal) else 0)

end Cert.KernelIdeal.Gen
-- ==== Proof.RMask.lean ====
module

public import proofs.«01_k».proof.Proof.RBox

/-!
The mask loss of the reference, as a sum over all the anchors.
-/

@[expose] public section

set_option maxRecDepth 16384

noncomputable section

namespace Cert.ReferenceIdeal.Read
open Idealize.ShloMosaic Idealize.SL Cert.ReferenceIdeal
open Cert.Sel

/-- The cross entropy of a logit and a target. -/
def bceF (x g : EReal) : EReal := max x 0 - x * g + Ideal.log1p (Ideal.exp (-(max x (-x))))

theorem gatherM_at {α : Type} (x : S8x8400x32.Idx → α) (idx : IVec S8x120x1 32) (B : Fin 8) (j : Fin 120) (p : Fin 8400) (c : Fin 32)
    (h : idx (ix3 B j 0) = BitVec.ofNat 32 p.val) : Host.gather gather_S8x8400x32_S8x120x1_S8x120x32_2_1_0_0_1_2_1132 x idx (ix3 B j c) = x (ix3 B p c) := by
  unfold Host.gather
  congr 1
  funext a
  refine Fin.ext ?_
  show gather_S8x8400x32_S8x120x1_S8x120x32_2_1_0_0_1_2_1132.start (ix3 B j c) idx a + gather_S8x8400x32_S8x120x1_S8x120x32_2_1_0_0_1_2_1132.batchCoord (ix3 B j c) a
      + gather_S8x8400x32_S8x120x1_S8x120x32_2_1_0_0_1_2_1132.offCoord (ix3 B j c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x8400x32_S8x120x1_S8x120x32_2_1_0_0_1_2_1132.operandBatchingDims from List.mem_singleton.mpr rfl)]
    rfl
  · rw [GatherDims.batchCoord_eq_zero _ _ _ (fun h => by simp [gather_S8x8400x32_S8x120x1_S8x120x32_2_1_0_0_1_2_1132] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x8400x32_S8x120x1_S8x120x32_2_1_0_0_1_2_1132.startIndexMap from List.mem_singleton.mpr rfl)]
    have hsi : gather_S8x8400x32_S8x120x1_S8x120x32_2_1_0_0_1_2_1132.siIdx (ix3 B j c) ⟨List.idxOf (1 : Fin 3) gather_S8x8400x32_S8x120x1_S8x120x32_2_1_0_0_1_2_1132.startIndexMap,
        List.idxOf_lt_length_iff.2 (List.mem_singleton.mpr rfl)⟩ = ix3 B j 0 := by
      funext b; refine Fin.ext ?_
      match b with
      | ⟨0, _⟩ => rfl
      | ⟨1, _⟩ => rfl
      | ⟨2, _⟩ => rfl
    rw [hsi, h, toInt_small (by have := p.isLt; omega)]
    show min p.val 8399 = p.val
    have := p.isLt; omega
  · rw [GatherDims.batchCoord_eq_zero _ _ _ (fun h => by simp [gather_S8x8400x32_S8x120x1_S8x120x32_2_1_0_0_1_2_1132] at h)]
    have hs : gather_S8x8400x32_S8x120x1_S8x120x32_2_1_0_0_1_2_1132.start (ix3 B j c) idx 2 = 0 := by
      unfold GatherDims.start
      rw [dif_neg (fun h => by simp [gather_S8x8400x32_S8x120x1_S8x120x32_2_1_0_0_1_2_1132] at h)]
    rw [hs]
    simp only [Nat.zero_add]
    unfold GatherDims.offCoord
    rw [dif_pos (show (2 : Fin 3) ∈ gather_S8x8400x32_S8x120x1_S8x120x32_2_1_0_0_1_2_1132.sKept from by decide)]
    rfl

theorem gatherT_at {α : Type} (x : S8x12x25600.Idx → α) (idx : IVec S8x120x1 32) (B : Fin 8) (j : Fin 120) (p : Fin 12) (c : Fin 25600)
    (h : idx (ix3 B j 0) = BitVec.ofNat 32 p.val) : Host.gather gather_S8x12x25600_S8x120x1_S8x120x25600_2_1_0_0_1_2_1125600 x idx (ix3 B j c) = x (ix3 B p c) := by
  unfold Host.gather
  congr 1
  funext a
  refine Fin.ext ?_
  show gather_S8x12x25600_S8x120x1_S8x120x25600_2_1_0_0_1_2_1125600.start (ix3 B j c) idx a + gather_S8x12x25600_S8x120x1_S8x120x25600_2_1_0_0_1_2_1125600.batchCoord (ix3 B j c) a
      + gather_S8x12x25600_S8x120x1_S8x120x25600_2_1_0_0_1_2_1125600.offCoord (ix3 B j c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S8x12x25600_S8x120x1_S8x120x25600_2_1_0_0_1_2_1125600.operandBatchingDims from List.mem_singleton.mpr rfl)]
    rfl
  · rw [GatherDims.batchCoord_eq_zero _ _ _ (fun h => by simp [gather_S8x12x25600_S8x120x1_S8x120x25600_2_1_0_0_1_2_1125600] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x12x25600_S8x120x1_S8x120x25600_2_1_0_0_1_2_1125600.startIndexMap from List.mem_singleton.mpr rfl)]
    have hsi : gather_S8x12x25600_S8x120x1_S8x120x25600_2_1_0_0_1_2_1125600.siIdx (ix3 B j c) ⟨List.idxOf (1 : Fin 3) gather_S8x12x25600_S8x120x1_S8x120x25600_2_1_0_0_1_2_1125600.startIndexMap,
        List.idxOf_lt_length_iff.2 (List.mem_singleton.mpr rfl)⟩ = ix3 B j 0 := by
      funext b; refine Fin.ext ?_
      match b with
      | ⟨0, _⟩ => rfl
      | ⟨1, _⟩ => rfl
      | ⟨2, _⟩ => rfl
    rw [hsi, h, toInt_small (by have := p.isLt; omega)]
    show min p.val 11 = p.val
    have := p.isLt; omega
  · rw [GatherDims.batchCoord_eq_zero _ _ _ (fun h => by simp [gather_S8x12x25600_S8x120x1_S8x120x25600_2_1_0_0_1_2_1125600] at h)]
    have hs : gather_S8x12x25600_S8x120x1_S8x120x25600_2_1_0_0_1_2_1125600.start (ix3 B j c) idx 2 = 0 := by
      unfold GatherDims.start
      rw [dif_neg (fun h => by simp [gather_S8x12x25600_S8x120x1_S8x120x25600_2_1_0_0_1_2_1125600] at h)]
    rw [hs]
    simp only [Nat.zero_add]
    unfold GatherDims.offCoord
    rw [dif_pos (show (2 : Fin 3) ∈ gather_S8x12x25600_S8x120x1_S8x120x25600_2_1_0_0_1_2_1125600.sKept from by decide)]
    rfl

theorem v26_at0 (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (B : Fin 8) (x : Fin 6400) (n : Fin 32) : val_main_v26 (F := Ideal) x10 x11 x12 (ix3 B (e0 x) n) = x10 (ix3 B n x) := by
  unfold e0
  pointwise [val_main_v26, val_main_v25]

theorem v26_at1 (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (B : Fin 8) (x : Fin 1600) (n : Fin 32) : val_main_v26 (F := Ideal) x10 x11 x12 (ix3 B (e1 x) n) = x11 (ix3 B n x) := by
  unfold e1
  pointwise [val_main_v26, val_main_v25]
  all_goals (simp <;> omega)

theorem v26_at2 (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (B : Fin 8) (x : Fin 400) (n : Fin 32) : val_main_v26 (F := Ideal) x10 x11 x12 (ix3 B (e2 x) n) = x12 (ix3 B n x) := by
  unfold e2
  pointwise [val_main_v26, val_main_v25]
  all_goals (simp <;> omega)

theorem v381_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v381 (F := Ideal) x0 x1 x2 x3 x4 x5 x6 x7 x8 x9 (ix3 B j 0) = BitVec.ofNat 32 (sg (fg (fun r a => val_main_v164 (F := Ideal) x0 x1 x2 x3 x4 x5 x6 x7 x8 x9 (ix3 B r a))) (j.castLE (by decide))).val := by
  have h : val_main_v381 (F := Ideal) x0 x1 x2 x3 x4 x5 x6 x7 x8 x9 (ix3 B j 0) = Scalar.select (IntOp.cmpi CmpIPredicate.slt (val_main_v198 (F := Ideal) x0 x1 x2 x3 x4 x5 x6 x7 x8 x9 (ix2 B (j.castLE (by decide)))) 0#32) (IntOp.addi (val_main_v198 (F := Ideal) x0 x1 x2 x3 x4 x5 x6 x7 x8 x9 (ix2 B (j.castLE (by decide)))) 8400#32) (val_main_v198 (F := Ideal) x0 x1 x2 x3 x4 x5 x6 x7 x8 x9 (ix2 B (j.castLE (by decide)))) := by
    pointwise [id, val_main_v381, val_main_v380, val_main_v377, val_main_v379, val_main_v199, val_main_v376, val_main_v378, val_main_c_60, val_main_c_61]
    all_goals rfl
  rw [h, v198_at]
  rw [slt_zero (lt_trans (Fin.isLt _) (by omega))]
  unfold Scalar.select
  exact if_neg (by decide)

theorem v389_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (j : Fin 120) :
    val_main_v389 (F := Ideal) x0 x1 x2 x3 x4 x5 x6 x7 x8 x9 (ix3 B j 0) = BitVec.ofNat 32 (asg (claimF (fun r a => val_main_v164 (F := Ideal) x0 x1 x2 x3 x4 x5 x6 x7 x8 x9 (ix3 B r a)) (fun r a => val_main_v133 (F := Ideal) x0 x1 x2 x3 x4 x5 x6 (ix3 B r a)) (sg (fg (fun r a => val_main_v164 (F := Ideal) x0 x1 x2 x3 x4 x5 x6 x7 x8 x9 (ix3 B r a))) (j.castLE (by decide))))).val := by
  have h : val_main_v389 (F := Ideal) x0 x1 x2 x3 x4 x5 x6 x7 x8 x9 (ix3 B j 0) = Scalar.select (IntOp.cmpi CmpIPredicate.slt (val_main_v213 (F := Ideal) x0 x1 x2 x3 x4 x5 x6 x7 x8 x9 (ix2 B j)) 0#32) (IntOp.addi (val_main_v213 (F := Ideal) x0 x1 x2 x3 x4 x5 x6 x7 x8 x9 (ix2 B j)) 12#32) (val_main_v213 (F := Ideal) x0 x1 x2 x3 x4 x5 x6 x7 x8 x9 (ix2 B j)) := by
    pointwise [id, val_main_v389, val_main_v388, val_main_v385, val_main_v387, val_main_v384, val_main_v386, val_main_c_62, val_main_c_63]
    all_goals rfl
  rw [h, v213_at]
  rw [slt_zero (lt_trans (Fin.isLt _) (by omega))]
  unfold Scalar.select
  exact if_neg (by decide)

theorem v382_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (B : Fin 8) (j : Fin 120) (n : Fin 32) :
    val_main_v382 (F := Ideal) x0 x1 x2 x3 x4 x5 x6 x7 x8 x9 x10 x11 x12 (ix3 B j n) = val_main_v26 (F := Ideal) x10 x11 x12 (ix3 B (sg (fg (fun r a => val_main_v164 (F := Ideal) x0 x1 x2 x3 x4 x5 x6 x7 x8 x9 (ix3 B r a))) (j.castLE (by decide))) n) := by
  unfold val_main_v382
  exact gatherM_at _ _ B j _ n (v381_at _ _ _ _ _ _ _ _ _ _ B j)

theorem v383_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (B : Fin 8) (j : Fin 120) (p : Fin 25600) :
    val_main_v383 (F := Ideal) x0 x1 x2 x3 x4 x5 x6 x7 x8 x9 x10 x11 x12 x13 (ix3 B j p) = ∑ n : Fin 32, val_main_v26 (F := Ideal) x10 x11 x12 (ix3 B (sg (fg (fun r a => val_main_v164 (F := Ideal) x0 x1 x2 x3 x4 x5 x6 x7 x8 x9 (ix3 B r a))) (j.castLE (by decide))) n) * x13 (ix3 B n p) := by
  have h : val_main_v383 (F := Ideal) x0 x1 x2 x3 x4 x5 x6 x7 x8 x9 x10 x11 x12 x13 (ix3 B j p) = ∑ n : Fin 32, val_main_v382 (F := Ideal) x0 x1 x2 x3 x4 x5 x6 x7 x8 x9 x10 x11 x12 (ix3 B j n) * x13 (ix3 B n p) := by
    unfold val_main_v383
    generalize val_main_v382 (F := Ideal) x0 x1 x2 x3 x4 x5 x6 x7 x8 x9 x10 x11 x12 = y
    pointwise []
  rw [h]
  exact Finset.sum_congr rfl fun n _ => by rw [v382_at]

theorem v390_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x14 : (⟨S8x12x25600, .f32⟩ : BufTy).Contents (Elt Ideal)) (B : Fin 8) (j : Fin 120) (p : Fin 25600) :
    val_main_v390 (F := Ideal) x0 x1 x2 x3 x4 x5 x6 x7 x8 x9 x14 (ix3 B j p) = x14 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) (sg (fg (fun r a => val_main_v164 (F := Ideal) x0 x1 x2 x3 x4 x5 x6 x7 x8 x9 (ix3 B r a))) (j.castLE (by decide))))) p) := by
  unfold val_main_v390
  exact gatherT_at _ _ B j _ p (v389_at _ _ _ _ _ _ _ _ _ _ B j)

theorem v399_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (B : Fin 8) (j : Fin 120) (p : Fin 25600) :
    val_main_v399 (F := Ideal) x0 x1 x2 x3 x4 x5 x6 x7 x8 x9 x10 x11 x12 x13 x14 (ix3 B j p) = bceF (val_main_v383 (F := Ideal) x0 x1 x2 x3 x4 x5 x6 x7 x8 x9 x10 x11 x12 x13 (ix3 B j p)) (val_main_v390 (F := Ideal) x0 x1 x2 x3 x4 x5 x6 x7 x8 x9 x14 (ix3 B j p)) := by
  unfold val_main_v399 val_main_v398 val_main_v397 val_main_v396 val_main_v395 val_main_v394 val_main_v393 val_main_v392 bceF
  generalize val_main_v390 (F := Ideal) x0 x1 x2 x3 x4 x5 x6 x7 x8 x9 x14 = z
  generalize val_main_v383 (F := Ideal) x0 x1 x2 x3 x4 x5 x6 x7 x8 x9 x10 x11 x12 x13 = y
  pointwise [val_main_v391, val_main_cst_64]
  all_goals rfl

theorem sum_one_zero {n : ℕ} (f : Fin n → EReal) (w : EReal) (h : w = 1 ∨ w = 0) : ∑ p, f p * w = w * ∑ p, f p := by
  rcases h with rfl | rfl <;> simp

theorem fg_one_zero (M : Fin 12 → Fin 8400 → EReal) (a : Fin 8400) : fg M a = 1 ∨ fg M a = 0 := by
  unfold fg
  split
  · exact Or.inl rfl
  · exact Or.inr rfl

theorem v404_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (B : Fin 8) :
    val_main_v404 (F := Ideal) x0 x1 x2 x3 x4 x5 x6 x7 x8 x9 x10 x11 x12 x13 x14 (ix1 B) = ∑ a : Fin 8400, fg (fun r a => val_main_v164 (F := Ideal) x0 x1 x2 x3 x4 x5 x6 x7 x8 x9 (ix3 B r a)) a * ∑ p : Fin 25600, bceF (∑ n : Fin 32, val_main_v26 (F := Ideal) x10 x11 x12 (ix3 B a n) * x13 (ix3 B n p)) (x14 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) a)) p)) := by
  have h : val_main_v404 (F := Ideal) x0 x1 x2 x3 x4 x5 x6 x7 x8 x9 x10 x11 x12 x13 x14 (ix1 B) = ∑ j : Fin 120, ∑ p : Fin 25600, val_main_v399 (F := Ideal) x0 x1 x2 x3 x4 x5 x6 x7 x8 x9 x10 x11 x12 x13 x14 (ix3 B j p) * val_main_v206 (F := Ideal) x0 x1 x2 x3 x4 x5 x6 x7 x8 x9 (ix2 B j) := by
    unfold val_main_v404 val_main_v403 val_main_v402 val_main_v401 val_main_v400
    generalize val_main_v399 (F := Ideal) x0 x1 x2 x3 x4 x5 x6 x7 x8 x9 x10 x11 x12 x13 x14 = y
    generalize val_main_v206 (F := Ideal) x0 x1 x2 x3 x4 x5 x6 x7 x8 x9 = z
    pointwise [id, val_main_cst_65]
    all_goals simp only [zero_add]
  rw [h]
  simp only [v399_at, v206_at, v383_at, v390_at]
  rw [← sum_order (fun r a => val_main_v164 (F := Ideal) x0 x1 x2 x3 x4 x5 x6 x7 x8 x9 (ix3 B r a)) (fun a => ∑ p : Fin 25600, bceF (∑ n : Fin 32, val_main_v26 (F := Ideal) x10 x11 x12 (ix3 B a n) * x13 (ix3 B n p)) (x14 (ix3 B (asg (claimF (fun r a => val_main_v164 (F := Ideal) x0 x1 x2 x3 x4 x5 x6 x7 x8 x9 (ix3 B r a)) (fun r a => val_main_v133 (F := Ideal) x0 x1 x2 x3 x4 x5 x6 (ix3 B r a)) a)) p)))]
  exact Finset.sum_congr rfl fun j _ => sum_one_zero _ _ (fg_one_zero _ _)

theorem v406_at (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (B : Fin 8) :
    val_main_v406 (F := Ideal) x0 x1 x2 x3 x4 x5 x6 x7 x8 x9 x10 x11 x12 x13 x14 (ix1 B) = Ideal.div (val_main_v404 (F := Ideal) x0 x1 x2 x3 x4 x5 x6 x7 x8 x9 x10 x11 x12 x13 x14 (ix1 B)) (Ideal.ofBits FTy.f32 1187512320#32) := by
  unfold val_main_v406
  generalize val_main_v404 (F := Ideal) x0 x1 x2 x3 x4 x5 x6 x7 x8 x9 x10 x11 x12 x13 x14 = y
  pointwise [val_main_v405, val_main_cst_66]

end Cert.ReferenceIdeal.Read
-- ==== Proof.MaskSum.lean ====
module

public import proofs.«01_k».proof.Proof.KWt
public import proofs.«01_k».proof.Proof.RMask

/-!
The kernel's mask loss over finite mask coefficients, prototypes and masks, as a sum over the foreground anchors.
-/

@[expose] public section

set_option maxRecDepth 16384

noncomputable section

namespace Cert.KernelIdeal.Gen
open Idealize.ShloMosaic Idealize.ShloMosaic.TcCoe Idealize.SL.Sem
open Facts₀ Facts
open Cert.Sel

theorem spF_coe (x : ℝ) : spF (x : EReal) = ((spR x : ℝ) : EReal) := by
  unfold spF spR
  rw [← EReal.coe_neg, ← coe_maxE, ← EReal.coe_zero, ← EReal.coe_sub, log1pexp_coe, ← coe_maxE, ← EReal.coe_add, zero_sub]

/-- The cross entropy of a real logit and a real target. -/
def bceR (x g : ℝ) : ℝ := max x 0 - x * g + Real.log (1 + Real.exp (-(max x (-x))))

theorem bceF_coe (x g : ℝ) : Cert.ReferenceIdeal.Read.bceF (x : EReal) (g : EReal) = ((bceR x g : ℝ) : EReal) := by
  unfold Cert.ReferenceIdeal.Read.bceF bceR
  rw [← EReal.coe_neg, ← coe_maxE, ← EReal.coe_zero, ← coe_maxE, ← EReal.coe_mul, ← EReal.coe_sub, ← EReal.coe_neg, log1pexp_coe, ← EReal.coe_add]

theorem coe_ite (c : Prop) [Decidable c] (x : ℝ) : (if c then (x : EReal) else 0) = ((if c then x else 0 : ℝ) : EReal) := by
  by_cases h : c <;> simp [h]

/-- A pixel of the first half and one of the second. -/
def pl (p : Fin 12800) : Fin 25600 := ⟨p.val, by omega⟩
def ph (p : Fin 12800) : Fin 25600 := ⟨12800 + p.val, by omega⟩

theorem sum_halves {β : Type} [AddCommMonoid β] (f : Fin 25600 → β) : (∑ p, f (pl p)) + (∑ p, f (ph p)) = ∑ p, f p :=
  (Fin.sum_univ_add (a := 12800) (b := 12800) f).symm

/-- The loads of the prototypes and the masks are these. -/
structure Pix (b : Blk) (pr : Fin 32 → Fin 25600 → EReal) (gt : Fin 12 → Fin 25600 → EReal) : Prop where
  p1 : ∀ (n : Fin 32) (p : Fin 12800), b.l2590 (ix3 0 n p) = pr n (pl p)
  p2 : ∀ (n : Fin 32) (p : Fin 12800), b.l2610 (ix3 0 n p) = pr n (ph p)
  g1 : ∀ (g : Fin 12) (p : Fin 12800), b.l2592 (ix3 0 g p) = gt g (pl p)
  g2 : ∀ (g : Fin 12) (p : Fin 12800), b.l2612 (ix3 0 g p) = gt g (ph p)

/-- The kernel's algebra over the reals. -/
theorem real_sum (act : Fin 10 → Fin 12 → Prop) [∀ k g, Decidable (act k g)] (m : Fin 10 → Fin 12 → Fin 32 → ℝ) (pr : Fin 32 → Fin 25600 → ℝ) (gt : Fin 12 → Fin 25600 → ℝ) :
    (∑ k, ∑ g, ∑ p, spR (∑ n, (if act k g then m k g n else 0) * pr n p)) - (120 - ∑ k, ∑ g, (if act k g then (1 : ℝ) else 0)) * Real.log 2 * 25600
      - (∑ g, ∑ n, (∑ k, if act k g then m k g n else 0) * ∑ p, gt g p * pr n p)
    = ∑ k, ∑ g, if act k g then ∑ p, bceR (∑ n, m k g n * pr n p) (gt g p) else 0 := by
  have h : ∀ k g, _ := fun k g => term_alg (act k g) (m k g) pr (gt g)
  have e1 : (∑ k : Fin 10, ∑ g : Fin 12, (1 - (if act k g then (1 : ℝ) else 0)) * Real.log 2 * 25600) = (120 - ∑ k, ∑ g, (if act k g then (1 : ℝ) else 0)) * Real.log 2 * 25600 := by
    simp only [← Finset.sum_mul, Finset.sum_sub_distrib, Finset.sum_const, Finset.card_univ, Fintype.card_fin, nsmul_eq_mul]
    norm_num
  have e2 : (∑ k : Fin 10, ∑ g : Fin 12, ∑ n, (if act k g then m k g n else 0) * ∑ p, gt g p * pr n p) = ∑ g, ∑ n, (∑ k, if act k g then m k g n else 0) * ∑ p, gt g p * pr n p := by
    rw [Finset.sum_comm]
    refine Finset.sum_congr rfl fun g _ => ?_
    rw [Finset.sum_comm]
    exact Finset.sum_congr rfl fun n _ => (Finset.sum_mul _ _ _).symm
  rw [← e1, ← e2]
  simp only [← Finset.sum_sub_distrib]
  refine Finset.sum_congr rfl fun k _ => Finset.sum_congr rfl fun g _ => ?_
  have q := h k g
  rw [Fintype.card_fin] at q
  exact_mod_cast q

variable {b : Blk} {M O : Fin 12 → Fin 8400 → EReal} {X : Fin 4 → Fin 8400 → EReal} {C : Fin 8400 → EReal} (I : Img b M O X C)
include I

open Classical in
/-- The kernel's mask loss. -/
theorem Img.mask_sum (hO : ∀ r a, 0 < M r a → -1 < O r a) (m : Fin 32 → Fin 8400 → ℝ) (pr : Fin 32 → Fin 25600 → ℝ) (gt : Fin 12 → Fin 25600 → ℝ)
    (K : Coef b fun n a => ((m n a : ℝ) : EReal)) (P : Pix b (fun n p => ((pr n p : ℝ) : EReal)) fun g p => ((gt g p : ℝ) : EReal)) :
    w2640 b = Ideal.div (((∑ a : Fin 8400, if (∃ r, selP (M r) a) then ∑ p, bceR (∑ n, m n a * pr n p) (gt (asg (claimF M O a)) p) else 0 : ℝ)) : EReal) ((25600 : ℝ) : EReal) := by
  have hz : ∀ k g n, w2580 b (ix2 (at120 k g) n) = ((if act M O k g then m n (pk M k g) else 0 : ℝ) : EReal) := fun k g n => (I.cat _ K k g n).trans (coe_ite _ _)
  have h1 : ∀ k g p, spV (w2594 b) (ix2 (at120 k g) p) = ((spR (∑ n, (if act M O k g then m n (pk M k g) else 0) * pr n (pl p)) : ℝ) : EReal) := by
    intro k g p
    rw [spV_at, w2594_at]
    simp only [hz, P.p1, ← EReal.coe_mul, ← coe_sumE]
    exact spF_coe _
  have h2 : ∀ k g p, spV (pm2 b) (ix2 (at120 k g) p) = ((spR (∑ n, (if act M O k g then m n (pk M k g) else 0) * pr n (ph p)) : ℝ) : EReal) := by
    intro k g p
    rw [spV_at, pm2_at]
    simp only [hz, P.p2, ← EReal.coe_mul, ← coe_sumE]
    exact spF_coe _
  have h3 : w2577 b = ((∑ k, ∑ g, (if act M O k g then (1 : ℝ) else 0) : ℝ) : EReal) := by
    rw [I.nv]
    simp only [coe_sumE]
    refine Finset.sum_congr rfl fun k _ => Finset.sum_congr rfl fun g _ => ?_
    rw [← coe_ite, EReal.coe_one]
  have h4 : ∀ g n, w2588 b (ix2 g n) = ((∑ k, (if act M O k g then m n (pk M k g) else 0) : ℝ) : EReal) := by
    intro g n
    rw [I.agg _ K, coe_sumE]
    exact Finset.sum_congr rfl fun k _ => coe_ite _ _
  have h5 : ∀ g n, crossV b (ix2 g n) = ((∑ p, gt g p * pr n p : ℝ) : EReal) := by
    intro g n
    rw [crossV_at, ← sum_halves]
    simp only [P.p1, P.p2, P.g1, P.g2, ← EReal.coe_mul, ← coe_sumE, ← EReal.coe_add]
  have hs : ∑ k, ∑ g, ∑ p, spR (∑ n, (if act M O k g then m n (pk M k g) else 0) * pr n p)
      = (∑ k, ∑ g, ∑ p, spR (∑ n, (if act M O k g then m n (pk M k g) else 0) * pr n (pl p))) + ∑ k, ∑ g, ∑ p, spR (∑ n, (if act M O k g then m n (pk M k g) else 0) * pr n (ph p)) := by
    simp only [← Finset.sum_add_distrib (s := (Finset.univ : Finset (Fin 10))), ← Finset.sum_add_distrib (s := (Finset.univ : Finset (Fin 12)))]
    exact Finset.sum_congr rfl fun k _ => Finset.sum_congr rfl fun g _ => (sum_halves _).symm
  have q := (real_sum (act M O) (fun k g n => m n (pk M k g)) pr gt).trans (sum_act M O hO fun a g => ∑ p, bceR (∑ n, m n a * pr n p) (gt g p))
  rw [w2640_eq, endV_at, sum120, sum120]
  simp only [h1, h2, h3, h4, h5, ← EReal.coe_mul, ← coe_sumE, ← EReal.coe_add, ← EReal.coe_sub]
  rw [← hs]
  exact congrArg (fun t : ℝ => Ideal.div (t : EReal) ((25600 : ℝ) : EReal)) q

end Cert.KernelIdeal.Gen
-- ==== Proof.Overlap.lean ====
module

public import Idealize.ShloMosaic.Lib.Pointwise
public import proofs.«01_k».proof.Proof.Scal
public import proofs.«01_k».proof.Proof.Assign

/-!
Where a metric is positive the overlap is above -1.
-/

@[expose] public section

set_option maxRecDepth 16384

noncomputable section

namespace Cert.Sel
open Idealize.ShloMosaic

/-- Not negative, or minus infinity. -/
def okE (x : EReal) : Prop := x = ⊥ ∨ 0 ≤ x

theorem okE_add {x y : EReal} (hx : okE x) (hy : okE y) : okE (x + y) := by
  rcases hx with rfl | hx
  · exact Or.inl (EReal.bot_add _)
  · rcases hy with rfl | hy
    · exact Or.inl (EReal.add_bot _)
    · exact Or.inr (add_nonneg hx hy)

theorem okE_sum {ι : Type} (s : Finset ι) (f : ι → EReal) (h : ∀ i, okE (f i)) : okE (∑ i ∈ s, f i) := by
  classical
  induction s using Finset.induction_on with
  | empty => exact Or.inr (by simp)
  | insert a s ha ih => rw [Finset.sum_insert ha]; exact okE_add (h a) ih

theorem okE_mul {x y : EReal} (hx : okE x) (hy : 0 ≤ y) : okE (x * y) := by
  rcases hx with rfl | hx
  · rcases hy.eq_or_lt with h | h
    · rw [← h, mul_zero]; exact Or.inr le_rfl
    · exact Or.inl (EReal.bot_mul_of_pos h)
  · exact Or.inr (mul_nonneg hx hy)

theorem okE_div {x y : EReal} (hx : 0 ≤ x) (hy : 0 ≤ y) : okE (Ideal.div x y) := by
  unfold Ideal.div
  split
  · split
    · exact Or.inr le_top
    · exact Or.inl rfl
  · exact Or.inr (mul_nonneg hx (EReal.inv_nonneg_of_nonneg hy))

theorem distF_ok (f : Fin 16 → EReal) : okE (distF f) := by
  unfold distF
  refine okE_sum _ _ fun i => okE_mul (okE_div (exp_nonneg' _) (Finset.sum_nonneg fun j _ => exp_nonneg' _)) ?_
  show (0 : EReal) ≤ (((BitVec.ofNat 32 i.val).toInt : ℝ) : EReal)
  rw [toInt_small (by have := i.isLt; omega)]
  exact EReal.coe_nonneg.mpr (by positivity)

/-- A real product with a distance has the sign of the other factor. -/
theorem ok_sign {r s : EReal} (hr : okE r) {t : ℝ} (h : r * s = (t : EReal)) : (0 ≤ s → 0 ≤ t) ∧ (s ≤ 0 → t ≤ 0) := by
  rcases hr with rfl | hr
  · rcases lt_trichotomy s 0 with hs | hs | hs
    · rw [EReal.bot_mul_of_neg hs] at h; exact absurd h.symm (EReal.coe_ne_top _)
    · rw [hs, mul_zero] at h
      have : t = 0 := by exact_mod_cast h.symm
      rw [this]; exact ⟨fun _ => le_rfl, fun _ => le_rfl⟩
    · rw [EReal.bot_mul_of_pos hs] at h; exact absurd h.symm (EReal.coe_ne_bot _)
  · refine ⟨fun hs => ?_, fun hs => ?_⟩
    · have := mul_nonneg hr hs
      rw [h] at this; exact EReal.coe_nonneg.mp this
    · have : r * -s = ((-t : ℝ) : EReal) := by rw [mul_neg, h]; rfl
      have h2 := mul_nonneg hr (EReal.neg_nonneg.mpr hs)
      rw [this] at h2
      have := EReal.coe_nonneg.mp h2
      linarith

/-- A side of a decoded box: infinite, or of the sign of the stride. -/
theorem side (a l r s : EReal) (hl : okE l) (hr : okE r) : (a + r * s) - (a - l * s) = ⊤ ∨ (a + r * s) - (a - l * s) = ⊥
    ∨ ∃ t : ℝ, (a + r * s) - (a - l * s) = (t : EReal) ∧ (0 ≤ s → 0 ≤ t) ∧ (s ≤ 0 → t ≤ 0) := by
  by_cases h1 : (a + r * s) - (a - l * s) = ⊤
  · exact Or.inl h1
  by_cases h2 : (a + r * s) - (a - l * s) = ⊥
  · exact Or.inr (Or.inl h2)
  refine Or.inr (Or.inr ?_)
  have hL := fun t => ok_sign (s := s) hl (t := t)
  have hR := fun t => ok_sign (s := s) hr (t := t)
  generalize hu : r * s = u at *
  generalize hv : l * s = v at *
  induction a using EReal.rec <;> induction u using EReal.rec <;> induction v using EReal.rec
  case coe.coe.coe a u v =>
    refine ⟨u + v, ?_, ?_, ?_⟩
    · rw [← EReal.coe_add, ← EReal.coe_sub, ← EReal.coe_sub]; congr 1; ring
    · intro hs; exact add_nonneg ((hR u rfl).1 hs) ((hL v rfl).1 hs)
    · intro hs; exact add_nonpos ((hR u rfl).2 hs) ((hL v rfl).2 hs)
  all_goals
    exfalso
    first
      | exact h1 rfl
      | exact h2 rfl
      | (first | apply h1 | apply h2) <;> simp [EReal.sub_eq_top_iff] <;> done
      | skip

theorem area_ok {w h s : EReal} (hw : w = ⊤ ∨ w = ⊥ ∨ ∃ t : ℝ, w = (t : EReal) ∧ (0 ≤ s → 0 ≤ t) ∧ (s ≤ 0 → t ≤ 0))
    (hh : h = ⊤ ∨ h = ⊥ ∨ ∃ t : ℝ, h = (t : EReal) ∧ (0 ≤ s → 0 ≤ t) ∧ (s ≤ 0 → t ≤ 0)) : okE (w * h) := by
  have inf : ∀ y : EReal, okE (⊤ * y) ∧ okE (⊥ * y) := by
    intro y
    rcases lt_trichotomy y 0 with hs | hs | hs
    · rw [EReal.top_mul_of_neg hs, EReal.bot_mul_of_neg hs]; exact ⟨Or.inl rfl, Or.inr le_top⟩
    · rw [hs, mul_zero, mul_zero]; exact ⟨Or.inr le_rfl, Or.inr le_rfl⟩
    · rw [EReal.top_mul_of_pos hs, EReal.bot_mul_of_pos hs]; exact ⟨Or.inr le_top, Or.inl rfl⟩
  rcases hw with rfl | rfl | ⟨t, rfl, ht⟩
  · exact (inf h).1
  · exact (inf h).2
  · rcases hh with rfl | rfl | ⟨t', rfl, ht'⟩
    · rw [mul_comm]; exact (inf _).1
    · rw [mul_comm]; exact (inf _).2
    · right
      rw [← EReal.coe_mul]
      refine EReal.coe_nonneg.mpr ?_
      rcases le_total 0 s with hs | hs
      · exact mul_nonneg (ht.1 hs) (ht'.1 hs)
      · exact mul_nonneg_of_nonpos_of_nonpos (ht.2 hs) (ht'.2 hs)

theorem ceps : ∃ e : ℝ, 0 < e ∧ Ideal.ofBits FTy.f32 814313567#32 = (e : EReal) := by
  refine ⟨_, ?_, by simp [Ideal.ofBits, Ideal.ieee, -EReal.coe_mul]; rfl⟩
  norm_num

theorem neg1_lt {x : EReal} (h : 0 ≤ x) : -1 < x := neg_one_lt h

theorem iou_core {I ag ap e : EReal} (hI : 0 ≤ I) (hg : 0 ≤ ag) (hp : okE ap) (he : 0 < e) (heT : e ≠ ⊤) (hle : 0 < I → I ≤ ag ∧ I ≤ ap) :
    -1 < Ideal.div I (ag + ap - I + e) := by
  rcases hI.eq_or_lt with h0 | hpos
  · rw [← h0, sub_zero]
    unfold Ideal.div
    have hne : ag + ap + e ≠ 0 := by
      rcases hp with rfl | hp
      · rw [EReal.add_bot, EReal.bot_add]; exact EReal.bot_ne_zero
      · exact (lt_of_lt_of_le he (le_add_of_nonneg_left (add_nonneg hg hp))).ne'
    rw [if_neg hne, zero_mul]
    exact neg1_lt le_rfl
  · obtain ⟨h1, h2⟩ := hle hpos
    refine neg1_lt ?_
    unfold Ideal.div
    split
    · exact le_top
    · by_cases hT : I = ⊤
      · subst hT
        rw [top_le_iff.mp h1, top_le_iff.mp h2]
        rw [show (⊤ + ⊤ - ⊤ + e : EReal) = ⊥ from by simp [sub_eq_add_neg]]
        simp
      · refine mul_nonneg hI (EReal.inv_nonneg_of_nonneg (add_nonneg ?_ he.le))
        have hs : 0 ≤ ap - I := EReal.sub_nonneg (Or.inr hT) (Or.inr (lt_of_lt_of_le (by exact EReal.bot_lt_zero) hI).ne') |>.mpr h2
        rw [sub_eq_add_neg, add_assoc, ← sub_eq_add_neg]
        exact add_nonneg hg hs

theorem gap_pos {x y : EReal} (h : x < y) : 0 ≤ y - x := by
  exact (EReal.sub_nonneg (Or.inr (ne_top_of_lt h)) (Or.inl (ne_bot_of_gt h))).mpr h.le

/-- A box and a decoded box, the anchor inside the box. -/
theorem iouF_gt (g1 g2 g3 g4 ax ay d0 d1 d2 d3 s : EReal) (h0 : okE d0) (h1 : okE d1) (h2 : okE d2) (h3 : okE d3) (hx : g1 < g3) (hy : g2 < g4) :
    -1 < iouF g1 g2 g3 g4 (ax - d0 * s) (ay - d1 * s) (ax + d2 * s) (ay + d3 * s) := by
  have hap : okE (((ax + d2 * s) - (ax - d0 * s)) * ((ay + d3 * s) - (ay - d1 * s))) := area_ok (side ax d0 d2 s h0 h2) (side ay d1 d3 s h1 h3)
  obtain ⟨e, he, hE⟩ := ceps
  unfold iouF
  rw [hE]
  generalize ax - d0 * s = x1 at *
  generalize ay - d1 * s = y1 at *
  generalize ax + d2 * s = x2 at *
  generalize ay + d3 * s = y2 at *
  refine iou_core ?_ (mul_nonneg (gap_pos hx) (gap_pos hy)) hap (EReal.coe_pos.mpr he) (EReal.coe_ne_top _) ?_
  · unfold interF
    exact mul_nonneg (le_max_left _ _) (le_max_left _ _)
  · intro hpos
    unfold interF at hpos ⊢
    have hw : 0 < min g3 x2 - max g1 x1 := by
      by_contra hc
      rw [max_eq_left (not_lt.mp hc), zero_mul] at hpos
      exact lt_irrefl _ hpos
    have hh : 0 < min g4 y2 - max g2 y1 := by
      by_contra hc
      rw [max_eq_left (not_lt.mp hc), mul_zero] at hpos
      exact lt_irrefl _ hpos
    rw [max_eq_right hw.le, max_eq_right hh.le]
    have a1 : min g3 x2 - max g1 x1 ≤ g3 - g1 := EReal.sub_le_sub (min_le_left _ _) (le_max_left _ _)
    have a2 : min g3 x2 - max g1 x1 ≤ x2 - x1 := EReal.sub_le_sub (min_le_right _ _) (le_max_right _ _)
    have b1 : min g4 y2 - max g2 y1 ≤ g4 - g2 := EReal.sub_le_sub (min_le_left _ _) (le_max_left _ _)
    have b2 : min g4 y2 - max g2 y1 ≤ y2 - y1 := EReal.sub_le_sub (min_le_right _ _) (le_max_right _ _)
    exact ⟨mul_le_mul a1 b1 hh.le (hw.le.trans a1), mul_le_mul a2 b2 hh.le (hw.le.trans a2)⟩

end Cert.Sel
-- ==== Proof.MaskMeet.lean ====
module

public import proofs.«01_k».proof.Proof.Losses
public import proofs.«01_k».proof.Proof.MaskSum
public import proofs.«01_k».proof.Proof.Overlap

/-! One image: the kernel's mask loss is the reference's, where the coefficients, the prototypes and the masks are finite. -/

@[expose] public section

set_option maxRecDepth 16384

noncomputable section

namespace Cert.Meet
open Idealize.ShloMosaic Idealize.SL
open Cert.Sel Cert.KernelIdeal.Gen Cert.ReferenceIdeal.Read Cert.ReferenceIdeal

theorem inF_lt (g1 g2 g3 g4 px py : EReal) (h : inF g1 g2 g3 g4 px py = 1#1) : (g1 < g3) ∧ (g2 < g4) := by
  unfold inF at h
  by_cases h1 : g1 < px <;> by_cases h2 : px < g3 <;> by_cases h3 : g2 < py <;> by_cases h4 : py < g4 <;> simp [h1, h2, h3, h4, IntOp.andi] at h
  exact ⟨h1.trans h2, h3.trans h4⟩

/-- Where the metric is positive the overlap is more than minus one. -/
theorem over (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (B : Fin 8) (r : Fin 12) (a : Fin 8400) (h : 0 < val_main_v164 (F := Ideal) x0 x1 x2 x3 x4 x5 x6 x7 x8 x9 (ix3 B r a)) :
    -1 < val_main_v133 (F := Ideal) x0 x1 x2 x3 x4 x5 x6 (ix3 B r a) := by
  rw [v164_met, v163_at] at h
  have hi : inF (x3 (ix3 B r 0)) (x3 (ix3 B r 1)) (x3 (ix3 B r 2)) (x3 (ix3 B r 3)) (val_main_v6 (F := Ideal) x0 x1 x2 (ix1 a)) (val_main_v13 (F := Ideal) x0 x1 x2 (ix1 a)) = 1#1 := by
    by_contra hc
    unfold metF Scalar.select at h
    exact lt_irrefl _ (h.trans_eq (if_neg hc))
  obtain ⟨hx, hy⟩ := inF_lt _ _ _ _ _ _ hi
  rw [v133_at, v91_at, v94_at, v97_at, v100_at]
  simp only [v43_at]
  exact iouF_gt _ _ _ _ _ _ _ _ _ _ _ (distF_ok _) (distF_ok _) (distF_ok _) (distF_ok _) hx hy

theorem coef_real (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (h10 : ∀ i, ∃ t : ℝ, x10 i = (t : EReal)) (h11 : ∀ i, ∃ t : ℝ, x11 i = (t : EReal)) (h12 : ∀ i, ∃ t : ℝ, x12 i = (t : EReal)) (B : Fin 8) (n : Fin 32) (a : Fin 8400) :
    ∃ t : ℝ, val_main_v26 (F := Ideal) x10 x11 x12 (ix3 B a n) = (t : EReal) := by
  rcases level_cases a with ⟨x, rfl⟩ | ⟨x, rfl⟩ | ⟨x, rfl⟩
  · rw [v26_at0]; exact h10 _
  · rw [v26_at1]; exact h11 _
  · rw [v26_at2]; exact h12 _

theorem mask_eq (b : Blk) (B : Fin 8) (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (H : Rows b B x0 x1 x2 x3 x4 x5 x6 x7 x8 x9)
    (K : Coef b fun n a => val_main_v26 (F := Ideal) x10 x11 x12 (ix3 B a n)) (P : Pix b (fun n p => x13 (ix3 B n p)) fun g p => x14 (ix3 B g p))
    (h10 : ∀ i, ∃ t : ℝ, x10 i = (t : EReal)) (h11 : ∀ i, ∃ t : ℝ, x11 i = (t : EReal)) (h12 : ∀ i, ∃ t : ℝ, x12 i = (t : EReal))
    (h13 : ∀ i, ∃ t : ℝ, x13 i = (t : EReal)) (h14 : ∀ i, ∃ t : ℝ, x14 i = (t : EReal)) :
    w2640 b = val_main_v406 (F := Ideal) x0 x1 x2 x3 x4 x5 x6 x7 x8 x9 x10 x11 x12 x13 x14 (ix1 B) := by
  classical
  choose m hm using fun n a => coef_real x10 x11 x12 h10 h11 h12 B n a
  choose pr hp using h13
  choose gt hg using h14
  have K' : Coef b fun n a => ((m n a : ℝ) : EReal) := by
    simp only [hm] at K
    exact K
  have P' : Pix b (fun n p => ((pr (ix3 B n p) : ℝ) : EReal)) fun g p => ((gt (ix3 B g p) : ℝ) : EReal) := by
    simp only [hp, hg] at P
    exact P
  rw [(img b B x0 x1 x2 x3 x4 x5 x6 x7 x8 x9 H).mask_sum (fun r a h => over x0 x1 x2 x3 x4 x5 x6 x7 x8 x9 B r a h) m (fun n p => pr (ix3 B n p)) (fun g p => gt (ix3 B g p)) K' P', v406_at, v404_at, c25600]
  refine congrArg (fun t : EReal => Ideal.div t ((25600 : ℝ) : EReal)) ?_
  rw [coe_sumE]
  refine Finset.sum_congr rfl fun a _ => ?_
  simp only [hm, hp, hg, ← EReal.coe_mul, ← coe_sumE, bceF_coe]
  unfold fg
  by_cases hc : ∃ r, selP (fun a => val_main_v164 (F := Ideal) x0 x1 x2 x3 x4 x5 x6 x7 x8 x9 (ix3 B r a)) a
  · rw [if_pos hc, if_pos hc, one_mul]
  · rw [if_neg hc, if_neg hc, zero_mul, EReal.coe_zero]

/-- The lane of the mask sum. -/
theorem v428_lane3 (x0 : (⟨S8x6400, .f32⟩ : BufTy).Contents (Elt Ideal)) (x1 : (⟨S8x1600, .f32⟩ : BufTy).Contents (Elt Ideal)) (x2 : (⟨S8x400, .f32⟩ : BufTy).Contents (Elt Ideal)) (x3 : (⟨S8x12x4, .f32⟩ : BufTy).Contents (Elt Ideal)) (x4 : (⟨S8x64x6400, .f32⟩ : BufTy).Contents (Elt Ideal)) (x5 : (⟨S8x64x1600, .f32⟩ : BufTy).Contents (Elt Ideal)) (x6 : (⟨S8x64x400, .f32⟩ : BufTy).Contents (Elt Ideal)) (x7 : (⟨S8x1x6400, .f32⟩ : BufTy).Contents (Elt Ideal)) (x8 : (⟨S8x1x1600, .f32⟩ : BufTy).Contents (Elt Ideal)) (x9 : (⟨S8x1x400, .f32⟩ : BufTy).Contents (Elt Ideal)) (x10 : (⟨S8x32x6400, .f32⟩ : BufTy).Contents (Elt Ideal)) (x11 : (⟨S8x32x1600, .f32⟩ : BufTy).Contents (Elt Ideal)) (x12 : (⟨S8x32x400, .f32⟩ : BufTy).Contents (Elt Ideal)) (x13 : (⟨S8x32x25600, .f32⟩ : BufTy).Contents (Elt Ideal)) (x14 : (⟨S8x12x25600, .f32⟩ : BufTy).Contents (Elt Ideal)) (B : Fin 8) (l : Fin 128) (h3 : l.val = 3) :
    val_main_v428 (F := Ideal) x0 x1 x2 x3 x4 x5 x6 x7 x8 x9 x10 x11 x12 x13 x14 (ix3 B 0 l) = val_main_v406 (F := Ideal) x0 x1 x2 x3 x4 x5 x6 x7 x8 x9 x10 x11 x12 x13 x14 (ix1 B) := by
  unfold val_main_v428 val_main_call20_v1 val_main_v424 val_main_v427 val_main_call19_v1 val_main_v420 val_main_v423 val_main_call18_v1 val_main_v416 val_main_v419 val_main_call17_v1 val_main_v412 val_main_v415 val_main_call16_v1 val_main_v411
  generalize val_main_v272 (F := Ideal) x0 x1 x2 x3 x4 x5 x6 x7 x8 x9 = s0
  generalize val_main_v293 (F := Ideal) x0 x1 x2 x3 x4 x5 x6 x7 x8 x9 = s1
  generalize val_main_v375 (F := Ideal) x0 x1 x2 x3 x4 x5 x6 x7 x8 x9 = s2
  generalize val_main_v406 (F := Ideal) x0 x1 x2 x3 x4 x5 x6 x7 x8 x9 x10 x11 x12 x13 x14 = s3
  generalize val_main_v215 (F := Ideal) x0 x1 x2 x3 x4 x5 x6 x7 x8 x9 = s4
  pointwise [id, val_main_call16_v0, val_main_call17_v0, val_main_call18_v0, val_main_call19_v0, val_main_call20_v0, val_main_v408, val_main_v410, val_main_v414, val_main_v418, val_main_v422, val_main_v426, val_main_cst_67, val_main_v407, val_main_v409, val_main_v413, val_main_v417, val_main_v421, val_main_v425, val_main_c_68, val_main_c_69, val_main_c_70, val_main_c_71, val_main_c_72]
  all_goals simp [h3, Scalar.select, IntOp.cmpi]

end Cert.Meet
-- ==== Proof.MaskFinal.lean ====
module

public import proofs.«01_k».proof.Proof.Final
public import proofs.«01_k».proof.Proof.KLink3
public import proofs.«01_k».proof.Proof.MaskMeet

/-! The mask lane of the kernel's result array is the reference's. -/

@[expose] public section

set_option maxRecDepth 16384

noncomputable section

namespace Cert.Meet
open Idealize.ShloMosaic Idealize.ShloMosaic.TcCoe Idealize.SL
open Cert.KernelIdeal Cert.KernelIdeal.Gen
open Cert.Sel Cert.ReferenceIdeal.Read

theorem ld0 (x : Vec Ideal S1x32x6400 .f32) (n : Fin 32) (p : Fin 6400) :
    (View.ld x (Rect.unit (s := S1x32x6400) ![0, 0, 0] S1x32x6400.size inb_S1x32x6400_S1x32x6400_0_0_0) : Vec Ideal S1x32x6400 .f32) (ix3 0 n p) = x (ix3 0 n p) := by
  refine congrArg x (funext fun a => Fin.ext ?_)
  match a with
  | ⟨0, _⟩ => rfl
  | ⟨1, _⟩ => show 0 + 1 * n.val = n.val; omega
  | ⟨2, _⟩ => show 0 + 1 * p.val = p.val; omega

theorem ld1 (x : Vec Ideal S1x32x1600 .f32) (n : Fin 32) (p : Fin 1600) :
    (View.ld x (Rect.unit (s := S1x32x1600) ![0, 0, 0] S1x32x1600.size inb_S1x32x1600_S1x32x1600_0_0_0) : Vec Ideal S1x32x1600 .f32) (ix3 0 n p) = x (ix3 0 n p) := by
  refine congrArg x (funext fun a => Fin.ext ?_)
  match a with
  | ⟨0, _⟩ => rfl
  | ⟨1, _⟩ => show 0 + 1 * n.val = n.val; omega
  | ⟨2, _⟩ => show 0 + 1 * p.val = p.val; omega

theorem ld2 (x : Vec Ideal S1x32x400 .f32) (n : Fin 32) (p : Fin 400) :
    (View.ld x (Rect.unit (s := S1x32x400) ![0, 0, 0] S1x32x400.size inb_S1x32x400_S1x32x400_0_0_0) : Vec Ideal S1x32x400 .f32) (ix3 0 n p) = x (ix3 0 n p) := by
  refine congrArg x (funext fun a => Fin.ext ?_)
  match a with
  | ⟨0, _⟩ => rfl
  | ⟨1, _⟩ => show 0 + 1 * n.val = n.val; omega
  | ⟨2, _⟩ => show 0 + 1 * p.val = p.val; omega

theorem ldp1 (x : Vec Ideal S1x32x25600 .f32) (n : Fin 32) (p : Fin 12800) :
    (View.ld x (Rect.unit (s := S1x32x25600) ![0, 0, 0] S1x32x12800.size inb_S1x32x25600_S1x32x12800_0_0_0) : Vec Ideal S1x32x12800 .f32) (ix3 0 n p) = x (ix3 0 n (pl p)) := by
  refine congrArg x (funext fun a => Fin.ext ?_)
  match a with
  | ⟨0, _⟩ => rfl
  | ⟨1, _⟩ => show 0 + 1 * n.val = n.val; omega
  | ⟨2, _⟩ => show 0 + 1 * p.val = p.val; omega

theorem ldp2 (x : Vec Ideal S1x32x25600 .f32) (n : Fin 32) (p : Fin 12800) :
    (View.ld x (Rect.unit (s := S1x32x25600) ![0, 0, 12800] S1x32x12800.size inb_S1x32x25600_S1x32x12800_0_0_12800) : Vec Ideal S1x32x12800 .f32) (ix3 0 n p) = x (ix3 0 n (ph p)) := by
  refine congrArg x (funext fun a => Fin.ext ?_)
  match a with
  | ⟨0, _⟩ => rfl
  | ⟨1, _⟩ => show 0 + 1 * n.val = n.val; omega
  | ⟨2, _⟩ => show 12800 + 1 * p.val = 12800 + p.val; omega

theorem ldg1 (x : Vec Ideal S1x12x25600 .f32) (n : Fin 12) (p : Fin 12800) :
    (View.ld x (Rect.unit (s := S1x12x25600) ![0, 0, 0] S1x12x12800.size inb_S1x12x25600_S1x12x12800_0_0_0) : Vec Ideal S1x12x12800 .f32) (ix3 0 n p) = x (ix3 0 n (pl p)) := by
  refine congrArg x (funext fun a => Fin.ext ?_)
  match a with
  | ⟨0, _⟩ => rfl
  | ⟨1, _⟩ => show 0 + 1 * n.val = n.val; omega
  | ⟨2, _⟩ => show 0 + 1 * p.val = p.val; omega

theorem ldg2 (x : Vec Ideal S1x12x25600 .f32) (n : Fin 12) (p : Fin 12800) :
    (View.ld x (Rect.unit (s := S1x12x25600) ![0, 0, 12800] S1x12x12800.size inb_S1x12x25600_S1x12x12800_0_0_12800) : Vec Ideal S1x12x12800 .f32) (ix3 0 n p) = x (ix3 0 n (ph p)) := by
  refine congrArg x (funext fun a => Fin.ext ?_)
  match a with
  | ⟨0, _⟩ => rfl
  | ⟨1, _⟩ => show 0 + 1 * n.val = n.val; omega
  | ⟨2, _⟩ => show 12800 + 1 * p.val = 12800 + p.val; omega

variable (m : (ℓ : Loc nD τ sig) → Buf (Elt Ideal) ℓ)

theorem idx10 : ∀ t : Fin cfg0.N, win0_10.index t (0 : Fin 3) = t.val ∧ win0_10.index t (1 : Fin 3) = 0 ∧ win0_10.index t (2 : Fin 3) = 0 := (by decide +kernel : ∀ t : Fin grid0.N, _)

theorem iblk10_at (c : Dev nD) (t : Fin cfg0.N) (B : Fin 8) (hB : t.val = B.val) (p : Fin 32) (q : Fin 6400) :
    (iblk m c 10 t : Vec Ideal S1x32x6400 .f32) (ix3 0 p q) = (m ((c : Thread nD τ).loc main_arg10) : Vec Ideal S8x32x6400 .f32) (ix3 B p q) := by
  obtain ⟨e0, e1, e2⟩ := idx10 t
  refine congrArg (V m c main_arg10) (funext fun a => Fin.ext ?_)
  match a with
  | ⟨0, _⟩ => show win0_10.index t (0 : Fin 3) * 1 + 1 * 0 = B.val; omega
  | ⟨1, _⟩ => show win0_10.index t (1 : Fin 3) * 32 + 1 * p.val = p.val; omega
  | ⟨2, _⟩ => show win0_10.index t (2 : Fin 3) * 6400 + 1 * q.val = q.val; omega

theorem idx11 : ∀ t : Fin cfg0.N, win0_11.index t (0 : Fin 3) = t.val ∧ win0_11.index t (1 : Fin 3) = 0 ∧ win0_11.index t (2 : Fin 3) = 0 := (by decide +kernel : ∀ t : Fin grid0.N, _)

theorem iblk11_at (c : Dev nD) (t : Fin cfg0.N) (B : Fin 8) (hB : t.val = B.val) (p : Fin 32) (q : Fin 1600) :
    (iblk m c 11 t : Vec Ideal S1x32x1600 .f32) (ix3 0 p q) = (m ((c : Thread nD τ).loc main_arg11) : Vec Ideal S8x32x1600 .f32) (ix3 B p q) := by
  obtain ⟨e0, e1, e2⟩ := idx11 t
  refine congrArg (V m c main_arg11) (funext fun a => Fin.ext ?_)
  match a with
  | ⟨0, _⟩ => show win0_11.index t (0 : Fin 3) * 1 + 1 * 0 = B.val; omega
  | ⟨1, _⟩ => show win0_11.index t (1 : Fin 3) * 32 + 1 * p.val = p.val; omega
  | ⟨2, _⟩ => show win0_11.index t (2 : Fin 3) * 1600 + 1 * q.val = q.val; omega

theorem idx12 : ∀ t : Fin cfg0.N, win0_12.index t (0 : Fin 3) = t.val ∧ win0_12.index t (1 : Fin 3) = 0 ∧ win0_12.index t (2 : Fin 3) = 0 := (by decide +kernel : ∀ t : Fin grid0.N, _)

theorem iblk12_at (c : Dev nD) (t : Fin cfg0.N) (B : Fin 8) (hB : t.val = B.val) (p : Fin 32) (q : Fin 400) :
    (iblk m c 12 t : Vec Ideal S1x32x400 .f32) (ix3 0 p q) = (m ((c : Thread nD τ).loc main_arg12) : Vec Ideal S8x32x400 .f32) (ix3 B p q) := by
  obtain ⟨e0, e1, e2⟩ := idx12 t
  refine congrArg (V m c main_arg12) (funext fun a => Fin.ext ?_)
  match a with
  | ⟨0, _⟩ => show win0_12.index t (0 : Fin 3) * 1 + 1 * 0 = B.val; omega
  | ⟨1, _⟩ => show win0_12.index t (1 : Fin 3) * 32 + 1 * p.val = p.val; omega
  | ⟨2, _⟩ => show win0_12.index t (2 : Fin 3) * 400 + 1 * q.val = q.val; omega

theorem idx13 : ∀ t : Fin cfg0.N, win0_13.index t (0 : Fin 3) = t.val ∧ win0_13.index t (1 : Fin 3) = 0 ∧ win0_13.index t (2 : Fin 3) = 0 := (by decide +kernel : ∀ t : Fin grid0.N, _)

theorem iblk13_at (c : Dev nD) (t : Fin cfg0.N) (B : Fin 8) (hB : t.val = B.val) (p : Fin 32) (q : Fin 25600) :
    (iblk m c 13 t : Vec Ideal S1x32x25600 .f32) (ix3 0 p q) = (m ((c : Thread nD τ).loc main_arg13) : Vec Ideal S8x32x25600 .f32) (ix3 B p q) := by
  obtain ⟨e0, e1, e2⟩ := idx13 t
  refine congrArg (V m c main_arg13) (funext fun a => Fin.ext ?_)
  match a with
  | ⟨0, _⟩ => show win0_13.index t (0 : Fin 3) * 1 + 1 * 0 = B.val; omega
  | ⟨1, _⟩ => show win0_13.index t (1 : Fin 3) * 32 + 1 * p.val = p.val; omega
  | ⟨2, _⟩ => show win0_13.index t (2 : Fin 3) * 25600 + 1 * q.val = q.val; omega

theorem idx14 : ∀ t : Fin cfg0.N, win0_14.index t (0 : Fin 3) = t.val ∧ win0_14.index t (1 : Fin 3) = 0 ∧ win0_14.index t (2 : Fin 3) = 0 := (by decide +kernel : ∀ t : Fin grid0.N, _)

theorem iblk14_at (c : Dev nD) (t : Fin cfg0.N) (B : Fin 8) (hB : t.val = B.val) (p : Fin 12) (q : Fin 25600) :
    (iblk m c 14 t : Vec Ideal S1x12x25600 .f32) (ix3 0 p q) = (m ((c : Thread nD τ).loc main_arg14) : Vec Ideal S8x12x25600 .f32) (ix3 B p q) := by
  obtain ⟨e0, e1, e2⟩ := idx14 t
  refine congrArg (V m c main_arg14) (funext fun a => Fin.ext ?_)
  match a with
  | ⟨0, _⟩ => show win0_14.index t (0 : Fin 3) * 1 + 1 * 0 = B.val; omega
  | ⟨1, _⟩ => show win0_14.index t (1 : Fin 3) * 12 + 1 * p.val = p.val; omega
  | ⟨2, _⟩ => show win0_14.index t (2 : Fin 3) * 25600 + 1 * q.val = q.val; omega

theorem coef (c : Dev nD) (t : Fin cfg0.N) (B : Fin 8) (hB : t.val = B.val) : Coef (Blk.of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) fun n a => val_main_v26 (F := Ideal) (m ((c : Thread nD τ).loc main_arg10)) (m ((c : Thread nD τ).loc main_arg11)) (m ((c : Thread nD τ).loc main_arg12)) (ix3 B a n) where
  c0_0 n x := (ld0 _ n x).trans ((iblk10_at m c t B hB n x).trans (v26_at0 _ _ _ B x n).symm)
  c1_0 n x := (ld1 _ n x).trans ((iblk11_at m c t B hB n x).trans (v26_at1 _ _ _ B x n).symm)
  c2_0 n x := (ld2 _ n x).trans ((iblk12_at m c t B hB n x).trans (v26_at2 _ _ _ B x n).symm)
  c0_1 n x := (ld0 _ n x).trans ((iblk10_at m c t B hB n x).trans (v26_at0 _ _ _ B x n).symm)
  c1_1 n x := (ld1 _ n x).trans ((iblk11_at m c t B hB n x).trans (v26_at1 _ _ _ B x n).symm)
  c2_1 n x := (ld2 _ n x).trans ((iblk12_at m c t B hB n x).trans (v26_at2 _ _ _ B x n).symm)
  c0_2 n x := (ld0 _ n x).trans ((iblk10_at m c t B hB n x).trans (v26_at0 _ _ _ B x n).symm)
  c1_2 n x := (ld1 _ n x).trans ((iblk11_at m c t B hB n x).trans (v26_at1 _ _ _ B x n).symm)
  c2_2 n x := (ld2 _ n x).trans ((iblk12_at m c t B hB n x).trans (v26_at2 _ _ _ B x n).symm)
  c0_3 n x := (ld0 _ n x).trans ((iblk10_at m c t B hB n x).trans (v26_at0 _ _ _ B x n).symm)
  c1_3 n x := (ld1 _ n x).trans ((iblk11_at m c t B hB n x).trans (v26_at1 _ _ _ B x n).symm)
  c2_3 n x := (ld2 _ n x).trans ((iblk12_at m c t B hB n x).trans (v26_at2 _ _ _ B x n).symm)
  c0_4 n x := (ld0 _ n x).trans ((iblk10_at m c t B hB n x).trans (v26_at0 _ _ _ B x n).symm)
  c1_4 n x := (ld1 _ n x).trans ((iblk11_at m c t B hB n x).trans (v26_at1 _ _ _ B x n).symm)
  c2_4 n x := (ld2 _ n x).trans ((iblk12_at m c t B hB n x).trans (v26_at2 _ _ _ B x n).symm)
  c0_5 n x := (ld0 _ n x).trans ((iblk10_at m c t B hB n x).trans (v26_at0 _ _ _ B x n).symm)
  c1_5 n x := (ld1 _ n x).trans ((iblk11_at m c t B hB n x).trans (v26_at1 _ _ _ B x n).symm)
  c2_5 n x := (ld2 _ n x).trans ((iblk12_at m c t B hB n x).trans (v26_at2 _ _ _ B x n).symm)
  c0_6 n x := (ld0 _ n x).trans ((iblk10_at m c t B hB n x).trans (v26_at0 _ _ _ B x n).symm)
  c1_6 n x := (ld1 _ n x).trans ((iblk11_at m c t B hB n x).trans (v26_at1 _ _ _ B x n).symm)
  c2_6 n x := (ld2 _ n x).trans ((iblk12_at m c t B hB n x).trans (v26_at2 _ _ _ B x n).symm)
  c0_7 n x := (ld0 _ n x).trans ((iblk10_at m c t B hB n x).trans (v26_at0 _ _ _ B x n).symm)
  c1_7 n x := (ld1 _ n x).trans ((iblk11_at m c t B hB n x).trans (v26_at1 _ _ _ B x n).symm)
  c2_7 n x := (ld2 _ n x).trans ((iblk12_at m c t B hB n x).trans (v26_at2 _ _ _ B x n).symm)
  c0_8 n x := (ld0 _ n x).trans ((iblk10_at m c t B hB n x).trans (v26_at0 _ _ _ B x n).symm)
  c1_8 n x := (ld1 _ n x).trans ((iblk11_at m c t B hB n x).trans (v26_at1 _ _ _ B x n).symm)
  c2_8 n x := (ld2 _ n x).trans ((iblk12_at m c t B hB n x).trans (v26_at2 _ _ _ B x n).symm)
  c0_9 n x := (ld0 _ n x).trans ((iblk10_at m c t B hB n x).trans (v26_at0 _ _ _ B x n).symm)
  c1_9 n x := (ld1 _ n x).trans ((iblk11_at m c t B hB n x).trans (v26_at1 _ _ _ B x n).symm)
  c2_9 n x := (ld2 _ n x).trans ((iblk12_at m c t B hB n x).trans (v26_at2 _ _ _ B x n).symm)

theorem pix (c : Dev nD) (t : Fin cfg0.N) (B : Fin 8) (hB : t.val = B.val) : Pix (Blk.of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (fun n p => ((m ((c : Thread nD τ).loc main_arg13)) : Vec Ideal S8x32x25600 .f32) (ix3 B n p)) fun g p => ((m ((c : Thread nD τ).loc main_arg14)) : Vec Ideal S8x12x25600 .f32) (ix3 B g p) where
  p1 n p := (ldp1 _ n p).trans (iblk13_at m c t B hB n (pl p))
  p2 n p := (ldp2 _ n p).trans (iblk13_at m c t B hB n (ph p))
  g1 n p := (ldg1 _ n p).trans (iblk14_at m c t B hB n (pl p))
  g2 n p := (ldg2 _ n p).trans (iblk14_at m c t B hB n (ph p))

theorem array_at3 (c : Dev nD) (B : Fin 8) (t : Fin cfg0.N) (hB : t.val = B.val) (l : Fin 128) (h3 : l.val = 3) :
    ((dats m 0 c).arrAt 15 cfg0.N : Vec Ideal S8x1x128 .f32) (ix3 B 0 l)
      = w2640 (Blk.of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  have hf : (cfg0.win 15).flush t = true := (by decide +kernel : ∀ t : Fin grid0.N, win0_15.flush t = true) t
  have b := congrFun (Cert.KernelIdeal.Value.blocks15 m c t hf) (ix3 0 0 l : S1x1x128.Idx)
  rw [Cert.KernelIdeal.Value.flushed15_A] at b
  have b' : (dats m 0 c).arrAt 15 cfg0.N (((cfg0.win 15).blk t).view.emb (ix3 0 0 l : S1x1x128.Idx)) = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 0 l) := b
  rw [emb15 t B hB 0 l] at b'
  exact b'.trans (out_eq3 (l := l) (h3 := h3) ..)

/-- Every element is a real number. -/
def Real1 {s : Shape} (x : FVec Ideal s .f32) : Prop := ∀ i, ∃ t : ℝ, x i = (t : EReal)

theorem lane_eq3 (c : Dev nD) (B : Fin 8) (l : Fin 128) (h3 : l.val = 3) (h10 : Real1 (s := S8x32x6400) (m ((c : Thread nD τ).loc main_arg10))) (h11 : Real1 (s := S8x32x1600) (m ((c : Thread nD τ).loc main_arg11))) (h12 : Real1 (s := S8x32x400) (m ((c : Thread nD τ).loc main_arg12))) (h13 : Real1 (s := S8x32x25600) (m ((c : Thread nD τ).loc main_arg13))) (h14 : Real1 (s := S8x12x25600) (m ((c : Thread nD τ).loc main_arg14))) :
    ((dats m 0 c).arrAt 15 cfg0.N : Vec Ideal S8x1x128 .f32) (ix3 B 0 l) = Cert.ReferenceIdeal.Read.val_main_v428 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix3 B 0 l) :=
  (array_at3 m c B ⟨B.val, B.isLt⟩ rfl l h3).trans ((mask_eq _ B _ _ _ _ _ _ _ _ _ _ _ _ _ _ _ (rows m c ⟨B.val, B.isLt⟩ B rfl) (coef m c ⟨B.val, B.isLt⟩ B rfl) (pix m c ⟨B.val, B.isLt⟩ B rfl) h10 h11 h12 h13 h14).trans
    (v428_lane3 _ _ _ _ _ _ _ _ _ _ _ _ _ _ _ B l h3).symm)

/-- The reference's array at the lane of the mask sum, of arguments equal to the kernel's, is the kernel's. -/
theorem agree3 (c : Dev nD) (B : Fin 8) (l : Fin 128) (n3 : l.val = 3) (f10 : Real1 (s := S8x32x6400) (m ((c : Thread nD τ).loc main_arg10))) (f11 : Real1 (s := S8x32x1600) (m ((c : Thread nD τ).loc main_arg11))) (f12 : Real1 (s := S8x32x400) (m ((c : Thread nD τ).loc main_arg12))) (f13 : Real1 (s := S8x32x25600) (m ((c : Thread nD τ).loc main_arg13))) (f14 : Real1 (s := S8x12x25600) (m ((c : Thread nD τ).loc main_arg14))) {y0 : Buf (Elt Ideal) ((c : Thread nD τ).loc main_arg0)} {y1 : Buf (Elt Ideal) ((c : Thread nD τ).loc main_arg1)} {y2 : Buf (Elt Ideal) ((c : Thread nD τ).loc main_arg2)} {y3 : Buf (Elt Ideal) ((c : Thread nD τ).loc main_arg3)} {y4 : Buf (Elt Ideal) ((c : Thread nD τ).loc main_arg4)} {y5 : Buf (Elt Ideal) ((c : Thread nD τ).loc main_arg5)} {y6 : Buf (Elt Ideal) ((c : Thread nD τ).loc main_arg6)} {y7 : Buf (Elt Ideal) ((c : Thread nD τ).loc main_arg7)} {y8 : Buf (Elt Ideal) ((c : Thread nD τ).loc main_arg8)} {y9 : Buf (Elt Ideal) ((c : Thread nD τ).loc main_arg9)} {y10 : Buf (Elt Ideal) ((c : Thread nD τ).loc main_arg10)} {y11 : Buf (Elt Ideal) ((c : Thread nD τ).loc main_arg11)} {y12 : Buf (Elt Ideal) ((c : Thread nD τ).loc main_arg12)} {y13 : Buf (Elt Ideal) ((c : Thread nD τ).loc main_arg13)} {y14 : Buf (Elt Ideal) ((c : Thread nD τ).loc main_arg14)}
    (h0 : y0 = m ((c : Thread nD τ).loc main_arg0)) (h1 : y1 = m ((c : Thread nD τ).loc main_arg1)) (h2 : y2 = m ((c : Thread nD τ).loc main_arg2)) (h3 : y3 = m ((c : Thread nD τ).loc main_arg3)) (h4 : y4 = m ((c : Thread nD τ).loc main_arg4)) (h5 : y5 = m ((c : Thread nD τ).loc main_arg5)) (h6 : y6 = m ((c : Thread nD τ).loc main_arg6)) (h7 : y7 = m ((c : Thread nD τ).loc main_arg7)) (h8 : y8 = m ((c : Thread nD τ).loc main_arg8)) (h9 : y9 = m ((c : Thread nD τ).loc main_arg9)) (h10 : y10 = m ((c : Thread nD τ).loc main_arg10)) (h11 : y11 = m ((c : Thread nD τ).loc main_arg11)) (h12 : y12 = m ((c : Thread nD τ).loc main_arg12)) (h13 : y13 = m ((c : Thread nD τ).loc main_arg13)) (h14 : y14 = m ((c : Thread nD τ).loc main_arg14)) :
    Cert.ReferenceIdeal.Read.val_main_v428 (F := Ideal) y0 y1 y2 y3 y4 y5 y6 y7 y8 y9 y10 y11 y12 y13 y14 (ix3 B 0 l) = (result m c : Vec Ideal S8x1x128 .f32) (ix3 B 0 l) := by
  subst h0 h1 h2 h3 h4 h5 h6 h7 h8 h9 h10 h11 h12 h13 h14
  exact (lane_eq3 m c B l n3 f10 f11 f12 f13 f14).symm

end Cert.Meet
-- ==== Proof.Lane3.lean ====
module

public import proofs.«01_k».proof.Proof.Gen.On_mask_lane
public import proofs.«01_k».proof.Proof.Gen.Pre_masks_finite
public import proofs.«01_k».proof.Proof.MaskFinal
public import Idealize.ShloMosaic.Lib.Pointwise

@[expose] public section

/-! The mask is set at lane 3 alone; under the precondition the last five arguments hold real numbers. -/

namespace Cert.Meet
open Idealize.ShloMosaic Idealize.SL
open Cert.On_mask_lane

theorem mask_at3 [Cert.On_mask_lane.Facts] (a0 : FVec Ideal S8x6400 .f32) (a1 : FVec Ideal S8x1600 .f32) (a2 : FVec Ideal S8x400 .f32) (a3 : FVec Ideal S8x12x4 .f32) (a4 : FVec Ideal S8x64x6400 .f32) (a5 : FVec Ideal S8x64x1600 .f32) (a6 : FVec Ideal S8x64x400 .f32) (a7 : FVec Ideal S8x1x6400 .f32) (a8 : FVec Ideal S8x1x1600 .f32) (a9 : FVec Ideal S8x1x400 .f32) (a10 : FVec Ideal S8x32x6400 .f32) (a11 : FVec Ideal S8x32x1600 .f32) (a12 : FVec Ideal S8x32x400 .f32) (a13 : FVec Ideal S8x32x25600 .f32) (a14 : FVec Ideal S8x12x25600 .f32) (B : Fin 8) (q : Fin 128) :
    Cert.On_mask_lane.fn (F := Ideal) a0 a1 a2 a3 a4 a5 a6 a7 a8 a9 a10 a11 a12 a13 a14 (ix3 B 0 q) = IntOp.cmpi .eq (BitVec.ofNat 32 q.val) 3#32 := by
  pointwise [Cert.On_mask_lane.fn]

theorem lane_dec3 : ∀ q : Fin 128, IntOp.cmpi .eq (BitVec.ofNat 32 q.val) 3#32 = 1#1 → q.val = 3 := by decide +kernel

theorem lane_of3 [Cert.On_mask_lane.Facts] {a0 : FVec Ideal S8x6400 .f32} {a1 : FVec Ideal S8x1600 .f32} {a2 : FVec Ideal S8x400 .f32} {a3 : FVec Ideal S8x12x4 .f32} {a4 : FVec Ideal S8x64x6400 .f32} {a5 : FVec Ideal S8x64x1600 .f32} {a6 : FVec Ideal S8x64x400 .f32} {a7 : FVec Ideal S8x1x6400 .f32} {a8 : FVec Ideal S8x1x1600 .f32} {a9 : FVec Ideal S8x1x400 .f32} {a10 : FVec Ideal S8x32x6400 .f32} {a11 : FVec Ideal S8x32x1600 .f32} {a12 : FVec Ideal S8x32x400 .f32} {a13 : FVec Ideal S8x32x25600 .f32} {a14 : FVec Ideal S8x12x25600 .f32} (i : S8x1x128.Idx)
    (h : Cert.On_mask_lane.fn (F := Ideal) a0 a1 a2 a3 a4 a5 a6 a7 a8 a9 a10 a11 a12 a13 a14 i = 1#1) : ∃ (B : Fin 8) (q : Fin 128), i = ix3 B 0 q ∧ q.val = 3 := by
  have e : ∃ (B : Fin 8) (q : Fin 128), i = ix3 B 0 q := by
    refine ⟨i 0, i 2, funext fun a => ?_⟩
    match a with
    | ⟨0, _⟩ => rfl
    | ⟨1, _⟩ => exact Subsingleton.elim (α := Fin 1) _ _
    | ⟨2, _⟩ => rfl
  obtain ⟨B, q, rfl⟩ := e
  rw [mask_at3] at h
  exact ⟨B, q, rfl, lane_dec3 q h⟩

theorem real_of (x y : EReal) (h : BitVec.ofBool (decide (max x (-x) < y)) = 1#1) : ∃ t : ℝ, x = (t : EReal) := by
  have q : max x (-x) < y := by
    by_contra hc
    rw [decide_eq_false hc] at h
    exact absurd h (by decide)
  induction x with
  | bot => exact absurd (lt_of_le_of_lt (le_max_right _ _) q) (by simp)
  | top => exact absurd (lt_of_le_of_lt (le_max_left _ _) q) (by simp)
  | coe t => exact ⟨t, rfl⟩

theorem real10 [Cert.Pre_masks_finite.Facts] (a0 : FVec Ideal S8x6400 .f32) (a1 : FVec Ideal S8x1600 .f32) (a2 : FVec Ideal S8x400 .f32) (a3 : FVec Ideal S8x12x4 .f32) (a4 : FVec Ideal S8x64x6400 .f32) (a5 : FVec Ideal S8x64x1600 .f32) (a6 : FVec Ideal S8x64x400 .f32) (a7 : FVec Ideal S8x1x6400 .f32) (a8 : FVec Ideal S8x1x1600 .f32) (a9 : FVec Ideal S8x1x400 .f32) (a10 : FVec Ideal S8x32x6400 .f32) (a11 : FVec Ideal S8x32x1600 .f32) (a12 : FVec Ideal S8x32x400 .f32) (a13 : FVec Ideal S8x32x25600 .f32) (a14 : FVec Ideal S8x12x25600 .f32) (h : (Cert.Pre_masks_finite.fn (F := Ideal) a0 a1 a2 a3 a4 a5 a6 a7 a8 a9 a10 a11 a12 a13 a14).1 = fun _ => 1#1) : Real1 a10 :=
  fun i => real_of (a10 i) _ (congrFun h i)

theorem real11 [Cert.Pre_masks_finite.Facts] (a0 : FVec Ideal S8x6400 .f32) (a1 : FVec Ideal S8x1600 .f32) (a2 : FVec Ideal S8x400 .f32) (a3 : FVec Ideal S8x12x4 .f32) (a4 : FVec Ideal S8x64x6400 .f32) (a5 : FVec Ideal S8x64x1600 .f32) (a6 : FVec Ideal S8x64x400 .f32) (a7 : FVec Ideal S8x1x6400 .f32) (a8 : FVec Ideal S8x1x1600 .f32) (a9 : FVec Ideal S8x1x400 .f32) (a10 : FVec Ideal S8x32x6400 .f32) (a11 : FVec Ideal S8x32x1600 .f32) (a12 : FVec Ideal S8x32x400 .f32) (a13 : FVec Ideal S8x32x25600 .f32) (a14 : FVec Ideal S8x12x25600 .f32) (h : (Cert.Pre_masks_finite.fn (F := Ideal) a0 a1 a2 a3 a4 a5 a6 a7 a8 a9 a10 a11 a12 a13 a14).2.1 = fun _ => 1#1) : Real1 a11 :=
  fun i => real_of (a11 i) _ (congrFun h i)

theorem real12 [Cert.Pre_masks_finite.Facts] (a0 : FVec Ideal S8x6400 .f32) (a1 : FVec Ideal S8x1600 .f32) (a2 : FVec Ideal S8x400 .f32) (a3 : FVec Ideal S8x12x4 .f32) (a4 : FVec Ideal S8x64x6400 .f32) (a5 : FVec Ideal S8x64x1600 .f32) (a6 : FVec Ideal S8x64x400 .f32) (a7 : FVec Ideal S8x1x6400 .f32) (a8 : FVec Ideal S8x1x1600 .f32) (a9 : FVec Ideal S8x1x400 .f32) (a10 : FVec Ideal S8x32x6400 .f32) (a11 : FVec Ideal S8x32x1600 .f32) (a12 : FVec Ideal S8x32x400 .f32) (a13 : FVec Ideal S8x32x25600 .f32) (a14 : FVec Ideal S8x12x25600 .f32) (h : (Cert.Pre_masks_finite.fn (F := Ideal) a0 a1 a2 a3 a4 a5 a6 a7 a8 a9 a10 a11 a12 a13 a14).2.2.1 = fun _ => 1#1) : Real1 a12 :=
  fun i => real_of (a12 i) _ (congrFun h i)

theorem real13 [Cert.Pre_masks_finite.Facts] (a0 : FVec Ideal S8x6400 .f32) (a1 : FVec Ideal S8x1600 .f32) (a2 : FVec Ideal S8x400 .f32) (a3 : FVec Ideal S8x12x4 .f32) (a4 : FVec Ideal S8x64x6400 .f32) (a5 : FVec Ideal S8x64x1600 .f32) (a6 : FVec Ideal S8x64x400 .f32) (a7 : FVec Ideal S8x1x6400 .f32) (a8 : FVec Ideal S8x1x1600 .f32) (a9 : FVec Ideal S8x1x400 .f32) (a10 : FVec Ideal S8x32x6400 .f32) (a11 : FVec Ideal S8x32x1600 .f32) (a12 : FVec Ideal S8x32x400 .f32) (a13 : FVec Ideal S8x32x25600 .f32) (a14 : FVec Ideal S8x12x25600 .f32) (h : (Cert.Pre_masks_finite.fn (F := Ideal) a0 a1 a2 a3 a4 a5 a6 a7 a8 a9 a10 a11 a12 a13 a14).2.2.2.1 = fun _ => 1#1) : Real1 a13 :=
  fun i => real_of (a13 i) _ (congrFun h i)

theorem real14 [Cert.Pre_masks_finite.Facts] (a0 : FVec Ideal S8x6400 .f32) (a1 : FVec Ideal S8x1600 .f32) (a2 : FVec Ideal S8x400 .f32) (a3 : FVec Ideal S8x12x4 .f32) (a4 : FVec Ideal S8x64x6400 .f32) (a5 : FVec Ideal S8x64x1600 .f32) (a6 : FVec Ideal S8x64x400 .f32) (a7 : FVec Ideal S8x1x6400 .f32) (a8 : FVec Ideal S8x1x1600 .f32) (a9 : FVec Ideal S8x1x400 .f32) (a10 : FVec Ideal S8x32x6400 .f32) (a11 : FVec Ideal S8x32x1600 .f32) (a12 : FVec Ideal S8x32x400 .f32) (a13 : FVec Ideal S8x32x25600 .f32) (a14 : FVec Ideal S8x12x25600 .f32) (h : (Cert.Pre_masks_finite.fn (F := Ideal) a0 a1 a2 a3 a4 a5 a6 a7 a8 a9 a10 a11 a12 a13 a14).2.2.2.2 = fun _ => 1#1) : Real1 a14 :=
  fun i => real_of (a14 i) _ (congrFun h i)

end Cert.Meet
-- ==== Proof.lean ====
/- The claims: the frames, the named constant, the equality of the two programs on every lane but two, and their equality on the lane
   of the mask sum where the mask coefficients, the prototypes and the masks are finite. -/
module

public import proofs.«01_k».proof.Proof.Final
public import proofs.«01_k».proof.Proof.Lane
public import proofs.«01_k».proof.Proof.Lane3
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_box_class_count
public import proofs.«01_k».proof.Proof.Gen.On_mask_lane
public import proofs.«01_k».proof.Proof.Gen.Pre_masks_finite
public import Idealize.ShloMosaic.Adequacy
public import Idealize.ShloMosaic.Init

@[expose] public section

noncomputable section

set_option maxRecDepth 16384

namespace Cert.Proof

open Idealize.ShloMosaic Idealize.SL.Sem

theorem claim : Cert.Claim := ⟨Cert.Kernel.Gen.facts, Cert.KernelIdeal.Gen.facts, Cert.ReferenceIdeal.Gen.facts, Cert.Pre_masks_finite.Gen.facts, Cert.On_box_class_count.Gen.facts, Cert.On_mask_lane.Gen.facts, by
  refine ⟨?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ)
  · exact fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ)
  · exact IdealRules.named_const.statement Cert.KernelIdeal.κ "ln2" .f32 0x3F317218#32 ((Real.log 2 : ℝ) : EReal) rfl
  · intro m ρ m' ρ' _ hagree
    refine ⟨Cert.Meet.result m, ?_, ?_⟩
    · exact (θ_run _ _ _).mono (fun r h c => ⟨fun i _ => congrFun (h c).1 i, (h c).2⟩) (Cert.KernelIdeal.Value.run_blocks m ρ)
    · refine (θ_run Cert.ReferenceIdeal.defs _ _).mono (fun r h c => ⟨fun i hi => ?_, (h c).2⟩)
        (Cert.ReferenceIdeal.Value.run (F := Ideal) m' ρ')
      obtain ⟨B, l, rfl, n2, n3⟩ := Cert.Meet.lane_of i hi
      obtain ⟨h0, h1, h2, h3, h4, h5, h6, h7, h8, h9, h10, h11, h12, h13, h14⟩ := hagree c
      have g := (congrFun (h c).1 (ix3 B 0 l)).trans
        (congrFun (Cert.ReferenceIdeal.Read.val_main_v428_eq (F := Ideal) _) (ix3 B 0 l))
      exact g.trans (Cert.Meet.agree m c B l n2 n3 h0 h1 h2 h3 h4 h5 h6 h7 h8 h9 h10 h11 h12 h13 h14)
  · intro m ρ m' ρ' hpre hagree
    refine ⟨Cert.Meet.result m, ?_, ?_⟩
    · exact (θ_run _ _ _).mono (fun r h c => ⟨fun i _ => congrFun (h c).1 i, (h c).2⟩) (Cert.KernelIdeal.Value.run_blocks m ρ)
    · refine (θ_run Cert.ReferenceIdeal.defs _ _).mono (fun r h c => ⟨fun i hi => ?_, (h c).2⟩)
        (Cert.ReferenceIdeal.Value.run (F := Ideal) m' ρ')
      obtain ⟨B, l, rfl, n3⟩ := Cert.Meet.lane_of3 i hi
      obtain ⟨h0, h1, h2, h3, h4, h5, h6, h7, h8, h9, h10, h11, h12, h13, h14⟩ := hagree c
      obtain ⟨p10, p11, p12, p13, p14⟩ := hpre c
      have g := (congrFun (h c).1 (ix3 B 0 l)).trans
        (congrFun (Cert.ReferenceIdeal.Read.val_main_v428_eq (F := Ideal) _) (ix3 B 0 l))
      exact g.trans (Cert.Meet.agree3 m c B l n3 (Cert.Meet.real10 _ _ _ _ _ _ _ _ _ _ _ _ _ _ _ p10) (Cert.Meet.real11 _ _ _ _ _ _ _ _ _ _ _ _ _ _ _ p11)
        (Cert.Meet.real12 _ _ _ _ _ _ _ _ _ _ _ _ _ _ _ p12) (Cert.Meet.real13 _ _ _ _ _ _ _ _ _ _ _ _ _ _ _ p13) (Cert.Meet.real14 _ _ _ _ _ _ _ _ _ _ _ _ _ _ _ p14)
        h0 h1 h2 h3 h4 h5 h6 h7 h8 h9 h10 h11 h12 h13 h14)⟩

end Cert.Proof

end
